-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v16)) (v5 : (c : Dev Cert.Kernel2Ideal.nD) → Buf (Elt Ideal) ((c.tc : Thread Cert.Kernel2Ideal.nD Cert.Kernel2Ideal.τ).loc Cert.Kernel2Ideal.main_v19)) (v6 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v16) = v4 c
          ∧ r.2.mem ((c.tc : Thread Cert.Kernel2Ideal.nD Cert.Kernel2Ideal.τ).loc Cert.Kernel2Ideal.main_v19) = v5 c
          ∧ r.2.mem ((c.tc : Thread Cert.Kernel2Ideal.nD Cert.Kernel2Ideal.τ).loc Cert.Kernel2Ideal.main_v20) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_v124) = v1 c
          ∧ r.2.mem ((c.tc : Thread Cert.Reference2Ideal.nD Cert.Reference2Ideal.τ).loc Cert.Reference2Ideal.main_v125) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_v84) = v4 c
          ∧ r.2.mem ((c.tc : Thread Cert.Reference2Ideal.nD Cert.Reference2Ideal.τ).loc Cert.Reference2Ideal.main_v109) = v5 c
          ∧ r.2.mem ((c.tc : Thread Cert.Reference2Ideal.nD Cert.Reference2Ideal.τ).loc Cert.Reference2Ideal.main_v64) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v11)) (v4 : (c : Dev Cert.Kernel4Ideal.nD) → Buf (Elt Ideal) ((c.tc : Thread Cert.Kernel4Ideal.nD Cert.Kernel4Ideal.τ).loc Cert.Kernel4Ideal.main_v9_0)) (v5 : (c : Dev Cert.Kernel4Ideal.nD) → Buf (Elt Ideal) ((c.tc : Thread Cert.Kernel4Ideal.nD Cert.Kernel4Ideal.τ).loc Cert.Kernel4Ideal.main_v9_1)) (v6 : (c : Dev Cert.Kernel4Ideal.nD) → Buf (Elt Ideal) ((c.tc : Thread Cert.Kernel4Ideal.nD Cert.Kernel4Ideal.τ).loc Cert.Kernel4Ideal.main_v9_2)) (v7 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v11) = v3 c
          ∧ r.2.mem ((c.tc : Thread Cert.Kernel4Ideal.nD Cert.Kernel4Ideal.τ).loc Cert.Kernel4Ideal.main_v9_0) = v4 c
          ∧ r.2.mem ((c.tc : Thread Cert.Kernel4Ideal.nD Cert.Kernel4Ideal.τ).loc Cert.Kernel4Ideal.main_v9_1) = v5 c
          ∧ r.2.mem ((c.tc : Thread Cert.Kernel4Ideal.nD Cert.Kernel4Ideal.τ).loc Cert.Kernel4Ideal.main_v9_2) = v6 c
          ∧ r.2.mem ((c.tc : Thread Cert.Kernel4Ideal.nD Cert.Kernel4Ideal.τ).loc Cert.Kernel4Ideal.main_v9_3) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v70) = v4 c
          ∧ r.2.mem ((c.tc : Thread Cert.Reference4Ideal.nD Cert.Reference4Ideal.τ).loc Cert.Reference4Ideal.main_v73) = v5 c
          ∧ r.2.mem ((c.tc : Thread Cert.Reference4Ideal.nD Cert.Reference4Ideal.τ).loc Cert.Reference4Ideal.main_v78) = v6 c
          ∧ r.2.mem ((c.tc : Thread Cert.Reference4Ideal.nD Cert.Reference4Ideal.τ).loc Cert.Reference4Ideal.main_v79) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v131_0)) (v1 : (c : Dev Cert.Kernel3Ideal.nD) → Buf (Elt Ideal) ((c.tc : Thread Cert.Kernel3Ideal.nD Cert.Kernel3Ideal.τ).loc Cert.Kernel3Ideal.main_v135)) (v2 : (c : Dev Cert.Kernel3Ideal.nD) → Buf (Elt Ideal) ((c.tc : Thread Cert.Kernel3Ideal.nD Cert.Kernel3Ideal.τ).loc Cert.Kernel3Ideal.main_v138)) (v3 : (c : Dev Cert.Kernel3Ideal.nD) → Buf (Elt Ideal) ((c.tc : Thread Cert.Kernel3Ideal.nD Cert.Kernel3Ideal.τ).loc Cert.Kernel3Ideal.main_v132)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v131_0) = v0 c
          ∧ r.2.mem ((c.tc : Thread Cert.Kernel3Ideal.nD Cert.Kernel3Ideal.τ).loc Cert.Kernel3Ideal.main_v135) = v1 c
          ∧ r.2.mem ((c.tc : Thread Cert.Kernel3Ideal.nD Cert.Kernel3Ideal.τ).loc Cert.Kernel3Ideal.main_v138) = v2 c
          ∧ r.2.mem ((c.tc : Thread Cert.Kernel3Ideal.nD Cert.Kernel3Ideal.τ).loc Cert.Kernel3Ideal.main_v132) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v230) = v0 c
          ∧ r.2.mem ((c.tc : Thread Cert.Reference3Ideal.nD Cert.Reference3Ideal.τ).loc Cert.Reference3Ideal.main_v212) = v1 c
          ∧ r.2.mem ((c.tc : Thread Cert.Reference3Ideal.nD Cert.Reference3Ideal.τ).loc Cert.Reference3Ideal.main_v189) = v2 c
          ∧ r.2.mem ((c.tc : Thread Cert.Reference3Ideal.nD Cert.Reference3Ideal.τ).loc Cert.Reference3Ideal.main_v132) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v8)) (v1 : (c : Dev Cert.Kernel8Ideal.nD) → Buf (Elt Ideal) ((c.tc : Thread Cert.Kernel8Ideal.nD Cert.Kernel8Ideal.τ).loc Cert.Kernel8Ideal.main_v5_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_v5_0) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m ((c.tc : Thread Cert.Kernel12Ideal.nD Cert.Kernel12Ideal.τ).loc Cert.Kernel12Ideal.main_arg0) = Layout.block ⟨2, ![1, 1]⟩ ⟨2, ![8, 1]⟩ 0 8 c (m' (((0 : Dev Cert.Reference12Ideal.nD).tc : Thread Cert.Reference12Ideal.nD Cert.Reference12Ideal.τ).loc Cert.Reference12Ideal.main_arg0))) →
    ∃ (v0 : Buf (Elt Ideal) (((0 : Dev Cert.Reference12Ideal.nD).tc : Thread Cert.Reference12Ideal.nD Cert.Reference12Ideal.τ).loc Cert.Reference12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r =>
          r.2.mem (((0 : Dev Cert.Reference12Ideal.nD).tc : Thread Cert.Reference12Ideal.nD Cert.Reference12Ideal.τ).loc Cert.Reference12Ideal.main_v4) = v0
          ∧ r.2.mem (((0 : Dev Cert.Reference12Ideal.nD).tc : Thread Cert.Reference12Ideal.nD Cert.Reference12Ideal.τ).loc Cert.Reference12Ideal.main_arg0) = m' (((0 : Dev Cert.Reference12Ideal.nD).tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def Claim : Prop :=
  ∃ (hKernel : Cert.Kernel.Facts) (hKernelIdeal : Cert.KernelIdeal.Facts) (hReferenceIdeal : Cert.ReferenceIdeal.Facts) (hKernel5 : Cert.Kernel5.Facts) (hKernel5Ideal : Cert.Kernel5Ideal.Facts) (hReference5Ideal : Cert.Reference5Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite5 : Cert.Pre_finite5.Facts) (hPre_finite2 : Cert.Pre_finite2.Facts) (hPre_finite4 : Cert.Pre_finite4.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2x2x64 : Shape := ⟨3, ![2, 2, 64]⟩
abbrev S_ : Shape := ⟨0, ![]⟩

class Facts : Prop where
  bcast_S_S2x2x64 : S_.BroadcastsInDim S2x2x64 (![] : Fin 0 → Fin S2x2x64.rank)

variable [Facts]

def fn {F : FTy → Type} [FloatOps F] (main_arg0 : FVec F S2x2x64 .f32) (main_arg1 : FVec F S2x2x64 .f32) : IVec S2x2x64 1 :=
  let main_v0 : FVec F S2x2x64 .f32 := Host.absf main_arg0
  let main_cst : FVec F S_ .f32 := constant S_ .f32 0x7F800000#32
  let main_v1 : FVec F S2x2x64 .f32 := broadcastInDim S2x2x64 ![] bcast_S_S2x2x64 main_cst
  let main_v2 : IVec S2x2x64 1 := cmpf .olt main_v0 main_v1
  let main_v3 : FVec F S2x2x64 .f32 := Host.absf main_arg1
  let main_cst_0 : FVec F S_ .f32 := constant S_ .f32 0x7F800000#32
  let main_v4 : FVec F S2x2x64 .f32 := broadcastInDim S2x2x64 ![] bcast_S_S2x2x64 main_cst_0
  let main_v5 : IVec S2x2x64 1 := cmpf .olt main_v3 main_v4
  let main_v6 : IVec S2x2x64 1 := andi main_v2 main_v5
  main_v6
-- ==== Pre_finite2.lean ====
abbrev S4096x512 : Shape := ⟨2, ![4096, 512]⟩
abbrev S4096x256 : Shape := ⟨2, ![4096, 256]⟩
abbrev S4096x2560 : Shape := ⟨2, ![4096, 2560]⟩
abbrev S512 : Shape := ⟨1, ![512]⟩
abbrev S64 : Shape := ⟨1, ![64]⟩
abbrev S256 : Shape := ⟨1, ![256]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096x2560 : S_.BroadcastsInDim S4096x2560 (![] : Fin 0 → Fin S4096x2560.rank)
  reducesTo_S4096x2560_S_d0_1 : S4096x2560.ReducesTo [0, 1] S_
  bcast_S_S512 : S_.BroadcastsInDim S512 (![] : Fin 0 → Fin S512.rank)
  reducesTo_S512_S_d0 : S512.ReducesTo [0] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S256 .f32) (main_arg8 : FVec F S4096x1024 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S4096x256 .f32) (main_arg5 : FVec F S512 .f32) (main_arg6 : FVec F S64 .f32) (main_arg7 : FVec F S256 .f32) (main_arg8 : FVec F S4096x1024 .f32) (main_v13 : IVec S_ 1) (main_v16 : IVec S4096x2560 1) : IVec S_ 1 :=
  let main_c_5 : IVec S_ 1 := constantI S_ 1 1#1
  let main_v17 : IVec S_ 1 := (fun x v => Host.reduce IntOp.andi x v reducesTo_S4096x2560_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x256 .f32) (main_arg2 : FVec F S4096x256 .f32) (main_arg3 : FVec F S4096x2560 .f32) (main_arg4 : FVec F S4096x256 .f32) (main_arg5 : FVec F S512 .f32) (main_arg6 : FVec F S64 .f32) (main_arg7 : FVec F S256 .f32) (main_arg8 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x2560 .f32 := Host.absf main_arg3
  let main_cst_4 : FVec F S_ .f32 := constant S_ .f32 0x7F800000#32
  let main_v15 : FVec F S4096x2560 .f32 := broadcastInDim S4096x2560 ![] bcast_S_S4096x2560 main_cst_4
  let main_v16 : IVec S4096x2560 1 := cmpf .olt main_v14 main_v15
  fn_part1 (F := F) main_arg4 main_arg5 main_arg6 main_arg7 main_arg8 main_v13 main_v16
-- ==== Pre_finite3.lean ====
abbrev S4096x2560 : Shape := ⟨2, ![4096, 2560]⟩
abbrev S64 : Shape := ⟨1, ![64]⟩
abbrev S4096x512 : Shape := ⟨2, ![4096, 512]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S64 : S_.BroadcastsInDim S64 (![] : Fin 0 → Fin S64.rank)
  reducesTo_S64_S_d0 : S64.ReducesTo [0] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x2560 .f32) (main_arg1 : FVec F S64 .f32) (main_arg2 : FVec F S64 .f32) (main_arg3 : FVec F S4096x512 .f32) : IVec S_ 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite4.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite5.lean ====
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_
  bcast_S_S4096x2560 : S_.BroadcastsInDim S4096x2560 (![] : Fin 0 → Fin S4096x2560.rank)
  reducesTo_S4096x2560_S_d0_1 : S4096x2560.ReducesTo [0, 1] S_

variable [Facts]

def fn_part1 {F : FTy → Type} [FloatOps F] (main_v13 : IVec S_ 1) (main_v16 : IVec S4096x2560 1) : IVec S_ 1 :=
  let main_c_5 : IVec S_ 1 := constantI S_ 1 1#1
  let main_v17 : IVec S_ 1 := (fun x v => Host.reduce IntOp.andi x v reducesTo_S4096x2560_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x2560 .f32) (main_arg3 : FVec F S4096x2560 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2560 .f32 := Host.absf main_arg2
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  let main_c_3 : IVec S_ 1 := constantI S_ 1 1#1
  let main_v12 : IVec S_ 1 := (fun x v => Host.reduce IntOp.andi x v reducesTo_S1024x2560_S_d0_1 h_S_) main_v11 main_c_3
  let main_v13 : IVec S_ 1 := andi main_v8 main_v12
  let main_v14 : FVec F S4096x2560 .f32 := Host.absf main_arg3
  let main_cst_4 : FVec F S_ .f32 := constant S_ .f32 0x7F800000#32
  let main_v15 : FVec F S4096x2560 .f32 := broadcastInDim S4096x2560 ![] bcast_S_S4096x2560 main_cst_4
  let main_v16 : IVec S4096x2560 1 := cmpf .olt main_v14 main_v15
  fn_part1 (F := F) main_v13 main_v16
-- ==== Kernel.lean ====
abbrev S2x2x64 : Shape := ⟨3, ![2, 2, 64]⟩
abbrev S4x64 : Shape := ⟨2, ![4, 64]⟩
abbrev S1x64 : Shape := ⟨2, ![1, 64]⟩

abbrev nBuf : Space → Nat
  | .hbm => 5
  | .vmem => 3
  | .smem => 0
  | _ => 0

abbrev bufTy : (tb : Table) → Fin (tcTables nBuf tb) → BufTy
  | .hbm, ⟨0, _⟩ => ⟨S2x2x64, .f32⟩
  | .hbm, ⟨1, _⟩ => ⟨S2x2x64, .f32⟩
  | .hbm, ⟨2, _⟩ => ⟨S4x64, .f32⟩
  | .hbm, ⟨3, _⟩ => ⟨S4x64, .f32⟩
  | .hbm, ⟨4, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | _, _ => ⟨S2x2x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2x2x64 : Shape := ⟨3, ![2, 2, 64]⟩
abbrev S_ : Shape := ⟨0, ![]⟩
abbrev S2x64 : Shape := ⟨2, ![2, 64]⟩
abbrev S1x2x64 : Shape := ⟨3, ![1, 2, 64]⟩
abbrev S4x64 : Shape := ⟨2, ![4, 64]⟩

abbrev nBuf : Space → Nat
  | .hbm => 72
  | .vmem => 0
  | .smem => 0
  | _ => 0

abbrev bufTy : (tb : Table) → Fin (tcTables nBuf tb) → BufTy
  | .hbm, ⟨0, _⟩ => ⟨S2x2x64, .f32⟩
  | .hbm, ⟨1, _⟩ => ⟨S2x2x64, .f32⟩
  | .hbm, ⟨2, _⟩ => ⟨S_, .f32⟩
  | .hbm, ⟨3, _⟩ => ⟨S2x64, .f32⟩
  | .hbm, ⟨4, _⟩ => ⟨S1x2x64, .f32⟩
  | .hbm, ⟨5, _⟩ => ⟨S2x2x64, .f32⟩
  | .hbm, ⟨6, _⟩ => ⟨S2x2x64, .i1⟩
  | .hbm, ⟨7, _⟩ => ⟨S2x2x64, .f32⟩
  | .hbm, ⟨8, _⟩ => ⟨S_, .f32⟩
  | .hbm, ⟨9, _⟩ => ⟨S2x64, .f32⟩
  | .hbm, ⟨10, _⟩ => ⟨S_, .f32⟩
  | .hbm, ⟨11, _⟩ => ⟨S2x64, .f32⟩
  | .hbm, ⟨12, _⟩ => ⟨S2x64, .f32⟩
  | .hbm, ⟨13, _⟩ => ⟨S_, .f32⟩
  | .hbm, ⟨14, _⟩ => ⟨S2x64, .f32⟩
  | .hbm, ⟨15, _⟩ => ⟨S2x64, .i1⟩
  | .hbm, ⟨16, _⟩ => ⟨S_, .f32⟩
  | .hbm, ⟨17, _⟩ => ⟨S2x64, .f32⟩
  | .hbm, ⟨18, _⟩ => ⟨S2x64, .i1⟩
  | .hbm, ⟨19, _⟩ => ⟨S_, .f32⟩
  | .hbm, ⟨20, _⟩ => ⟨S2x64, .f32⟩
  | .hbm, ⟨21, _⟩ => ⟨S_, .f32⟩
  | .hbm, ⟨22, _⟩ => ⟨S2x64, .f32⟩
  | .hbm, ⟨23, _⟩ => ⟨S_, .f32⟩
  | .hbm, ⟨24, _⟩ => ⟨S2x64, .f32⟩
  | .hbm, ⟨25, _⟩ => ⟨S2x64, .f32⟩
  | .hbm, ⟨26, _⟩ => ⟨S2x64, .f32⟩
  | .hbm, ⟨27, _⟩ => ⟨S1x2x64, .f32⟩
  | .hbm, ⟨28, _⟩ => ⟨S2x2x64, .f32⟩
  | .hbm, ⟨29, _⟩ => ⟨S2x2x64, .f32⟩
  | .hbm, ⟨30, _⟩ => ⟨S2x2x64, .f32⟩
  | .hbm, ⟨31, _⟩ => ⟨S_, .f32⟩
  | .hbm, ⟨32, _⟩ => ⟨S2x64, .f32⟩
  | .hbm, ⟨33, _⟩ => ⟨S1x2x64, .f32⟩
  | .hbm, ⟨34, _⟩ => ⟨S2x2x64, .f32⟩
  | .hbm, ⟨35, _⟩ => ⟨S2x2x64, .f32⟩
  | .hbm, ⟨36, _⟩ => ⟨S1x2x64, .f32⟩
  | .hbm, ⟨37, _⟩ => ⟨S_, .f32⟩
  | .hbm, ⟨38, _⟩ => ⟨S1x2x64, .f32⟩
  | .hbm, ⟨39, _⟩ => ⟨S1x2x64, .f32⟩
  | .hbm, ⟨40, _⟩ => ⟨S_, .f32⟩
  | .hbm, ⟨41, _⟩ => ⟨S_, .f32⟩
  | .hbm, ⟨42, _⟩ => ⟨S2x2x64, .f32⟩
  | .hbm, ⟨43, _⟩ => ⟨S1x2x64, .f32⟩
  | .hbm, ⟨44, _⟩ => ⟨S2x2x64, .f32⟩
  | .hbm, ⟨45, _⟩ => ⟨S2x2x64, .f32⟩
  | .hbm, ⟨46, _⟩ => ⟨S2x2x64, .f32⟩
  | .hbm, ⟨47, _⟩ => ⟨S2x2x64, .f32⟩
  | .hbm, ⟨48, _⟩ => ⟨S_, .f32⟩
  | .hbm, ⟨49, _⟩ => ⟨S2x64, .f32⟩
  | .hbm, ⟨50, _⟩ => ⟨S1x2x64, .f32⟩
  | .hbm, ⟨51, _⟩ => ⟨S_, .f32⟩
  | .hbm, ⟨52, _⟩ => ⟨S2x2x64, .f32⟩
  | .hbm, ⟨53, _⟩ => ⟨S_, .f32⟩
  | .hbm, ⟨54, _⟩ => ⟨S_, .f32⟩
  | .hbm, ⟨55, _⟩ => ⟨S2x2x64, .f32⟩
  | .hbm, ⟨56, _⟩ => ⟨S2x2x64, .f32⟩
  | .hbm, ⟨57, _⟩ => ⟨S2x2x64, .f32⟩
  | .hbm, ⟨58, _⟩ => ⟨S2x2x64, .f32⟩
  | .hbm, ⟨59, _⟩ => ⟨S2x2x64, .f32⟩
  | .hbm, ⟨60, _⟩ => ⟨S_, .f32⟩
  | .hbm, ⟨61, _⟩ => ⟨S2x64, .f32⟩
  | .hbm, ⟨62, _⟩ => ⟨S1x2x64, .f32⟩
  | .hbm, ⟨63, _⟩ => ⟨S1x2x64, .f32⟩
  | .hbm, ⟨64, _⟩ => ⟨S2x2x64, .f32⟩
  | .hbm, ⟨65, _⟩ => ⟨S2x2x64, .f32⟩
  | .hbm, ⟨66, _⟩ => ⟨S_, .f32⟩
  | .hbm, ⟨67, _⟩ => ⟨S2x64, .f32⟩
  | .hbm, ⟨68, _⟩ => ⟨S2x2x64, .f32⟩
  | .hbm, ⟨69, _⟩ => ⟨S2x2x64, .f32⟩
  | .hbm, ⟨70, _⟩ => ⟨S2x2x64, .f32⟩
  | .hbm, ⟨71, _⟩ => ⟨S4x64, .f32⟩
  | _, _ => ⟨S2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S1024x4x640 : Shape := ⟨3, ![1024, 4, 640]⟩
abbrev S4x1024x640 : Shape := ⟨3, ![4, 1024, 640]⟩
abbrev S1x1024 : Shape := ⟨2, ![1, 1024]⟩
abbrev S8x1024 : Shape := ⟨2, ![8, 1024]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x2560, .f32⟩
  | .hbm, ⟨4, _⟩ => ⟨S4096x1024, .f32⟩
  | .hbm, ⟨5, _⟩ => ⟨S1024x4x640, .f32⟩
  | .hbm, ⟨6, _⟩ => ⟨S4x1024x640, .f32⟩
  | .hbm, ⟨7, _⟩ => ⟨S4x1024x640, .bf16⟩
  | .hbm, ⟨8, _⟩ => ⟨S4096x2560, .bf16⟩
  | .hbm, ⟨9, _⟩ => ⟨S1x1024, .f32⟩
  | .hbm, ⟨10, _⟩ => ⟨S4096x1024, .f32⟩
  | .hbm, ⟨11, _⟩ => ⟨S8x1024, .f32⟩
  | .hbm, ⟨12, _⟩ => ⟨S_, .f32⟩
  | .hbm, ⟨13, _⟩ => ⟨S1024, .f32⟩
  | .local _ .vmem, ⟨0, _⟩ => ⟨S512x2560, .bf16⟩
  | .local _ .vmem, ⟨1, _⟩ => ⟨S512x2560, .bf16⟩
  | .local _ .vmem, ⟨2, _⟩ => ⟨S4x1024x640, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_cst : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x2560, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2560, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel2.lean ====
abbrev S4096x512 : Shape := ⟨2, ![4096, 512]⟩
abbrev S4096x256 : Shape := ⟨2, ![4096, 256]⟩
abbrev S4096x2560 : Shape := ⟨2, ![4096, 2560]⟩
abbrev S512 : Shape := ⟨1, ![512]⟩
abbrev S64 : Shape := ⟨1, ![64]⟩
abbrev S256 : Shape := ⟨1, ![256]⟩
abbrev S4096x1024 : Shape := ⟨2, ![4096, 1024]⟩
abbrev S1x512 : Shape := ⟨2, ![1, 512]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S256x256 : Shape := ⟨2, ![256, 256]⟩
abbrev S_ : Shape := ⟨0, ![]⟩
abbrev S8x512 : Shape := ⟨2, ![8, 512]⟩
abbrev S8x256 : Shape := ⟨2, ![8, 256]⟩
abbrev S256x1024 : Shape := ⟨2, ![256, 1024]⟩
abbrev S256x512 : Shape := ⟨2, ![256, 512]⟩
abbrev S256x1 : Shape := ⟨2, ![256, 1]⟩
abbrev S32x8x512 : Shape := ⟨3, ![32, 8, 512]⟩
abbrev S32x8x256 : Shape := ⟨3, ![32, 8, 256]⟩
abbrev S4x64 : Shape := ⟨2, ![4, 64]⟩

abbrev nBuf : Space → Nat
  | .hbm => 46
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S4096x2560, .f32⟩
  | .hbm, ⟨4, _⟩ => ⟨S4096x256, .f32⟩
  | .hbm, ⟨5, _⟩ => ⟨S512, .f32⟩
  | .hbm, ⟨6, _⟩ => ⟨S64, .f32⟩
  | .hbm, ⟨7, _⟩ => ⟨S256, .f32⟩
  | .hbm, ⟨8, _⟩ => ⟨S4096x1024, .f32⟩
  | .hbm, ⟨9, _⟩ => ⟨S1x512, .f32⟩
  | .hbm, ⟨10, _⟩ => ⟨S1x64, .f32⟩
  | .hbm, ⟨11, _⟩ => ⟨S1x1x1x64, .f32⟩
  | .hbm, ⟨12, _⟩ => ⟨S1x1x4x64, .f32⟩
  | .hbm, ⟨13, _⟩ => ⟨S1x256, .f32⟩
  | .hbm, ⟨14, _⟩ => ⟨S1x256, .f32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S_, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x256, .bf16⟩
  | .hbm, ⟨30, _⟩ => ⟨S4096x512, .f32⟩
  | .hbm, ⟨31, _⟩ => ⟨S4096x256, .f32⟩
  | .hbm, ⟨32, _⟩ => ⟨S4096x256, .bf16⟩
  | .hbm, ⟨33, _⟩ => ⟨S4096x256, .f32⟩
  | .hbm, ⟨34, _⟩ => ⟨S8x512, .f32⟩
  | .hbm, ⟨35, _⟩ => ⟨S8x256, .f32⟩
  | .hbm, ⟨36, _⟩ => ⟨S8x256, .f32⟩
  | .hbm, ⟨37, _⟩ => ⟨S_, .f32⟩
  | .hbm, ⟨38, _⟩ => ⟨S512, .f32⟩
  | .hbm, ⟨39, _⟩ => ⟨S_, .f32⟩
  | .hbm, ⟨40, _⟩ => ⟨S256, .f32⟩
  | .hbm, ⟨41, _⟩ => ⟨S4x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S256, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x512, .f32⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S256x512, .f32⟩
  | .local _ .vmem, ⟨17, _⟩ => ⟨S256x512, .f32⟩
  | .local _ .vmem, ⟨18, _⟩ => ⟨S256x256, .f32⟩
  | .local _ .vmem, ⟨19, _⟩ => ⟨S256x256, .f32⟩
  | .local _ .vmem, ⟨20, _⟩ => ⟨S256x256, .bf16⟩
  | .local _ .vmem, ⟨21, _⟩ => ⟨S256x256, .bf16⟩
  | .local _ .vmem, ⟨22, _⟩ => ⟨S256x256, .f32⟩
  | .local _ .vmem, ⟨23, _⟩ => ⟨S256x256, .f32⟩
  | .local _ .vmem, ⟨24, _⟩ => ⟨S8x512, .f32⟩
  | .local _ .vmem, ⟨25, _⟩ => ⟨S8x256, .f32⟩
  | .local _ .vmem, ⟨26, _⟩ => ⟨S8x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev main_v15_5 : Ref sig .tc := ⟨.hbm, 35, rfl⟩
abbrev main_v15_6 : Ref sig .tc := ⟨.hbm, 36, rfl⟩
abbrev main_cst_2 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_cst_5 : Ref sig .tc := ⟨.hbm, 44, rfl⟩
abbrev main_v20 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S4096x512 : Shape := ⟨2, ![4096, 512]⟩
abbrev S4096x256 : Shape := ⟨2, ![4096, 256]⟩
abbrev S4096x2560 : Shape := ⟨2, ![4096, 2560]⟩
abbrev S512 : Shape := ⟨1, ![512]⟩
abbrev S64 : Shape := ⟨1, ![64]⟩
abbrev S256 : Shape := ⟨1, ![256]⟩
abbrev S4096x1024 : Shape := ⟨2, ![4096, 1024]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S1x1x64 : Shape := ⟨3, ![1, 1, 64]⟩
abbrev S4096 : Shape := ⟨1, ![4096]⟩
abbrev S4096x1 : Shape := ⟨2, ![4096, 1]⟩
abbrev S1x512 : Shape := ⟨2, ![1, 512]⟩
abbrev S1x256 : Shape := ⟨2, ![1, 256]⟩

abbrev nBuf : Space → Nat
  | .hbm => 177
  | .vmem => 0
  | .smem => 0
  | _ => 0

abbrev hbmTy0_0 (i : Nat) : BufTy := match i % 128 with
  | 0 => ⟨S4096x512, .f32⟩
  | 1 => ⟨S4096x256, .f32⟩
  | 2 => ⟨S4096x256, .f32⟩
  | 3 => ⟨S4096x2560, .f32⟩
  | 4 => ⟨S4096x256, .f32⟩
  | 5 => ⟨S512, .f32⟩
  | 6 => ⟨S64, .f32⟩
  | 7 => ⟨S256, .f32⟩
  | 8 => ⟨S4096x1024, .f32⟩
  | 9 => ⟨S4096x256, .f32⟩
  | 10 => ⟨S4096x256, .f32⟩
  | 11 => ⟨S4096x4x64, .f32⟩
  | 12 => ⟨S4096x4x64, .f32⟩
  | 13 => ⟨S_, .f32⟩
  | 14 => ⟨S4096x4, .f32⟩
  | 15 => ⟨S4096x4x1, .f32⟩
  | 16 => ⟨S_, .f32⟩
  | 17 => ⟨S4096x4x1, .f32⟩
  | 18 => ⟨S4096x4x1, .f32⟩
  | 19 => ⟨S_, .f32⟩
  | 20 => ⟨S4096x4x1, .f32⟩
  | 21 => ⟨S4096x4x1, .f32⟩
  | 22 => ⟨S4096x4x1, .f32⟩
  | 23 => ⟨S4096x4x1, .f32⟩
  | 24 => ⟨S_, .f32⟩
  | 25 => ⟨S4096x4x1, .f32⟩
  | 26 => ⟨S4096x4x1, .f32⟩
  | 27 => ⟨S4096x4x64, .f32⟩
  | 28 => ⟨S4096x4x64, .f32⟩
  | 29 => ⟨S1x1x64, .f32⟩
  | 30 => ⟨S4096x4x64, .f32⟩
  | 31 => ⟨S4096x4x64, .f32⟩
  | 32 => ⟨S4096x4x64, .f32⟩
  | 33 => ⟨S4096x4x64, .f32⟩
  | 34 => ⟨S4096x4x64, .f32⟩
  | 35 => ⟨S_, .f32⟩
  | 36 => ⟨S4096x4x64, .f32⟩
  | 37 => ⟨S4096x4x64, .f32⟩
  | 38 => ⟨S_, .f32⟩
  | 39 => ⟨S4096x4x64, .f32⟩
  | 40 => ⟨S4096x4x64, .f32⟩
  | 41 => ⟨S_, .f32⟩
  | 42 => ⟨S4096x4x64, .f32⟩
  | 43 => ⟨S4096x4x64, .f32⟩
  | 44 => ⟨S4096x4x64, .f32⟩
  | 45 => ⟨S4096x4x64, .f32⟩
  | 46 => ⟨S4096x4x64, .f32⟩
  | 47 => ⟨S4096x256, .f32⟩
  | 48 => ⟨S4096x512, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x512, .f32⟩
  | 64 => ⟨S4096x512, .f32⟩
  | 65 => ⟨S1x512, .f32⟩
  | 66 => ⟨S4096x512, .f32⟩
  | 67 => ⟨S4096x512, .f32⟩
  | 68 => ⟨S4096x256, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x256, .f32⟩
  | 84 => ⟨S4096x256, .f32⟩
  | 85 => ⟨S1x256, .f32⟩
  | 86 => ⟨S4096x256, .f32⟩
  | 87 => ⟨S4096x256, .f32⟩
  | 88 => ⟨S4096x1024, .f32⟩
  | 89 => ⟨S4096x512, .f32⟩
  | 90 => ⟨S4096x256, .f32⟩
  | 91 => ⟨S4096x256, .f32⟩
  | 92 => ⟨S4096x256, .f32⟩
  | 93 => ⟨S_, .f32⟩
  | 94 => ⟨S256, .f32⟩
  | 95 => ⟨S1x256, .f32⟩
  | 96 => ⟨S4096x256, .f32⟩
  | 97 => ⟨S4096x256, .f32⟩
  | 98 => ⟨S_, .f32⟩
  | 99 => ⟨S256, .f32⟩
  | 100 => ⟨S4096x256, .f32⟩
  | 101 => ⟨S_, .f32⟩
  | 102 => ⟨S4096, .f32⟩
  | 103 => ⟨S4096x1, .f32⟩
  | 104 => ⟨S4096x256, .f32⟩
  | 105 => ⟨S4096x256, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x512, .f32⟩
  | 118 => ⟨S_, .f32⟩
  | 119 => ⟨S512, .f32⟩
  | 120 => ⟨S1x512, .f32⟩
  | 121 => ⟨S4096x512, .f32⟩
  | 122 => ⟨S4096x512, .f32⟩
  | 123 => ⟨S_, .f32⟩
  | 124 => ⟨S512, .f32⟩
  | 125 => ⟨S4096x512, .f32⟩
  | 126 => ⟨S_, .f32⟩
  | 127 => ⟨S4096, .f32⟩
  | _ => ⟨S4096x512, .f32⟩

abbrev hbmTy0_1 (i : Nat) : BufTy := match i % 128 with
  | 0 => ⟨S4096x1, .f32⟩
  | 1 => ⟨S4096x512, .f32⟩
  | 2 => ⟨S4096x512, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S4096x4x64, .f32⟩
  | 15 => ⟨S4096x4x64, .f32⟩
  | 16 => ⟨S4096x4x64, .f32⟩
  | 17 => ⟨S4096x4x64, .f32⟩
  | 18 => ⟨S4096x4x64, .f32⟩
  | 19 => ⟨S4096x4x64, .f32⟩
  | 20 => ⟨S4096x4x64, .f32⟩
  | 21 => ⟨S4096x256, .f32⟩
  | 22 => ⟨S4096x4x64, .f32⟩
  | 23 => ⟨S_, .f32⟩
  | 24 => ⟨S64, .f32⟩
  | 25 => ⟨S1x1x64, .f32⟩
  | 26 => ⟨S4096x4x64, .f32⟩
  | 27 => ⟨S4096x4x64, .f32⟩
  | 28 => ⟨S_, .f32⟩
  | 29 => ⟨S64, .f32⟩
  | 30 => ⟨S4096x4x64, .f32⟩
  | 31 => ⟨S_, .f32⟩
  | 32 => ⟨S4096x4, .f32⟩
  | 33 => ⟨S4096x4x1, .f32⟩
  | 34 => ⟨S4096x4x64, .f32⟩
  | 35 => ⟨S4096x4x64, .f32⟩
  | 36 => ⟨S4096x4x1, .f32⟩
  | 37 => ⟨S_, .f32⟩
  | 38 => ⟨S4096x4x1, .f32⟩
  | 39 => ⟨S4096x4x1, .f32⟩
  | 40 => ⟨S_, .f32⟩
  | 41 => ⟨S4096x4, .f32⟩
  | 42 => ⟨S4096x4x64, .f32⟩
  | 43 => ⟨S4096x4x64, .f32⟩
  | 44 => ⟨S4096x4x64, .f32⟩
  | 45 => ⟨S4096x4x64, .f32⟩
  | 46 => ⟨S4096x4x64, .f32⟩
  | 47 => ⟨S4096x256, .f32⟩
  | 48 => ⟨S4096x256, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v20_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v20_1 : Ref sig .tc := ⟨.hbm, 44, rfl⟩
abbrev main_v20_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_21 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_22 : Ref sig .tc := ⟨.hbm, 156, rfl⟩
abbrev main_v109 : Ref sig .tc := ⟨.hbm, 157, rfl⟩
abbrev main_v110 : Ref sig .tc := ⟨.hbm, 158, rfl⟩
abbrev main_cst_23 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_24 : Ref sig .tc := ⟨.hbm, 165, rfl⟩
abbrev main_v116 : Ref sig .tc := ⟨.hbm, 166, rfl⟩
abbrev main_v117 : Ref sig .tc := ⟨.hbm, 167, rfl⟩
abbrev main_cst_25 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S1x1024 : Shape := ⟨2, ![1, 1024]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S8x1024 : Shape := ⟨2, ![8, 1024]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S32x8x1024 : Shape := ⟨3, ![32, 8, 1024]⟩
abbrev S_ : Shape := ⟨0, ![]⟩

abbrev nBuf : Space → Nat
  | .hbm => 25
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x704x1024, .f32⟩
  | .hbm, ⟨13, _⟩ => ⟨S4x704x1024, .bf16⟩
  | .hbm, ⟨14, _⟩ => ⟨S1x1024, .f32⟩
  | .hbm, ⟨15, _⟩ => ⟨S4x4096x704, .bf16⟩
  | .hbm, ⟨16, _⟩ => ⟨S4x4096x704, .bf16⟩
  | .hbm, ⟨17, _⟩ => ⟨S4x4096x704, .bf16⟩
  | .hbm, ⟨18, _⟩ => ⟨S4096x1024, .bf16⟩
  | .hbm, ⟨19, _⟩ => ⟨S4x4096x704, .bf16⟩
  | .hbm, ⟨20, _⟩ => ⟨S4x4096x704, .bf16⟩
  | .hbm, ⟨21, _⟩ => ⟨S4096x1024, .f32⟩
  | .hbm, ⟨22, _⟩ => ⟨S8x1024, .f32⟩
  | .hbm, ⟨23, _⟩ => ⟨S_, .f32⟩
  | .hbm, ⟨24, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x704, .bf16⟩
  | .local _ .vmem, ⟨4, _⟩ => ⟨S4x1024x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S512x1024, .bf16⟩
  | .local _ .vmem, ⟨12, _⟩ => ⟨S512x1024, .bf16⟩
  | .local _ .vmem, ⟨13, _⟩ => ⟨S256x1024, .f32⟩
  | .local _ .vmem, ⟨14, _⟩ => ⟨S256x1024, .f32⟩
  | .local _ .vmem, ⟨15, _⟩ => ⟨S4x704x1024, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x1024x704, .bf16⟩
  | .local _ .vmem, ⟨21, _⟩ => ⟨S4x1024x704, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S4x256x704, .bf16⟩
  | .local _ .vmem, ⟨26, _⟩ => ⟨S4x256x704, .bf16⟩
  | .local _ .vmem, ⟨27, _⟩ => ⟨S4x256x704, .bf16⟩
  | .local _ .vmem, ⟨28, _⟩ => ⟨S4x256x704, .bf16⟩
  | .local _ .vmem, ⟨29, _⟩ => ⟨S256x1024, .f32⟩
  | .local _ .vmem, ⟨30, _⟩ => ⟨S256x1024, .f32⟩
  | .local _ .vmem, ⟨31, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_cst : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x256x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x1024x704 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x1024x704 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4x256x704 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x256x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== Reference4Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x4x704, .f32⟩
  | .hbm, ⟨79, _⟩ => ⟨S4x4096x704, .f32⟩
  | .hbm, ⟨80, _⟩ => ⟨S4x4096x704, .bf16⟩
  | .hbm, ⟨81, _⟩ => ⟨S4096x4x704, .f32⟩
  | .hbm, ⟨82, _⟩ => ⟨S4x4096x704, .f32⟩
  | .hbm, ⟨83, _⟩ => ⟨S4x4096x704, .bf16⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S4096x4x704, .f32⟩
  | .hbm, ⟨102, _⟩ => ⟨S4x4096x704, .f32⟩
  | .hbm, ⟨103, _⟩ => ⟨S4x4096x704, .bf16⟩
  | .hbm, ⟨104, _⟩ => ⟨S4096x4x704, .f32⟩
  | .hbm, ⟨105, _⟩ => ⟨S4x4096x704, .f32⟩
  | .hbm, ⟨106, _⟩ => ⟨S4x4096x704, .bf16⟩
  | .hbm, ⟨107, _⟩ => ⟨S4096x2816, .f32⟩
  | .hbm, ⟨108, _⟩ => ⟨S4096x2816, .f32⟩
  | .hbm, ⟨109, _⟩ => ⟨S_, .f32⟩
  | .hbm, ⟨110, _⟩ => ⟨S4096x2816, .f32⟩
  | .hbm, ⟨111, _⟩ => ⟨S4096x2816, .f32⟩
  | .hbm, ⟨112, _⟩ => ⟨S_, .f32⟩
  | .hbm, ⟨113, _⟩ => ⟨S4096x2816, .f32⟩
  | .hbm, ⟨114, _⟩ => ⟨S4096x2816, .f32⟩
  | .hbm, ⟨115, _⟩ => ⟨S4096x2816, .f32⟩
  | .hbm, ⟨116, _⟩ => ⟨S4096x2816, .f32⟩
  | .hbm, ⟨117, _⟩ => ⟨S4096x4x704, .f32⟩
  | .hbm, ⟨118, _⟩ => ⟨S4x4096x704, .f32⟩
  | .hbm, ⟨119, _⟩ => ⟨S4x4096x704, .bf16⟩
  | .hbm, ⟨120, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩

abbrev nD : Nat := 1
abbrev τ : Topo := Topo.v7x

variable {F : FTy → Type} [FloatOps F]
-- ==== Kernel3.lean ====
abbrev S4096x2560 : Shape := ⟨2, ![4096, 2560]⟩
abbrev S64 : Shape := ⟨1, ![64]⟩
abbrev S4096x512 : Shape := ⟨2, ![4096, 512]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x2048x2x64 : Shape := ⟨4, ![1, 2048, 2, 64]⟩
abbrev S2048x128 : Shape := ⟨2, ![2048, 128]⟩
abbrev S512x512 : Shape := ⟨2, ![512, 512]⟩
abbrev S128x128 : Shape := ⟨2, ![128, 128]⟩
abbrev S128x512 : Shape := ⟨2, ![128, 512]⟩
abbrev S512x128 : Shape := ⟨2, ![512, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S256x512 : Shape := ⟨2, ![256, 512]⟩
abbrev S256x128 : Shape := ⟨2, ![256, 128]⟩
abbrev S256x256 : Shape := ⟨2, ![256, 256]⟩
abbrev S2048x256 : Shape := ⟨2, ![2048, 256]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩
abbrev S4096x768 : Shape := ⟨2, ![4096, 768]⟩
abbrev S8x512 : Shape := ⟨2, ![8, 512]⟩
abbrev S8x128 : Shape := ⟨2, ![8, 128]⟩
abbrev S256x768 : Shape := ⟨2, ![256, 768]⟩
abbrev S32x8x512 : Shape := ⟨3, ![32, 8, 512]⟩
abbrev S32x8x128 : Shape := ⟨3, ![32, 8, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S8x64 : Shape := ⟨2, ![8, 64]⟩
abbrev S128 : Shape := ⟨1, ![128]⟩
abbrev S2x64 : Shape := ⟨2, ![2, 64]⟩

abbrev nBuf : Space → Nat
  | .hbm => 203
  | .vmem => 78
  | .smem => 0
  | _ => 0

abbrev hbmTy0_0 (i : Nat) : BufTy := match i % 128 with
  | 0 => ⟨S4096x2560, .f32⟩
  | 1 => ⟨S64, .f32⟩
  | 2 => ⟨S64, .f32⟩
  | 3 => ⟨S4096x512, .f32⟩
  | 4 => ⟨S32, .f32⟩
  | 5 => ⟨S32x64, .f32⟩
  | 6 => ⟨S2048, .f32⟩
  | 7 => ⟨S64, .f32⟩
  | 8 => ⟨S1x64, .f32⟩
  | 9 => ⟨S32x64, .f32⟩
  | 10 => ⟨S2048, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S2048x64, .f32⟩
  | 36 => ⟨S2048x64, .f32⟩
  | 37 => ⟨S2048x64, .f32⟩
  | 38 => ⟨S1x2048x1x64, .f32⟩
  | 39 => ⟨S1x2048x8x64, .f32⟩
  | 40 => ⟨S2048x512, .f32⟩
  | 41 => ⟨S1x2048x1x64, .f32⟩
  | 42 => ⟨S1x2048x8x64, .f32⟩
  | 43 => ⟨S2048x512, .f32⟩
  | 44 => ⟨S1x2048x1x64, .f32⟩
  | 45 => ⟨S1x2048x2x64, .f32⟩
  | 46 => ⟨S2048x128, .f32⟩
  | 47 => ⟨S1x2048x1x64, .f32⟩
  | 48 => ⟨S1x2048x2x64, .f32⟩
  | 49 => ⟨S2048x128, .f32⟩
  | 50 => ⟨S512x512, .i32⟩
  | 51 => ⟨S_, .i32⟩
  | 52 => ⟨S512x512, .i32⟩
  | 53 => ⟨S512x512, .i32⟩
  | 54 => ⟨S512x512, .i32⟩
  | 55 => ⟨S_, .i32⟩
  | 56 => ⟨S512x512, .i32⟩
  | 57 => ⟨S512x512, .i32⟩
  | 58 => ⟨S512x512, .i1⟩
  | 59 => ⟨S_, .f32⟩
  | 60 => ⟨S_, .f32⟩
  | 61 => ⟨S512x512, .f32⟩
  | 62 => ⟨S512x512, .f32⟩
  | 63 => ⟨S512x512, .f32⟩
  | 64 => ⟨S512x512, .bf16⟩
  | 65 => ⟨S128x128, .i32⟩
  | 66 => ⟨S_, .i32⟩
  | 67 => ⟨S128x128, .i32⟩
  | 68 => ⟨S128x128, .i32⟩
  | 69 => ⟨S128x128, .i32⟩
  | 70 => ⟨S_, .i32⟩
  | 71 => ⟨S128x128, .i32⟩
  | 72 => ⟨S128x128, .i32⟩
  | 73 => ⟨S128x128, .i1⟩
  | 74 => ⟨S_, .f32⟩
  | 75 => ⟨S_, .f32⟩
  | 76 => ⟨S128x128, .f32⟩
  | 77 => ⟨S128x128, .f32⟩
  | 78 => ⟨S128x128, .f32⟩
  | 79 => ⟨S128x128, .bf16⟩
  | 80 => ⟨S512x512, .i32⟩
  | 81 => ⟨S512x512, .i32⟩
  | 82 => ⟨S_, .i32⟩
  | 83 => ⟨S512x512, .i32⟩
  | 84 => ⟨S512x512, .i32⟩
  | 85 => ⟨S_, .i32⟩
  | 86 => ⟨S512x512, .i32⟩
  | 87 => ⟨S512x512, .i1⟩
  | 88 => ⟨S_, .i32⟩
  | 89 => ⟨S512x512, .i32⟩
  | 90 => ⟨S512x512, .i32⟩
  | 91 => ⟨S512x512, .i1⟩
  | 92 => ⟨S512x512, .i1⟩
  | 93 => ⟨S512x512, .i1⟩
  | 94 => ⟨S_, .i32⟩
  | 95 => ⟨S512x512, .i32⟩
  | 96 => ⟨S512x512, .i32⟩
  | 97 => ⟨S512x512, .i1⟩
  | 98 => ⟨S512x512, .i1⟩
  | 99 => ⟨S_, .f32⟩
  | 100 => ⟨S_, .f32⟩
  | 101 => ⟨S512x512, .f32⟩
  | 102 => ⟨S512x512, .f32⟩
  | 103 => ⟨S512x512, .f32⟩
  | 104 => ⟨S_, .f32⟩
  | 105 => ⟨S512x512, .f32⟩
  | 106 => ⟨S512x512, .f32⟩
  | 107 => ⟨S512x512, .bf16⟩
  | 108 => ⟨S128x128, .i32⟩
  | 109 => ⟨S128x128, .i32⟩
  | 110 => ⟨S_, .i32⟩
  | 111 => ⟨S128x128, .i32⟩
  | 112 => ⟨S128x128, .i32⟩
  | 113 => ⟨S_, .i32⟩
  | 114 => ⟨S128x128, .i32⟩
  | 115 => ⟨S128x128, .i1⟩
  | 116 => ⟨S_, .i32⟩
  | 117 => ⟨S128x128, .i32⟩
  | 118 => ⟨S128x128, .i32⟩
  | 119 => ⟨S128x128, .i1⟩
  | 120 => ⟨S128x128, .i1⟩
  | 121 => ⟨S128x128, .i1⟩
  | 122 => ⟨S_, .i32⟩
  | 123 => ⟨S128x128, .i32⟩
  | 124 => ⟨S128x128, .i32⟩
  | 125 => ⟨S128x128, .i1⟩
  | 126 => ⟨S128x128, .i1⟩
  | 127 => ⟨S_, .f32⟩
  | _ => ⟨S4096x2560, .f32⟩

abbrev hbmTy0_1 (i : Nat) : BufTy := match i % 128 with
  | 0 => ⟨S_, .f32⟩
  | 1 => ⟨S128x128, .f32⟩
  | 2 => ⟨S128x128, .f32⟩
  | 3 => ⟨S128x128, .f32⟩
  | 4 => ⟨S_, .f32⟩
  | 5 => ⟨S128x128, .f32⟩
  | 6 => ⟨S128x128, .f32⟩
  | 7 => ⟨S128x128, .bf16⟩
  | 8 => ⟨S128x512, .i32⟩
  | 9 => ⟨S128x512, .i32⟩
  | 10 => ⟨S_, .i32⟩
  | 11 => ⟨S128x512, .i32⟩
  | 12 => ⟨S128x512, .i32⟩
  | 13 => ⟨S_, .i32⟩
  | 14 => ⟨S128x512, .i32⟩
  | 15 => ⟨S128x512, .i32⟩
  | 16 => ⟨S_, .i32⟩
  | 17 => ⟨S128x512, .i32⟩
  | 18 => ⟨S128x512, .i32⟩
  | 19 => ⟨S128x512, .i32⟩
  | 20 => ⟨S128x512, .i1⟩
  | 21 => ⟨S_, .f32⟩
  | 22 => ⟨S_, .f32⟩
  | 23 => ⟨S128x512, .f32⟩
  | 24 => ⟨S128x512, .f32⟩
  | 25 => ⟨S128x512, .f32⟩
  | 26 => ⟨S128x512, .bf16⟩
  | 27 => ⟨S128x512, .i32⟩
  | 28 => ⟨S128x512, .i32⟩
  | 29 => ⟨S_, .i32⟩
  | 30 => ⟨S128x512, .i32⟩
  | 31 => ⟨S128x512, .i32⟩
  | 32 => ⟨S_, .i32⟩
  | 33 => ⟨S128x512, .i32⟩
  | 34 => ⟨S128x512, .i32⟩
  | 35 => ⟨S_, .i32⟩
  | 36 => ⟨S128x512, .i32⟩
  | 37 => ⟨S128x512, .i32⟩
  | 38 => ⟨S128x512, .i32⟩
  | 39 => ⟨S128x512, .i1⟩
  | 40 => ⟨S_, .f32⟩
  | 41 => ⟨S_, .f32⟩
  | 42 => ⟨S128x512, .f32⟩
  | 43 => ⟨S128x512, .f32⟩
  | 44 => ⟨S128x512, .f32⟩
  | 45 => ⟨S512x128, .f32⟩
  | 46 => ⟨S512x128, .bf16⟩
  | 47 => ⟨S1x64, .f32⟩
  | 48 => ⟨S1x1x1x64, .f32⟩
  | 49 => ⟨S1x1x8x64, .f32⟩
  | 50 => ⟨S1x512, .f32⟩
  | 51 => ⟨S1x64, .f32⟩
  | 52 => ⟨S1x1x1x64, .f32⟩
  | 53 => ⟨S1x1x2x64, .f32⟩
  | 54 => ⟨S1x128, .f32⟩
  | 55 => ⟨S4096x512, .bf16⟩
  | 56 => ⟨S4096x512, .bf16⟩
  | 57 => ⟨S4096x512, .bf16⟩
  | 58 => ⟨S4096x512, .f32⟩
  | 59 => ⟨S4096x512, .f32⟩
  | 60 => ⟨S4096x512, .f32⟩
  | 61 => ⟨S4096x768, .bf16⟩
  | 62 => ⟨S8x512, .f32⟩
  | 63 => ⟨S8x128, .f32⟩
  | 64 => ⟨S4096x512, .f32⟩
  | 65 => ⟨S_, .f32⟩
  | 66 => ⟨S512, .f32⟩
  | 67 => ⟨S8x64, .f32⟩
  | 68 => ⟨S_, .f32⟩
  | 69 => ⟨S64, .f32⟩
  | 70 => ⟨S_, .f32⟩
  | 71 => ⟨S128, .f32⟩
  | 72 => ⟨S2x64, .f32⟩
  | 73 => ⟨S_, .f32⟩
  | 74 => ⟨S64, .f32⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x512, .f32⟩
  | .local _ .vmem, ⟨15, _⟩ => ⟨S1x128, .f32⟩
  | .local _ .vmem, ⟨16, _⟩ => ⟨S512x512, .bf16⟩
  | .local _ .vmem, ⟨17, _⟩ => ⟨S128x128, .bf16⟩
  | .local _ .vmem, ⟨18, _⟩ => ⟨S512x512, .bf16⟩
  | .local _ .vmem, ⟨19, _⟩ => ⟨S128x128, .bf16⟩
  | .local _ .vmem, ⟨20, _⟩ => ⟨S128x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x256, .bf16⟩
  | .local _ .vmem, ⟨28, _⟩ => ⟨S256x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S2048x256, .f32⟩
  | .local _ .vmem, ⟨38, _⟩ => ⟨S2048x256, .f32⟩
  | .local _ .vmem, ⟨39, _⟩ => ⟨S2048x256, .f32⟩
  | .local _ .vmem, ⟨40, _⟩ => ⟨S2048x256, .f32⟩
  | .local _ .vmem, ⟨41, _⟩ => ⟨S256x512, .f32⟩
  | .local _ .vmem, ⟨42, _⟩ => ⟨S256x512, .f32⟩
  | .local _ .vmem, ⟨43, _⟩ => ⟨S256x128, .f32⟩
  | .local _ .vmem, ⟨44, _⟩ => ⟨S256x128, .f32⟩
  | .local _ .vmem, ⟨45, _⟩ => ⟨S256x512, .f32⟩
  | .local _ .vmem, ⟨46, _⟩ => ⟨S256x512, .f32⟩
  | .local _ .vmem, ⟨47, _⟩ => ⟨S256x512, .f32⟩
  | .local _ .vmem, ⟨48, _⟩ => ⟨S256x512, .f32⟩
  | .local _ .vmem, ⟨49, _⟩ => ⟨S256x128, .f32⟩
  | .local _ .vmem, ⟨50, _⟩ => ⟨S256x128, .f32⟩
  | .local _ .vmem, ⟨51, _⟩ => ⟨S256x128, .f32⟩
  | .local _ .vmem, ⟨52, _⟩ => ⟨S256x128, .f32⟩
  | .local _ .vmem, ⟨53, _⟩ => ⟨S1x512, .f32⟩
  | .local _ .vmem, ⟨54, _⟩ => ⟨S1x128, .f32⟩
  | .local _ .vmem, ⟨55, _⟩ => ⟨S512x512, .bf16⟩
  | .local _ .vmem, ⟨56, _⟩ => ⟨S128x128, .bf16⟩
  | .local _ .vmem, ⟨57, _⟩ => ⟨S512x512, .bf16⟩
  | .local _ .vmem, ⟨58, _⟩ => ⟨S128x128, .bf16⟩
  | .local _ .vmem, ⟨59, _⟩ => ⟨S512x128, .bf16⟩
  | .local _ .vmem, ⟨60, _⟩ => ⟨S256x512, .f32⟩
  | .local _ .vmem, ⟨61, _⟩ => ⟨S256x512, .f32⟩
  | .local _ .vmem, ⟨62, _⟩ => ⟨S256x512, .f32⟩
  | .local _ .vmem, ⟨63, _⟩ => ⟨S256x512, .f32⟩
  | .local _ .vmem, ⟨64, _⟩ => ⟨S256x512, .f32⟩
  | .local _ .vmem, ⟨65, _⟩ => ⟨S256x512, .f32⟩
  | .local _ .vmem, ⟨66, _⟩ => ⟨S256x768, .bf16⟩
  | .local _ .vmem, ⟨67, _⟩ => ⟨S256x768, .bf16⟩
  | .local _ .vmem, ⟨68, _⟩ => ⟨S8x512, .f32⟩
  | .local _ .vmem, ⟨69, _⟩ => ⟨S8x128, .f32⟩
  | .local _ .vmem, ⟨70, _⟩ => ⟨S512x256, .bf16⟩
  | .local _ .vmem, ⟨71, _⟩ => ⟨S512x256, .bf16⟩
  | .local _ .vmem, ⟨72, _⟩ => ⟨S2048x256, .bf16⟩
  | .local _ .vmem, ⟨73, _⟩ => ⟨S2048x256, .bf16⟩
  | .local _ .vmem, ⟨74, _⟩ => ⟨S2048x256, .bf16⟩
  | .local _ .vmem, ⟨75, _⟩ => ⟨S2048x256, .bf16⟩
  | .local _ .vmem, ⟨76, _⟩ => ⟨S512x256, .f32⟩
  | .local _ .vmem, ⟨77, _⟩ => ⟨S512x256, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_cst_9 : Ref sig .tc := ⟨.hbm, 75, rfl⟩
abbrev main_call1_v0 : Ref sig .tc := ⟨.hbm, 76, rfl⟩
abbrev main_call1_v1 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_cst_15 : Ref sig .tc := ⟨.hbm, 100, rfl⟩
abbrev main_call2_v0 : Ref sig .tc := ⟨.hbm, 101, rfl⟩
abbrev main_call2_v1 : Ref sig .tc := ⟨.hbm, 102, rfl⟩
abbrev main_v75 : Ref sig .tc := ⟨.hbm, 103, rfl⟩
abbrev main_cst_16 : Ref sig .tc := ⟨.hbm, 104, rfl⟩
abbrev main_call3_v0 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_17 : Ref sig .tc := ⟨.hbm, 110, rfl⟩
abbrev main_v80 : Ref sig .tc := ⟨.hbm, 111, rfl⟩
abbrev main_v81 : Ref sig .tc := ⟨.hbm, 112, rfl⟩
abbrev main_c_18 : Ref sig .tc := ⟨.hbm, 113, rfl⟩
abbrev main_v82 : Ref sig .tc := ⟨.hbm, 114, rfl⟩
abbrev main_v83 : Ref sig .tc := ⟨.hbm, 115, rfl⟩
abbrev main_c_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_21 : Ref sig .tc := ⟨.hbm, 127, rfl⟩
abbrev main_cst_22 : Ref sig .tc := ⟨.hbm, 128, rfl⟩
abbrev main_call4_v0 : Ref sig .tc := ⟨.hbm, 129, rfl⟩
abbrev main_call4_v1 : Ref sig .tc := ⟨.hbm, 130, rfl⟩
abbrev main_v93 : Ref sig .tc := ⟨.hbm, 131, rfl⟩
abbrev main_cst_23 : Ref sig .tc := ⟨.hbm, 132, rfl⟩
abbrev main_call5_v0 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_24 : Ref sig .tc := ⟨.hbm, 138, rfl⟩
abbrev main_v98 : Ref sig .tc := ⟨.hbm, 139, rfl⟩
abbrev main_v99 : Ref sig .tc := ⟨.hbm, 140, rfl⟩
abbrev main_c_25 : Ref sig .tc := ⟨.hbm, 141, rfl⟩
abbrev main_v100 : Ref sig .tc := ⟨.hbm, 142, rfl⟩
abbrev main_v101 : Ref sig .tc := ⟨.hbm, 143, rfl⟩
abbrev main_c_26 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_27 : Ref sig .tc := ⟨.hbm, 149, rfl⟩
abbrev main_cst_28 : Ref sig .tc := ⟨.hbm, 150, rfl⟩
abbrev main_call6_v0 : Ref sig .tc := ⟨.hbm, 151, rfl⟩
abbrev main_call6_v1 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_29 : Ref sig .tc := ⟨.hbm, 157, rfl⟩
abbrev main_v110 : Ref sig .tc := ⟨.hbm, 158, rfl⟩
abbrev main_v111 : Ref sig .tc := ⟨.hbm, 159, rfl⟩
abbrev main_c_30 : Ref sig .tc := ⟨.hbm, 160, rfl⟩
abbrev main_v112 : Ref sig .tc := ⟨.hbm, 161, rfl⟩
abbrev main_v113 : Ref sig .tc := ⟨.hbm, 162, rfl⟩
abbrev main_c_31 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_32 : Ref sig .tc := ⟨.hbm, 168, rfl⟩
abbrev main_cst_33 : Ref sig .tc := ⟨.hbm, 169, rfl⟩
abbrev main_call7_v0 : Ref sig .tc := ⟨.hbm, 170, rfl⟩
abbrev main_call7_v1 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129_0 : Ref sig .tc := ⟨.hbm, 183, rfl⟩
abbrev main_v129_1 : Ref sig .tc := ⟨.hbm, 184, rfl⟩
abbrev main_v129_2 : Ref sig .tc := ⟨.hbm, 185, rfl⟩
abbrev main_v130_0 : Ref sig .tc := ⟨.hbm, 186, rfl⟩
abbrev main_v130_1 : Ref sig .tc := ⟨.hbm, 187, rfl⟩
abbrev main_v130_2 : Ref sig .tc := ⟨.hbm, 188, rfl⟩
abbrev main_v131_0 : Ref sig .tc := ⟨.hbm, 189, rfl⟩
abbrev main_v131_1 : Ref sig .tc := ⟨.hbm, 190, rfl⟩
abbrev main_v131_2 : Ref sig .tc := ⟨.hbm, 191, rfl⟩
abbrev main_v132 : Ref sig .tc := ⟨.hbm, 192, rfl⟩
abbrev main_cst_34 : Ref sig .tc := ⟨.hbm, 193, rfl⟩
abbrev main_v133 : Ref sig .tc := ⟨.hbm, 194, rfl⟩
abbrev main_v134 : Ref sig .tc := ⟨.hbm, 195, rfl⟩
abbrev main_cst_35 : Ref sig .tc := ⟨.hbm, 196, rfl⟩
abbrev main_v135 : Ref sig .tc := ⟨.hbm, 197, rfl⟩
abbrev main_cst_36 : Ref sig .tc := ⟨.hbm, 198, rfl⟩
abbrev main_v136 : Ref sig .tc := ⟨.hbm, 199, rfl⟩
abbrev main_v137 : Ref sig .tc := ⟨.hbm, 200, rfl⟩
abbrev main_cst_37 : Ref sig .tc := ⟨.hbm, 201, rfl⟩
abbrev main_v138 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc1_stg4_0 : Ref sig .tc := ⟨.vmem, 35, rfl⟩
abbrev cc1_stg4_1 : Ref sig .tc := ⟨.vmem, 36, rfl⟩
abbrev cc1_stg5_0 : Ref sig .tc := ⟨.vmem, 37, rfl⟩
abbrev cc1_stg5_1 : Ref sig .tc := ⟨.vmem, 38, rfl⟩
abbrev cc1_stg6_0 : Ref sig .tc := ⟨.vmem, 39, rfl⟩
abbrev cc1_stg6_1 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg1_1 : Ref sig .tc := ⟨.vmem, 44, rfl⟩
abbrev cc2_stg2_0 : Ref sig .tc := ⟨.vmem, 45, rfl⟩
abbrev cc2_stg2_1 : Ref sig .tc := ⟨.vmem, 46, rfl⟩
abbrev cc2_stg3_0 : Ref sig .tc := ⟨.vmem, 47, rfl⟩
abbrev cc2_stg3_1 : Ref sig .tc := ⟨.vmem, 48, rfl⟩
abbrev cc2_stg4_0 : Ref sig .tc := ⟨.vmem, 49, rfl⟩
abbrev cc2_stg4_1 : Ref sig .tc := ⟨.vmem, 50, rfl⟩
abbrev cc2_stg5_0 : Ref sig .tc := ⟨.vmem, 51, rfl⟩
abbrev cc2_stg5_1 : Ref sig .tc := ⟨.vmem, 52, rfl⟩
abbrev cc2_stg6_0 : Ref sig .tc := ⟨.vmem, 53, rfl⟩
abbrev cc2_stg7_0 : Ref sig .tc := ⟨.vmem, 54, rfl⟩
abbrev cc2_stg8_0 : Ref sig .tc := ⟨.vmem, 55, rfl⟩
abbrev cc2_stg9_0 : Ref sig .tc := ⟨.vmem, 56, rfl⟩
abbrev cc2_stg10_0 : Ref sig .tc := ⟨.vmem, 57, rfl⟩
abbrev cc2_stg11_0 : Ref sig .tc := ⟨.vmem, 58, rfl⟩
abbrev cc2_stg12_0 : Ref sig .tc := ⟨.vmem, 59, rfl⟩
abbrev cc2_stg13_0 : Ref sig .tc := ⟨.vmem, 60, rfl⟩
abbrev cc2_stg13_1 : Ref sig .tc := ⟨.vmem, 61, rfl⟩
abbrev cc2_stg14_0 : Ref sig .tc := ⟨.vmem, 62, rfl⟩
abbrev cc2_stg14_1 : Ref sig .tc := ⟨.vmem, 63, rfl⟩
abbrev cc2_stg15_0 : Ref sig .tc := ⟨.vmem, 64, rfl⟩
abbrev cc2_stg15_1 : Ref sig .tc := ⟨.vmem, 65, rfl⟩
abbrev cc2_stg16_0 : Ref sig .tc := ⟨.vmem, 66, rfl⟩
abbrev cc2_stg16_1 : Ref sig .tc := ⟨.vmem, 67, rfl⟩
abbrev cc2_stg17_0 : Ref sig .tc := ⟨.vmem, 68, rfl⟩
abbrev cc2_stg18_0 : Ref sig .tc := ⟨.vmem, 69, rfl⟩
abbrev cc3_stg0_0 : Ref sig .tc := ⟨.vmem, 70, rfl⟩
abbrev cc3_stg0_1 : Ref sig .tc := ⟨.vmem, 71, rfl⟩
abbrev cc3_stg1_0 : Ref sig .tc := ⟨.vmem, 72, rfl⟩
abbrev cc3_stg1_1 : Ref sig .tc := ⟨.vmem, 73, rfl⟩
abbrev cc3_stg2_0 : Ref sig .tc := ⟨.vmem, 74, rfl⟩
abbrev cc3_stg2_1 : Ref sig .tc := ⟨.vmem, 75, rfl⟩
abbrev cc3_stg3_0 : Ref sig .tc := ⟨.vmem, 76, rfl⟩
abbrev cc3_stg3_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev cc1_sem3_0 : DmaSem sig := 33
abbrev cc1_sem3_1 : DmaSem sig := 34
abbrev cc1_sem4_0 : DmaSem sig := 35
abbrev cc1_sem4_1 : DmaSem sig := 36
abbrev cc1_sem5_0 : DmaSem sig := 37
abbrev cc1_sem5_1 : DmaSem sig := 38
abbrev cc1_sem6_0 : DmaSem sig := 39
abbrev cc1_sem6_1 : DmaSem sig := 40
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem3_1 : DmaSem sig := 48
abbrev cc2_sem4_0 : DmaSem sig := 49
abbrev cc2_sem4_1 : DmaSem sig := 50
abbrev cc2_sem5_0 : DmaSem sig := 51
abbrev cc2_sem5_1 : DmaSem sig := 52
abbrev cc2_sem6_0 : DmaSem sig := 53
abbrev cc2_sem7_0 : DmaSem sig := 54
abbrev cc2_sem8_0 : DmaSem sig := 55
abbrev cc2_sem9_0 : DmaSem sig := 56
abbrev cc2_sem10_0 : DmaSem sig := 57
abbrev cc2_sem11_0 : DmaSem sig := 58
abbrev cc2_sem12_0 : DmaSem sig := 59
abbrev cc2_sem13_0 : DmaSem sig := 60
abbrev cc2_sem13_1 : DmaSem sig := 61
abbrev cc2_sem14_0 : DmaSem sig := 62
abbrev cc2_sem14_1 : DmaSem sig := 63
abbrev cc2_sem15_0 : DmaSem sig := 64
abbrev cc2_sem15_1 : DmaSem sig := 65
abbrev cc2_sem16_0 : DmaSem sig := 66
abbrev cc2_sem16_1 : DmaSem sig := 67
abbrev cc2_sem17_0 : DmaSem sig := 68
abbrev cc2_sem18_0 : DmaSem sig := 69
abbrev cc3_sem0_0 : DmaSem sig := 70
abbrev cc3_sem0_1 : DmaSem sig := 71
abbrev cc3_sem1_0 : DmaSem sig := 72
abbrev cc3_sem1_1 : DmaSem sig := 73
abbrev cc3_sem2_0 : DmaSem sig := 74
abbrev cc3_sem2_1 : DmaSem sig := 75
abbrev cc3_sem3_0 : DmaSem sig := 76
abbrev cc3_sem3_1 : DmaSem sig := 77

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨3, ![2, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c4_i32 : BitVec 32 := 4#32
  let c0_i32 : BitVec 32 := 0#32
  ![arg0.toNat, c4_i32.toNat]

def cc2_transform_2 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_5 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x512 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x128 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S256x512 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S256x512 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S256x512 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S256x768 .bf16 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 1 → Memref sig .tc .vmem S8x512 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S8x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev grid3 : Pipeline.Grid := ⟨3, ![2, 2, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage3_0 : Fin 2 → Memref sig .tc .vmem S512x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]
-- ==== Reference3Ideal.lean ====
abbrev S4096x2560 : Shape := ⟨2, ![4096, 2560]⟩
abbrev S64 : Shape := ⟨1, ![64]⟩
abbrev S4096x512 : Shape := ⟨2, ![4096, 512]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S4096x768 : Shape := ⟨2, ![4096, 768]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S4096x128 : Shape := ⟨2, ![4096, 128]⟩
abbrev S2x2048x2x64 : Shape := ⟨4, ![2, 2048, 2, 64]⟩
abbrev S2x2048x2 : Shape := ⟨3, ![2, 2048, 2]⟩
abbrev S2x2048x2x1 : Shape := ⟨4, ![2, 2048, 2, 1]⟩
abbrev S2x2048x8x16 : Shape := ⟨4, ![2, 2048, 8, 16]⟩
abbrev S1x2048x1x64 : Shape := ⟨4, ![1, 2048, 1, 64]⟩
abbrev S2x2048x2x16 : Shape := ⟨4, ![2, 2048, 2, 16]⟩
abbrev S2x2048x2x4x64 : Shape := ⟨5, ![2, 2048, 2, 4, 64]⟩
abbrev S2x2x2048x2048x4 : Shape := ⟨5, ![2, 2, 2048, 2048, 4]⟩
abbrev S2x2x4x2048x2048 : Shape := ⟨5, ![2, 2, 4, 2048, 2048]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2x64x2048 : Shape := ⟨4, ![2, 2, 64, 2048]⟩
abbrev S2x2x2048x4x64 : Shape := ⟨5, ![2, 2, 2048, 4, 64]⟩
abbrev S2x2x2048x64 : Shape := ⟨4, ![2, 2, 2048, 64]⟩

abbrev nBuf : Space → Nat
  | .hbm => 274
  | .vmem => 0
  | .smem => 0
  | _ => 0

abbrev hbmTy0_0 (i : Nat) : BufTy := match i % 128 with
  | 0 => ⟨S4096x2560, .f32⟩
  | 1 => ⟨S64, .f32⟩
  | 2 => ⟨S64, .f32⟩
  | 3 => ⟨S4096x512, .f32⟩
  | 4 => ⟨S32, .f32⟩
  | 5 => ⟨S32x64, .f32⟩
  | 6 => ⟨S2048, .f32⟩
  | 7 => ⟨S64, .f32⟩
  | 8 => ⟨S1x64, .f32⟩
  | 9 => ⟨S32x64, .f32⟩
  | 10 => ⟨S2048, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S2048x64, .f32⟩
  | 36 => ⟨S2048x64, .f32⟩
  | 37 => ⟨S2048x64, .f32⟩
  | 38 => ⟨S4096x768, .f32⟩
  | 39 => ⟨S4096x512, .f32⟩
  | 40 => ⟨S2x2048x8x64, .f32⟩
  | 41 => ⟨S2x2048x8x64, .f32⟩
  | 42 => ⟨S_, .f32⟩
  | 43 => ⟨S2x2048x8, .f32⟩
  | 44 => ⟨S2x2048x8x1, .f32⟩
  | 45 => ⟨S_, .f32⟩
  | 46 => ⟨S2x2048x8x1, .f32⟩
  | 47 => ⟨S2x2048x8x1, .f32⟩
  | 48 => ⟨S_, .f32⟩
  | 49 => ⟨S2x2048x8x1, .f32⟩
  | 50 => ⟨S2x2048x8x1, .f32⟩
  | 51 => ⟨S2x2048x8x1, .f32⟩
  | 52 => ⟨S2x2048x8x1, .f32⟩
  | 53 => ⟨S_, .f32⟩
  | 54 => ⟨S2x2048x8x1, .f32⟩
  | 55 => ⟨S2x2048x8x1, .f32⟩
  | 56 => ⟨S2x2048x8x64, .f32⟩
  | 57 => ⟨S2x2048x8x64, .f32⟩
  | 58 => ⟨S1x1x1x64, .f32⟩
  | 59 => ⟨S2x2048x8x64, .f32⟩
  | 60 => ⟨S2x2048x8x64, .f32⟩
  | 61 => ⟨S4096x128, .f32⟩
  | 62 => ⟨S2x2048x2x64, .f32⟩
  | 63 => ⟨S2x2048x2x64, .f32⟩
  | 64 => ⟨S_, .f32⟩
  | 65 => ⟨S2x2048x2, .f32⟩
  | 66 => ⟨S2x2048x2x1, .f32⟩
  | 67 => ⟨S_, .f32⟩
  | 68 => ⟨S2x2048x2x1, .f32⟩
  | 69 => ⟨S2x2048x2x1, .f32⟩
  | 70 => ⟨S_, .f32⟩
  | 71 => ⟨S2x2048x2x1, .f32⟩
  | 72 => ⟨S2x2048x2x1, .f32⟩
  | 73 => ⟨S2x2048x2x1, .f32⟩
  | 74 => ⟨S2x2048x2x1, .f32⟩
  | 75 => ⟨S_, .f32⟩
  | 76 => ⟨S2x2048x2x1, .f32⟩
  | 77 => ⟨S2x2048x2x1, .f32⟩
  | 78 => ⟨S2x2048x2x64, .f32⟩
  | 79 => ⟨S2x2048x2x64, .f32⟩
  | 80 => ⟨S1x1x1x64, .f32⟩
  | 81 => ⟨S2x2048x2x64, .f32⟩
  | 82 => ⟨S2x2048x2x64, .f32⟩
  | 83 => ⟨S4096x128, .f32⟩
  | 84 => ⟨S2x2048x2x64, .f32⟩
  | 85 => ⟨S2x2048x8x16, .f32⟩
  | 86 => ⟨S2x2048x8x16, .f32⟩
  | 87 => ⟨S2x2048x8x16, .f32⟩
  | 88 => ⟨S2x2048x8x16, .f32⟩
  | 89 => ⟨S2x2048x8x16, .f32⟩
  | 90 => ⟨S2x2048x8x16, .f32⟩
  | 91 => ⟨S2x2048x8x64, .f32⟩
  | 92 => ⟨S1x2048x1x64, .f32⟩
  | 93 => ⟨S2x2048x8x64, .f32⟩
  | 94 => ⟨S2x2048x8x64, .f32⟩
  | 95 => ⟨S1x2048x1x64, .f32⟩
  | 96 => ⟨S2x2048x8x64, .f32⟩
  | 97 => ⟨S2x2048x8x64, .f32⟩
  | 98 => ⟨S2x2048x8x64, .f32⟩
  | 99 => ⟨S_, .f32⟩
  | 100 => ⟨S2x2048x8x64, .f32⟩
  | 101 => ⟨S2x2048x8x64, .f32⟩
  | 102 => ⟨S2x2048x2x16, .f32⟩
  | 103 => ⟨S2x2048x2x16, .f32⟩
  | 104 => ⟨S2x2048x2x16, .f32⟩
  | 105 => ⟨S2x2048x2x16, .f32⟩
  | 106 => ⟨S2x2048x2x16, .f32⟩
  | 107 => ⟨S2x2048x2x16, .f32⟩
  | 108 => ⟨S2x2048x2x64, .f32⟩
  | 109 => ⟨S1x2048x1x64, .f32⟩
  | 110 => ⟨S2x2048x2x64, .f32⟩
  | 111 => ⟨S2x2048x2x64, .f32⟩
  | 112 => ⟨S1x2048x1x64, .f32⟩
  | 113 => ⟨S2x2048x2x64, .f32⟩
  | 114 => ⟨S2x2048x2x64, .f32⟩
  | 115 => ⟨S2x2048x2x64, .f32⟩
  | 116 => ⟨S2x2048x2x4x64, .f32⟩
  | 117 => ⟨S2x2x2048x2048x4, .f32⟩
  | 118 => ⟨S2x2x4x2048x2048, .f32⟩
  | 119 => ⟨S_, .f32⟩
  | 120 => ⟨S2x2x4x2048, .f32⟩
  | 121 => ⟨S2x2x4x2048x1, .f32⟩
  | 122 => ⟨S2x2x4x2048x2048, .f32⟩
  | 123 => ⟨S2x2x4x2048x2048, .i1⟩
  | 124 => ⟨S2x2x4x2048x2048, .f32⟩
  | 125 => ⟨S_, .f32⟩
  | 126 => ⟨S2x2x4x2048, .f32⟩
  | 127 => ⟨S_, .f32⟩
  | _ => ⟨S4096x2560, .f32⟩

abbrev hbmTy0_1 (i : Nat) : BufTy := match i % 128 with
  | 0 => ⟨S2x2x4x2048, .f32⟩
  | 1 => ⟨S2x2x4x2048, .f32⟩
  | 2 => ⟨S_, .f32⟩
  | 3 => ⟨S2x2x4x2048, .f32⟩
  | 4 => ⟨S2x2x4x2048, .i1⟩
  | 5 => ⟨S_, .f32⟩
  | 6 => ⟨S2x2x4x2048, .f32⟩
  | 7 => ⟨S2x2x4x2048, .i1⟩
  | 8 => ⟨S_, .f32⟩
  | 9 => ⟨S2x2x4x2048, .f32⟩
  | 10 => ⟨S_, .f32⟩
  | 11 => ⟨S2x2x4x2048, .f32⟩
  | 12 => ⟨S_, .f32⟩
  | 13 => ⟨S2x2x4x2048, .f32⟩
  | 14 => ⟨S2x2x4x2048, .f32⟩
  | 15 => ⟨S2x2x4x2048, .f32⟩
  | 16 => ⟨S2x2x4x2048x1, .f32⟩
  | 17 => ⟨S2x2x4x2048x2048, .f32⟩
  | 18 => ⟨S2x2x4x2048x2048, .f32⟩
  | 19 => ⟨S2x2x4x2048x2048, .f32⟩
  | 20 => ⟨S_, .f32⟩
  | 21 => ⟨S2x2x4x2048, .f32⟩
  | 22 => ⟨S2x2x4x2048x1, .f32⟩
  | 23 => ⟨S2x2x4x2048x2048, .f32⟩
  | 24 => ⟨S2x2x4x2048x2048, .f32⟩
  | 25 => ⟨S2x2x4x2048x1, .f32⟩
  | 26 => ⟨S_, .f32⟩
  | 27 => ⟨S2x2x4x2048x1, .f32⟩
  | 28 => ⟨S2x2x4x2048x1, .f32⟩
  | 29 => ⟨S2x2x64x4x2048, .f32⟩
  | 30 => ⟨S2x2048x2x4x64, .f32⟩
  | 31 => ⟨S4096x512, .f32⟩
  | 32 => ⟨S2x2048x2x4x64, .f32⟩
  | 33 => ⟨S2x2x64x4x2048, .f32⟩
  | 34 => ⟨S2x2x4x2048x2048, .f32⟩
  | 35 => ⟨S2x2x64x2048, .f32⟩
  | 36 => ⟨S2x2048x2x64, .f32⟩
  | 37 => ⟨S2x2x4x2048x2048, .f32⟩
  | 38 => ⟨S2x2x4x2048x2048, .f32⟩
  | 39 => ⟨S2x2x4x2048x2048, .f32⟩
  | 40 => ⟨S_, .f32⟩
  | 41 => ⟨S2x2x4x2048, .f32⟩
  | 42 => ⟨S2x2x4x2048x1, .f32⟩
  | 43 => ⟨S2x2x4x2048x1, .f32⟩
  | 44 => ⟨S2x2x4x2048x2048, .f32⟩
  | 45 => ⟨S2x2x4x2048x2048, .f32⟩
  | 46 => ⟨S_, .f32⟩
  | 47 => ⟨S2x2x4x2048, .f32⟩
  | 48 => ⟨S2x2x4x2048x2048, .f32⟩
  | 49 => ⟨S2x2x4x2048x2048, .f32⟩
  | 50 => ⟨S2x2x4x2048x2048, .f32⟩
  | 51 => ⟨S2x2x2048x2048x4, .f32⟩
  | 52 => ⟨S2x2x2048x4x64, .f32⟩
  | 53 => ⟨S2x2048x2x4x64, .f32⟩
  | 54 => ⟨S2x2x2048x64, .f32⟩
  | 55 => ⟨S2x2048x2x64, .f32⟩
  | 56 => ⟨S2x2048x8x64, .f32⟩
  | 57 => ⟨S2x2048x2x64, .f32⟩
  | 58 => ⟨S2x2048x2x64, .f32⟩
  | 59 => ⟨S2x2048x2x64, .f32⟩
  | 60 => ⟨S2x2048x2x64, .f32⟩
  | 61 => ⟨S2x2048x2x16, .f32⟩
  | 62 => ⟨S2x2048x2x16, .f32⟩
  | 63 => ⟨S2x2048x2x16, .f32⟩
  | 64 => ⟨S2x2048x2x16, .f32⟩
  | 65 => ⟨S2x2048x2x16, .f32⟩
  | 66 => ⟨S2x2048x2x16, .f32⟩
  | 67 => ⟨S2x2048x2x64, .f32⟩
  | 68 => ⟨S2x2048x2x64, .f32⟩
  | 69 => ⟨S_, .f32⟩
  | 70 => ⟨S2x2048x8x64, .f32⟩
  | 71 => ⟨S2x2048x8x64, .f32⟩
  | 72 => ⟨S2x2048x8x64, .f32⟩
  | 73 => ⟨S2x2048x8x64, .f32⟩
  | 74 => ⟨S2x2048x8x64, .f32⟩
  | 75 => ⟨S2x2048x8x64, .f32⟩
  | 76 => ⟨S2x2048x8x16, .f32⟩
  | 77 => ⟨S2x2048x8x16, .f32⟩
  | 78 => ⟨S2x2048x8x16, .f32⟩
  | 79 => ⟨S2x2048x8x16, .f32⟩
  | 80 => ⟨S2x2048x8x16, .f32⟩
  | 81 => ⟨S2x2048x8x16, .f32⟩
  | 82 => ⟨S2x2048x8x64, .f32⟩
  | 83 => ⟨S2x2048x8x64, .f32⟩
  | 84 => ⟨S4096x128, .f32⟩
  | 85 => ⟨S_, .f32⟩
  | 86 => ⟨S4096x768, .f32⟩
  | 87 => ⟨S2x2048x2x64, .f32⟩
  | 88 => ⟨S_, .f32⟩
  | 89 => ⟨S64, .f32⟩
  | 90 => ⟨S1x1x1x64, .f32⟩
  | 91 => ⟨S2x2048x2x64, .f32⟩
  | 92 => ⟨S2x2048x2x64, .f32⟩
  | 93 => ⟨S_, .f32⟩
  | 94 => ⟨S64, .f32⟩
  | 95 => ⟨S2x2048x2x64, .f32⟩
  | 96 => ⟨S_, .f32⟩
  | 97 => ⟨S2x2048x2, .f32⟩
  | 98 => ⟨S2x2048x2x1, .f32⟩
  | 99 => ⟨S2x2048x2x64, .f32⟩
  | 100 => ⟨S2x2048x2x64, .f32⟩
  | 101 => ⟨S2x2048x2x1, .f32⟩
  | 102 => ⟨S_, .f32⟩
  | 103 => ⟨S2x2048x2x1, .f32⟩
  | 104 => ⟨S2x2048x2x1, .f32⟩
  | 105 => ⟨S_, .f32⟩
  | 106 => ⟨S2x2048x2, .f32⟩
  | 107 => ⟨S2x2048x2x64, .f32⟩
  | 108 => ⟨S2x2048x2x64, .f32⟩
  | 109 => ⟨S2x2048x2x64, .f32⟩
  | 110 => ⟨S2x2048x2x64, .f32⟩
  | 111 => ⟨S2x2048x2x64, .f32⟩
  | 112 => ⟨S4096x128, .f32⟩
  | 113 => ⟨S_, .f32⟩
  | 114 => ⟨S4096x768, .f32⟩
  | 115 => ⟨S4096x768, .f32⟩
  | 116 => ⟨S2x2048x8x64, .f32⟩
  | 117 => ⟨S_, .f32⟩
  | 118 => ⟨S64, .f32⟩
  | 119 => ⟨S1x1x1x64, .f32⟩
  | 120 => ⟨S2x2048x8x64, .f32⟩
  | 121 => ⟨S2x2048x8x64, .f32⟩
  | 122 => ⟨S_, .f32⟩
  | 123 => ⟨S64, .f32⟩
  | 124 => ⟨S2x2048x8x64, .f32⟩
  | 125 => ⟨S_, .f32⟩
  | 126 => ⟨S2x2048x8, .f32⟩
  | 127 => ⟨S2x2048x8x1, .f32⟩
  | _ => ⟨S4096x2560, .f32⟩

abbrev hbmTy0_2 (i : Nat) : BufTy := match i % 128 with
  | 0 => ⟨S2x2048x8x64, .f32⟩
  | 1 => ⟨S2x2048x8x64, .f32⟩
  | 2 => ⟨S2x2048x8x1, .f32⟩
  | 3 => ⟨S_, .f32⟩
  | 4 => ⟨S2x2048x8x1, .f32⟩
  | 5 => ⟨S2x2048x8x1, .f32⟩
  | 6 => ⟨S_, .f32⟩
  | 7 => ⟨S2x2048x8, .f32⟩
  | 8 => ⟨S2x2048x8x64, .f32⟩
  | 9 => ⟨S2x2048x8x64, .f32⟩
  | 10 => ⟨S2x2048x8x64, .f32⟩
  | 11 => ⟨S2x2048x8x64, .f32⟩
  | 12 => ⟨S2x2048x8x64, .f32⟩
  | 13 => ⟨S4096x512, .f32⟩
  | 14 => ⟨S_, .f32⟩
  | 15 => ⟨S4096x768, .f32⟩
  | 16 => ⟨S4096x768, .f32⟩
  | 17 => ⟨S4096x768, .bf16⟩
  | _ => ⟨S4096x2560, .f32⟩

abbrev hbmTy (i : Nat) : BufTy := match i / 128 with
  | 0 => hbmTy0_0 i
  | 1 => hbmTy0_1 i
  | 2 => hbmTy0_2 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_11 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_12 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_13 : Ref sig .tc := ⟨.hbm, 125, rfl⟩
abbrev main_v107 : Ref sig .tc := ⟨.hbm, 126, rfl⟩
abbrev main_cst_14 : Ref sig .tc := ⟨.hbm, 127, rfl⟩
abbrev main_v108 : Ref sig .tc := ⟨.hbm, 128, rfl⟩
abbrev main_v109 : Ref sig .tc := ⟨.hbm, 129, rfl⟩
abbrev main_cst_15 : Ref sig .tc := ⟨.hbm, 130, rfl⟩
abbrev main_v110 : Ref sig .tc := ⟨.hbm, 131, rfl⟩
abbrev main_v111 : Ref sig .tc := ⟨.hbm, 132, rfl⟩
abbrev main_cst_16 : Ref sig .tc := ⟨.hbm, 133, rfl⟩
abbrev main_v112 : Ref sig .tc := ⟨.hbm, 134, rfl⟩
abbrev main_v113 : Ref sig .tc := ⟨.hbm, 135, rfl⟩
abbrev main_cst_17 : Ref sig .tc := ⟨.hbm, 136, rfl⟩
abbrev main_v114 : Ref sig .tc := ⟨.hbm, 137, rfl⟩
abbrev main_cst_18 : Ref sig .tc := ⟨.hbm, 138, rfl⟩
abbrev main_v115 : Ref sig .tc := ⟨.hbm, 139, rfl⟩
abbrev main_cst_19 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_20 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_21 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_22 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_23 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_cst_24 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_cst_25 : Ref sig .tc := ⟨.hbm, 213, rfl⟩
abbrev main_v183 : Ref sig .tc := ⟨.hbm, 214, rfl⟩
abbrev main_v184 : Ref sig .tc := ⟨.hbm, 215, rfl⟩
abbrev main_cst_26 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_cst_27 : Ref sig .tc := ⟨.hbm, 221, rfl⟩
abbrev main_v189 : Ref sig .tc := ⟨.hbm, 222, rfl⟩
abbrev main_v190 : Ref sig .tc := ⟨.hbm, 223, rfl⟩
abbrev main_cst_28 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_cst_29 : Ref sig .tc := ⟨.hbm, 230, rfl⟩
abbrev main_v196 : Ref sig .tc := ⟨.hbm, 231, rfl⟩
abbrev main_v197 : Ref sig .tc := ⟨.hbm, 232, rfl⟩
abbrev main_cst_30 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_cst_31 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_cst_32 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_cst_33 : Ref sig .tc := ⟨.hbm, 250, rfl⟩
abbrev main_v212 : Ref sig .tc := ⟨.hbm, 251, rfl⟩
abbrev main_v213 : Ref sig .tc := ⟨.hbm, 252, rfl⟩
abbrev main_cst_34 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_cst_35 : Ref sig .tc := ⟨.hbm, 259, rfl⟩
abbrev main_v219 : Ref sig .tc := ⟨.hbm, 260, rfl⟩
abbrev main_v220 : Ref sig .tc := ⟨.hbm, 261, rfl⟩
abbrev main_cst_36 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_cst_37 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S8x1024 : Shape := ⟨2, ![8, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S64x8x1024 : Shape := ⟨3, ![64, 8, 1024]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4x704x1024, .f32⟩
  | .hbm, ⟨8, _⟩ => ⟨S4x704x1024, .bf16⟩
  | .hbm, ⟨9, _⟩ => ⟨S4096x1024, .f32⟩
  | .hbm, ⟨10, _⟩ => ⟨S8x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel9.lean ====
abbrev S4096x512 : Shape := ⟨2, ![4096, 512]⟩
abbrev S4096x256 : Shape := ⟨2, ![4096, 256]⟩
abbrev S4096x2560 : Shape := ⟨2, ![4096, 2560]⟩
abbrev S512 : Shape := ⟨1, ![512]⟩
abbrev S64 : Shape := ⟨1, ![64]⟩
abbrev S256 : Shape := ⟨1, ![256]⟩
abbrev S1x512 : Shape := ⟨2, ![1, 512]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S256x256 : Shape := ⟨2, ![256, 256]⟩
abbrev S_ : Shape := ⟨0, ![]⟩
abbrev S4096x1024 : Shape := ⟨2, ![4096, 1024]⟩
abbrev S256x512 : Shape := ⟨2, ![256, 512]⟩
abbrev S256x1024 : Shape := ⟨2, ![256, 1024]⟩
abbrev S256x1 : Shape := ⟨2, ![256, 1]⟩

abbrev nBuf : Space → Nat
  | .hbm => 30
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S4096x2560, .f32⟩
  | .hbm, ⟨4, _⟩ => ⟨S4096x256, .f32⟩
  | .hbm, ⟨5, _⟩ => ⟨S512, .f32⟩
  | .hbm, ⟨6, _⟩ => ⟨S64, .f32⟩
  | .hbm, ⟨7, _⟩ => ⟨S256, .f32⟩
  | .hbm, ⟨8, _⟩ => ⟨S1x512, .f32⟩
  | .hbm, ⟨9, _⟩ => ⟨S1x64, .f32⟩
  | .hbm, ⟨10, _⟩ => ⟨S1x1x1x64, .f32⟩
  | .hbm, ⟨11, _⟩ => ⟨S1x1x4x64, .f32⟩
  | .hbm, ⟨12, _⟩ => ⟨S1x256, .f32⟩
  | .hbm, ⟨13, _⟩ => ⟨S1x256, .f32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S_, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S256x256, .bf16⟩
  | .hbm, ⟨29, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x512, .f32⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S256x1024, .bf16⟩
  | .local _ .vmem, ⟨15, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4096x512 : Shape := ⟨2, ![4096, 512]⟩
abbrev S4096x256 : Shape := ⟨2, ![4096, 256]⟩
abbrev S4096x2560 : Shape := ⟨2, ![4096, 2560]⟩
abbrev S512 : Shape := ⟨1, ![512]⟩
abbrev S64 : Shape := ⟨1, ![64]⟩
abbrev S256 : Shape := ⟨1, ![256]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S1x1x64 : Shape := ⟨3, ![1, 1, 64]⟩
abbrev S4096 : Shape := ⟨1, ![4096]⟩
abbrev S4096x1 : Shape := ⟨2, ![4096, 1]⟩
abbrev S1x512 : Shape := ⟨2, ![1, 512]⟩
abbrev S1x256 : Shape := ⟨2, ![1, 256]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S4096x2560, .f32⟩
  | .hbm, ⟨4, _⟩ => ⟨S4096x256, .f32⟩
  | .hbm, ⟨5, _⟩ => ⟨S512, .f32⟩
  | .hbm, ⟨6, _⟩ => ⟨S64, .f32⟩
  | .hbm, ⟨7, _⟩ => ⟨S256, .f32⟩
  | .hbm, ⟨8, _⟩ => ⟨S4096x256, .f32⟩
  | .hbm, ⟨9, _⟩ => ⟨S4096x256, .f32⟩
  | .hbm, ⟨10, _⟩ => ⟨S4096x4x64, .f32⟩
  | .hbm, ⟨11, _⟩ => ⟨S4096x4x64, .f32⟩
  | .hbm, ⟨12, _⟩ => ⟨S_, .f32⟩
  | .hbm, ⟨13, _⟩ => ⟨S4096x4, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x1, .f32⟩
  | .hbm, ⟨22, _⟩ => ⟨S4096x4x64, .f32⟩
  | .hbm, ⟨23, _⟩ => ⟨S4096x4x64, .f32⟩
  | .hbm, ⟨24, _⟩ => ⟨S1x1x64, .f32⟩
  | .hbm, ⟨25, _⟩ => ⟨S4096x4x64, .f32⟩
  | .hbm, ⟨26, _⟩ => ⟨S4096x4x64, .f32⟩
  | .hbm, ⟨27, _⟩ => ⟨S4096x4x64, .f32⟩
  | .hbm, ⟨28, _⟩ => ⟨S4096x4x64, .f32⟩
  | .hbm, ⟨29, _⟩ => ⟨S4096x4x64, .f32⟩
  | .hbm, ⟨30, _⟩ => ⟨S_, .f32⟩
  | .hbm, ⟨31, _⟩ => ⟨S4096x4x64, .f32⟩
  | .hbm, ⟨32, _⟩ => ⟨S4096x4x64, .f32⟩
  | .hbm, ⟨33, _⟩ => ⟨S_, .f32⟩
  | .hbm, ⟨34, _⟩ => ⟨S4096x4x64, .f32⟩
  | .hbm, ⟨35, _⟩ => ⟨S4096x4x64, .f32⟩
  | .hbm, ⟨36, _⟩ => ⟨S4096x4x64, .f32⟩
  | .hbm, ⟨37, _⟩ => ⟨S4096x4x64, .f32⟩
  | .hbm, ⟨38, _⟩ => ⟨S4096x256, .f32⟩
  | .hbm, ⟨39, _⟩ => ⟨S4096x512, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x512, .f32⟩
  | .hbm, ⟨51, _⟩ => ⟨S4096x512, .f32⟩
  | .hbm, ⟨52, _⟩ => ⟨S1x512, .f32⟩
  | .hbm, ⟨53, _⟩ => ⟨S4096x512, .f32⟩
  | .hbm, ⟨54, _⟩ => ⟨S4096x512, .f32⟩
  | .hbm, ⟨55, _⟩ => ⟨S4096x256, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x256, .f32⟩
  | .hbm, ⟨67, _⟩ => ⟨S4096x256, .f32⟩
  | .hbm, ⟨68, _⟩ => ⟨S1x256, .f32⟩
  | .hbm, ⟨69, _⟩ => ⟨S4096x256, .f32⟩
  | .hbm, ⟨70, _⟩ => ⟨S4096x256, .f32⟩
  | .hbm, ⟨71, _⟩ => ⟨S4096x1024, .f32⟩
  | .hbm, ⟨72, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x2560 : Shape := ⟨2, ![1024, 2560]⟩
abbrev S1024x4x640 : Shape := ⟨3, ![1024, 4, 640]⟩
abbrev S4x1024x640 : Shape := ⟨3, ![4, 1024, 640]⟩
abbrev S1x1024 : Shape := ⟨2, ![1, 1024]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S1024x4x640, .f32⟩
  | .hbm, ⟨4, _⟩ => ⟨S4x1024x640, .f32⟩
  | .hbm, ⟨5, _⟩ => ⟨S4x1024x640, .bf16⟩
  | .hbm, ⟨6, _⟩ => ⟨S1x1024, .f32⟩
  | .hbm, ⟨7, _⟩ => ⟨S4096x2560, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x1024 : Shape := ⟨2, ![4096, 1024]⟩
abbrev S1024 : Shape := ⟨1, ![1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2560, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S2x2x64 : Shape := ⟨3, ![2, 2, 64]⟩
abbrev S4x64 : Shape := ⟨2, ![4, 64]⟩
abbrev S1x64 : Shape := ⟨2, ![1, 64]⟩

abbrev nBuf : Space → Nat
  | .hbm => 3
  | .vmem => 2
  | .smem => 0
  | _ => 0

abbrev bufTy : (tb : Table) → Fin (tcTables nBuf tb) → BufTy
  | .hbm, ⟨0, _⟩ => ⟨S2x2x64, .f32⟩
  | .hbm, ⟨1, _⟩ => ⟨S4x64, .f32⟩
  | .hbm, ⟨2, _⟩ => ⟨S4x64, .f32⟩
  | .local _ .vmem, ⟨0, _⟩ => ⟨S4x64, .f32⟩
  | .local _ .vmem, ⟨1, _⟩ => ⟨S4x64, .f32⟩
  | _, _ => ⟨S2x2x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference11Ideal.lean ====
abbrev S2x2x64 : Shape := ⟨3, ![2, 2, 64]⟩
abbrev S_ : Shape := ⟨0, ![]⟩
abbrev S2x64 : Shape := ⟨2, ![2, 64]⟩
abbrev S1x2x64 : Shape := ⟨3, ![1, 2, 64]⟩
abbrev S4x64 : Shape := ⟨2, ![4, 64]⟩

abbrev nBuf : Space → Nat
  | .hbm => 22
  | .vmem => 0
  | .smem => 0
  | _ => 0

abbrev bufTy : (tb : Table) → Fin (tcTables nBuf tb) → BufTy
  | .hbm, ⟨0, _⟩ => ⟨S2x2x64, .f32⟩
  | .hbm, ⟨1, _⟩ => ⟨S_, .f32⟩
  | .hbm, ⟨2, _⟩ => ⟨S2x64, .f32⟩
  | .hbm, ⟨3, _⟩ => ⟨S_, .f32⟩
  | .hbm, ⟨4, _⟩ => ⟨S2x64, .f32⟩
  | .hbm, ⟨5, _⟩ => ⟨S2x64, .f32⟩
  | .hbm, ⟨6, _⟩ => ⟨S1x2x64, .f32⟩
  | .hbm, ⟨7, _⟩ => ⟨S2x2x64, .f32⟩
  | .hbm, ⟨8, _⟩ => ⟨S2x2x64, .f32⟩
  | .hbm, ⟨9, _⟩ => ⟨S2x2x64, .f32⟩
  | .hbm, ⟨10, _⟩ => ⟨S_, .f32⟩
  | .hbm, ⟨11, _⟩ => ⟨S2x64, .f32⟩
  | .hbm, ⟨12, _⟩ => ⟨S1x2x64, .f32⟩
  | .hbm, ⟨13, _⟩ => ⟨S2x2x64, .f32⟩
  | .hbm, ⟨14, _⟩ => ⟨S2x2x64, .f32⟩
  | .hbm, ⟨15, _⟩ => ⟨S_, .f32⟩
  | .hbm, ⟨16, _⟩ => ⟨S_, .f32⟩
  | .hbm, ⟨17, _⟩ => ⟨S2x2x64, .f32⟩
  | .hbm, ⟨18, _⟩ => ⟨S1x2x64, .f32⟩
  | .hbm, ⟨19, _⟩ => ⟨S2x2x64, .f32⟩
  | .hbm, ⟨20, _⟩ => ⟨S2x2x64, .f32⟩
  | .hbm, ⟨21, _⟩ => ⟨S4x64, .f32⟩
  | _, _ => ⟨S2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | _, _ => ⟨S1x1, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_cst : Ref sig .tc := ⟨.hbm, 2, rfl⟩
abbrev main_v2 : Ref sig .tc := ⟨.hbm, 3, rfl⟩
abbrev main_cst_0 : Ref sig .tc := ⟨.hbm, 4, rfl⟩
abbrev main_v3 : Ref sig .tc := ⟨.hbm, 5, rfl⟩
abbrev main_v4 : Ref sig .tc := ⟨.hbm, 6, rfl⟩
abbrev main_v4_s0 : Ref sig .tc := ⟨.hbm, 7, rfl⟩
abbrev main_v4_s1 : Ref sig .tc := ⟨.hbm, 8, rfl⟩
abbrev main_v4_s2 : Ref sig .tc := ⟨.hbm, 9, rfl⟩
abbrev main_v4_s3 : Ref sig .tc := ⟨.hbm, 10, rfl⟩
abbrev main_v4_s4 : Ref sig .tc := ⟨.hbm, 11, rfl⟩
abbrev main_v4_s5 : Ref sig .tc := ⟨.hbm, 12, rfl⟩
abbrev main_v4_s6 : Ref sig .tc := ⟨.hbm, 13, rfl⟩
abbrev main_v4_s7 : Ref sig .tc := ⟨.hbm, 14, rfl⟩
abbrev main_v5 : Ref sig .tc := ⟨.hbm, 15, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))
-- ==== Reference12Ideal.lean ====
abbrev S8x1 : Shape := ⟨2, ![8, 1]⟩
abbrev S_ : Shape := ⟨0, ![]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S8x1, .f32⟩
  | .hbm, ⟨1, _⟩ => ⟨S_, .f32⟩
  | .hbm, ⟨2, _⟩ => ⟨S8x1, .f32⟩
  | .hbm, ⟨3, _⟩ => ⟨S8x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | _, _ => ⟨S8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S1408x1024 : Shape := ⟨2, ![1408, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1408x1024 : Shape := ⟨2, ![1408, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S_, .f32⟩
  | .hbm, ⟨7, _⟩ => ⟨S1408x1024, .f32⟩
  | .hbm, ⟨8, _⟩ => ⟨S1408x1024, .f32⟩
  | .hbm, ⟨9, _⟩ => ⟨S_, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S_, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S4x704x1024 : Shape := ⟨3, ![4, 704, 1024]⟩
abbrev S1408x1024 : Shape := ⟨2, ![1408, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S1408x1024, .f32⟩
  | .local _ .vmem, ⟨0, _⟩ => ⟨S4x64x1024, .bf16⟩
  | .local _ .vmem, ⟨1, _⟩ => ⟨S4x64x1024, .bf16⟩
  | .local _ .vmem, ⟨2, _⟩ => ⟨S4x64x1024, .bf16⟩
  | .local _ .vmem, ⟨3, _⟩ => ⟨S4x64x1024, .bf16⟩
  | .local _ .vmem, ⟨4, _⟩ => ⟨S64x1024, .f32⟩
  | .local _ .vmem, ⟨5, _⟩ => ⟨S64x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4x704x1024 : Shape := ⟨3, ![4, 704, 1024]⟩
abbrev S_ : Shape := ⟨0, ![]⟩
abbrev S704x1024 : Shape := ⟨2, ![704, 1024]⟩
abbrev S1408x1024 : Shape := ⟨2, ![1408, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .f32⟩
  | .hbm, ⟨3, _⟩ => ⟨S_, .f32⟩
  | .hbm, ⟨4, _⟩ => ⟨S704x1024, .f32⟩
  | .hbm, ⟨5, _⟩ => ⟨S4x704x1024, .f32⟩
  | .hbm, ⟨6, _⟩ => ⟨S_, .f32⟩
  | .hbm, ⟨7, _⟩ => ⟨S704x1024, .f32⟩
  | .hbm, ⟨8, _⟩ => ⟨S1408x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .local _ .vmem, ⟨0, _⟩ => ⟨S8x256x128, .f32⟩
  | .local _ .vmem, ⟨1, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference16Ideal.lean ====
abbrev S8x256x128 : Shape := ⟨3, ![8, 256, 128]⟩
abbrev S_ : Shape := ⟨0, ![]⟩
abbrev S256x128 : Shape := ⟨2, ![256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S_, .f32⟩
  | .hbm, ⟨2, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/- Extended reals that are real numbers: what the value proofs use of an argument bound by a finiteness precondition. -/
module

public import Idealize.ShloMosaic.PureOps
public import Idealize.ShloMosaic.Lib.ValueIdx
public import Idealize.ShloMosaic.PureOps.Ideal
public import Idealize.ShloMosaic.Lib.ReduceAll

@[expose] public section

set_option maxRecDepth 16384

noncomputable section

namespace Cert.Reals

open Idealize.ShloMosaic Idealize.ShloMosaic.ValueIdx

/-- The extended real is a real number. -/
def IsReal (x : EReal) : Prop := ∃ r : ℝ, x = (r : EReal)

theorem isReal_of_ne {x : EReal} (h₁ : x ≠ ⊤) (h₂ : x ≠ ⊥) : IsReal x := ⟨x.toReal, (EReal.coe_toReal h₁ h₂).symm⟩

theorem inf_word : Ideal.ofBits .f32 0x7F800000#32 = ⊤ := by
  simp [Ideal.ofBits, Ideal.ieee]

theorem neg_inf_word : Ideal.ofBits .f32 0xFF800000#32 = ⊥ := by
  simp [Ideal.ofBits, Ideal.ieee]

theorem zero_word : Ideal.ofBits .f32 0x00000000#32 = ((0 : ℝ) : EReal) := by
  simp [Ideal.ofBits, Ideal.ieee]

theorem one_word : Ideal.ofBits .f32 0x3F800000#32 = ((1 : ℝ) : EReal) := by
  simp [Ideal.ofBits, Ideal.ieee, -EReal.coe_mul]; norm_num

/-- A number whose size is below the infinite word is real. -/
theorem isReal_of_abs_lt {x : EReal} (h : Ideal.cmp .olt (max x (-x)) (Ideal.ofBits .f32 0x7F800000#32) = 1#1) : IsReal x := by
  rw [inf_word] at h
  refine isReal_of_ne (fun e => ?_) (fun e => ?_) <;> subst e <;> simp [Ideal.cmp] at h

theorem and_one {a b : BitVec 1} (h : a &&& b = 1#1) : a = 1#1 ∧ b = 1#1 := by
  revert a b; decide

/-- An array of real numbers is the array of their real values. -/
theorem exists_reals {ι : Type} {v : ι → EReal} (h : ∀ i, IsReal (v i)) : ∃ V : ι → ℝ, v = fun i => (V i : EReal) :=
  ⟨fun i => (h i).choose, funext fun i => (h i).choose_spec⟩

/-- "Every entry is finite", as a precondition prints it: every entry is a real number. -/
theorem isReal_of_all {s t u v : Shape} [Subsingleton t.Idx] {axes : List (Fin s.rank)} (x : FVec Ideal s .f32) {dims : Fin v.rank → Fin s.rank}
    {hb : v.BroadcastsInDim s dims} (init : u.Idx → BitVec 1) (h : s.ReducesTo axes t) (hu : 0 < u.numel) (j : t.Idx)
    (e : Host.reduce IntOp.andi (cmpf .olt (Host.absf x) (broadcastInDim s dims hb (constant v .f32 0x7F800000#32))) init h hu j = 1#1)
    (i : s.Idx) : IsReal (x i) :=
  isReal_of_abs_lt (Host.reduce_andi_all _ init h hu j e i)

/-- An array of real numbers of one axis, as a function of its coordinate; and so on for more axes. -/
theorem reals1 {n0 : Nat} {v : (⟨1, ![n0]⟩ : Shape).Idx → EReal} (h : ∀ i, IsReal (v i)) :
    ∃ V : Fin n0 → ℝ, v = fun i => ((V (i 0) : ℝ) : EReal) := by
  obtain ⟨V, rfl⟩ := exists_reals h
  exact ⟨fun a => V (ix1 a), funext fun i => congrArg (fun j => ((V j : ℝ) : EReal)) (funext fun d => match d with | ⟨0, _⟩ => rfl)⟩

theorem reals2 {n0 n1 : Nat} {v : (⟨2, ![n0, n1]⟩ : Shape).Idx → EReal} (h : ∀ i, IsReal (v i)) :
    ∃ V : Fin n0 → Fin n1 → ℝ, v = fun i => ((V (i 0) (i 1) : ℝ) : EReal) := by
  obtain ⟨V, rfl⟩ := exists_reals h
  exact ⟨fun a b => V (ix2 a b), funext fun i => congrArg (fun j => ((V j : ℝ) : EReal))
    (funext fun d => match d with | ⟨0, _⟩ => rfl | ⟨1, _⟩ => rfl)⟩

theorem reals3 {n0 n1 n2 : Nat} {v : (⟨3, ![n0, n1, n2]⟩ : Shape).Idx → EReal} (h : ∀ i, IsReal (v i)) :
    ∃ V : Fin n0 → Fin n1 → Fin n2 → ℝ, v = fun i => ((V (i 0) (i 1) (i 2) : ℝ) : EReal) := by
  obtain ⟨V, rfl⟩ := exists_reals h
  exact ⟨fun a b c => V (ix3 a b c), funext fun i => congrArg (fun j => ((V j : ℝ) : EReal))
    (funext fun d => match d with | ⟨0, _⟩ => rfl | ⟨1, _⟩ => rfl | ⟨2, _⟩ => rfl)⟩

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem div_coe_coe (a : ℝ) {b : ℝ} (h : b ≠ 0) : Ideal.div (a : EReal) (b : EReal) = ((a / b : ℝ) : EReal) := by
  rw [Ideal.div_coe h, ← EReal.coe_mul, mul_one_div]

/-! ### Indices equal by their coordinates -/

theorem ext1 {n0 : Nat} {a b : (⟨1, ![n0]⟩ : Shape).Idx} (h0 : (a 0).val = (b 0).val) : a = b :=
  funext fun d => Fin.ext (match d with | ⟨0, _⟩ => h0)

theorem ext2 {n0 n1 : Nat} {a b : (⟨2, ![n0, n1]⟩ : Shape).Idx} (h0 : (a 0).val = (b 0).val) (h1 : (a 1).val = (b 1).val) :
    a = b := funext fun d => Fin.ext (match d with | ⟨0, _⟩ => h0 | ⟨1, _⟩ => h1)

theorem ext3 {n0 n1 n2 : Nat} {a b : (⟨3, ![n0, n1, n2]⟩ : Shape).Idx} (h0 : (a 0).val = (b 0).val) (h1 : (a 1).val = (b 1).val)
    (h2 : (a 2).val = (b 2).val) : a = b := funext fun d => Fin.ext (match d with | ⟨0, _⟩ => h0 | ⟨1, _⟩ => h1 | ⟨2, _⟩ => h2)

theorem ext4 {n0 n1 n2 n3 : Nat} {a b : (⟨4, ![n0, n1, n2, n3]⟩ : Shape).Idx} (h0 : (a 0).val = (b 0).val)
    (h1 : (a 1).val = (b 1).val) (h2 : (a 2).val = (b 2).val) (h3 : (a 3).val = (b 3).val) : a = b :=
  funext fun d => Fin.ext (match d with | ⟨0, _⟩ => h0 | ⟨1, _⟩ => h1 | ⟨2, _⟩ => h2 | ⟨3, _⟩ => h3)

/-- The greatest of finitely many, at least one, real numbers, folded from `⊥`, is real. -/
theorem isReal_fold_max {n : Nat} (f : Fin (n + 1) → EReal) (h : ∀ k, IsReal (f k)) :
    IsReal (Finset.univ.fold max ⊥ f) := by
  refine isReal_of_ne (fun e => ?_) (fun e => ?_)
  · have : Finset.univ.fold max ⊥ f < ⊤ := Finset.fold_max_lt (c := ⊤) |>.2
      ⟨bot_lt_top, fun k _ => by obtain ⟨r, hr⟩ := h k; rw [hr]; exact EReal.coe_lt_top r⟩
    exact this.ne e
  · have : (⊥ : EReal) < Finset.univ.fold max ⊥ f := Finset.lt_fold_max (c := ⊥) |>.2
      (Or.inr ⟨0, Finset.mem_univ _, by obtain ⟨r, hr⟩ := h 0; rw [hr]; exact EReal.bot_lt_coe r⟩)
    exact this.ne' e

end Cert.Reals

end
-- ==== Proof.LowerBoundsRef.lean ====
/- The gradient of the lower bounds as the reference computes it: softmax over the two layers, the sum over the layers so
   far less the first layer's share, each stage of its derivative as a real number. -/
module

public import proofs.«01_k».proof.Proof.Reals
public import Idealize.ShloMosaic.Lib.Pointwise.ShapeOpsCore
public import proofs.«01_k».proof.Proof.Gen.ReferenceIdeal.Read

@[expose] public section

set_option maxRecDepth 16384

noncomputable section

namespace Cert.LowerBounds

open Idealize.ShloMosaic hiding ix1 ix2 ix3 ix4 ix5
open Idealize.ShloMosaic.ValueIdx Cert.Reals
open Cert.ReferenceIdeal Cert.ReferenceIdeal.Gen Cert.ReferenceIdeal.Read

abbrev A : Shape := ⟨3, ![2, 2, 64]⟩

/-- The greatest logit of a column of real logits is real. -/
theorem top_real (X : A.Idx → ℝ) : ∃ M : Fin 2 → Fin 64 → ℝ, ∀ d c,
    val_main_v7 (F := Ideal) (fun i => (X i : EReal)) (ix2 d c) = (M d c : EReal) := by
  have h : ∀ d c, IsReal (val_main_v7 (F := Ideal) (fun i => (X i : EReal)) (ix2 d c)) := by
    intro d c
    rw [val_main_v7_apply, val_main_v0]
    rw [Host.reduce_eq_fold_single (FloatOps.maximumf (F := Ideal)) _ _ reducesTo_S2x2x64_S2x64_d0 (by decide)]
    have h1 : IsReal ((Finset.univ : Finset (Fin 2)).fold max ⊥
        ((fun i => (X i : EReal)) ∘ (by decide : A.Reduces [0] S2x64).lift (ix2 d c))) :=
      isReal_fold_max _ fun k => ⟨_, rfl⟩
    obtain ⟨r, hr⟩ := h1
    refine ⟨r, ?_⟩
    have e1 : val_main_v6 (F := Ideal) (ix2 d c) = ⊥ := by
      rw [val_main_v6_apply, val_main_cst_1_apply, Ideal.ofBits_def, neg_inf_word]
    have e2 : val_main_cst (F := Ideal) (Shape.Idx.first h_S_) = ⊥ := by
      rw [val_main_cst_apply, Ideal.ofBits_def, neg_inf_word]
    rw [e1, e2, Ideal.maximumf_def]
    refine (max_eq_right bot_le).trans ?_
    exact hr
  exact ⟨fun d c => (h d c).choose, fun d c => (h d c).choose_spec⟩

variable (X G : A.Idx → ℝ) (M : Fin 2 → Fin 64 → ℝ)

def E (l d : Fin 2) (c : Fin 64) : ℝ := Real.exp (X (ix3 l d c) - M d c)
def T (d : Fin 2) (c : Fin 64) : ℝ := E X M 0 d c + E X M 1 d c
/-- The gradient in the softmax: the sum of the bounds' gradients from the layer on, less the whole sum at the first. -/
def D (l d : Fin 2) (c : Fin 64) : ℝ := if l = 0 then 0 else G (ix3 1 d c)

abbrev Wn : Shape := ⟨3, ![2, 1, 1]⟩

theorem range_wn : List.finRange Wn.numel = [⟨0, by decide⟩, ⟨1, by decide⟩] := by decide +kernel

theorem wn_0 (a : Fin 3) : (Wn.rowMajor.symm ⟨0, by decide⟩ a).val = 0 := by
  revert a; decide +kernel

theorem wn_1 (a : Fin 3) : (Wn.rowMajor.symm ⟨1, by decide⟩ a).val = if a = 0 then 1 else 0 := by
  revert a; decide +kernel

/-- The sum over a layer and the one after it, the layer after the last counted as the initial value. -/
theorem window_apply (h : A.ReduceWindows ![2, 1, 1] ![1, 1, 1] ![0, 0, 0] ![1, 0, 0] A) (x : A.Idx → EReal) (v : EReal)
    (l d : Fin 2) (c : Fin 64) :
    Ideal.hostReduceWindowAdd ![2, 1, 1] ![1, 1, 1] ![0, 0, 0] ![1, 0, 0] h x v (ix3 l d c)
      = v + x (ix3 l d c) + (if l = 0 then x (ix3 1 d c) else v) := by
  have hd : d.val < 2 := d.isLt
  have hc : c.val < 64 := c.isLt
  unfold Ideal.hostReduceWindowAdd Host.reduceWindow
  show List.foldl _ v (List.finRange Wn.numel) = _
  rw [range_wn]
  simp only [List.foldl_cons, List.foldl_nil]
  rw [dif_pos (by
    intro a
    show _ ≤ _ * _ + (Wn.rowMajor.symm ⟨0, by decide⟩ a).val ∧ _ * _ + (Wn.rowMajor.symm ⟨0, by decide⟩ a).val - _ < _
    rw [wn_0]
    match a with
    | ⟨0, _⟩ => show 0 ≤ l.val * 1 + 0 ∧ l.val * 1 + 0 - 0 < 2; omega
    | ⟨1, _⟩ => show 0 ≤ d.val * 1 + 0 ∧ d.val * 1 + 0 - 0 < 2; omega
    | ⟨2, _⟩ => show 0 ≤ c.val * 1 + 0 ∧ c.val * 1 + 0 - 0 < 64; omega)]
  congr 1
  · congr 1
    refine congrArg x (funext fun a => Fin.ext ?_)
    show _ * _ + (Wn.rowMajor.symm ⟨0, by decide⟩ a).val - _ = _
    rw [wn_0]
    match a with
    | ⟨0, _⟩ => show l.val * 1 + 0 - 0 = l.val; omega
    | ⟨1, _⟩ => show d.val * 1 + 0 - 0 = d.val; omega
    | ⟨2, _⟩ => show c.val * 1 + 0 - 0 = c.val; omega
  · match l with
    | ⟨0, _⟩ =>
      rw [dif_pos (by
        intro a
        show _ ≤ _ * _ + (Wn.rowMajor.symm ⟨1, by decide⟩ a).val ∧ _ * _ + (Wn.rowMajor.symm ⟨1, by decide⟩ a).val - _ < _
        rw [wn_1]
        match a with
        | ⟨0, _⟩ => show 0 ≤ 0 * 1 + 1 ∧ 0 * 1 + 1 - 0 < 2; omega
        | ⟨1, _⟩ => show 0 ≤ d.val * 1 + 0 ∧ d.val * 1 + 0 - 0 < 2; omega
        | ⟨2, _⟩ => show 0 ≤ c.val * 1 + 0 ∧ c.val * 1 + 0 - 0 < 64; omega), if_pos (by rfl)]
      refine congrArg x (funext fun a => Fin.ext ?_)
      show _ * _ + (Wn.rowMajor.symm ⟨1, by decide⟩ a).val - _ = _
      rw [wn_1]
      match a with
      | ⟨0, _⟩ => rfl
      | ⟨1, _⟩ => show d.val * 1 + 0 - 0 = d.val; omega
      | ⟨2, _⟩ => show c.val * 1 + 0 - 0 = c.val; omega
    | ⟨1, _⟩ =>
      rw [dif_neg (by
        intro hin
        have h0 := (hin 0).2
        have h1 : 1 * 1 + (Wn.rowMajor.symm ⟨1, by decide⟩ 0).val - 0 < 2 := h0
        rw [wn_1] at h1
        simp at h1), if_neg (by intro h'; cases h')]

theorem v37_eq (l d : Fin 2) (c : Fin 64) : val_main_v37 (F := Ideal) (fun i => (G i : EReal)) (ix3 l d c)
    = ((if l = 0 then G (ix3 0 d c) + G (ix3 1 d c) else G (ix3 1 d c) : ℝ) : EReal) := by
  unfold val_main_v37 Host.reduceWindowAdd
  rw [Ideal.hostReduceWindowAdd_def]
  refine (window_apply _ _ _ l d c).trans ?_
  have e : ∀ l, val_main_v32 (F := Ideal) (fun i => (G i : EReal)) (ix3 l d c) = (G (ix3 l d c) : EReal) := by
    intro l
    rw [val_main_v32_apply]
    have hd : d.val < 2 := d.isLt
    have hc : c.val < 64 := c.isLt
    refine congrArg (fun i => (G i : EReal)) (funext fun a => Fin.ext ?_)
    match a with
    | ⟨0, _⟩ => show ((l.val * 2 + d.val) * 64 + c.val) / 128 = l.val; omega
    | ⟨1, _⟩ => show ((l.val * 2 + d.val) * 64 + c.val) / 64 % 2 = d.val; omega
    | ⟨2, _⟩ => show ((l.val * 2 + d.val) * 64 + c.val) % 64 = c.val; omega
  rw [e, e]
  have z : val_main_call1_call0_v0 (F := Ideal) (Shape.Idx.first h_S_) = 0 := by
    rw [val_main_call1_call0_v0_apply, val_main_call1_call0_cst_apply, Ideal.ofBits_def, zero_word]; rfl
  rw [z]
  fin_cases l <;> simp

/-- The first layer's part of the gradient in the softmax cancels; the second's is the second bound's gradient. -/
theorem v38_eq (l d : Fin 2) (c : Fin 64) : val_main_v38 (F := Ideal) (fun i => (G i : EReal)) (ix3 l d c) = (D G l d c : EReal) := by
  rw [val_main_v38_apply, v37_eq, Ideal.addf_def]
  have e : val_main_v36 (F := Ideal) (fun i => (G i : EReal)) (ix3 l d c)
      = ((if l = 0 then -(G (ix3 0 d c)) + -(G (ix3 1 d c)) else 0 : ℝ) : EReal) := by
    unfold val_main_v36
    have hd : d.val < 2 := d.isLt
    have hc : c.val < 64 := c.isLt
    match l with
    | ⟨0, _⟩ =>
      rw [pad_apply, dif_pos (fun a => match a with
        | ⟨0, _⟩ => by show 0 ≤ 0 ∧ (0 - 0) % 1 = 0 ∧ (0 - 0) / 1 < 1; omega
        | ⟨1, _⟩ => by show 0 ≤ d.val ∧ (d.val - 0) % 1 = 0 ∧ (d.val - 0) / 1 < 2; omega
        | ⟨2, _⟩ => by show 0 ≤ c.val ∧ (c.val - 0) % 1 = 0 ∧ (c.val - 0) / 1 < 64; omega), val_main_v35_apply, val_main_v34_apply,
        Fin.sum_univ_two, val_main_cst_9_apply, Ideal.ofBits_def, zero_word, val_main_v33_apply, val_main_v33_apply]
      rw [if_pos (by rfl)]
      rw [show idx_main_v34 (idx_main_v35 _) 0 = ix3 (0 : Fin 2) d c from ext3 rfl
        (by show (((0 - 0) / 1 * 2 + (d.val - 0) / 1) * 64 + (c.val - 0) / 1) / 64 = d.val; omega)
        (by show (((0 - 0) / 1 * 2 + (d.val - 0) / 1) * 64 + (c.val - 0) / 1) % 64 = c.val; omega),
        show idx_main_v34 (idx_main_v35 _) 1 = ix3 (1 : Fin 2) d c from ext3 rfl
        (by show (((0 - 0) / 1 * 2 + (d.val - 0) / 1) * 64 + (c.val - 0) / 1) / 64 = d.val; omega)
        (by show (((0 - 0) / 1 * 2 + (d.val - 0) / 1) * 64 + (c.val - 0) / 1) % 64 = c.val; omega)]
      show ((0 : ℝ) : EReal) + (-(G _ : EReal) + -(G _ : EReal)) = _
      push_cast
      exact zero_add _
    | ⟨1, _⟩ =>
      rw [pad_apply, dif_neg (fun hin => by
        have h1 : (1 - 0) / 1 < 1 := (hin 0).2.2
        omega), if_neg (by intro h'; cases h'), val_main_cst_10_apply, Ideal.ofBits_def, zero_word]
  rw [e, ← EReal.coe_add]
  unfold D
  match l with
  | ⟨0, _⟩ => rw [if_pos (by rfl), if_pos (by rfl), if_pos (by rfl)]; congr 1; ring
  | ⟨1, _⟩ => rw [if_neg (by intro h'; cases h'), if_neg (by intro h'; cases h'), if_neg (by intro h'; cases h')]; congr 1; ring

variable (hM : ∀ d c, val_main_v7 (F := Ideal) (fun i => (X i : EReal)) (ix2 d c) = (M d c : EReal))
include hM

theorem v20_eq (l d : Fin 2) (c : Fin 64) : val_main_v20 (F := Ideal) (fun i => (X i : EReal)) (ix3 l d c) = (E X M l d c : EReal) := by
  rw [val_main_v20_apply, val_main_v19_apply, val_main_v18_apply, val_main_v17_apply,
    show idx_main_v17 (idx_main_v18 (ix3 l d c)) = ix2 d c from ext2 rfl rfl, hM, Ideal.hostUnary_exp_def, Ideal.subf_def,
    ← EReal.coe_sub, Ideal.exp_coe]
  rfl

theorem v21_eq (d : Fin 2) (c : Fin 64) : val_main_v21 (F := Ideal) (fun i => (X i : EReal)) (ix2 d c) = (T X M d c : EReal) := by
  rw [val_main_v21_apply, Fin.sum_univ_two, show idx_main_v21 (ix2 d c) 0 = ix3 (0 : Fin 2) d c from ext3 rfl rfl rfl,
    show idx_main_v21 (ix2 d c) 1 = ix3 (1 : Fin 2) d c from ext3 rfl rfl rfl, v20_eq X M hM, v20_eq X M hM, val_main_cst_7_apply,
    Ideal.ofBits_def, zero_word, ← EReal.coe_add, ← EReal.coe_add, zero_add]
  rfl

theorem v22_eq (d : Fin 2) (c : Fin 64) : val_main_v22 (F := Ideal) (fun i => (X i : EReal)) (ix3 0 d c) = (T X M d c : EReal) := by
  rw [val_main_v22_apply, show idx_main_v22 (ix3 0 d c) = ix2 d c from ext2 rfl rfl, v21_eq X M hM]

omit hM in
theorem T_pos (d : Fin 2) (c : Fin 64) : 0 < T X M d c := add_pos (Real.exp_pos _) (Real.exp_pos _)

theorem v27_eq (d : Fin 2) (c : Fin 64) : val_main_v27 (F := Ideal) (fun i => (X i : EReal)) (ix3 0 d c)
    = ((1 / (T X M d c * T X M d c) : ℝ) : EReal) := by
  rw [val_main_v27_apply, val_main_v25_apply, v22_eq X M hM, val_main_v26_apply, val_main_cst_8_apply, Ideal.hostDivf_def,
    Ideal.ofBits_def, one_word, Ideal.mulf_def, ← EReal.coe_mul, div_coe_coe _ (mul_pos (T_pos X M d c) (T_pos X M d c)).ne']

theorem v41_eq (l d : Fin 2) (c : Fin 64) : val_main_v41 (F := Ideal) (fun i => (X i : EReal)) (fun i => (G i : EReal)) (ix3 l d c)
    = ((D G l d c * (1 / (T X M d c * T X M d c)) * E X M l d c : ℝ) : EReal) := by
  rw [val_main_v41_apply, val_main_v40_apply, v38_eq, v20_eq X M hM, val_main_v39_apply,
    show idx_main_v39 (ix3 l d c) = ix3 (0 : Fin 1) d c from ext3 rfl rfl rfl, v27_eq X M hM, Ideal.mulf_def, Ideal.mulf_def,
    ← EReal.coe_mul, ← EReal.coe_mul]

/-- The quotient's gradient in the sum of exponentials. -/
def S (d : Fin 2) (c : Fin 64) : ℝ :=
  D G 0 d c * (1 / (T X M d c * T X M d c)) * E X M 0 d c + D G 1 d c * (1 / (T X M d c * T X M d c)) * E X M 1 d c

theorem v47_eq (d : Fin 2) (c : Fin 64) : val_main_v47 (F := Ideal) (fun i => (X i : EReal)) (fun i => (G i : EReal)) (ix2 d c)
    = ((-(S X G M d c) : ℝ) : EReal) := by
  have hd : d.val < 2 := d.isLt
  have hc : c.val < 64 := c.isLt
  rw [val_main_v47_apply, Fin.sum_univ_one, val_main_v44_apply, val_main_v43_apply,
    show idx_main_v43 (idx_main_v47 (ix2 d c) 0) = ix2 d c from ext2 (by show ((0 * 2 + d.val) * 64 + c.val) / 64 = d.val; omega)
      (by show ((0 * 2 + d.val) * 64 + c.val) % 64 = c.val; omega),
    val_main_v42_apply, Fin.sum_univ_two, show idx_main_v42 (ix2 d c) 0 = ix3 (0 : Fin 2) d c from ext3 rfl rfl rfl,
    show idx_main_v42 (ix2 d c) 1 = ix3 (1 : Fin 2) d c from ext3 rfl rfl rfl, v41_eq X G M hM, v41_eq X G M hM,
    val_main_cst_11_apply, val_main_cst_12_apply, Ideal.ofBits_def, zero_word, ← EReal.coe_add, ← EReal.coe_add]
  show ((0 : ℝ) : EReal) + -((_ : ℝ) : EReal) = _
  rw [← EReal.coe_neg, ← EReal.coe_add, zero_add, zero_add]
  rfl

theorem v50_eq (l d : Fin 2) (c : Fin 64) : val_main_v50 (F := Ideal) (fun i => (X i : EReal)) (fun i => (G i : EReal)) (ix3 l d c)
    = (((D G l d c / T X M d c + -(S X G M d c)) * E X M l d c : ℝ) : EReal) := by
  rw [val_main_v50_apply, val_main_v49_apply, v20_eq X M hM, val_main_v46_apply, v38_eq, val_main_v45_apply,
    show idx_main_v45 (ix3 l d c) = ix3 (0 : Fin 1) d c from ext3 rfl rfl rfl, v22_eq X M hM, val_main_v48_apply,
    show idx_main_v48 (ix3 l d c) = ix2 d c from ext2 rfl rfl, v47_eq X G M hM, Ideal.hostDivf_def,
    div_coe_coe _ (T_pos X M d c).ne', Ideal.mulf_def, Ideal.addf_def, ← EReal.coe_add, ← EReal.coe_mul]

end Cert.LowerBounds

end
-- ==== Proof.LowerBounds.lean ====
/- The gradient of the lower bounds: the kernel's four rows against the reference's array. -/
module

public import proofs.«01_k».proof.Proof.LowerBoundsRef
public import proofs.«01_k».proof.Proof.Gen.KernelIdeal.Value
public import proofs.«01_k».proof.Pre_finite
public import Idealize.ShloMosaic.Lib.Pipeline.ValueKit.Point

@[expose] public section

set_option maxRecDepth 16384

noncomputable section

namespace Cert.LowerBounds

open Idealize.ShloMosaic hiding ix1 ix2 ix3 ix4 ix5
open Idealize.ShloMosaic.ValueIdx Idealize.ShloMosaic.TcCoe Cert.Reals
open Cert.KernelIdeal Cert.KernelIdeal.Gen Idealize.SL.Sem

/-- The softmax of two logits, one of them. -/
def share (a b : EReal) (l : Fin 2) : EReal :=
  Ideal.div (Ideal.exp ((if l = 0 then a else b) - max a b)) (Ideal.exp (a - max a b) + Ideal.exp (b - max a b))

/-- A layer's gradient from both layers' logits and both bounds' gradients, as the kernel computes it. -/
def grad (a b g h : EReal) (l : Fin 2) : EReal :=
  share a b l * ((if l = 0 then (g + h) - (g + h) else h) - (share a b 0 * ((g + h) - (g + h)) + share a b 1 * h))

/-- The kernel's gradient at a layer, direction and column of the packed arrays. -/
def out3 (u w : (⟨2, ![4, 64]⟩ : Shape).Idx → EReal) (l d : Fin 2) (c : Fin 64) : EReal :=
  grad (u (ix2 (⟨d.val, by omega⟩ : Fin 4) c)) (u (ix2 (⟨d.val + 2, by omega⟩ : Fin 4) c))
    (w (ix2 (⟨d.val, by omega⟩ : Fin 4) c)) (w (ix2 (⟨d.val + 2, by omega⟩ : Fin 4) c)) l

/-- The kernel's gradient at a row and column of the packed arrays. -/
def out (u w : (⟨2, ![4, 64]⟩ : Shape).Idx → EReal) (j : (⟨2, ![4, 64]⟩ : Shape).Idx) : EReal :=
  have h : (j 0).val < 4 := (j 0).isLt
  out3 u w (⟨(j 0).val / 2, by omega⟩ : Fin 2) (⟨(j 0).val % 2, by omega⟩ : Fin 2) (j 1)

theorem out_at (u w : (⟨2, ![4, 64]⟩ : Shape).Idx → EReal) (j : (⟨2, ![4, 64]⟩ : Shape).Idx) (l d : Fin 2) (c : Fin 64)
    (h0 : (j 0).val = l.val * 2 + d.val) (h1 : (j 1).val = c.val) : out u w j = out3 u w l d c := by
  have e : j 1 = c := Fin.ext h1
  have hl : (⟨(j 0).val / 2, by have h : (j 0).val < 4 := (j 0).isLt; omega⟩ : Fin 2) = l := Fin.ext (by
    show (j 0).val / 2 = l.val; omega)
  have hd : (⟨(j 0).val % 2, by omega⟩ : Fin 2) = d := Fin.ext (by show (j 0).val % 2 = d.val; omega)
  show out3 u w _ _ (j 1) = _
  rw [e, hl, hd]

theorem row_at (v : (⟨2, ![4, 64]⟩ : Shape).Idx → EReal) (r : Nat) (hr : r < 4)
    (h : (⟨2, ![4, 64]⟩ : Shape).Slices ![r, 0] (⟨2, ![1, 64]⟩ : Shape)) (x : (⟨2, ![1, 64]⟩ : Shape).Idx) :
    extractStridedSlice (⟨2, ![1, 64]⟩ : Shape) ![r, 0] v h x = v (ix2 (⟨r, hr⟩ : Fin 4) (x 1)) := by
  have h0 : (x 0).val < 1 := (x 0).isLt
  exact extractStridedSlice_apply _ v h x _ fun a => match a with
    | ⟨0, _⟩ => by show r = r + (x 0).val; omega
    | ⟨1, _⟩ => by show (x 1).val = 0 + (x 1).val; omega

theorem exp_at {s : Shape} (v : FVec Ideal s .f32) (i : s.Idx) : exp v i = Ideal.exp (v i) := rfl

theorem block_eq (u w : (⟨2, ![4, 64]⟩ : Shape).Idx → EReal) (j : (⟨2, ![4, 64]⟩ : Shape).Idx) :
    out0_2 (F := Ideal) u w j = out u w j := by
  canon_tiles x h
  · rw [out_at u w j 1 1 (x 1) (by show _ = 1 * 2 + 1; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 1 (by decide), row_at _ 3 (by decide)]
    rfl
  · rw [out_at u w j 0 1 (x 1) (by show _ = 0 * 2 + 1; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 1 (by decide), row_at _ 3 (by decide)]
    rfl
  · rw [out_at u w j 1 0 (x 1) (by show _ = 1 * 2 + 0; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 0 (by decide), row_at _ 2 (by decide)]
    rfl
  · rw [out_at u w j 0 0 (x 1) (by show _ = 0 * 2 + 0; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 0 (by decide), row_at _ 2 (by decide)]
    rfl

variable (m : (ℓ : Loc nD τ sig) → Buf (Elt Ideal) ℓ) (ρ : Dev nD → PrngReg)

/-- The packed logits (or gradients) at a layer, direction and column. -/
theorem pack_at (v : A.Idx → EReal) (h : A.ShapeCasts (⟨2, ![4, 64]⟩ : Shape)) (l d : Fin 2) (r : Fin 4) (c : Fin 64)
    (hr : r.val = l.val * 2 + d.val) : shapeCast (⟨2, ![4, 64]⟩ : Shape) v h (ix2 r c) = v (ix3 l d c) :=
  shapeCast_apply v h _ _ (by
    rewrite [Shape.rowMajor_val_three, Shape.rowMajor_val_two]
    show (l.val * 2 + d.val) * 64 + c.val = r.val * 64 + c.val
    omega)

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)

theorem blk_0 (c : Dev nD) (t : Fin cfg0.N) :
    iblk m c 0 t = shapeCast S4x64 (m ((c : Thread nD τ).loc main_arg0)) shapeCasts_S2x2x64_S4x64 := by
  funext y
  blk_ext! [iblk, V, idx_0 t]

theorem blk_1 (c : Dev nD) (t : Fin cfg0.N) :
    iblk m c 1 t = shapeCast S4x64 (m ((c : Thread nD τ).loc main_arg1)) shapeCasts_S2x2x64_S4x64 := by
  funext y
  blk_ext! [iblk, V, idx_1 t]

/-- The kernel's result array: its gradient over the packed arguments. -/
theorem final (c : Dev nD) : (dats m 0 c).arrAt 2 cfg0.N
    = out (shapeCast S4x64 (m ((c : Thread nD τ).loc main_arg0)) shapeCasts_S2x2x64_S4x64)
        (shapeCast S4x64 (m ((c : Thread nD τ).loc main_arg1)) shapeCasts_S2x2x64_S4x64) := by
  refine (dats m 0 c).arrAt_eq_of_covers 2 _ (by decide +kernel) fun t hf y => ?_
  blk_simp
  rw [after0_2, block_eq, blk_0, blk_1]
  refine congrArg (out _ _) ?_
  refine ext2 ?_ ?_
  · blk_simp [idx_2 t]
  · blk_simp [idx_2 t]

/-! ### The two gradients over real arguments -/

theorem share_coe (a b : ℝ) (l : Fin 2) : share (a : EReal) (b : EReal) l
    = ((Real.exp (if l = 0 then a else b) / (Real.exp a + Real.exp b) : ℝ) : EReal) := by
  unfold share
  rw [coe_max]
  have e : (if l = 0 then (a : EReal) else (b : EReal)) = (((if l = 0 then a else b) : ℝ) : EReal) := by split <;> rfl
  rw [e]
  simp only [← EReal.coe_sub, Ideal.exp_coe, ← EReal.coe_add]
  have h : Real.exp (a - max a b) + Real.exp (b - max a b) ≠ 0 := (add_pos (Real.exp_pos _) (Real.exp_pos _)).ne'
  have h' : Real.exp a + Real.exp b ≠ 0 := (add_pos (Real.exp_pos _) (Real.exp_pos _)).ne'
  rw [div_coe_coe _ h]
  congr 1
  simp only [Real.exp_sub]
  have := Real.exp_ne_zero (max a b)
  field_simp

/-- Over real arguments both gradients are the same real number: the softmax's share times the gradient in it less the
    shares' mean of those gradients; the shift by the greatest logit cancels. -/
theorem real_eq (a b g h M : ℝ) (l : Fin 2) :
    grad (a : EReal) (b : EReal) (g : EReal) (h : EReal) l
      = ((((if l = 0 then 0 else h) / (Real.exp (a - M) + Real.exp (b - M))
          + -(0 * (1 / ((Real.exp (a - M) + Real.exp (b - M)) * (Real.exp (a - M) + Real.exp (b - M)))) * Real.exp (a - M)
            + h * (1 / ((Real.exp (a - M) + Real.exp (b - M)) * (Real.exp (a - M) + Real.exp (b - M)))) * Real.exp (b - M)))
          * Real.exp ((if l = 0 then a else b) - M) : ℝ) : EReal) := by
  unfold grad
  rw [share_coe, share_coe, share_coe]
  have e : (if l = 0 then ((g : EReal) + (h : EReal)) - ((g : EReal) + (h : EReal)) else (h : EReal))
      = (((if l = 0 then 0 else h) : ℝ) : EReal) := by
    split
    · rw [← EReal.coe_add, ← EReal.coe_sub, sub_self]
    · rfl
  rw [e]
  simp only [← EReal.coe_add, ← EReal.coe_sub, ← EReal.coe_mul]
  congr 1
  simp only [Real.exp_sub]
  have h' : Real.exp a + Real.exp b ≠ 0 := (add_pos (Real.exp_pos _) (Real.exp_pos _)).ne'
  have := Real.exp_ne_zero M
  fin_cases l <;> simp <;> field_simp <;> ring

theorem value_eq (X G : A.Idx → ℝ) (h : A.ShapeCasts S4x64) :
    out (shapeCast S4x64 (fun i => (X i : EReal)) h) (shapeCast S4x64 (fun i => (G i : EReal)) h)
      = Cert.ReferenceIdeal.Read.val_main_v51 (F := Ideal) (fun i => (X i : EReal)) (fun i => (G i : EReal)) := by
  obtain ⟨M, hM⟩ := top_real X
  funext j
  have h0 : (j 0).val < 4 := (j 0).isLt
  have h1 : (j 1).val < 64 := (j 1).isLt
  set l : Fin 2 := ⟨(j 0).val / 2, by omega⟩ with hl
  set d : Fin 2 := ⟨(j 0).val % 2, by omega⟩ with hd
  set c : Fin 64 := j 1 with hc
  have hlv : l.val = (j 0).val / 2 := rfl
  have hdv : d.val = (j 0).val % 2 := rfl
  rw [out_at _ _ j l d c (by omega) rfl, Cert.ReferenceIdeal.Read.val_main_v51_apply,
    show Cert.ReferenceIdeal.Read.idx_main_v51 j = ix3 l d c from ext3
      (by show ((j 0).val * 64 + (j 1).val) / 128 = l.val; omega)
      (by show ((j 0).val * 64 + (j 1).val) / 64 % 2 = d.val; omega)
      (by show ((j 0).val * 64 + (j 1).val) % 64 = (j 1).val; omega),
    v50_eq X G M hM]
  unfold out3
  rw [pack_at _ h 0 d _ c (by show d.val = 0 * 2 + d.val; omega), pack_at _ h 1 d _ c (by show d.val + 2 = 1 * 2 + d.val; omega),
    pack_at _ h 0 d _ c (by show d.val = 0 * 2 + d.val; omega), pack_at _ h 1 d _ c (by show d.val + 2 = 1 * 2 + d.val; omega),
    real_eq _ _ _ _ (M d c)]
  unfold S T E D
  match l with
  | ⟨0, _⟩ => rfl
  | ⟨1, _⟩ => rfl

/-- The kernel's run, its result array named. -/
theorem run_kernel : θ_run defs (onTc (τ := τ) (main (F := Ideal))) ⟨m, fun _ => 0, ρ⟩ fun r => ∀ c : Dev nD,
      r.2.mem ((c : Thread nD τ).loc main_v2)
        = out (shapeCast S4x64 (m ((c : Thread nD τ).loc main_arg0)) shapeCasts_S2x2x64_S4x64)
          (shapeCast S4x64 (m ((c : Thread nD τ).loc main_arg1)) shapeCasts_S2x2x64_S4x64)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.KernelIdeal.Value.run_blocks m ρ)

/-- The precondition's two arrays are arrays of real numbers. -/
theorem reals [Cert.Pre_finite.Facts] (x g : A.Idx → EReal) (h : Cert.Pre_finite.fn (F := Ideal) x g = fun _ => 1#1) :
    (∀ i, IsReal (x i)) ∧ ∀ i, IsReal (g i) := by
  have e : ∀ i, Ideal.cmp .olt (max (x i) (-(x i))) (Ideal.ofBits .f32 0x7F800000#32)
      &&& Ideal.cmp .olt (max (g i) (-(g i))) (Ideal.ofBits .f32 0x7F800000#32) = 1#1 := fun i => congrFun h i
  exact ⟨fun i => isReal_of_abs_lt (and_one (e i)).1, fun i => isReal_of_abs_lt (and_one (e i)).2⟩

end Cert.LowerBounds

end
-- ==== Proof.RmsNorm.lean ====
/- The gradient of x·rsqrt(mean(x²) + ε)·w over real numbers: the constants, the reciprocal root mean square, and the
   identity between the gradient written out and the chain rule's form. -/
module

public import proofs.«01_k».proof.Proof.Reals

@[expose] public section

set_option maxRecDepth 16384

noncomputable section

namespace Cert.RmsNorm

open Idealize.ShloMosaic Cert.Reals

/-- The value of the word added to the mean square. -/
def ε : ℝ := 8796093 / 8796093022208

theorem ε_pos : 0 < ε := by unfold ε; norm_num

theorem ε_word : Ideal.ofBits .f32 897988541#32 = ((ε : ℝ) : EReal) := by
  simp [Ideal.ofBits, Ideal.ieee, ε, -EReal.coe_mul]; norm_num

theorem zero_word' : Ideal.ofBits .f32 0#32 = ((0 : ℝ) : EReal) := zero_word

theorem one_word' : Ideal.ofBits .f32 1065353216#32 = ((1 : ℝ) : EReal) := one_word

theorem w1024 : Ideal.ofBits .f32 1149239296#32 = ((1024 : ℝ) : EReal) := by
  simp [Ideal.ofBits, Ideal.ieee, -EReal.coe_mul]; norm_num

theorem w512 : Ideal.ofBits .f32 1140850688#32 = ((512 : ℝ) : EReal) := by
  simp [Ideal.ofBits, Ideal.ieee, -EReal.coe_mul]; norm_num

theorem w256 : Ideal.ofBits .f32 1132462080#32 = ((256 : ℝ) : EReal) := by
  simp [Ideal.ofBits, Ideal.ieee, -EReal.coe_mul]; norm_num

theorem w64 : Ideal.ofBits .f32 1115684864#32 = ((64 : ℝ) : EReal) := by
  simp [Ideal.ofBits, Ideal.ieee, -EReal.coe_mul]; norm_num

theorem wneg_half : Ideal.ofBits .f32 3204448256#32 = (((-1 / 2) : ℝ) : EReal) := by
  simp [Ideal.ofBits, Ideal.ieee, -EReal.coe_mul]; norm_num

theorem w64th : Ideal.ofBits .f32 1015021568#32 = (((1 / 64) : ℝ) : EReal) := by
  simp [Ideal.ofBits, Ideal.ieee, -EReal.coe_mul]; norm_num

theorem whalf : Ideal.ofBits .f32 1056964608#32 = (((1 / 2) : ℝ) : EReal) := by
  simp [Ideal.ofBits, Ideal.ieee, -EReal.coe_mul]; norm_num

/-- The reciprocal root of a mean square plus `ε`. -/
def rinv (s : ℝ) : ℝ := (Real.sqrt (s + ε))⁻¹

theorem rsqrt_of_pos {r : ℝ} (h : 0 < r) : Ideal.rsqrt (r : EReal) = (((Real.sqrt r)⁻¹ : ℝ) : EReal) := by
  rw [Ideal.rsqrt_coe, if_neg (not_lt.2 h.le), if_neg h.ne']

theorem rsqrt_add {s : ℝ} (h : 0 ≤ s) : Ideal.rsqrt ((s + ε : ℝ) : EReal) = ((rinv s : ℝ) : EReal) :=
  rsqrt_of_pos (add_pos_of_nonneg_of_pos h ε_pos)

theorem mean_nonneg {n : Nat} (f : Fin n → ℝ) {N : ℝ} (hN : 0 ≤ N) : 0 ≤ (∑ k, f k * f k) / N :=
  div_nonneg (Finset.sum_nonneg fun k _ => mul_self_nonneg _) hN

theorem rsqrt_mean {n : Nat} (f : Fin n → ℝ) {N : ℝ} (hN : 0 ≤ N) :
    Ideal.rsqrt (((∑ k, f k * f k) / N + ε : ℝ) : EReal) = ((rinv ((∑ k, f k * f k) / N) : ℝ) : EReal) :=
  rsqrt_add (mean_nonneg f hN)

theorem mean_ε_ne {n : Nat} (f : Fin n → ℝ) {N : ℝ} (hN : 0 ≤ N) : (∑ k, f k * f k) / N + ε ≠ 0 :=
  (add_pos_of_nonneg_of_pos (mean_nonneg f hN) ε_pos).ne'

theorem rinv_sq {s : ℝ} (h : 0 ≤ s) : 1 / (s + ε) = rinv s * rinv s := by
  have h' : 0 < s + ε := add_pos_of_nonneg_of_pos h ε_pos
  unfold rinv
  rw [← mul_inv, Real.mul_self_sqrt h'.le, one_div]

/-- The quotient of the reciprocal root by the mean square plus `ε` is its cube. -/
theorem rinv_div {n : Nat} (f : Fin n → ℝ) {N : ℝ} (hN : 0 ≤ N) :
    rinv ((∑ k, f k * f k) / N) / ((∑ k, f k * f k) / N + ε)
      = rinv ((∑ k, f k * f k) / N) * (rinv ((∑ k, f k * f k) / N) * rinv ((∑ k, f k * f k) / N)) := by
  rw [div_eq_mul_one_div, rinv_sq (mean_nonneg f hN)]

/-- The gradient of a normalised entry in itself: `s` the mean square, `g` the weighted cotangent, `μ` its mean against the entries. -/
def ngrad (s x g μ : ℝ) : ℝ := rinv s * g - x * (rinv s * rinv s * rinv s) * μ

/-! ### The gate -/

def sig (x : ℝ) : ℝ := 1 / (1 + Real.exp (-x))

theorem one_add_exp_ne (x : ℝ) : 1 + Real.exp (-x) ≠ 0 := (add_pos one_pos (Real.exp_pos _)).ne'

theorem sig_coe (x : ℝ) : Ideal.div 1 (1 + Ideal.exp (-(x : EReal))) = ((sig x : ℝ) : EReal) := by
  rw [← EReal.coe_neg, Ideal.exp_coe, ← EReal.coe_one, ← EReal.coe_add, div_coe_coe _ (one_add_exp_ne x)]
  rfl

/-- The logistic function by the hyperbolic tangent of half the argument. -/
theorem sig_tanh (x : ℝ) : 1 / 2 * Real.tanh (1 / 2 * x) + 1 / 2 = sig x := by
  have h := one_add_exp_ne x
  have e : Real.exp (-x) = Real.exp (-(1 / 2 * x)) * Real.exp (-(1 / 2 * x)) := by rw [← Real.exp_add]; ring_nf
  have k : Real.exp (1 / 2 * x) * Real.exp (-(1 / 2 * x)) = 1 := by rw [← Real.exp_add, add_neg_cancel, Real.exp_zero]
  have p1 := Real.exp_pos (1 / 2 * x)
  have p2 := Real.exp_pos (-(1 / 2 * x))
  unfold sig
  rw [Real.tanh_eq_sinh_div_cosh, Real.sinh_eq, Real.cosh_eq]
  rw [e] at h ⊢
  generalize Real.exp (1 / 2 * x) = a at *
  generalize Real.exp (-(1 / 2 * x)) = b at *
  obtain rfl : a = 1 / b := by field_simp; linarith
  field_simp
  ring

theorem tanh_coe (x : ℝ) : Ideal.tanh (x : EReal) = ((Real.tanh x : ℝ) : EReal) := rfl

def silu (x : ℝ) : ℝ := x * sig x

def dsilu (x : ℝ) : ℝ := sig x * (1 + x * (1 - sig x))

end Cert.RmsNorm

end
-- ==== Proof.Sums.lean ====
/- Finite sums: one index split in two, a sum accumulated point by point. -/
module

public import Mathlib.Algebra.BigOperators.Fin
public import Mathlib.Data.EReal.Operations
public import Mathlib.Logic.Equiv.Fin.Basic

@[expose] public section

namespace Cert.Sums

theorem split_lt {m n : Nat} (a : Fin m) (b : Fin n) : a.val * n + b.val < m * n := by
  have h := Nat.mul_le_mul_right n (Nat.succ_le_of_lt a.isLt)
  have := b.isLt
  rw [Nat.succ_mul] at h
  omega

/-- A sum over `m · n` indices is a sum over `m` groups of `n`. -/
theorem sum_split {β : Type} [AddCommMonoid β] {M : Nat} (m n : Nat) (h : m * n = M) (f : Fin M → β) :
    ∑ i, f i = ∑ a : Fin m, ∑ b : Fin n, f ⟨a.val * n + b.val, h ▸ split_lt a b⟩ := by
  subst h
  rw [← Fintype.sum_prod_type', ← finProdFinEquiv.sum_comp]
  refine Finset.sum_congr rfl fun p _ => congrArg f (Fin.ext ?_)
  simp only [finProdFinEquiv_apply_val]
  rw [Nat.mul_comm n, Nat.add_comm]

/-- What starts at the first term and gains a term at every point is the sum of the terms so far. -/
theorem acc_sum {N : Nat} (f : (n : Nat) → n < N → EReal) (p : Fin N → ℝ) (h0 : ∀ h, f 0 h = ((p ⟨0, h⟩ : ℝ) : EReal))
    (hs : ∀ n (h : n + 1 < N), f (n + 1) h = f n (Nat.lt_of_succ_lt h) + ((p ⟨n + 1, h⟩ : ℝ) : EReal)) :
    ∀ n (h : n < N), f n h = ((∑ t : Fin (n + 1), p ⟨t.val, Nat.lt_of_lt_of_le t.isLt h⟩ : ℝ) : EReal)
  | 0, h => by rw [h0 h, Fin.sum_univ_one]; rfl
  | n + 1, h => by
      rw [hs n h, acc_sum f p h0 hs n (Nat.lt_of_succ_lt h), Fin.sum_univ_castSucc (n := n + 1), EReal.coe_add]
      rfl

/-- A sum over rows, in tiles of `G` groups of `g` rows, each group's rows summed apart. -/
theorem sum_groups {β : Type} [AddCommMonoid β] {M : Nat} (T G g : Nat) (h : T * (G * g) = M) (f : Fin M → β) :
    ∑ j : Fin g, ∑ t : Fin T, ∑ x : Fin G, f ⟨t.val * (G * g) + (x.val * g + j.val), h ▸ split_lt t ⟨_, split_lt x j⟩⟩ = ∑ i, f i := by
  rw [sum_split T (G * g) h f, Finset.sum_comm]
  refine Finset.sum_congr rfl fun t _ => ?_
  rw [sum_split G g rfl, Finset.sum_comm]

theorem head_lt {M H : Nat} (h : H * 64 = M) (b : Fin M) (x : Fin 64) : b.val / 64 * 64 + x.val < M := by
  have := b.isLt; have := x.isLt; omega

/-- The lanes of one head, picked out of a sum over all lanes. -/
theorem sum_head {β : Type} [AddCommMonoid β] {M : Nat} (H : Nat) (h : H * 64 = M) (f : Fin M → β) (b : Fin M) :
    (∑ a : Fin M, if a.val / 64 = b.val / 64 then f a else 0) = ∑ x : Fin 64, f ⟨b.val / 64 * 64 + x.val, head_lt h b x⟩ := by
  have hb : b.val / 64 < H := by have := b.isLt; omega
  rw [sum_split H 64 h, Finset.sum_eq_single (⟨b.val / 64, hb⟩ : Fin H)]
  · refine Finset.sum_congr rfl fun x _ => ?_
    rw [if_pos (by show (b.val / 64 * 64 + x.val) / 64 = _; have := x.isLt; omega)]
  · refine fun a _ ha => Finset.sum_eq_zero fun x _ => ?_
    rw [if_neg]
    intro e
    refine ha (Fin.ext (Eq.trans ?_ e))
    show a.val = (a.val * 64 + x.val) / 64
    have := x.isLt; omega
  · exact fun hn => absurd (Finset.mem_univ _) hn

/-- A sum against the matrix that joins the lanes of one head is the sum over that head's lanes. -/
theorem sum_seg {M : Nat} (H : Nat) (h : H * 64 = M) (f : Fin M → ℝ) (k : ℝ) (b : Fin M) :
    ∑ a : Fin M, f a * (if a.val / 64 = b.val / 64 then k else 0) = ∑ x : Fin 64, f ⟨b.val / 64 * 64 + x.val, head_lt h b x⟩ * k := by
  rw [← sum_head H h fun a => f a * k]
  exact Finset.sum_congr rfl fun a _ => by rw [mul_ite, mul_zero]

/-- A product with the matrix of a head's averages. -/
theorem seg_mean {M : Nat} (H : Nat) (h : H * 64 = M) (f : Fin M → ℝ) (b : Fin M) :
    ∑ a : Fin M, f a * (if a.val / 64 = b.val / 64 then 1 / 64 else 0) = (∑ x : Fin 64, f ⟨b.val / 64 * 64 + x.val, head_lt h b x⟩) / 64 := by
  rw [sum_seg H h f, ← Finset.sum_mul, mul_one_div]

end Cert.Sums
-- ==== Proof.InProj.lean ====
/- The gradient of the mixing block's input: the kernel's two results over real arguments. -/
module

public import proofs.«01_k».proof.Proof.Gen.Kernel5Ideal.Frame
public import proofs.«01_k».proof.Proof.Gen.Reference5Ideal.Read
public import proofs.«01_k».proof.Proof.RmsNorm
public import proofs.«01_k».proof.Proof.Sums
public import proofs.«01_k».proof.Proof.Gen.Pre_finite5
public import Idealize.ShloMosaic.Lib.Pipeline.ValueKit.Point

@[expose] public section

set_option maxRecDepth 16384

noncomputable section

namespace Cert.InProj

open Idealize.ShloMosaic hiding ix1 ix2 ix3 ix4 ix5
open Idealize.ShloMosaic.ValueIdx Idealize.ShloMosaic.TcCoe Idealize.SL.Sem
open Cert.Reals Cert.RmsNorm Cert.Sums Cert.Kernel5Ideal Cert.Kernel5Ideal.Gen

/-! ### The mathematics -/

variable (X : Fin 4096 → Fin 1024 → ℝ) (W : Fin 1024 → ℝ) (U : Fin 1024 → Fin 2560 → ℝ) (D : Fin 4096 → Fin 2560 → ℝ)

/-- The gradient in the normalised rows: the projection's gradient through its weight. -/
def dh (r : Fin 4096) (k : Fin 1024) : ℝ := ∑ q : Fin 2560, D r q * U k q

/-- A row's reciprocal root mean square. -/
def rms (r : Fin 4096) : ℝ := rinv ((∑ k, X r k * X r k) / 1024)

/-- The norm's gradient in its input. -/
def dx (r : Fin 4096) (k : Fin 1024) : ℝ :=
  rms X r * (dh U D r k * W k) - X r k * (rms X r * rms X r * rms X r) * ((∑ l, dh U D r l * W l * X r l) / 1024)

/-- One row's part of the gradient in the norm's weight. -/
def dw (r : Fin 4096) (k : Fin 1024) : ℝ := dh U D r k * X r k * rms X r

/-! ### The reference -/

open Cert.Reference5Ideal.Read in
theorem ref_dx (e : S4096x1024.Idx → EReal) (i : S4096x1024.Idx) :
    val_main_v38 (F := Ideal) (fun i => ((X (i 0) (i 1) : ℝ) : EReal)) (fun i => ((W (i 0) : ℝ) : EReal))
      (fun i => ((U (i 0) (i 1) : ℝ) : EReal)) (fun i => ((D (i 0) (i 1) : ℝ) : EReal)) e i
      = e i + ((dx X W U D (i 0) (i 1) : ℝ) : EReal) := by
  pointwise [val_main_v38, val_main_v37, val_main_v36, val_main_v35, val_main_v34, val_main_v33, val_main_v32, val_main_v31,
    val_main_v30, val_main_v29, val_main_v28, val_main_v27, val_main_v26, val_main_v25, val_main_v24, val_main_v22,
    val_main_v21, val_main_v17, val_main_v13, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4, val_main_cst_5, val_main_cst_6, val_main_cst_7]
  have h0 : (1024 : ℝ) ≠ 0 := by norm_num
  have h1 := mean_ε_ne (X (i 0)) (N := 1024) (by norm_num)
  simp only [← EReal.coe_mul, coe_sum, w1024, ε_word, wneg_half, div_coe_coe _ h0, ← EReal.coe_add,
    rsqrt_mean _ (show (0 : ℝ) ≤ 1024 by norm_num), div_coe_coe _ h1]
  congr 2
  rw [rinv_div _ (by norm_num), Fin.sum_univ_one]
  unfold dx dh
  rw [show (∑ l, (∑ q, D (i 0) q * U l q) * W l * X (i 0) l) = ∑ l, X (i 0) l * ((∑ q, D (i 0) q * U l q) * W l) from
    Finset.sum_congr rfl fun l _ => mul_comm _ _]
  unfold rms
  ring

open Cert.Reference5Ideal.Read in
theorem ref_dw (i : S1024.Idx) :
    val_main_v23 (F := Ideal) (fun i => ((X (i 0) (i 1) : ℝ) : EReal))
      (fun i => ((U (i 0) (i 1) : ℝ) : EReal)) (fun i => ((D (i 0) (i 1) : ℝ) : EReal)) i
      = ((∑ r, dw X U D r (i 0) : ℝ) : EReal) := by
  pointwise [val_main_v23, val_main_v20, val_main_v19, val_main_v18, val_main_v12, val_main_v11, val_main_v17,
    val_main_v7, val_main_v6, val_main_v5,
    val_main_v4, val_main_v3, val_main_v2, val_main_v1, val_main_v0, val_main_cst, val_main_cst_0, val_main_cst_1,
    val_main_cst_2, val_main_cst_3, val_main_cst_4, val_main_cst_5, val_main_cst_6, val_main_cst_7]
  have h0 : (1024 : ℝ) ≠ 0 := by norm_num
  simp only [← EReal.coe_mul, coe_sum, w1024, ε_word, div_coe_coe _ h0, ← EReal.coe_add,
    rsqrt_mean _ (show (0 : ℝ) ≤ 1024 by norm_num)]
  congr 1
  rw [Fin.sum_univ_one]
  refine Finset.sum_congr rfl fun r _ => ?_
  unfold dw dh rms
  ring

/-! ### The kernel -/

/-- A tile's row of the array. -/
def row (t : Fin cfg0.N) (r : Fin 512) : Fin 4096 := ⟨t.val * 512 + r.val, by have := t.isLt; have : cfg0.N = 8 := N_0; omega⟩

/-- A chip's column of the projection. -/
def col (a : Fin 4) (q : Fin 640) : Fin 2560 := ⟨a.val * 640 + q.val, by omega⟩

theorem coe_congr {a b : ℝ} (h : a = b) : (a : EReal) = (b : EReal) := congrArg _ h

theorem idx_0 : ∀ t : Fin cfg0.N, win0_0.index t = ![t.val, 0] := (by decide +kernel : ∀ t : Fin grid0.N, _)
theorem idx_1 : ∀ t : Fin cfg0.N, win0_1.index t = ![0, 0, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![0, 0] := (by decide +kernel : ∀ t : Fin grid0.N, _)

variable (m : (ℓ : Loc nD τ sig) → Buf (Elt Ideal) ℓ) (ρ : Dev nD → PrngReg) (c : Dev nD)

/-- The arguments' arrays on core `c` hold real numbers, the residual's cotangent anything. -/
structure Args (e : S4096x1024.Idx → EReal) : Prop where
  x : m ((c : Thread nD τ).loc main_arg0) = fun i => ((X (i 0) (i 1) : ℝ) : EReal)
  w : m ((c : Thread nD τ).loc main_arg1) = fun i => ((W (i 0) : ℝ) : EReal)
  u : m ((c : Thread nD τ).loc main_arg2) = fun i => ((U (i 0) (i 1) : ℝ) : EReal)
  d : m ((c : Thread nD τ).loc main_arg3) = fun i => ((D (i 0) (i 1) : ℝ) : EReal)
  e : m ((c : Thread nD τ).loc main_arg4) = e

variable {X W U D m c} {e : S4096x1024.Idx → EReal} (A : Args X W U D m c e)
include A

theorem V_d : V m c main_v3 = fun i => ((D (i 0) (i 1) : ℝ) : EReal) := by
  show StableHlo.after [hostOps0].flatten (fun b => m (c, b)) (Proc.tc.devRef _) = _
  simp only [List.flatten_cons, List.flatten_nil, List.append_nil, hostOps0]
  after_results
  exact A.d

theorem V_u : V m c main_v2
    = fun i : S4x1024x640.Idx => ((U (i 1) (col (i 0) (i 2)) : ℝ) : EReal) := by
  show StableHlo.after [hostOps0].flatten (fun b => m (c, b)) (Proc.tc.devRef _) = _
  simp only [List.flatten_cons, List.flatten_nil, List.append_nil, hostOps0]
  after_results
  funext i
  pointwise []
  exact congrFun A.u _

theorem V_w : V m c main_v4 = fun i : S1x1024.Idx => ((W (i 1) : ℝ) : EReal) := by
  show StableHlo.after [hostOps0].flatten (fun b => m (c, b)) (Proc.tc.devRef _) = _
  simp only [List.flatten_cons, List.flatten_nil, List.append_nil, hostOps0]
  after_results
  funext i
  pointwise []
  exact congrFun A.w _

theorem blk_0 (t : Fin cfg0.N) : iblk m c 0 t = fun y : S512x2560.Idx => ((D (row t (y 0)) (y 1) : ℝ) : EReal) := by
  funext y
  show V m c main_v3 ((win0_0.blk t).view.emb y) = _
  rw [V_d A]
  refine coe_congr (congrArg₂ D (Fin.ext ?_) (Fin.ext ?_))
  all_goals blk_simp [idx_0 t]
  all_goals rfl

theorem blk_1 (t : Fin cfg0.N) : iblk m c 1 t
    = fun y : S4x1024x640.Idx => ((U (y 1) (col (y 0) (y 2)) : ℝ) : EReal) := by
  funext y
  show V m c main_v2 ((win0_1.blk t).view.emb y) = _
  rw [V_u A]
  refine coe_congr (congrArg₂ U (Fin.ext ?_) (congrArg₂ col (Fin.ext ?_) (Fin.ext ?_)))
  all_goals blk_simp [idx_1 t]
  all_goals rfl

theorem blk_2 (t : Fin cfg0.N) : iblk m c 2 t = fun y : S512x1024.Idx => ((X (row t (y 0)) (y 1) : ℝ) : EReal) := by
  funext y
  show m ((c : Thread nD τ).loc main_arg0) ((win0_2.blk t).view.emb y) = _
  rw [A.x]
  refine coe_congr (congrArg₂ X (Fin.ext ?_) (Fin.ext ?_))
  all_goals blk_simp [idx_2 t]
  all_goals rfl

theorem blk_3 (t : Fin cfg0.N) : iblk m c 3 t = fun y : S1x1024.Idx => ((W (y 1) : ℝ) : EReal) := by
  funext y
  show V m c main_v4 ((win0_3.blk t).view.emb y) = _
  rw [V_w A]
  refine coe_congr (congrArg W (Fin.ext ?_))
  all_goals blk_simp [idx_3 t]
  all_goals rfl

theorem blk_4 (t : Fin cfg0.N) : iblk m c 4 t = fun y : S512x1024.Idx => e (ix2 (row t (y 0)) (y 1)) := by
  funext y
  show m ((c : Thread nD τ).loc main_arg4) ((win0_4.blk t).view.emb y) = _
  rw [A.e]
  refine congrArg e (ext2 ?_ ?_)
  all_goals blk_simp [idx_4 t]
  all_goals rfl

omit A in
theorem sum_cols (f : Fin 2560 → ℝ) : (∑ q, f (col 0 q)) + (∑ q, f (col 1 q)) + (∑ q, f (col 2 q)) + (∑ q, f (col 3 q)) = ∑ q, f q := by
  have h : ∀ g : Fin (640 + 640 + 640 + 640) → ℝ, ∑ q, g q = _ := fun g => by
    rw [Fin.sum_univ_add, Fin.sum_univ_add, Fin.sum_univ_add]
  refine Eq.trans ?_ (h f).symm
  congr 1

/-- The product's tile: the four chips' parts added. -/
theorem pay5 (t : Fin cfg0.N) :
    k0_pay5 (View.ld (iblk m c 0 t) (Rect.unit ![0, 0] ![512, 640] inb_S512x2560_S512x640_0_0))
        (View.ld (iblk m c 1 t) (Rect.unit ![0, 0, 0] ![1, 1024, 640] inb_S4x1024x640_S1x1024x640_0_0_0))
        (View.ld (iblk m c 0 t) (Rect.unit ![0, 640] ![512, 640] inb_S512x2560_S512x640_0_640))
        (View.ld (iblk m c 1 t) (Rect.unit ![1, 0, 0] ![1, 1024, 640] inb_S4x1024x640_S1x1024x640_1_0_0))
        (View.ld (iblk m c 0 t) (Rect.unit ![0, 1280] ![512, 640] inb_S512x2560_S512x640_0_1280))
        (View.ld (iblk m c 1 t) (Rect.unit ![2, 0, 0] ![1, 1024, 640] inb_S4x1024x640_S1x1024x640_2_0_0))
        (View.ld (iblk m c 0 t) (Rect.unit ![0, 1920] ![512, 640] inb_S512x2560_S512x640_0_1920))
        (View.ld (iblk m c 1 t) (Rect.unit ![3, 0, 0] ![1, 1024, 640] inb_S4x1024x640_S1x1024x640_3_0_0))
      = fun y : S512x1024.Idx => ((dh U D (row t (y 0)) (y 1) : ℝ) : EReal) := by
  rw [blk_0 A, blk_1 A]
  funext y
  pointwise [k0_pay5]
  simp only [← EReal.coe_mul, coe_sum, ← EReal.coe_add]
  refine coe_congr (Eq.trans ?_ (sum_cols fun q => D (row t (y 0)) q * U (y 1) q))
  refine congrArg₂ _ (congrArg₂ _ (congrArg₂ _ ?_ rfl) rfl) rfl
  exact Finset.sum_congr rfl fun q _ => congrArg (fun p => D (row t (y 0)) p * U (y 1) (col 0 q)) (Fin.ext (by simp [col]))

theorem pay2 (t : Fin cfg0.N) (y : S512x1024.Idx) :
    k0_pay2 (F := Ideal) (fun y : S512x1024.Idx => ((dh U D (row t (y 0)) (y 1) : ℝ) : EReal)) (iblk m c 2 t) (k0_pay6 (F := Ideal) (iblk m c 2 t))
        k0_pay7 (iblk m c 3 t) (iblk m c 4 t) y
      = e (ix2 (row t (y 0)) (y 1)) + ((dx X W U D (row t (y 0)) (y 1) : ℝ) : EReal) := by
  rw [blk_2 A, blk_3 A, blk_4 A]
  pointwise [k0_pay1, k0_pay2, k0_pay6, k0_pay7]
  have h0 : (1024 : ℝ) ≠ 0 := by norm_num
  simp only [← EReal.coe_mul, coe_sum, w1024, ε_word, div_coe_coe _ h0, ← EReal.coe_add,
    rsqrt_mean _ (show (0 : ℝ) ≤ 1024 by norm_num)]
  rw [sub_eq_add_neg, add_assoc, ← EReal.coe_neg, ← EReal.coe_add]
  rfl

/-- What a tile adds to the weight's gradient at a row of a group of eight. -/
def part (X : Fin 4096 → Fin 1024 → ℝ) (U : Fin 1024 → Fin 2560 → ℝ) (D : Fin 4096 → Fin 2560 → ℝ) (t : Fin cfg0.N) (g : Fin 8) (k : Fin 1024) : ℝ :=
  ∑ x : Fin 64, dw X U D (row t ⟨x.val * 8 + g.val, by omega⟩) k

theorem pay4 (t : Fin cfg0.N) (y : S8x1024.Idx) (v : S8x1024.Idx → EReal) :
    k0_pay4 (F := Ideal) (fun y : S512x1024.Idx => ((dh U D (row t (y 0)) (y 1) : ℝ) : EReal)) (iblk m c 2 t) (k0_pay6 (F := Ideal) (iblk m c 2 t))
        k0_pay7 v y
      = v y + ((part X U D t (y 0) (y 1) : ℝ) : EReal) := by
  rw [blk_2 A]
  pointwise [k0_pay1, k0_pay4, k0_pay6, k0_pay7]
  have h0 : (1024 : ℝ) ≠ 0 := by norm_num
  simp only [← EReal.coe_mul, coe_sum, w1024, ε_word, div_coe_coe _ h0, ← EReal.coe_add,
    rsqrt_mean _ (show (0 : ℝ) ≤ 1024 by norm_num)]
  rfl

theorem outs_dx (t : Fin cfg0.N) : (outsAt0 m c t.val t.isLt).1
    = fun y : S512x1024.Idx => e (ix2 (row t (y 0)) (y 1)) + ((dx X W U D (row t (y 0)) (y 1) : ℝ) : EReal) := by
  funext y
  by_cases h : t.val % 8 = 0
  · rw [outsAt0_A m c t h]
    frame_out
    exact (congrArg (fun v => k0_pay2 v _ _ _ _ _ y) (pay5 A t)).trans (pay2 A t y)
  · rw [outsAt0_B m c t h]
    frame_out
    exact (congrArg (fun v => k0_pay2 v _ _ _ _ _ y) (pay5 A t)).trans (pay2 A t y)

theorem final_dx : (dats m 0 c).arrAt 5 cfg0.N = fun i : S4096x1024.Idx => e i + ((dx X W U D (i 0) (i 1) : ℝ) : EReal) := by
  refine (dats m 0 c).arrAt_eq_of_covers 5 _ (by decide +kernel) fun t hf y => ?_
  blk_simp
  rw [after0_5, outs_dx A]
  have hi : (win0_5.blk t).view.emb y = ix2 (row t (y 0)) (y 1) := ext2 (by blk_simp [idx_5 t]; rfl) (by blk_simp [idx_5 t])
  rw [hi]
  rfl

theorem outs_dw_A (t : Fin cfg0.N) (h : t.val % 8 = 0) (y : S8x1024.Idx) : (outsAt0 m c t.val t.isLt).2 y
    = ((part X U D t (y 0) (y 1) : ℝ) : EReal) := by
  rw [outsAt0_A m c t h]
  frame_out
  refine (congrArg (fun v => k0_pay4 v _ _ _ _ y) (pay5 A t)).trans ((pay4 A t y _).trans ?_)
  rw [show k0_pay3 (F := Ideal) y = Ideal.ofBits .f32 0#32 from rfl, zero_word', ← EReal.coe_add, zero_add]

theorem outs_dw_B (t : Fin cfg0.N) (h : ¬ t.val % 8 = 0) (y : S8x1024.Idx) : (outsAt0 m c t.val t.isLt).2 y
    = (outsAt0 m c (t.val - 1) (Nat.lt_of_le_of_lt (Nat.sub_le _ _) t.isLt)).2 y + ((part X U D t (y 0) (y 1) : ℝ) : EReal) := by
  rw [outsAt0_B m c t h]
  frame_out
  exact (congrArg (fun v => k0_pay4 v _ _ _ _ y) (pay5 A t)).trans (pay4 A t y _)

theorem final_dw : (dats m 0 c).arrAt 6 cfg0.N
    = fun y : S8x1024.Idx => ((∑ t : Fin cfg0.N, part X U D t (y 0) (y 1) : ℝ) : EReal) := by
  refine (dats m 0 c).arrAt_eq_of_covers 6 _ (by decide +kernel) fun t hf y => ?_
  have ht := (flush0_6 t).mp hf
  have hN : cfg0.N = 8 := N_0
  have ht7 : t.val = 7 := by have := t.isLt; omega
  blk_simp
  rw [after0_6]
  have hi : (win0_6.blk t).view.emb y = y := ext2 (by blk_simp [idx_6 t]) (by blk_simp [idx_6 t])
  rw [hi]
  refine (acc_sum (fun n h => (outsAt0 m c n h).2 y) (fun t => part X U D t (y 0) (y 1)) (fun h => outs_dw_A A ⟨0, h⟩ rfl y)
    (fun n h => outs_dw_B A ⟨n + 1, h⟩ (by show ¬ (n + 1) % 8 = 0; omega) y) t.val t.isLt).trans ?_
  refine coe_congr ?_
  obtain ⟨n, hn⟩ := t
  obtain rfl : n = 7 := ht7
  rfl

theorem tail : Pipeline.afterTail₀ cfgs (dats m) 0 (V0 m) [hostOps1] c main_v6
    = fun i : S1024.Idx => ((∑ r, dw X U D r (i 0) : ℝ) : EReal) := by
  unfold Pipeline.afterTail₀
  simp only [List.flatten_cons, List.flatten_nil, List.append_nil, hostOps1]
  after_results
  refine (congrArg (fun v : FVec Ideal S8x1024 .f32 => Host.reduceAdd v _ reducesTo_S8x1024_S1024_d0 h_S_)
    ((Pipeline.withArrays_arr spec0 (by decide) c _ _ 6).trans (final_dw A))).trans ?_
  funext i
  pointwise []
  simp only [coe_sum]
  exact coe_congr (sum_groups 8 64 8 rfl fun r => dw X U D r (i 0))

end Cert.InProj

namespace Cert.InProj

open Idealize.ShloMosaic hiding ix1 ix2 ix3 ix4 ix5
open Idealize.ShloMosaic.ValueIdx Idealize.ShloMosaic.TcCoe Idealize.SL.Sem
open Cert.Reals Cert.Kernel5Ideal Cert.Kernel5Ideal.Gen Cert.Reference5Ideal.Read

/-- The kernel's run, its two results named. -/
theorem run_kernel (m : (ℓ : Loc nD τ sig) → Buf (Elt Ideal) ℓ) (ρ : Dev nD → PrngReg) (X : Dev nD → Fin 4096 → Fin 1024 → ℝ)
    (W : Dev nD → Fin 1024 → ℝ) (U : Dev nD → Fin 1024 → Fin 2560 → ℝ) (D : Dev nD → Fin 4096 → Fin 2560 → ℝ) (e : Dev nD → S4096x1024.Idx → EReal)
    (A : ∀ c, Args (X c) (W c) (U c) (D c) m c (e c)) :
    θ_run defs (onTc (τ := τ) (main (F := Ideal))) ⟨m, fun _ => 0, ρ⟩ fun r => ∀ c : Dev nD,
      r.2.mem ((c : Thread nD τ).loc main_v5_0) = (fun i : S4096x1024.Idx => e c i + ((dx (X c) (W c) (U c) (D c) (i 0) (i 1) : ℝ) : EReal))
      ∧ r.2.mem ((c : Thread nD τ).loc main_v6) = (fun i : S1024.Idx => ((∑ r, dw (X c) (U c) (D c) r (i 0) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (final_dx (A c)),
      ((h.1 c).2 main_v6 (Pipeline.mem_restRefs_of main_v6 (by decide) (by decide))).trans (tail (A c)), h.2 c⟩)
    (θ_run_and (run_main m ρ) (unchanged m ρ))

theorem reals [Cert.Pre_finite5.Facts] (x : S4096x1024.Idx → EReal) (w : S1024.Idx → EReal) (u : S1024x2560.Idx → EReal) (d : S4096x2560.Idx → EReal)
    (e : S4096x1024.Idx → EReal) (h : Cert.Pre_finite5.fn (F := Ideal) x w u d e = fun _ => 1#1) :
    (∀ i, IsReal (x i)) ∧ (∀ i, IsReal (w i)) ∧ (∀ i, IsReal (u i)) ∧ ∀ i, IsReal (d i) := by
  obtain ⟨h, h3⟩ := and_one (congrFun h (fun k => k.elim0))
  obtain ⟨h, h2⟩ := and_one h
  obtain ⟨h0, h1⟩ := and_one h
  exact ⟨isReal_of_all x _ _ _ _ h0, isReal_of_all w _ _ _ _ h1, isReal_of_all u _ _ _ _ h2, isReal_of_all d _ _ _ _ h3⟩

/-- The kernel's run under the precondition, and the reference's values of its arguments as the results. -/
theorem results [Cert.Pre_finite5.Facts] (m : (ℓ : Loc nD τ sig) → Buf (Elt Ideal) ℓ) (ρ : Dev nD → PrngReg)
    (hp : ∀ c : Dev nD, Cert.Pre_finite5.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    θ_run defs (onTc (τ := τ) (main (F := Ideal))) ⟨m, fun _ => 0, ρ⟩ fun r => ∀ c : Dev nD,
      r.2.mem ((c : Thread nD τ).loc main_v5_0) = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v6) = val_main_v23 (F := Ideal) (m ((c : Thread nD τ).loc main_arg0))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have R := fun c => reals _ _ _ _ _ (hp c)
  choose X hX using fun c => reals2 (R c).1
  choose W hW using fun c => reals1 (R c).2.1
  choose U hU using fun c => reals2 (R c).2.2.1
  choose D hD using fun c => reals2 (R c).2.2.2
  refine (θ_run defs _ _).mono (fun _ h c => ⟨(h c).1.trans ?_, (h c).2.1.trans ?_, (h c).2.2⟩)
    (run_kernel m ρ X W U D (fun c => m ((c : Thread nD τ).loc main_arg4)) fun c => ⟨hX c, hW c, hU c, hD c, rfl⟩)
  · rw [hX c, hW c, hU c, hD c]
    exact (funext (ref_dx (X c) (W c) (U c) (D c) _)).symm
  · rw [hX c, hU c, hD c]
    exact (funext (ref_dw (X c) (U c) (D c))).symm

end Cert.InProj

end
-- ==== Proof.Reduce.lean ====
/- A host sum over all axes but the last, of three axes and of four. -/
module

public import Idealize.ShloMosaic.Lib.Pipeline.ValueKit.Point

@[expose] public section

namespace Cert.Reduce

open Idealize.ShloMosaic hiding ix1 ix2 ix3 ix4 ix5
open Idealize.ShloMosaic.ValueIdx

variable {n0 n1 n2 n3 : Nat}

theorem drop_eq (h : (⟨3, ![n0, n1, n2]⟩ : Shape).ReducesTo [0, 1] ⟨1, ![n2]⟩) (j : (⟨1, ![n2]⟩ : Shape).Idx)
    (i : (⟨3, ![n0, n1, n2]⟩ : Shape).Idx) : h.drop i = j ↔ ∃ k : Fin n0 × Fin n1, ix3 k.1 k.2 (j 0) = i := by
  constructor
  · rintro rfl
    exact ⟨(i 0, i 1), funext fun a => match a with | ⟨0, _⟩ => rfl | ⟨1, _⟩ => rfl | ⟨2, _⟩ => rfl⟩
  · rintro ⟨k, rfl⟩
    exact funext fun a => match a with | ⟨0, _⟩ => rfl

theorem sum_first_two (h : (⟨3, ![n0, n1, n2]⟩ : Shape).ReducesTo [0, 1] ⟨1, ![n2]⟩) (v : (⟨3, ![n0, n1, n2]⟩ : Shape).Idx → EReal)
    (init : EReal) (j : (⟨1, ![n2]⟩ : Shape).Idx) :
    Ideal.hostReduceAdd h v init j = init + ∑ a : Fin n0, ∑ b : Fin n1, v (ix3 a b (j 0)) := by
  refine congrArg (init + ·) ((Finset.sum_filter_eq_sum_of_fiber _ (fun k : Fin n0 × Fin n1 => (ix3 k.1 k.2 (j 0) : (⟨3, ![n0, n1, n2]⟩ : Shape).Idx))
    (fun _ _ e => Prod.ext (congrFun e 0) (congrFun e 1)) (drop_eq h j) v).trans ?_)
  rw [Fintype.sum_prod_type]

theorem drop_eq' (h : (⟨4, ![n0, n1, n2, n3]⟩ : Shape).ReducesTo [0, 1, 2] ⟨1, ![n3]⟩) (j : (⟨1, ![n3]⟩ : Shape).Idx)
    (i : (⟨4, ![n0, n1, n2, n3]⟩ : Shape).Idx) : h.drop i = j ↔ ∃ k : Fin n0 × Fin n1 × Fin n2, ix4 k.1 k.2.1 k.2.2 (j 0) = i := by
  constructor
  · rintro rfl
    exact ⟨(i 0, i 1, i 2), funext fun a => match a with | ⟨0, _⟩ => rfl | ⟨1, _⟩ => rfl | ⟨2, _⟩ => rfl | ⟨3, _⟩ => rfl⟩
  · rintro ⟨k, rfl⟩
    exact funext fun a => match a with | ⟨0, _⟩ => rfl

theorem sum_first_three (h : (⟨4, ![n0, n1, n2, n3]⟩ : Shape).ReducesTo [0, 1, 2] ⟨1, ![n3]⟩)
    (v : (⟨4, ![n0, n1, n2, n3]⟩ : Shape).Idx → EReal) (init : EReal) (j : (⟨1, ![n3]⟩ : Shape).Idx) :
    Ideal.hostReduceAdd h v init j = init + ∑ a : Fin n0, ∑ b : Fin n1, ∑ c : Fin n2, v (ix4 a b c (j 0)) := by
  refine congrArg (init + ·) ((Finset.sum_filter_eq_sum_of_fiber _
    (fun k : Fin n0 × Fin n1 × Fin n2 => (ix4 k.1 k.2.1 k.2.2 (j 0) : (⟨4, ![n0, n1, n2, n3]⟩ : Shape).Idx))
    (fun _ _ e => Prod.ext (congrFun e 0) (Prod.ext (congrFun e 1) (congrFun e 2))) (drop_eq' h j) v).trans ?_)
  simp only [Fintype.sum_prod_type]

end Cert.Reduce
-- ==== Proof.MixRef.lean ====
/- The gradient of the output norms and of the recurrence's gate: the mathematics, and the reference's seven results over real arguments. -/
module

public import proofs.«01_k».proof.Proof.Gen.Reference2Ideal.Read
public import proofs.«01_k».proof.Proof.RmsNorm
public import proofs.«01_k».proof.Proof.Sums
public import proofs.«01_k».proof.Proof.Reduce
public import Idealize.ShloMosaic.Lib.Pipeline.ValueKit.Point

@[expose] public section

set_option maxRecDepth 16384

noncomputable section

namespace Cert.Mix

open Idealize.ShloMosaic hiding ix1 ix2 ix3 ix4 ix5
open Idealize.ShloMosaic.ValueIdx Idealize.ShloMosaic.TcCoe Idealize.SL.Sem
open Cert.Reals Cert.RmsNorm Cert.Sums Cert.Reduce Cert.Reference2Ideal Cert.Reference2Ideal.Read

/-- The arguments, as functions of their coordinates. -/
structure In where
  ya : Fin 4096 → Fin 512 → ℝ
  o1 : Fin 4096 → Fin 256 → ℝ
  o2 : Fin 4096 → Fin 256 → ℝ
  p : Fin 4096 → Fin 2560 → ℝ
  yc : Fin 4096 → Fin 256 → ℝ
  aw : Fin 512 → ℝ
  gw : Fin 64 → ℝ
  cw : Fin 256 → ℝ
  d : Fin 4096 → Fin 1024 → ℝ

variable (I : In)

/-- A lane of a lane's head. -/
def hd (j : Fin 256) (x : Fin 64) : Fin 256 := ⟨j.val / 64 * 64 + x.val, head_lt (H := 4) rfl j x⟩

/-- The two directions' sum. -/
def o (r : Fin 4096) (j : Fin 256) : ℝ := I.o1 r j + I.o2 r j

/-- The gate's column, and the three parts of the cotangent. -/
def hg (r : Fin 4096) (j : Fin 256) : ℝ := I.p r ⟨1792 + j.val, by omega⟩
def da (r : Fin 4096) (k : Fin 512) : ℝ := I.d r ⟨k.val, by omega⟩
def dh (r : Fin 4096) (j : Fin 256) : ℝ := I.d r ⟨512 + j.val, by omega⟩
def dc (r : Fin 4096) (k : Fin 256) : ℝ := I.d r ⟨768 + k.val, by omega⟩

/-- The three mean squares. -/
def sa (r : Fin 4096) : ℝ := (∑ k, I.ya r k * I.ya r k) / 512
def sh (r : Fin 4096) (j : Fin 256) : ℝ := (∑ x, o I r (hd j x) * o I r (hd j x)) / 64
def sc (r : Fin 4096) : ℝ := (∑ k, I.yc r k * I.yc r k) / 256

/-- The cotangent of the recurrence's normalised output. -/
def dn (r : Fin 4096) (j : Fin 256) : ℝ := dh I r j * silu (hg I r j)

def lane (j : Fin 256) : Fin 64 := ⟨j.val % 64, by omega⟩

def gya (r : Fin 4096) (k : Fin 512) : ℝ := ngrad (sa I r) (I.ya r k) (da I r k * I.aw k) ((∑ l, da I r l * I.aw l * I.ya r l) / 512)
def gyc (r : Fin 4096) (k : Fin 256) : ℝ := ngrad (sc I r) (I.yc r k) (dc I r k * I.cw k) ((∑ l, dc I r l * I.cw l * I.yc r l) / 256)
def go (r : Fin 4096) (j : Fin 256) : ℝ :=
  ngrad (sh I r j) (o I r j) (dn I r j * I.gw (lane j)) ((∑ x, dn I r (hd j x) * I.gw x * o I r (hd j x)) / 64)
def ghg (r : Fin 4096) (j : Fin 256) : ℝ := dh I r j * o I r j * rinv (sh I r j) * I.gw (lane j) * dsilu (hg I r j)
def gaw (r : Fin 4096) (k : Fin 512) : ℝ := da I r k * I.ya r k * rinv (sa I r)
def gcw (r : Fin 4096) (k : Fin 256) : ℝ := dc I r k * I.yc r k * rinv (sc I r)
def ggw (r : Fin 4096) (j : Fin 256) : ℝ := dn I r j * o I r j * rinv (sh I r j)

theorem coe_congr {a b : ℝ} (h : a = b) : (a : EReal) = (b : EReal) := congrArg _ h

theorem one_sub_coe (x : ℝ) : (1 : EReal) - (x : EReal) = ((1 - x : ℝ) : EReal) := by rw [EReal.coe_sub, EReal.coe_one]

theorem one_add_coe (x : ℝ) : (1 : EReal) + (x : EReal) = ((1 + x : ℝ) : EReal) := by rw [EReal.coe_add, EReal.coe_one]

/-! ### The arguments' arrays -/

def yaA : S4096x512.Idx → EReal := fun i => ((I.ya (i 0) (i 1) : ℝ) : EReal)
def o1A : S4096x256.Idx → EReal := fun i => ((I.o1 (i 0) (i 1) : ℝ) : EReal)
def o2A : S4096x256.Idx → EReal := fun i => ((I.o2 (i 0) (i 1) : ℝ) : EReal)
def pA : S4096x2560.Idx → EReal := fun i => ((I.p (i 0) (i 1) : ℝ) : EReal)
def ycA : S4096x256.Idx → EReal := fun i => ((I.yc (i 0) (i 1) : ℝ) : EReal)
def awA : S512.Idx → EReal := fun i => ((I.aw (i 0) : ℝ) : EReal)
def gwA : S64.Idx → EReal := fun i => ((I.gw (i 0) : ℝ) : EReal)
def cwA : S256.Idx → EReal := fun i => ((I.cw (i 0) : ℝ) : EReal)
def dA : S4096x1024.Idx → EReal := fun i => ((I.d (i 0) (i 1) : ℝ) : EReal)

/-! ### The reference -/

theorem ref_ya (i : S4096x512.Idx) : val_main_v98 (F := Ideal) (yaA I) (awA I) (dA I) i = ((gya I (i 0) (i 1) : ℝ) : EReal) := by
  unfold yaA awA dA
  pointwise [val_main_v98, val_main_v96, val_main_v97, val_main_v89, val_main_v95, val_main_v94, val_main_v83, val_main_v88, val_main_v93, val_main_v56,
    val_main_v82, val_main_v30, val_main_v92, val_main_cst_20, val_main_v36, val_main_v29, val_main_v90, val_main_v91, val_main_v27, val_main_v28,
    val_main_v87, val_main_v33, val_main_cst_19, val_main_v25, val_main_v26, val_main_cst_5, val_main_v86, val_main_v32, val_main_v31, val_main_v24,
    val_main_cst_4, val_main_v85, val_main_cst_18, val_main_cst_6, val_main_v23, val_main_cst_3]
  have h0 : (512 : ℝ) ≠ 0 := by norm_num
  have h1 := mean_ε_ne (I.ya (i 0)) (N := 512) (by norm_num)
  simp only [sig_coe, ← EReal.coe_mul, coe_sum, w512, ε_word, wneg_half, div_coe_coe _ h0, ← EReal.coe_add,
    rsqrt_mean _ (show (0 : ℝ) ≤ 512 by norm_num), div_coe_coe _ h1]
  refine coe_congr ?_
  rw [rinv_div _ (by norm_num), Fin.sum_univ_one]
  unfold gya ngrad sa da
  rw [show (∑ l, I.d (i 0) ⟨l.val, _⟩ * I.aw l * I.ya (i 0) l) = ∑ l, I.ya (i 0) l * (I.d (i 0) ⟨l.val, by omega⟩ * I.aw l) from
    Finset.sum_congr rfl fun l _ => mul_comm _ _]
  ring

theorem ref_o (i : S4096x256.Idx) : val_main_v124 (F := Ideal) (o1A I) (o2A I) (pA I) (gwA I) (dA I) i = ((go I (i 0) (i 1) : ℝ) : EReal) := by
  unfold o1A o2A pA gwA dA
  pointwise [val_main_v124, val_main_v123, val_main_v121, val_main_v122, val_main_v114, val_main_v120, val_main_v119, val_main_v2, val_main_v108, val_main_v113,
    val_main_v118, val_main_v1, val_main_v101, val_main_v107, val_main_v10, val_main_v117, val_main_cst_25, val_main_v99, val_main_v20_0, val_main_v16,
    val_main_v9, val_main_v115, val_main_v116, val_main_v57, val_main_v19, val_main_v20_2, val_main_v7, val_main_v8, val_main_v112, val_main_v13,
    val_main_cst_24, val_main_v0, val_main_call0_v4, val_main_call0_v3, val_main_v5, val_main_v6, val_main_cst_1, val_main_v111, val_main_v12,
    val_main_v11, val_main_call0_cst_0, val_main_call0_v2, val_main_call0_v1, val_main_v4, val_main_cst_0, val_main_v110, val_main_cst_23, val_main_cst_2,
    val_main_call0_cst, val_main_call0_v0, val_main_v3, val_main_cst]
  have h0 : (64 : ℝ) ≠ 0 := by norm_num
  have h1 := mean_ε_ne (fun x => o I (i 0) (hd (i 1) x)) (N := 64) (by norm_num)
  unfold o hd at h1
  simp only [sig_coe, ← EReal.coe_mul, coe_sum, w64, ε_word, wneg_half, div_coe_coe _ h0, ← EReal.coe_add,
    rsqrt_mean _ (show (0 : ℝ) ≤ 64 by norm_num), div_coe_coe _ h1]
  refine coe_congr ?_
  simp only [Fin.sum_univ_one]
  rw [rinv_div _ (by norm_num)]
  unfold go ngrad sh dn o hg dh silu hd lane
  rw [show (∑ x : Fin 64, I.d (i 0) ⟨512 + ((i 1).val / 64 * 64 + x.val), _⟩ *
        (I.p (i 0) ⟨1792 + ((i 1).val / 64 * 64 + x.val), _⟩ * RmsNorm.sig (I.p (i 0) ⟨1792 + ((i 1).val / 64 * 64 + x.val), _⟩)) * I.gw x *
        (I.o1 (i 0) ⟨(i 1).val / 64 * 64 + x.val, _⟩ + I.o2 (i 0) ⟨(i 1).val / 64 * 64 + x.val, _⟩)) = _ from
    Finset.sum_congr rfl fun x _ => mul_comm _ _]
  ring

theorem ref_hg (i : S4096x256.Idx) : val_main_v125 (F := Ideal) (o1A I) (o2A I) (pA I) (gwA I) (dA I) i = ((ghg I (i 0) (i 1) : ℝ) : EReal) := by
  unfold o1A o2A pA gwA dA
  pointwise [val_main_v125, val_main_v103, val_main_v102, val_main_call1_v1, val_main_call1_v2, val_main_v100, val_main_v20_2, val_main_call1_v0, val_main_v20_1,
    val_main_v18, val_main_v99, val_main_call0_v4, val_main_call0_v3, val_main_v19, val_main_call0_v7, val_main_v15, val_main_v17, val_main_v57,
    val_main_call0_cst_0, val_main_call0_v2, val_main_call0_v1, val_main_v0, val_main_call0_v6, val_main_v2, val_main_v14, val_main_v16,
    val_main_call0_cst, val_main_call0_v0, val_main_call0_cst_1, val_main_v1, val_main_v10, val_main_v9, val_main_v7, val_main_v8, val_main_v5,
    val_main_v6, val_main_cst_1, val_main_v4, val_main_cst_0, val_main_v3, val_main_cst]
  have h0 : (64 : ℝ) ≠ 0 := by norm_num
  simp only [sig_coe, ← EReal.coe_mul, coe_sum, w64, ε_word, wneg_half, div_coe_coe _ h0, ← EReal.coe_add,
    rsqrt_mean _ (show (0 : ℝ) ≤ 64 by norm_num), one_sub_coe]
  refine coe_congr ?_
  unfold ghg dsilu sh o hg dh hd lane
  ring

theorem ref_yc (i : S4096x256.Idx) : val_main_v78 (F := Ideal) (ycA I) (cwA I) (dA I) i = ((gyc I (i 0) (i 1) : ℝ) : EReal) := by
  unfold ycA cwA dA
  pointwise [val_main_v78, val_main_v76, val_main_v77, val_main_v69, val_main_v75, val_main_v74, val_main_v63, val_main_v68, val_main_v73, val_main_v58,
    val_main_v62, val_main_v46, val_main_v72, val_main_cst_15, val_main_v52, val_main_v45, val_main_v70, val_main_v71, val_main_v43, val_main_v44,
    val_main_v67, val_main_v49, val_main_cst_14, val_main_v41, val_main_v42, val_main_cst_9, val_main_v66, val_main_v48, val_main_v47, val_main_v40,
    val_main_cst_8, val_main_v65, val_main_cst_13, val_main_cst_10, val_main_v39, val_main_cst_7]
  have h0 : (256 : ℝ) ≠ 0 := by norm_num
  have h1 := mean_ε_ne (I.yc (i 0)) (N := 256) (by norm_num)
  simp only [sig_coe, ← EReal.coe_mul, coe_sum, w256, ε_word, wneg_half, div_coe_coe _ h0, ← EReal.coe_add,
    rsqrt_mean _ (show (0 : ℝ) ≤ 256 by norm_num), div_coe_coe _ h1]
  refine coe_congr ?_
  rw [rinv_div _ (by norm_num), Fin.sum_univ_one]
  unfold gyc ngrad sc dc
  rw [show (∑ l, I.d (i 0) ⟨768 + l.val, _⟩ * I.cw l * I.yc (i 0) l) = ∑ l, I.yc (i 0) l * (I.d (i 0) ⟨768 + l.val, by omega⟩ * I.cw l) from
    Finset.sum_congr rfl fun l _ => mul_comm _ _]
  ring

theorem ref_aw (i : S512.Idx) : val_main_v84 (F := Ideal) (yaA I) (dA I) i = ((∑ r, gaw I r (i 0) : ℝ) : EReal) := by
  unfold yaA dA
  pointwise [val_main_v84, val_main_v81, val_main_cst_17, val_main_v80, val_main_v79, val_main_cst_16, val_main_v35, val_main_v56, val_main_v34, val_main_v30,
    val_main_v29, val_main_v27, val_main_v28, val_main_v25, val_main_v26, val_main_cst_5, val_main_v24, val_main_cst_4, val_main_v23, val_main_cst_3]
  have h0 : (512 : ℝ) ≠ 0 := by norm_num
  simp only [sig_coe, ← EReal.coe_mul, coe_sum, w512, ε_word, wneg_half, div_coe_coe _ h0, ← EReal.coe_add,
    rsqrt_mean _ (show (0 : ℝ) ≤ 512 by norm_num)]
  refine coe_congr ?_
  rw [Fin.sum_univ_one]
  refine Finset.sum_congr rfl fun r _ => ?_
  unfold gaw da sa
  ring

theorem ref_gw (i : S64.Idx) : val_main_v109 (F := Ideal) (o1A I) (o2A I) (pA I) (dA I) i = ((∑ r, ∑ h : Fin 4, ggw I r ⟨h.val * 64 + (i 0).val, split_lt h (i 0)⟩ : ℝ) : EReal) := by
  unfold o1A o2A pA dA
  pointwise [val_main_v109, val_main_v106, val_main_cst_22, val_main_v105, val_main_v104, val_main_cst_21, val_main_v15, val_main_v101, val_main_v2, val_main_v14,
    val_main_v99, val_main_v20_0, val_main_v1, val_main_v10, val_main_v57, val_main_v19, val_main_v20_2, val_main_v9, val_main_v0, val_main_call0_v4,
    val_main_call0_v3, val_main_v7, val_main_v8, val_main_call0_cst_0, val_main_call0_v2, val_main_call0_v1, val_main_v5, val_main_v6, val_main_cst_1,
    val_main_call0_cst, val_main_call0_v0, val_main_v4, val_main_cst_0, val_main_v3, val_main_cst, sum_first_two]
  have h0 : (64 : ℝ) ≠ 0 := by norm_num
  simp only [sig_coe, ← EReal.coe_mul, coe_sum, w64, ε_word, wneg_half, div_coe_coe _ h0, ← EReal.coe_add,
    rsqrt_mean _ (show (0 : ℝ) ≤ 64 by norm_num)]
  refine coe_congr ?_
  simp only [Fin.sum_univ_one]
  refine Finset.sum_congr rfl fun r _ => Finset.sum_congr rfl fun h _ => ?_
  have e : ∀ x : Fin 64, hd ⟨h.val * 64 + (i 0).val, split_lt h (i 0)⟩ x = ⟨h.val * 64 + x.val, split_lt h x⟩ := fun x =>
    Fin.ext (congrArg (fun q => q * 64 + x.val) (show (h.val * 64 + (i 0).val) / 64 = h.val by have := (i 0).isLt; change (i 0).val < 64 at this; omega))
  unfold ggw sh dn silu
  simp only [e]
  unfold o dh hg
  change (_ : ℝ) = _
  ring

theorem ref_cw (i : S256.Idx) : val_main_v64 (F := Ideal) (ycA I) (dA I) i = ((∑ r, gcw I r (i 0) : ℝ) : EReal) := by
  unfold ycA dA
  pointwise [val_main_v64, val_main_v61, val_main_cst_12, val_main_v60, val_main_v59, val_main_cst_11, val_main_v51, val_main_v58, val_main_v50, val_main_v46,
    val_main_v45, val_main_v43, val_main_v44, val_main_v41, val_main_v42, val_main_cst_9, val_main_v40, val_main_cst_8, val_main_v39, val_main_cst_7]
  have h0 : (256 : ℝ) ≠ 0 := by norm_num
  simp only [sig_coe, ← EReal.coe_mul, coe_sum, w256, ε_word, wneg_half, div_coe_coe _ h0, ← EReal.coe_add,
    rsqrt_mean _ (show (0 : ℝ) ≤ 256 by norm_num)]
  refine coe_congr ?_
  rw [Fin.sum_univ_one]
  refine Finset.sum_congr rfl fun r _ => ?_
  unfold gcw dc sc
  ring

end Cert.Mix

end
-- ==== Proof.Mix.lean ====
/- The gradient of the output norms and of the recurrence's gate: the kernel's seven results over real arguments. -/
module

public import proofs.«01_k».proof.Proof.Gen.Kernel2Ideal.Frame
public import proofs.«01_k».proof.Proof.MixRef
public import proofs.«01_k».proof.Proof.Gen.Pre_finite2

@[expose] public section

set_option maxRecDepth 16384

noncomputable section

namespace Cert.Mix

open Idealize.ShloMosaic hiding ix1 ix2 ix3 ix4 ix5
open Idealize.ShloMosaic.ValueIdx Idealize.ShloMosaic.TcCoe Idealize.SL.Sem
open Cert.Reals Cert.RmsNorm Cert.Sums Cert.Kernel2Ideal Cert.Kernel2Ideal.Gen

/-- A tile's row of the array. -/
def row (t : Fin cfg0.N) (r : Fin 256) : Fin 4096 := ⟨t.val * 256 + r.val, by have := t.isLt; have : cfg0.N = 16 := N_0; omega⟩

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 7] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![t.val, 0] := (by decide +kernel : ∀ t : Fin grid0.N, _)
theorem idx_11 : ∀ t : Fin cfg0.N, win0_11.index t = ![t.val, 0] := (by decide +kernel : ∀ t : Fin grid0.N, _)
theorem idx_12 : ∀ t : Fin cfg0.N, win0_12.index t = ![t.val, 0] := (by decide +kernel : ∀ t : Fin grid0.N, _)
theorem idx_13 : ∀ t : Fin cfg0.N, win0_13.index t = ![t.val, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)

/-- The arguments' arrays on core `c` hold real numbers. -/
structure Args (I : In) (m : (ℓ : Loc nD τ sig) → Buf (Elt Ideal) ℓ) (c : Dev nD) : Prop where
  ya : m ((c : Thread nD τ).loc main_arg0) = yaA I
  o1 : m ((c : Thread nD τ).loc main_arg1) = o1A I
  o2 : m ((c : Thread nD τ).loc main_arg2) = o2A I
  p : m ((c : Thread nD τ).loc main_arg3) = pA I
  yc : m ((c : Thread nD τ).loc main_arg4) = ycA I
  aw : m ((c : Thread nD τ).loc main_arg5) = awA I
  gw : m ((c : Thread nD τ).loc main_arg6) = gwA I
  cw : m ((c : Thread nD τ).loc main_arg7) = cwA I
  d : m ((c : Thread nD τ).loc main_arg8) = dA I

variable {I : In} {m : (ℓ : Loc nD τ sig) → Buf (Elt Ideal) ℓ} {c : Dev nD} (A : Args I m c)

/-! ### What the host prepares -/

section
include A

theorem V_aw : V m c main_v0 = fun i => (((I.aw (i 1)) : ℝ) : EReal) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  exact congrFun A.aw _

theorem V_gw : V m c main_v4 = fun i => (((I.gw (lane (i 1))) : ℝ) : EReal) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  exact congrFun A.gw _

theorem V_cw : V m c main_v5 = fun i => (((I.cw (i 1)) : ℝ) : EReal) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  exact congrFun A.cw _

end

theorem quot : ∀ a : Fin 256, IntOp.divsi .host (BitVec.ofNat 32 a.val) 64#32 = BitVec.ofNat 32 (a.val / 64) := by decide +kernel

theorem div_lt (a : Fin 256) : a.val / 64 < 4 := by omega

theorem quot_eq : ∀ a b : Fin 4, IntOp.cmpi .eq (BitVec.ofNat 32 a.val) (BitVec.ofNat 32 b.val) = if a.val = b.val then 1#1 else 0#1 := by decide +kernel

/-- The matrix that averages a head's lanes. -/
def seg (a b : Fin 256) : ℝ := if a.val / 64 = b.val / 64 then 1 / 64 else 0

theorem V_seg : V m c main_v14 = fun i => (((seg (i 0) (i 1)) : ℝ) : EReal) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  show Scalar.select (IntOp.cmpi .eq (IntOp.divsi .host (BitVec.ofNat 32 (i 0).val) 64#32) (IntOp.divsi .host (BitVec.ofNat 32 (i 1).val) 64#32))
    (Ideal.ofBits .f32 1015021568#32) (Ideal.ofBits .f32 0#32) = _
  rw [quot (i 0), quot (i 1), quot_eq ⟨(i 0).val / 64, div_lt (i 0)⟩ ⟨(i 1).val / 64, div_lt (i 1)⟩, w64th, zero_word']
  unfold seg
  split <;> rfl

/-! ### The blocks -/

include A in
theorem blk_0 (t : Fin cfg0.N) : iblk m c 0 t = fun y : S256x1024.Idx => (((I.d (row t (y 0)) (y 1)) : ℝ) : EReal) := by
  funext y
  show m ((c : Thread nD τ).loc main_arg8) ((win0_0.blk t).view.emb y) = _
  rw [A.d]
  refine coe_congr (congrArg₂ I.d (Fin.ext ?_) (Fin.ext ?_))
  all_goals blk_simp [idx_0 t]
  all_goals rfl

include A in
theorem blk_1 (t : Fin cfg0.N) : iblk m c 1 t = fun y : S256x512.Idx => (((I.ya (row t (y 0)) (y 1)) : ℝ) : EReal) := by
  funext y
  show m ((c : Thread nD τ).loc main_arg0) ((win0_1.blk t).view.emb y) = _
  rw [A.ya]
  refine coe_congr (congrArg₂ I.ya (Fin.ext ?_) (Fin.ext ?_))
  all_goals blk_simp [idx_1 t]
  all_goals rfl

include A in
theorem blk_2 (t : Fin cfg0.N) : iblk m c 2 t = fun y : S256x256.Idx => (((I.o1 (row t (y 0)) (y 1)) : ℝ) : EReal) := by
  funext y
  show m ((c : Thread nD τ).loc main_arg1) ((win0_2.blk t).view.emb y) = _
  rw [A.o1]
  refine coe_congr (congrArg₂ I.o1 (Fin.ext ?_) (Fin.ext ?_))
  all_goals blk_simp [idx_2 t]
  all_goals rfl

include A in
theorem blk_3 (t : Fin cfg0.N) : iblk m c 3 t = fun y : S256x256.Idx => (((I.o2 (row t (y 0)) (y 1)) : ℝ) : EReal) := by
  funext y
  show m ((c : Thread nD τ).loc main_arg2) ((win0_3.blk t).view.emb y) = _
  rw [A.o2]
  refine coe_congr (congrArg₂ I.o2 (Fin.ext ?_) (Fin.ext ?_))
  all_goals blk_simp [idx_3 t]
  all_goals rfl

include A in
theorem blk_4 (t : Fin cfg0.N) : iblk m c 4 t = fun y : S256x256.Idx => (((hg I (row t (y 0)) (y 1)) : ℝ) : EReal) := by
  funext y
  show m ((c : Thread nD τ).loc main_arg3) ((win0_4.blk t).view.emb y) = _
  rw [A.p]
  refine coe_congr (congrArg₂ I.p (Fin.ext ?_) (Fin.ext ?_))
  all_goals blk_simp [idx_4 t]
  all_goals rfl

include A in
theorem blk_5 (t : Fin cfg0.N) : iblk m c 5 t = fun y : S256x256.Idx => (((I.yc (row t (y 0)) (y 1)) : ℝ) : EReal) := by
  funext y
  show m ((c : Thread nD τ).loc main_arg4) ((win0_5.blk t).view.emb y) = _
  rw [A.yc]
  refine coe_congr (congrArg₂ I.yc (Fin.ext ?_) (Fin.ext ?_))
  all_goals blk_simp [idx_5 t]
  all_goals rfl

include A in
theorem blk_6 (t : Fin cfg0.N) : iblk m c 6 t = fun y : S1x512.Idx => (((I.aw (y 1)) : ℝ) : EReal) := by
  funext y
  show V m c main_v0 ((win0_6.blk t).view.emb y) = _
  rw [V_aw A]
  refine coe_congr (congrArg I.aw (Fin.ext ?_))
  all_goals blk_simp [idx_6 t]
  all_goals rfl

include A in
theorem blk_7 (t : Fin cfg0.N) : iblk m c 7 t = fun y : S1x256.Idx => (((I.gw (lane (y 1))) : ℝ) : EReal) := by
  funext y
  show V m c main_v4 ((win0_7.blk t).view.emb y) = _
  rw [V_gw A]
  refine coe_congr (congrArg (fun q => I.gw (lane q)) (Fin.ext ?_))
  all_goals blk_simp [idx_7 t]
  all_goals rfl

include A in
theorem blk_8 (t : Fin cfg0.N) : iblk m c 8 t = fun y : S1x256.Idx => (((I.cw (y 1)) : ℝ) : EReal) := by
  funext y
  show V m c main_v5 ((win0_8.blk t).view.emb y) = _
  rw [V_cw A]
  refine coe_congr (congrArg I.cw (Fin.ext ?_))
  all_goals blk_simp [idx_8 t]
  all_goals rfl

theorem blk_9 (t : Fin cfg0.N) : iblk m c 9 t = fun y : S256x256.Idx => (((seg (y 0) (y 1)) : ℝ) : EReal) := by
  funext y
  show V m c main_v14 ((win0_9.blk t).view.emb y) = _
  rw [V_seg]
  refine coe_congr (congrArg₂ seg (Fin.ext ?_) (Fin.ext ?_))
  all_goals blk_simp [idx_9 t]
  all_goals rfl

theorem lane_hd (j : Fin 256) (x : Fin 64) : lane (hd j x) = x := Fin.ext (by show (j.val / 64 * 64 + x.val) % 64 = x.val; omega)

theorem last (t : Fin cfg0.N) (h : t.val % 16 = 15) : t.val = 15 := by have := t.isLt; have hN : cfg0.N = 16 := N_0; omega

theorem not_first {n : Nat} (h : n + 1 < cfg0.N) : ¬ (n + 1) % 16 = 0 := by have hN : cfg0.N = 16 := N_0; omega

/-- The sum up to the last tile is the sum over the tiles. -/
theorem sum_to_last (p : Fin cfg0.N → ℝ) (t : Fin cfg0.N) (h : t.val = 15) :
    ∑ k : Fin (t.val + 1), p ⟨k.val, Nat.lt_of_lt_of_le k.isLt t.isLt⟩ = ∑ t, p t := by
  obtain ⟨n, hn⟩ := t
  obtain rfl : n = 15 := h
  rfl

include A

/-! ### The three parts of the cotangent's tile -/

theorem ld_da (t : Fin cfg0.N) : View.ld (iblk m c 0 t) (Rect.unit ![0, 0] ![256, 512] inb_S256x1024_S256x512_0_0) = fun y : S256x512.Idx => (((da I (row t (y 0)) (y 1)) : ℝ) : EReal) := by
  rw [blk_0 A]
  funext y
  pointwise []
  exact coe_congr (congrArg (I.d _) (Fin.ext (by simp)))

theorem ld_dh (t : Fin cfg0.N) : View.ld (iblk m c 0 t) (Rect.unit ![0, 512] ![256, 256] inb_S256x1024_S256x256_0_512) = fun y : S256x256.Idx => (((dh I (row t (y 0)) (y 1)) : ℝ) : EReal) := by
  rw [blk_0 A]
  funext y
  pointwise []
  rfl

theorem ld_dc (t : Fin cfg0.N) : View.ld (iblk m c 0 t) (Rect.unit ![0, 768] ![256, 256] inb_S256x1024_S256x256_0_768) = fun y : S256x256.Idx => (((dc I (row t (y 0)) (y 1)) : ℝ) : EReal) := by
  rw [blk_0 A]
  funext y
  pointwise []
  rfl

/-! ### What a tile computes -/

theorem pay_ya (t : Fin cfg0.N) (y : S256x512.Idx) :
    k0_pay8 (F := Ideal) (iblk m c 1 t) (iblk m c 6 t) (View.ld (iblk m c 0 t) (Rect.unit ![0, 0] ![256, 512] inb_S256x1024_S256x512_0_0)) y
      = ((gya I (row t (y 0)) (y 1) : ℝ) : EReal) := by
  rw [ld_da A, blk_1 A, blk_6 A]
  pointwise [k0_pay7, k0_pay8]
  have h0 : (512 : ℝ) ≠ 0 := by norm_num
  simp only [← EReal.coe_mul, ← EReal.coe_sub, coe_sum, div_coe_coe _ h0, w512, ε_word, ← EReal.coe_add,
    rsqrt_mean _ (show (0 : ℝ) ≤ 512 by norm_num)]
  unfold gya ngrad sa
  rfl

theorem pay_yc (t : Fin cfg0.N) (y : S256x256.Idx) :
    k0_pay13 (F := Ideal) (iblk m c 5 t) (iblk m c 8 t) (View.ld (iblk m c 0 t) (Rect.unit ![0, 768] ![256, 256] inb_S256x1024_S256x256_0_768)) y
      = ((gyc I (row t (y 0)) (y 1) : ℝ) : EReal) := by
  rw [ld_dc A, blk_5 A, blk_8 A]
  pointwise [k0_pay12, k0_pay13]
  have h0 : (256 : ℝ) ≠ 0 := by norm_num
  simp only [← EReal.coe_mul, ← EReal.coe_sub, coe_sum, div_coe_coe _ h0, w256, ε_word, ← EReal.coe_add,
    rsqrt_mean _ (show (0 : ℝ) ≤ 256 by norm_num)]
  rfl

theorem pay_o (t : Fin cfg0.N) (y : S256x256.Idx) :
    k0_pay2 (F := Ideal) (k0_pay15 (F := Ideal) (iblk m c 2 t) (iblk m c 3 t)) (k0_pay16 (F := Ideal) (iblk m c 2 t) (iblk m c 3 t) (iblk m c 9 t)) (k0_pay17 (F := Ideal) (View.ld (iblk m c 0 t) (Rect.unit ![0, 512] ![256, 256] inb_S256x1024_S256x256_0_512)) (iblk m c 4 t)) (iblk m c 7 t) (iblk m c 9 t) y
      = ((go I (row t (y 0)) (y 1) : ℝ) : EReal) := by
  rw [ld_dh A, blk_2 A, blk_3 A, blk_4 A, blk_7 A, blk_9 t]
  pointwise [k0_pay2, k0_pay15, k0_pay16, k0_pay17]
  have e : ∀ f : Fin 256 → ℝ, ∑ a, f a * seg a (y 1) = (∑ x, f (hd (y 1) x)) / 64 := fun f => seg_mean (M := 256) 4 rfl f (y 1)
  simp only [← EReal.coe_mul, ← EReal.coe_sub, sub_self, zero_mul, EReal.coe_zero, coe_sum, Finset.sum_const_zero, add_zero, e, whalf, tanh_coe, sig_tanh, ε_word, ← EReal.coe_add,
    rsqrt_mean _ (show (0 : ℝ) ≤ 64 by norm_num)]
  refine coe_congr (Eq.trans ?_ (congrArg (fun q : ℝ => ngrad (sh I (row t (y 0)) (y 1)) (o I (row t (y 0)) (y 1))
      (dn I (row t (y 0)) (y 1) * I.gw (lane (y 1))) (q / 64)) (Finset.sum_congr rfl fun x _ =>
    congrArg (fun q => dn I (row t (y 0)) (hd (y 1) x) * I.gw q * o I (row t (y 0)) (hd (y 1) x)) (lane_hd (y 1) x))))
  rfl

theorem pay_hg (t : Fin cfg0.N) (y : S256x256.Idx) :
    k0_pay1 (F := Ideal) (iblk m c 4 t) (k0_pay18 (View.ld (iblk m c 0 t) (Rect.unit ![0, 512] ![256, 256] inb_S256x1024_S256x256_0_512)) (iblk m c 2 t) (iblk m c 3 t) (iblk m c 9 t) (iblk m c 7 t)) (k0_pay19 (iblk m c 4 t)) k0_pay20 y
      = ((ghg I (row t (y 0)) (y 1) : ℝ) : EReal) := by
  rw [ld_dh A, blk_2 A, blk_3 A, blk_4 A, blk_7 A, blk_9 t]
  pointwise [k0_pay1, k0_pay15, k0_pay16, k0_pay18, k0_pay19, k0_pay20]
  have e : ∀ f : Fin 256 → ℝ, ∑ a, f a * seg a (y 1) = (∑ x, f (hd (y 1) x)) / 64 := fun f => seg_mean (M := 256) 4 rfl f (y 1)
  simp only [← EReal.coe_mul, ← EReal.coe_sub, sub_self, zero_mul, EReal.coe_zero, coe_sum, Finset.sum_const_zero, add_zero, e, whalf, tanh_coe, sig_tanh, one_sub_coe, one_add_coe, ε_word, ← EReal.coe_add,
    rsqrt_mean _ (show (0 : ℝ) ≤ 64 by norm_num)]
  rfl

/-- What a tile adds to a weight's gradient at a row of a group of eight. -/
def part {n : Nat} (g : Fin 4096 → Fin n → ℝ) (t : Fin cfg0.N) (b : Fin 8) (k : Fin n) : ℝ :=
  ∑ x : Fin 32, g (row t ⟨x.val * 8 + b.val, by omega⟩) k

theorem pay_aw (t : Fin cfg0.N) (y : S8x512.Idx) (v : S8x512.Idx → EReal) :
    k0_pay11 (F := Ideal) (k0_pay9 (iblk m c 1 t) (View.ld (iblk m c 0 t) (Rect.unit ![0, 0] ![256, 512] inb_S256x1024_S256x512_0_0))) (k0_pay10 v) y
      = v y + ((part (gaw I) t (y 0) (y 1) : ℝ) : EReal) := by
  rw [ld_da A, blk_1 A]
  pointwise [k0_pay7, k0_pay9, k0_pay10, k0_pay11]
  have h0 : (512 : ℝ) ≠ 0 := by norm_num
  simp only [← EReal.coe_mul, ← EReal.coe_sub, coe_sum, div_coe_coe _ h0, w512, ε_word, ← EReal.coe_add,
    rsqrt_mean _ (show (0 : ℝ) ≤ 512 by norm_num)]
  rfl

theorem pay_gw (t : Fin cfg0.N) (y : S8x256.Idx) (v : S8x256.Idx → EReal) :
    k0_pay3 (F := Ideal) (k0_pay15 (F := Ideal) (iblk m c 2 t) (iblk m c 3 t)) (k0_pay16 (F := Ideal) (iblk m c 2 t) (iblk m c 3 t) (iblk m c 9 t)) (k0_pay17 (F := Ideal) (View.ld (iblk m c 0 t) (Rect.unit ![0, 512] ![256, 256] inb_S256x1024_S256x256_0_512)) (iblk m c 4 t)) v y
      = v y + ((part (ggw I) t (y 0) (y 1) : ℝ) : EReal) := by
  rw [ld_dh A, blk_2 A, blk_3 A, blk_4 A, blk_9 t]
  pointwise [k0_pay3, k0_pay15, k0_pay16, k0_pay17]
  have e : ∀ f : Fin 256 → ℝ, ∑ a, f a * seg a (y 1) = (∑ x, f (hd (y 1) x)) / 64 := fun f => seg_mean (M := 256) 4 rfl f (y 1)
  simp only [← EReal.coe_mul, ← EReal.coe_sub, sub_self, zero_mul, EReal.coe_zero, coe_sum, Finset.sum_const_zero, add_zero, e, whalf, tanh_coe, sig_tanh, ε_word, ← EReal.coe_add,
    rsqrt_mean _ (show (0 : ℝ) ≤ 64 by norm_num)]
  rfl

theorem pay_cw (t : Fin cfg0.N) (y : S8x256.Idx) (v : S8x256.Idx → EReal) :
    k0_pay14 (F := Ideal) (iblk m c 5 t) (View.ld (iblk m c 0 t) (Rect.unit ![0, 768] ![256, 256] inb_S256x1024_S256x256_0_768)) v y
      = v y + ((part (gcw I) t (y 0) (y 1) : ℝ) : EReal) := by
  rw [ld_dc A, blk_5 A]
  pointwise [k0_pay12, k0_pay14]
  have h0 : (256 : ℝ) ≠ 0 := by norm_num
  simp only [← EReal.coe_mul, ← EReal.coe_sub, coe_sum, div_coe_coe _ h0, w256, ε_word, ← EReal.coe_add,
    rsqrt_mean _ (show (0 : ℝ) ≤ 256 by norm_num)]
  rfl

/-! ### The results' arrays -/

theorem outs_ya (t : Fin cfg0.N) : (outsAt0 m c t.val t.isLt).1
    = fun y : S256x512.Idx => ((gya I (row t (y 0)) (y 1) : ℝ) : EReal) := by
  funext y
  by_cases h : t.val % 16 = 0
  · rw [outsAt0_A m c t h]
    frame_out
    exact pay_ya A t y
  · rw [outsAt0_B m c t h]
    frame_out
    exact pay_ya A t y

theorem final_ya : (dats m 0 c).arrAt 10 cfg0.N = fun i : S4096x512.Idx => ((gya I (i 0) (i 1) : ℝ) : EReal) := by
  refine (dats m 0 c).arrAt_eq_of_covers 10 _ (by decide +kernel) fun t hf y => ?_
  blk_simp
  rw [after0_10, outs_ya A]
  have hi : (win0_10.blk t).view.emb y = ix2 (row t (y 0)) (y 1) := ext2 (by blk_simp [idx_10 t]; rfl) (by blk_simp [idx_10 t])
  rw [hi]

theorem outs_o (t : Fin cfg0.N) : (outsAt0 m c t.val t.isLt).2.1
    = fun y : S256x256.Idx => ((go I (row t (y 0)) (y 1) : ℝ) : EReal) := by
  funext y
  by_cases h : t.val % 16 = 0
  · rw [outsAt0_A m c t h]
    frame_out
    exact pay_o A t y
  · rw [outsAt0_B m c t h]
    frame_out
    exact pay_o A t y

theorem final_o : (dats m 0 c).arrAt 11 cfg0.N = fun i : S4096x256.Idx => ((go I (i 0) (i 1) : ℝ) : EReal) := by
  refine (dats m 0 c).arrAt_eq_of_covers 11 _ (by decide +kernel) fun t hf y => ?_
  blk_simp
  rw [after0_11, outs_o A]
  have hi : (win0_11.blk t).view.emb y = ix2 (row t (y 0)) (y 1) := ext2 (by blk_simp [idx_11 t]; rfl) (by blk_simp [idx_11 t])
  rw [hi]

theorem outs_hg (t : Fin cfg0.N) : (outsAt0 m c t.val t.isLt).2.2.1
    = fun y : S256x256.Idx => ((ghg I (row t (y 0)) (y 1) : ℝ) : EReal) := by
  funext y
  by_cases h : t.val % 16 = 0
  · rw [outsAt0_A m c t h]
    frame_out
    exact pay_hg A t y
  · rw [outsAt0_B m c t h]
    frame_out
    exact pay_hg A t y

theorem final_hg : (dats m 0 c).arrAt 12 cfg0.N = fun i : S4096x256.Idx => ((ghg I (i 0) (i 1) : ℝ) : EReal) := by
  refine (dats m 0 c).arrAt_eq_of_covers 12 _ (by decide +kernel) fun t hf y => ?_
  blk_simp
  rw [after0_12, outs_hg A]
  have hi : (win0_12.blk t).view.emb y = ix2 (row t (y 0)) (y 1) := ext2 (by blk_simp [idx_12 t]; rfl) (by blk_simp [idx_12 t])
  rw [hi]

theorem outs_yc (t : Fin cfg0.N) : (outsAt0 m c t.val t.isLt).2.2.2.1
    = fun y : S256x256.Idx => ((gyc I (row t (y 0)) (y 1) : ℝ) : EReal) := by
  funext y
  by_cases h : t.val % 16 = 0
  · rw [outsAt0_A m c t h]
    frame_out
    exact pay_yc A t y
  · rw [outsAt0_B m c t h]
    frame_out
    exact pay_yc A t y

theorem final_yc : (dats m 0 c).arrAt 13 cfg0.N = fun i : S4096x256.Idx => ((gyc I (i 0) (i 1) : ℝ) : EReal) := by
  refine (dats m 0 c).arrAt_eq_of_covers 13 _ (by decide +kernel) fun t hf y => ?_
  blk_simp
  rw [after0_13, outs_yc A]
  have hi : (win0_13.blk t).view.emb y = ix2 (row t (y 0)) (y 1) := ext2 (by blk_simp [idx_13 t]; rfl) (by blk_simp [idx_13 t])
  rw [hi]

theorem outs_aw_A (t : Fin cfg0.N) (h : t.val % 16 = 0) (y : S8x512.Idx) : (outsAt0 m c t.val t.isLt).2.2.2.2.1 y
    = ((part (gaw I) t (y 0) (y 1) : ℝ) : EReal) := by
  rw [outsAt0_A m c t h]
  frame_out
  refine (pay_aw A t y _).trans ?_
  rw [show k0_pay4 (F := Ideal) y = Ideal.ofBits .f32 0#32 from rfl, zero_word', ← EReal.coe_add, zero_add]

theorem outs_aw_B (t : Fin cfg0.N) (h : ¬ t.val % 16 = 0) (y : S8x512.Idx) : (outsAt0 m c t.val t.isLt).2.2.2.2.1 y
    = (outsAt0 m c (t.val - 1) (Nat.lt_of_le_of_lt (Nat.sub_le _ _) t.isLt)).2.2.2.2.1 y + ((part (gaw I) t (y 0) (y 1) : ℝ) : EReal) := by
  rw [outsAt0_B m c t h]
  frame_out
  exact pay_aw A t y _

theorem final_aw : (dats m 0 c).arrAt 14 cfg0.N
    = fun y : S8x512.Idx => ((∑ t : Fin cfg0.N, part (gaw I) t (y 0) (y 1) : ℝ) : EReal) := by
  refine (dats m 0 c).arrAt_eq_of_covers 14 _ (by decide +kernel) fun t hf y => ?_
  have ht := last t ((flush0_14 t).mp hf)
  blk_simp
  rw [after0_14]
  have hi : (win0_14.blk t).view.emb y = y := ext2 (by blk_simp [idx_14 t]) (by blk_simp [idx_14 t])
  rw [hi]
  refine (acc_sum (fun n h => (outsAt0 m c n h).2.2.2.2.1 y) (fun t => part (gaw I) t (y 0) (y 1)) (fun h => outs_aw_A A ⟨0, h⟩ rfl y)
    (fun n h => outs_aw_B A ⟨n + 1, h⟩ (not_first h) y) t.val t.isLt).trans ?_
  exact coe_congr (sum_to_last (fun t => part (gaw I) t (y 0) (y 1)) t ht)

theorem outs_gw_A (t : Fin cfg0.N) (h : t.val % 16 = 0) (y : S8x256.Idx) : (outsAt0 m c t.val t.isLt).2.2.2.2.2.1 y
    = ((part (ggw I) t (y 0) (y 1) : ℝ) : EReal) := by
  rw [outsAt0_A m c t h]
  frame_out
  refine (pay_gw A t y _).trans ?_
  rw [show k0_pay5 (F := Ideal) y = Ideal.ofBits .f32 0#32 from rfl, zero_word', ← EReal.coe_add, zero_add]

theorem outs_gw_B (t : Fin cfg0.N) (h : ¬ t.val % 16 = 0) (y : S8x256.Idx) : (outsAt0 m c t.val t.isLt).2.2.2.2.2.1 y
    = (outsAt0 m c (t.val - 1) (Nat.lt_of_le_of_lt (Nat.sub_le _ _) t.isLt)).2.2.2.2.2.1 y + ((part (ggw I) t (y 0) (y 1) : ℝ) : EReal) := by
  rw [outsAt0_B m c t h]
  frame_out
  exact pay_gw A t y _

theorem final_gw : (dats m 0 c).arrAt 15 cfg0.N
    = fun y : S8x256.Idx => ((∑ t : Fin cfg0.N, part (ggw I) t (y 0) (y 1) : ℝ) : EReal) := by
  refine (dats m 0 c).arrAt_eq_of_covers 15 _ (by decide +kernel) fun t hf y => ?_
  have ht := last t ((flush0_15 t).mp hf)
  blk_simp
  rw [after0_15]
  have hi : (win0_15.blk t).view.emb y = y := ext2 (by blk_simp [idx_15 t]) (by blk_simp [idx_15 t])
  rw [hi]
  refine (acc_sum (fun n h => (outsAt0 m c n h).2.2.2.2.2.1 y) (fun t => part (ggw I) t (y 0) (y 1)) (fun h => outs_gw_A A ⟨0, h⟩ rfl y)
    (fun n h => outs_gw_B A ⟨n + 1, h⟩ (not_first h) y) t.val t.isLt).trans ?_
  exact coe_congr (sum_to_last (fun t => part (ggw I) t (y 0) (y 1)) t ht)

theorem outs_cw_A (t : Fin cfg0.N) (h : t.val % 16 = 0) (y : S8x256.Idx) : (outsAt0 m c t.val t.isLt).2.2.2.2.2.2 y
    = ((part (gcw I) t (y 0) (y 1) : ℝ) : EReal) := by
  rw [outsAt0_A m c t h]
  frame_out
  refine (pay_cw A t y _).trans ?_
  rw [show k0_pay6 (F := Ideal) y = Ideal.ofBits .f32 0#32 from rfl, zero_word', ← EReal.coe_add, zero_add]

theorem outs_cw_B (t : Fin cfg0.N) (h : ¬ t.val % 16 = 0) (y : S8x256.Idx) : (outsAt0 m c t.val t.isLt).2.2.2.2.2.2 y
    = (outsAt0 m c (t.val - 1) (Nat.lt_of_le_of_lt (Nat.sub_le _ _) t.isLt)).2.2.2.2.2.2 y + ((part (gcw I) t (y 0) (y 1) : ℝ) : EReal) := by
  rw [outsAt0_B m c t h]
  frame_out
  exact pay_cw A t y _

theorem final_cw : (dats m 0 c).arrAt 16 cfg0.N
    = fun y : S8x256.Idx => ((∑ t : Fin cfg0.N, part (gcw I) t (y 0) (y 1) : ℝ) : EReal) := by
  refine (dats m 0 c).arrAt_eq_of_covers 16 _ (by decide +kernel) fun t hf y => ?_
  have ht := last t ((flush0_16 t).mp hf)
  blk_simp
  rw [after0_16]
  have hi : (win0_16.blk t).view.emb y = y := ext2 (by blk_simp [idx_16 t]) (by blk_simp [idx_16 t])
  rw [hi]
  refine (acc_sum (fun n h => (outsAt0 m c n h).2.2.2.2.2.2 y) (fun t => part (gcw I) t (y 0) (y 1)) (fun h => outs_cw_A A ⟨0, h⟩ rfl y)
    (fun n h => outs_cw_B A ⟨n + 1, h⟩ (not_first h) y) t.val t.isLt).trans ?_
  exact coe_congr (sum_to_last (fun t => part (gcw I) t (y 0) (y 1)) t ht)

theorem tail_aw : Pipeline.afterTail₀ cfgs (dats m) 0 (V0 m) [hostOps1] c main_v16
    = fun i : S512.Idx => ((∑ r, gaw I r (i 0) : ℝ) : EReal) := by
  unfold Pipeline.afterTail₀
  simp only [List.flatten_cons, List.flatten_nil, List.append_nil, hostOps1]
  after_results
  refine (congrArg (fun v : FVec Ideal S8x512 .f32 => Host.reduceAdd v _ reducesTo_S8x512_S512_d0 h_S_)
    ((Pipeline.withArrays_arr spec0 (by decide) c _ _ 14).trans (final_aw A))).trans ?_
  funext i
  pointwise []
  simp only [coe_sum]
  exact coe_congr (sum_groups 16 32 8 rfl fun r => gaw I r (i 0))

theorem tail_cw : Pipeline.afterTail₀ cfgs (dats m) 0 (V0 m) [hostOps1] c main_v20
    = fun i : S256.Idx => ((∑ r, gcw I r (i 0) : ℝ) : EReal) := by
  unfold Pipeline.afterTail₀
  simp only [List.flatten_cons, List.flatten_nil, List.append_nil, hostOps1]
  after_results
  refine (congrArg (fun v : FVec Ideal S8x256 .f32 => Host.reduceAdd v _ reducesTo_S8x256_S256_d0 h_S_)
    ((Pipeline.withArrays_arr spec0 (by decide) c _ _ 16).trans (final_cw A))).trans ?_
  funext i
  pointwise []
  simp only [coe_sum]
  exact coe_congr (sum_groups 16 32 8 rfl fun r => gcw I r (i 0))

theorem tail_gw : Pipeline.afterTail₀ cfgs (dats m) 0 (V0 m) [hostOps1] c main_v19
    = fun i : S64.Idx => ((∑ r, ∑ h : Fin 4, ggw I r ⟨h.val * 64 + (i 0).val, split_lt h (i 0)⟩ : ℝ) : EReal) := by
  unfold Pipeline.afterTail₀
  simp only [List.flatten_cons, List.flatten_nil, List.append_nil, hostOps1]
  after_results
  refine (congrArg (fun v : FVec Ideal S8x256 .f32 => Host.reduceAdd (shapeCast S4x64 (Host.reduceAdd v _ reducesTo_S8x256_S256_d0 h_S_) shapeCasts_S256_S4x64) _ reducesTo_S4x64_S64_d0 h_S_)
    ((Pipeline.withArrays_arr spec0 (by decide) c _ _ 15).trans (final_gw A))).trans ?_
  funext i
  pointwise []
  simp only [coe_sum]
  refine coe_congr (Eq.trans (Finset.sum_congr rfl fun h _ => ?_) Finset.sum_comm)
  exact sum_groups 16 32 8 rfl fun r => ggw I r ⟨h.val * 64 + (i 0).val, split_lt h (i 0)⟩

end Cert.Mix

namespace Cert.Mix

open Idealize.ShloMosaic hiding ix1 ix2 ix3 ix4 ix5
open Idealize.ShloMosaic.ValueIdx Idealize.ShloMosaic.TcCoe Idealize.SL.Sem
open Cert.Reals Cert.Kernel2Ideal Cert.Kernel2Ideal.Gen Cert.Reference2Ideal.Read

/-- The kernel's run, its seven results named. -/
theorem run_kernel (m : (ℓ : Loc nD τ sig) → Buf (Elt Ideal) ℓ) (ρ : Dev nD → PrngReg) (I : Dev nD → In) (A : ∀ c, Args (I c) m c) :
    θ_run defs (onTc (τ := τ) (main (F := Ideal))) ⟨m, fun _ => 0, ρ⟩ fun r => ∀ c : Dev nD,
      r.2.mem ((c : Thread nD τ).loc main_v15_0) = (fun i : S4096x512.Idx => ((gya (I c) (i 0) (i 1) : ℝ) : EReal))
      ∧ r.2.mem ((c : Thread nD τ).loc main_v15_1) = (fun i : S4096x256.Idx => ((go (I c) (i 0) (i 1) : ℝ) : EReal))
      ∧ r.2.mem ((c : Thread nD τ).loc main_v15_2) = (fun i : S4096x256.Idx => ((ghg (I c) (i 0) (i 1) : ℝ) : EReal))
      ∧ r.2.mem ((c : Thread nD τ).loc main_v15_3) = (fun i : S4096x256.Idx => ((gyc (I c) (i 0) (i 1) : ℝ) : EReal))
      ∧ r.2.mem ((c : Thread nD τ).loc main_v16) = (fun i : S512.Idx => ((∑ r, gaw (I c) r (i 0) : ℝ) : EReal))
      ∧ r.2.mem ((c : Thread nD τ).loc main_v19) = (fun i : S64.Idx => ((∑ r, ∑ h : Fin 4, ggw (I c) r ⟨h.val * 64 + (i 0).val, Cert.Sums.split_lt h (i 0)⟩ : ℝ) : EReal))
      ∧ r.2.mem ((c : Thread nD τ).loc main_v20) = (fun i : S256.Idx => ((∑ r, gcw (I c) r (i 0) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.1 c).1 10).trans (final_ya (A c)),
      ((h.1 c).1 11).trans (final_o (A c)),
      ((h.1 c).1 12).trans (final_hg (A c)),
      ((h.1 c).1 13).trans (final_yc (A c)),
      ((h.1 c).2 main_v16 (Pipeline.mem_restRefs_of main_v16 (by decide) (by decide))).trans (tail_aw (A c)),
      ((h.1 c).2 main_v19 (Pipeline.mem_restRefs_of main_v19 (by decide) (by decide))).trans (tail_gw (A c)),
      ((h.1 c).2 main_v20 (Pipeline.mem_restRefs_of main_v20 (by decide) (by decide))).trans (tail_cw (A c)),
      h.2 c⟩) (θ_run_and (run_main m ρ) (unchanged m ρ))

theorem reals [Cert.Pre_finite2.Facts] (ya : S4096x512.Idx → EReal) (o1 : S4096x256.Idx → EReal) (o2 : S4096x256.Idx → EReal) (p : S4096x2560.Idx → EReal) (yc : S4096x256.Idx → EReal) (aw : S512.Idx → EReal) (gw : S64.Idx → EReal) (cw : S256.Idx → EReal) (d : S4096x1024.Idx → EReal)
    (h : Cert.Pre_finite2.fn (F := Ideal) ya o1 o2 p yc aw gw cw d = fun _ => 1#1) :
    (∀ i, IsReal (ya i)) ∧ (∀ i, IsReal (o1 i)) ∧ (∀ i, IsReal (o2 i)) ∧ (∀ i, IsReal (p i)) ∧ (∀ i, IsReal (yc i)) ∧ (∀ i, IsReal (aw i)) ∧ (∀ i, IsReal (gw i)) ∧ (∀ i, IsReal (cw i)) ∧ (∀ i, IsReal (d i)) := by
  obtain ⟨h, h8⟩ := and_one (congrFun h (fun k => k.elim0))
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h, h1⟩ := and_one h
  exact ⟨isReal_of_all ya _ _ _ _ h, isReal_of_all o1 _ _ _ _ h1, isReal_of_all o2 _ _ _ _ h2, isReal_of_all p _ _ _ _ h3, isReal_of_all yc _ _ _ _ h4, isReal_of_all aw _ _ _ _ h5, isReal_of_all gw _ _ _ _ h6, isReal_of_all cw _ _ _ _ h7, isReal_of_all d _ _ _ _ h8⟩

/-- The kernel's run under the precondition, and the reference's values of its arguments as the results. -/
theorem results [Cert.Pre_finite2.Facts] (m : (ℓ : Loc nD τ sig) → Buf (Elt Ideal) ℓ) (ρ : Dev nD → PrngReg)
    (hp : ∀ c : Dev nD, Cert.Pre_finite2.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) :
    θ_run defs (onTc (τ := τ) (main (F := Ideal))) ⟨m, fun _ => 0, ρ⟩ fun r => ∀ c : Dev nD,
      r.2.mem ((c : Thread nD τ).loc main_v15_0) = val_main_v98 (F := Ideal) (m ((c : Thread nD τ).loc main_arg0)) (m ((c : Thread nD τ).loc main_arg5)) (m ((c : Thread nD τ).loc main_arg8))
      ∧ r.2.mem ((c : Thread nD τ).loc main_v15_1) = val_main_v124 (F := Ideal) (m ((c : Thread nD τ).loc main_arg1)) (m ((c : Thread nD τ).loc main_arg2)) (m ((c : Thread nD τ).loc main_arg3)) (m ((c : Thread nD τ).loc main_arg6)) (m ((c : Thread nD τ).loc main_arg8))
      ∧ r.2.mem ((c : Thread nD τ).loc main_v15_2) = val_main_v125 (F := Ideal) (m ((c : Thread nD τ).loc main_arg1)) (m ((c : Thread nD τ).loc main_arg2)) (m ((c : Thread nD τ).loc main_arg3)) (m ((c : Thread nD τ).loc main_arg6)) (m ((c : Thread nD τ).loc main_arg8))
      ∧ r.2.mem ((c : Thread nD τ).loc main_v15_3) = val_main_v78 (F := Ideal) (m ((c : Thread nD τ).loc main_arg4)) (m ((c : Thread nD τ).loc main_arg7)) (m ((c : Thread nD τ).loc main_arg8))
      ∧ r.2.mem ((c : Thread nD τ).loc main_v16) = val_main_v84 (F := Ideal) (m ((c : Thread nD τ).loc main_arg0)) (m ((c : Thread nD τ).loc main_arg8))
      ∧ r.2.mem ((c : Thread nD τ).loc main_v19) = val_main_v109 (F := Ideal) (m ((c : Thread nD τ).loc main_arg1)) (m ((c : Thread nD τ).loc main_arg2)) (m ((c : Thread nD τ).loc main_arg3)) (m ((c : Thread nD τ).loc main_arg8))
      ∧ r.2.mem ((c : Thread nD τ).loc main_v20) = val_main_v64 (F := Ideal) (m ((c : Thread nD τ).loc main_arg4)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  have R := fun c => reals _ _ _ _ _ _ _ _ _ (hp c)
  choose ya h_ya using fun c => reals2 (R c).1
  choose o1 h_o1 using fun c => reals2 (R c).2.1
  choose o2 h_o2 using fun c => reals2 (R c).2.2.1
  choose p h_p using fun c => reals2 (R c).2.2.2.1
  choose yc h_yc using fun c => reals2 (R c).2.2.2.2.1
  choose aw h_aw using fun c => reals1 (R c).2.2.2.2.2.1
  choose gw h_gw using fun c => reals1 (R c).2.2.2.2.2.2.1
  choose cw h_cw using fun c => reals1 (R c).2.2.2.2.2.2.2.1
  choose d h_d using fun c => reals2 (R c).2.2.2.2.2.2.2.2
  let I : Dev nD → In := fun c => ⟨ya c, o1 c, o2 c, p c, yc c, aw c, gw c, cw c, d c⟩
  have h_ya : ∀ c : Dev nD, m ((c : Thread nD τ).loc main_arg0) = yaA (I c) := h_ya
  have h_o1 : ∀ c : Dev nD, m ((c : Thread nD τ).loc main_arg1) = o1A (I c) := h_o1
  have h_o2 : ∀ c : Dev nD, m ((c : Thread nD τ).loc main_arg2) = o2A (I c) := h_o2
  have h_p : ∀ c : Dev nD, m ((c : Thread nD τ).loc main_arg3) = pA (I c) := h_p
  have h_yc : ∀ c : Dev nD, m ((c : Thread nD τ).loc main_arg4) = ycA (I c) := h_yc
  have h_aw : ∀ c : Dev nD, m ((c : Thread nD τ).loc main_arg5) = awA (I c) := h_aw
  have h_gw : ∀ c : Dev nD, m ((c : Thread nD τ).loc main_arg6) = gwA (I c) := h_gw
  have h_cw : ∀ c : Dev nD, m ((c : Thread nD τ).loc main_arg7) = cwA (I c) := h_cw
  have h_d : ∀ c : Dev nD, m ((c : Thread nD τ).loc main_arg8) = dA (I c) := h_d
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (run_kernel m ρ I fun c => ⟨h_ya c, h_o1 c, h_o2 c, h_p c, h_yc c, h_aw c, h_gw c, h_cw c, h_d c⟩)
  · rw [h_ya c, h_aw c, h_d c]
    exact (funext (ref_ya (I c))).symm
  · rw [h_o1 c, h_o2 c, h_p c, h_gw c, h_d c]
    exact (funext (ref_o (I c))).symm
  · rw [h_o1 c, h_o2 c, h_p c, h_gw c, h_d c]
    exact (funext (ref_hg (I c))).symm
  · rw [h_yc c, h_cw c, h_d c]
    exact (funext (ref_yc (I c))).symm
  · rw [h_ya c, h_d c]
    exact (funext (ref_aw (I c))).symm
  · rw [h_o1 c, h_o2 c, h_p c, h_d c]
    exact (funext (ref_gw (I c))).symm
  · rw [h_yc c, h_d c]
    exact (funext (ref_cw (I c))).symm

end Cert.Mix

end
-- ==== Proof.FfnRun.lean ====
/- The gradient of the gated product: the run of the kernel's regions and host operations, every array's final contents named. -/
module

public import proofs.«01_k».proof.Proof.Gen.Kernel4Ideal.Frame

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel4Ideal Cert.Kernel4Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- The tokens the staging cells start with are what the launch deals out. -/
theorem dealt : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro H; imodintro
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  rw [BI.bigSep_emp_const]
  iempintro

set_option backward.isDefEq.respectTransparency.types false in
/-- Every execution ends with every array as the last boundary's contents have it. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := dealt)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hb, Hg, Ho⟩
      isplitl [Hb Hg]
      · isplitl [Hb]
        · iexact Hb
        iexact Hg
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hg, -⟩, -⟩
      imodintro
      isplitl [Hb]
      · iexact Hb
      isplitl [Hg]
      · iexists _; iexact Hg
      iexists ∅; iexact Ho)
    (QY := fun c s => ∀ b ∈ Pipeline.ucRefs τ sig, s.mem ((c : Thread nD τ).1, b) = W4 m ρ c b)
    (hfin := fun c s => by
      iintro ⟨⟨Hb, -⟩, Hs⟩
      unfold StableHlo.held
      imodintro
      iapply (pointsTo_read_all (Pipeline.ucRefs τ sig) (fun b => ((c : Thread nD τ).1, b)) (W4 m ρ c) s)
      isplitl [Hb] <;> iassumption)
    (hQ := fun _ h => h)

end Cert.Ffn

end
-- ==== Proof.FfnRef.lean ====
/- The gradient of the gated product: the mathematics, and the reference's four results over real arguments. -/
module

public import proofs.«01_k».proof.Proof.Gen.Reference4Ideal.Read
public import proofs.«01_k».proof.Proof.RmsNorm
public import proofs.«01_k».proof.Proof.Sums
public import Idealize.ShloMosaic.Lib.Pipeline.ValueKit.Point

@[expose] public section

set_option maxRecDepth 16384

noncomputable section

namespace Cert.Ffn

open Idealize.ShloMosaic hiding ix1 ix2 ix3 ix4 ix5
open Idealize.ShloMosaic.ValueIdx Idealize.ShloMosaic.TcCoe Idealize.SL.Sem
open Cert.Reals Cert.RmsNorm Cert.Sums Cert.Reference4Ideal Cert.Reference4Ideal.Read

/-- The arguments, as functions of their coordinates. -/
structure In where
  x : Fin 4096 → Fin 1024 → ℝ
  w : Fin 1024 → ℝ
  wg : Fin 1024 → Fin 2816 → ℝ
  wu : Fin 1024 → Fin 2816 → ℝ
  wd : Fin 2816 → Fin 1024 → ℝ
  d : Fin 4096 → Fin 1024 → ℝ

variable (I : In)

/-- The mean square, the normalised row, the two products and the activation's cotangent. -/
def ms (r : Fin 4096) : ℝ := (∑ k, I.x r k * I.x r k) / 1024
def h (r : Fin 4096) (k : Fin 1024) : ℝ := I.x r k * rinv (ms I r) * I.w k
def g (r : Fin 4096) (q : Fin 2816) : ℝ := ∑ k, h I r k * I.wg k q
def u (r : Fin 4096) (q : Fin 2816) : ℝ := ∑ k, h I r k * I.wu k q
def da (r : Fin 4096) (q : Fin 2816) : ℝ := ∑ k, I.d r k * I.wd q k

/-- The four gradients. -/
def dg (r : Fin 4096) (q : Fin 2816) : ℝ := da I r q * u I r q * dsilu (g I r q)
def du (r : Fin 4096) (q : Fin 2816) : ℝ := da I r q * silu (g I r q)
def act (r : Fin 4096) (q : Fin 2816) : ℝ := silu (g I r q) * u I r q
def dh (r : Fin 4096) (k : Fin 1024) : ℝ := (∑ q, dg I r q * I.wg k q) + ∑ q, du I r q * I.wu k q
def dx (r : Fin 4096) (k : Fin 1024) : ℝ := I.d r k + ngrad (ms I r) (I.x r k) (dh I r k * I.w k) ((∑ l, dh I r l * I.w l * I.x r l) / 1024)
def dw (r : Fin 4096) (k : Fin 1024) : ℝ := dh I r k * I.x r k * rinv (ms I r)

/-- A chip's column. -/
def col (a : Fin 4) (q : Fin 704) : Fin 2816 := ⟨a.val * 704 + q.val, by omega⟩

/-- A chip's part of that cotangent, and the four parts' sum. -/
def chip (j : Fin 4) (r : Fin 4096) (k : Fin 1024) : ℝ :=
  (∑ q, dg I r (col j q) * I.wg k (col j q)) + ∑ q, du I r (col j q) * I.wu k (col j q)
def tot (r : Fin 4096) (k : Fin 1024) : ℝ := chip I 0 r k + chip I 1 r k + chip I 2 r k + chip I 3 r k

theorem tot_eq (r : Fin 4096) (k : Fin 1024) : tot I r k = dh I r k := by
  unfold dh
  rw [sum_split 4 704 rfl, sum_split 4 704 rfl, ← Finset.sum_add_distrib, Fin.sum_univ_four]
  rfl

theorem dx_tot (r : Fin 4096) (k : Fin 1024) :
    I.d r k + rinv (ms I r) * (tot I r k * I.w k)
      - I.x r k * (rinv (ms I r) * rinv (ms I r) * rinv (ms I r)) * ((∑ l, tot I r l * I.w l * I.x r l) / 1024) = dx I r k := by
  simp only [tot_eq]
  exact add_sub_assoc _ _ _

theorem dw_tot (r : Fin 4096) (k : Fin 1024) : tot I r k * I.x r k * rinv (ms I r) = dw I r k := by rw [tot_eq]; rfl

theorem coe_congr {a b : ℝ} (h : a = b) : (a : EReal) = (b : EReal) := congrArg _ h

theorem one_sub_coe (x : ℝ) : (1 : EReal) - (x : EReal) = ((1 - x : ℝ) : EReal) := by rw [EReal.coe_sub, EReal.coe_one]

theorem one_add_coe (x : ℝ) : (1 : EReal) + (x : EReal) = ((1 + x : ℝ) : EReal) := by rw [EReal.coe_add, EReal.coe_one]

/-! ### The arguments' arrays -/

def xA : S4096x1024.Idx → EReal := fun i => ((I.x (i 0) (i 1) : ℝ) : EReal)
def wA : S1024.Idx → EReal := fun i => ((I.w (i 0) : ℝ) : EReal)
def wgA : S1024x2816.Idx → EReal := fun i => ((I.wg (i 0) (i 1) : ℝ) : EReal)
def wuA : S1024x2816.Idx → EReal := fun i => ((I.wu (i 0) (i 1) : ℝ) : EReal)
def wdA : S2816x1024.Idx → EReal := fun i => ((I.wd (i 0) (i 1) : ℝ) : EReal)
def dA : S4096x1024.Idx → EReal := fun i => ((I.d (i 0) (i 1) : ℝ) : EReal)

/-! ### The reference -/

/-- The normalised row's cotangent as the product rule writes it. -/
def rdh (r : Fin 4096) (k : Fin 1024) : ℝ :=
  (∑ q, (g I r q * sig (g I r q) * da I r q) * I.wu k q)
    + ∑ q, (da I r q * u I r q * sig (g I r q) + g I r q * (da I r q * u I r q) * (sig (g I r q) * (1 - sig (g I r q)))) * I.wg k q

theorem rdh_eq (r : Fin 4096) (k : Fin 1024) : rdh I r k = dh I r k := by
  unfold rdh dh dg du silu dsilu
  rw [add_comm]
  refine congrArg₂ _ (Finset.sum_congr rfl fun q _ => ?_) (Finset.sum_congr rfl fun q _ => ?_) <;> ring

theorem ref_dg (i : S4x4096x704.Idx) : val_main_v50 (F := Ideal) (xA I) (wA I) (wgA I) (wuA I) (wdA I) (dA I) i = ((dg I (i 1) (col (i 0) (i 2)) : ℝ) : EReal) := by
  unfold xA wA wgA wuA wdA dA
  pointwise [val_main_v50, val_main_v49, val_main_v48, val_main_v24, val_main_call1_v1, val_main_call1_v2, val_main_v23, val_main_v18_2, val_main_call1_v0,
    val_main_v18_1, val_main_v21, val_main_v17, val_main_call0_v4, val_main_call0_v3, val_main_v16, val_main_call0_v7, val_main_v15, val_main_call0_cst_0,
    val_main_call0_v2, val_main_call0_v1, val_main_call0_v6, val_main_v12, val_main_v14, val_main_call0_cst, val_main_call0_v0, val_main_call0_cst_1,
    val_main_v11, val_main_v13, val_main_v7, val_main_v6, val_main_v4, val_main_v5, val_main_v2, val_main_v3, val_main_cst_1, val_main_v1, val_main_cst_0,
    val_main_v0, val_main_cst]
  have h0 : (1024 : ℝ) ≠ 0 := by norm_num
  simp only [sig_coe, ← EReal.coe_mul, coe_sum, w1024, ε_word, wneg_half, one_sub_coe, div_coe_coe _ h0, ← EReal.coe_add,
    rsqrt_mean _ (show (0 : ℝ) ≤ 1024 by norm_num)]
  refine coe_congr ?_
  show da I (i 1) (col (i 0) (i 2)) * u I (i 1) (col (i 0) (i 2)) * sig (g I (i 1) (col (i 0) (i 2)))
    + g I (i 1) (col (i 0) (i 2)) * (da I (i 1) (col (i 0) (i 2)) * u I (i 1) (col (i 0) (i 2)))
      * (sig (g I (i 1) (col (i 0) (i 2))) * (1 - sig (g I (i 1) (col (i 0) (i 2))))) = _
  unfold dg dsilu
  ring

theorem ref_du (i : S4x4096x704.Idx) : val_main_v53 (F := Ideal) (xA I) (wA I) (wgA I) (wdA I) (dA I) i = ((du I (i 1) (col (i 0) (i 2)) : ℝ) : EReal) := by
  unfold xA wA wgA wdA dA
  pointwise [val_main_v53, val_main_v52, val_main_v51, val_main_v22, val_main_v18_0, val_main_v21, val_main_v16, val_main_v18_2, val_main_v15, val_main_call0_v4,
    val_main_call0_v3, val_main_v12, val_main_v14, val_main_call0_cst_0, val_main_call0_v2, val_main_call0_v1, val_main_v11, val_main_v13,
    val_main_call0_cst, val_main_call0_v0, val_main_v7, val_main_v6, val_main_v4, val_main_v5, val_main_v2, val_main_v3, val_main_cst_1, val_main_v1,
    val_main_cst_0, val_main_v0, val_main_cst]
  have h0 : (1024 : ℝ) ≠ 0 := by norm_num
  simp only [sig_coe, ← EReal.coe_mul, coe_sum, w1024, ε_word, wneg_half, one_sub_coe, div_coe_coe _ h0, ← EReal.coe_add,
    rsqrt_mean _ (show (0 : ℝ) ≤ 1024 by norm_num)]
  refine coe_congr ?_
  show g I (i 1) (col (i 0) (i 2)) * sig (g I (i 1) (col (i 0) (i 2))) * da I (i 1) (col (i 0) (i 2)) = _
  unfold du silu
  ring

theorem ref_dx (i : S4096x1024.Idx) : val_main_v54 (F := Ideal) (xA I) (wA I) (wgA I) (wuA I) (wdA I) (dA I) i = ((dx I (i 0) (i 1) : ℝ) : EReal) := by
  unfold xA wA wgA wuA wdA dA
  pointwise [val_main_v54, val_main_v47, val_main_v45, val_main_v46, val_main_v38, val_main_v44, val_main_v43, val_main_v32, val_main_v37, val_main_v42,
    val_main_v27, val_main_v31, val_main_v7, val_main_v41, val_main_cst_7, val_main_v25, val_main_v26, val_main_v13, val_main_v6, val_main_v39,
    val_main_v40, val_main_v22, val_main_v24, val_main_v4, val_main_v5, val_main_v36, val_main_v10, val_main_cst_6, val_main_v18_0, val_main_v21,
    val_main_call1_v1, val_main_call1_v2, val_main_v2, val_main_v3, val_main_cst_1, val_main_v35, val_main_v9, val_main_v8, val_main_v16, val_main_v18_2,
    val_main_v23, val_main_call1_v0, val_main_v18_1, val_main_v1, val_main_cst_0, val_main_v34, val_main_cst_5, val_main_cst_2, val_main_v15,
    val_main_call0_v4, val_main_call0_v3, val_main_v17, val_main_call0_v7, val_main_v0, val_main_cst, val_main_v12, val_main_v14, val_main_call0_cst_0,
    val_main_call0_v2, val_main_call0_v1, val_main_call0_v6, val_main_v11, val_main_call0_cst, val_main_call0_v0, val_main_call0_cst_1]
  have h0 : (1024 : ℝ) ≠ 0 := by norm_num
  have h1 := mean_ε_ne (I.x (i 0)) (N := 1024) (by norm_num)
  simp only [sig_coe, ← EReal.coe_mul, coe_sum, w1024, ε_word, wneg_half, one_sub_coe, div_coe_coe _ h0, ← EReal.coe_add,
    rsqrt_mean _ (show (0 : ℝ) ≤ 1024 by norm_num), div_coe_coe _ h1]
  obtain ⟨r, hr⟩ : ∃ r : Fin 4096, r = i 0 := ⟨_, rfl⟩
  obtain ⟨k, hk⟩ : ∃ k : Fin 1024, k = i 1 := ⟨_, rfl⟩
  rw [← hr, ← hk]
  have e := rdh_eq I
  unfold rdh g u da h ms at e
  simp only [e]
  refine coe_congr ?_
  rw [rinv_div _ (by norm_num), Fin.sum_univ_one]
  unfold dx ngrad ms
  rw [show (∑ l, dh I r l * I.w l * I.x r l) = ∑ l, I.x r l * (dh I r l * I.w l) from Finset.sum_congr rfl fun l _ => mul_comm _ _]
  ring

theorem ref_dw (i : S1024.Idx) : val_main_v33 (F := Ideal) (xA I) (wA I) (wgA I) (wuA I) (wdA I) (dA I) i = ((∑ r, dw I r (i 0) : ℝ) : EReal) := by
  unfold xA wA wgA wuA wdA dA
  pointwise [val_main_v33, val_main_v30, val_main_cst_4, val_main_v29, val_main_v28, val_main_cst_3, val_main_v12, val_main_v27, val_main_v11, val_main_v25,
    val_main_v26, val_main_v7, val_main_v22, val_main_v24, val_main_v6, val_main_v18_0, val_main_v21, val_main_call1_v1, val_main_call1_v2, val_main_v4,
    val_main_v5, val_main_v16, val_main_v18_2, val_main_v23, val_main_call1_v0, val_main_v18_1, val_main_v2, val_main_v3, val_main_cst_1, val_main_v15,
    val_main_call0_v4, val_main_call0_v3, val_main_v17, val_main_call0_v7, val_main_v1, val_main_cst_0, val_main_v14, val_main_call0_cst_0,
    val_main_call0_v2, val_main_call0_v1, val_main_call0_v6, val_main_v0, val_main_cst, val_main_v13, val_main_call0_cst, val_main_call0_v0,
    val_main_call0_cst_1]
  have h0 : (1024 : ℝ) ≠ 0 := by norm_num
  simp only [sig_coe, ← EReal.coe_mul, coe_sum, w1024, ε_word, wneg_half, one_sub_coe, div_coe_coe _ h0, ← EReal.coe_add,
    rsqrt_mean _ (show (0 : ℝ) ≤ 1024 by norm_num)]
  obtain ⟨k, hk⟩ : ∃ k : Fin 1024, k = i 0 := ⟨_, rfl⟩
  rw [← hk]
  have e := rdh_eq I
  unfold rdh g u da h ms at e
  simp only [e]
  rw [Fin.sum_univ_one]
  refine coe_congr (Finset.sum_congr rfl fun r _ => ?_)
  unfold dw ms
  ring

/-! ### The forward's own values -/

theorem ref_g (i : S4x4096x704.Idx) : val_main_v70 (F := Ideal) (xA I) (wA I) (wgA I) i = ((g I (i 1) (col (i 0) (i 2)) : ℝ) : EReal) := by
  unfold xA wA wgA
  pointwise [val_main_v70, val_main_v69, val_main_v68, val_main_v16, val_main_v15, val_main_v12, val_main_v14,
    val_main_v11, val_main_v13, val_main_v7, val_main_v6, val_main_v4, val_main_v5, val_main_v2, val_main_v3, val_main_cst_1, val_main_v1, val_main_cst_0,
    val_main_v0, val_main_cst]
  have h0 : (1024 : ℝ) ≠ 0 := by norm_num
  simp only [sig_coe, ← EReal.coe_mul, coe_sum, w1024, ε_word, wneg_half, one_sub_coe, div_coe_coe _ h0, ← EReal.coe_add,
    rsqrt_mean _ (show (0 : ℝ) ≤ 1024 by norm_num)]
  rfl

theorem ref_u (i : S4x4096x704.Idx) : val_main_v73 (F := Ideal) (xA I) (wA I) (wuA I) i = ((u I (i 1) (col (i 0) (i 2)) : ℝ) : EReal) := by
  unfold xA wA wuA
  pointwise [val_main_v73, val_main_v72, val_main_v71, val_main_v17, val_main_v15, val_main_v12, val_main_v14,
    val_main_v11, val_main_v13, val_main_v7, val_main_v6, val_main_v4, val_main_v5, val_main_v2, val_main_v3, val_main_cst_1, val_main_v1, val_main_cst_0,
    val_main_v0, val_main_cst]
  have h0 : (1024 : ℝ) ≠ 0 := by norm_num
  simp only [sig_coe, ← EReal.coe_mul, coe_sum, w1024, ε_word, wneg_half, one_sub_coe, div_coe_coe _ h0, ← EReal.coe_add,
    rsqrt_mean _ (show (0 : ℝ) ≤ 1024 by norm_num)]
  rfl

theorem ref_act (i : S4x4096x704.Idx) : val_main_v78 (F := Ideal) (xA I) (wA I) (wgA I) (wuA I) i = ((act I (i 1) (col (i 0) (i 2)) : ℝ) : EReal) := by
  unfold xA wA wgA wuA
  pointwise [val_main_v78, val_main_v77, val_main_v76, val_main_v75, val_main_v74, val_main_call2_v5, val_main_call2_v4, val_main_call2_v3, val_main_call2_v2,
    val_main_call2_v1, val_main_call2_v0, val_main_call2_cst, val_main_call2_cst_0, val_main_v16, val_main_v17, val_main_v15, val_main_v12, val_main_v14,
    val_main_v11, val_main_v13, val_main_v7, val_main_v6, val_main_v4, val_main_v5, val_main_v2, val_main_v3, val_main_cst_1, val_main_v1, val_main_cst_0,
    val_main_v0, val_main_cst]
  have h0 : (1024 : ℝ) ≠ 0 := by norm_num
  simp only [sig_coe, ← EReal.coe_mul, coe_sum, w1024, ε_word, wneg_half, one_sub_coe, div_coe_coe _ h0, ← EReal.coe_add,
    rsqrt_mean _ (show (0 : ℝ) ≤ 1024 by norm_num)]
  rfl

theorem ref_h (i : S4096x1024.Idx) : val_main_v79 (F := Ideal) (xA I) (wA I) i = ((h I (i 0) (i 1) : ℝ) : EReal) := by
  unfold xA wA
  pointwise [val_main_v79, val_main_v67, val_main_v66, val_main_v65, val_main_v64, val_main_v63, val_main_v62, val_main_v61, val_main_v60, val_main_v59,
    val_main_v58, val_main_v57, val_main_v56, val_main_v55, val_main_cst_8, val_main_cst_9, val_main_cst_10]
  have h0 : (1024 : ℝ) ≠ 0 := by norm_num
  simp only [sig_coe, ← EReal.coe_mul, coe_sum, w1024, ε_word, wneg_half, one_sub_coe, div_coe_coe _ h0, ← EReal.coe_add,
    rsqrt_mean _ (show (0 : ℝ) ≤ 1024 by norm_num)]
  rfl

end Cert.Ffn

end
-- ==== Proof.FfnTile.lean ====
/- The gradient of the gated product, a tile of the backward region: what the body's expressions are of real arguments. -/
module

public import proofs.«01_k».proof.Proof.FfnRun
public import proofs.«01_k».proof.Proof.FfnRef

@[expose] public section

set_option maxRecDepth 16384

noncomputable section

namespace Cert.Ffn

open Idealize.ShloMosaic hiding ix1 ix2 ix3 ix4 ix5
open Idealize.ShloMosaic.ValueIdx Idealize.ShloMosaic.TcCoe Idealize.SL.Sem
open Cert.Reals Cert.RmsNorm Cert.Sums Cert.Kernel4Ideal Cert.Kernel4Ideal.Gen

/-- A tile's row of the array, in the forward region and in the backward one. -/
def row0 (t : Fin cfg0.N) (r : Fin 512) : Fin 4096 := ⟨t.val * 512 + r.val, by have := t.isLt; have : cfg0.N = 8 := N_0; omega⟩
def row (t : Fin cfg1.N) (r : Fin 256) : Fin 4096 := ⟨t.val * 256 + r.val, by have := t.isLt; have : cfg1.N = 16 := N_1; omega⟩

variable (I : In) (t : Fin cfg1.N)

/-! ### The blocks a tile reads -/

def dB : Vec Ideal S256x1024 .f32 := fun y => ((I.d (row t (y 0)) (y 1) : ℝ) : EReal)
def wdB : Vec Ideal S4x704x1024 .bf16 := fun y => ((I.wd (col (y 0) (y 1)) (y 2) : ℝ) : EReal)
def gB : Vec Ideal S4x256x704 .bf16 := fun y => ((g I (row t (y 1)) (col (y 0) (y 2)) : ℝ) : EReal)
def uB : Vec Ideal S4x256x704 .bf16 := fun y => ((u I (row t (y 1)) (col (y 0) (y 2)) : ℝ) : EReal)
def wgB : Vec Ideal S4x1024x704 .bf16 := fun y => ((I.wg (y 1) (col (y 0) (y 2)) : ℝ) : EReal)
def wuB : Vec Ideal S4x1024x704 .bf16 := fun y => ((I.wu (y 1) (col (y 0) (y 2)) : ℝ) : EReal)

/-! ### A chip's columns of a block -/

def dgT (j : Fin 4) : FVec Ideal S256x704 .bf16 := fun y => ((dg I (row t (y 0)) (col j (y 1)) : ℝ) : EReal)
def duT (j : Fin 4) : FVec Ideal S256x704 .bf16 := fun y => ((du I (row t (y 0)) (col j (y 1)) : ℝ) : EReal)

/-! ### The two gradients of a chip's columns -/

theorem dg_0 : k1_pay5 (F := Ideal) (dB I t)
    (View.ld (wdB I) (Rect.unit (s := S4x704x1024) ![0, 0, 0] ![1, 704, 1024] inb_S4x704x1024_S1x704x1024_0_0_0))
    (View.ld (gB I t) (Rect.unit (s := S4x256x704) ![0, 0, 0] ![1, 256, 704] inb_S4x256x704_S1x256x704_0_0_0))
    (View.ld (uB I t) (Rect.unit (s := S4x256x704) ![0, 0, 0] ![1, 256, 704] inb_S4x256x704_S1x256x704_0_0_0)) = dgT I t 0 := by
  funext y
  pointwise [dB, wdB, gB, uB, dgT, k1_pay1, k1_pay2, k1_pay3, k1_pay4, k1_pay5, k1_pay6]
  simp only [← EReal.coe_mul, coe_sum, whalf, tanh_coe, sig_tanh, one_sub_coe, one_add_coe, ← EReal.coe_add]
  exact coe_congr (congrArg₂ (dg I) (x := row t (y 0)) (congrArg (row t) (Fin.ext (by simp))) (Fin.ext (by simp [col])))

theorem du_0 : k1_pay6 (F := Ideal) (dB I t)
    (View.ld (wdB I) (Rect.unit (s := S4x704x1024) ![0, 0, 0] ![1, 704, 1024] inb_S4x704x1024_S1x704x1024_0_0_0))
    (View.ld (gB I t) (Rect.unit (s := S4x256x704) ![0, 0, 0] ![1, 256, 704] inb_S4x256x704_S1x256x704_0_0_0)) = duT I t 0 := by
  funext y
  pointwise [dB, wdB, gB, uB, duT, k1_pay1, k1_pay2, k1_pay3, k1_pay4, k1_pay5, k1_pay6]
  simp only [← EReal.coe_mul, coe_sum, whalf, tanh_coe, sig_tanh, one_sub_coe, one_add_coe, ← EReal.coe_add]
  exact coe_congr (congrArg₂ (du I) (x := row t (y 0)) (congrArg (row t) (Fin.ext (by simp))) (Fin.ext (by simp [col])))

theorem dg_1 : k1_pay13 (F := Ideal) (k1_pay1 (dB I t))
    (View.ld (wdB I) (Rect.unit (s := S4x704x1024) ![1, 0, 0] ![1, 704, 1024] inb_S4x704x1024_S1x704x1024_1_0_0))
    (View.ld (gB I t) (Rect.unit (s := S4x256x704) ![1, 0, 0] ![1, 256, 704] inb_S4x256x704_S1x256x704_1_0_0))
    (View.ld (uB I t) (Rect.unit (s := S4x256x704) ![1, 0, 0] ![1, 256, 704] inb_S4x256x704_S1x256x704_1_0_0)) = dgT I t 1 := by
  funext y
  pointwise [dB, wdB, gB, uB, dgT, k1_pay1, k1_pay10, k1_pay11, k1_pay12, k1_pay13, k1_pay14]
  simp only [← EReal.coe_mul, coe_sum, whalf, tanh_coe, sig_tanh, one_sub_coe, one_add_coe, ← EReal.coe_add]
  exact coe_congr (congrArg₂ (dg I) (x := row t (y 0)) (congrArg (row t) (Fin.ext (by simp))) (Fin.ext (by simp [col])))

theorem du_1 : k1_pay14 (F := Ideal) (k1_pay1 (dB I t))
    (View.ld (wdB I) (Rect.unit (s := S4x704x1024) ![1, 0, 0] ![1, 704, 1024] inb_S4x704x1024_S1x704x1024_1_0_0))
    (View.ld (gB I t) (Rect.unit (s := S4x256x704) ![1, 0, 0] ![1, 256, 704] inb_S4x256x704_S1x256x704_1_0_0)) = duT I t 1 := by
  funext y
  pointwise [dB, wdB, gB, uB, duT, k1_pay1, k1_pay10, k1_pay11, k1_pay12, k1_pay13, k1_pay14]
  simp only [← EReal.coe_mul, coe_sum, whalf, tanh_coe, sig_tanh, one_sub_coe, one_add_coe, ← EReal.coe_add]
  exact coe_congr (congrArg₂ (du I) (x := row t (y 0)) (congrArg (row t) (Fin.ext (by simp))) (Fin.ext (by simp [col])))

theorem dg_2 : k1_pay22 (F := Ideal) (k1_pay19
    (View.ld (gB I t) (Rect.unit (s := S4x256x704) ![2, 0, 0] ![1, 256, 704] inb_S4x256x704_S1x256x704_2_0_0))) (k1_pay20
    (View.ld (gB I t) (Rect.unit (s := S4x256x704) ![2, 0, 0] ![1, 256, 704] inb_S4x256x704_S1x256x704_2_0_0))) (k1_pay21 (k1_pay1 (dB I t))
    (View.ld (wdB I) (Rect.unit (s := S4x704x1024) ![2, 0, 0] ![1, 704, 1024] inb_S4x704x1024_S1x704x1024_2_0_0))
    (View.ld (uB I t) (Rect.unit (s := S4x256x704) ![2, 0, 0] ![1, 256, 704] inb_S4x256x704_S1x256x704_2_0_0))) = dgT I t 2 := by
  funext y
  pointwise [dB, wdB, gB, uB, dgT, k1_pay1, k1_pay18, k1_pay19, k1_pay20, k1_pay21, k1_pay22, k1_pay23]
  simp only [← EReal.coe_mul, coe_sum, whalf, tanh_coe, sig_tanh, one_sub_coe, one_add_coe, ← EReal.coe_add]
  exact coe_congr (congrArg₂ (dg I) (x := row t (y 0)) (congrArg (row t) (Fin.ext (by simp))) (Fin.ext (by simp [col])))

theorem du_2 : k1_pay23 (F := Ideal) (k1_pay18 (k1_pay1 (dB I t))
    (View.ld (wdB I) (Rect.unit (s := S4x704x1024) ![2, 0, 0] ![1, 704, 1024] inb_S4x704x1024_S1x704x1024_2_0_0))) (k1_pay19
    (View.ld (gB I t) (Rect.unit (s := S4x256x704) ![2, 0, 0] ![1, 256, 704] inb_S4x256x704_S1x256x704_2_0_0))) (k1_pay20
    (View.ld (gB I t) (Rect.unit (s := S4x256x704) ![2, 0, 0] ![1, 256, 704] inb_S4x256x704_S1x256x704_2_0_0))) = duT I t 2 := by
  funext y
  pointwise [dB, wdB, gB, uB, duT, k1_pay1, k1_pay18, k1_pay19, k1_pay20, k1_pay21, k1_pay22, k1_pay23]
  simp only [← EReal.coe_mul, coe_sum, whalf, tanh_coe, sig_tanh, one_sub_coe, one_add_coe, ← EReal.coe_add]
  exact coe_congr (congrArg₂ (du I) (x := row t (y 0)) (congrArg (row t) (Fin.ext (by simp))) (Fin.ext (by simp [col])))

theorem dg_3 : k1_pay31 (F := Ideal) (k1_pay27 (k1_pay1 (dB I t))
    (View.ld (wdB I) (Rect.unit (s := S4x704x1024) ![3, 0, 0] ![1, 704, 1024] inb_S4x704x1024_S1x704x1024_3_0_0))) (k1_pay28
    (View.ld (gB I t) (Rect.unit (s := S4x256x704) ![3, 0, 0] ![1, 256, 704] inb_S4x256x704_S1x256x704_3_0_0))) (k1_pay29
    (View.ld (gB I t) (Rect.unit (s := S4x256x704) ![3, 0, 0] ![1, 256, 704] inb_S4x256x704_S1x256x704_3_0_0)))
    (View.ld (uB I t) (Rect.unit (s := S4x256x704) ![3, 0, 0] ![1, 256, 704] inb_S4x256x704_S1x256x704_3_0_0)) = dgT I t 3 := by
  funext y
  pointwise [dB, wdB, gB, uB, dgT, k1_pay1, k1_pay27, k1_pay28, k1_pay29, k1_pay30, k1_pay31, k1_pay32]
  simp only [← EReal.coe_mul, coe_sum, whalf, tanh_coe, sig_tanh, one_sub_coe, one_add_coe, ← EReal.coe_add]
  exact coe_congr (congrArg₂ (dg I) (x := row t (y 0)) (congrArg (row t) (Fin.ext (by simp))) (Fin.ext (by simp [col])))

theorem du_3 : k1_pay32 (F := Ideal) (k1_pay27 (k1_pay1 (dB I t))
    (View.ld (wdB I) (Rect.unit (s := S4x704x1024) ![3, 0, 0] ![1, 704, 1024] inb_S4x704x1024_S1x704x1024_3_0_0))) (k1_pay28
    (View.ld (gB I t) (Rect.unit (s := S4x256x704) ![3, 0, 0] ![1, 256, 704] inb_S4x256x704_S1x256x704_3_0_0))) (k1_pay29
    (View.ld (gB I t) (Rect.unit (s := S4x256x704) ![3, 0, 0] ![1, 256, 704] inb_S4x256x704_S1x256x704_3_0_0))) = duT I t 3 := by
  funext y
  pointwise [dB, wdB, gB, uB, duT, k1_pay1, k1_pay27, k1_pay28, k1_pay29, k1_pay30, k1_pay31, k1_pay32]
  simp only [← EReal.coe_mul, coe_sum, whalf, tanh_coe, sig_tanh, one_sub_coe, one_add_coe, ← EReal.coe_add]
  exact coe_congr (congrArg₂ (du I) (x := row t (y 0)) (congrArg (row t) (Fin.ext (by simp))) (Fin.ext (by simp [col])))

/-! ### The cotangent of the normalised row, chip by chip -/

/-- The cotangent of the normalised row of the first chip's columns. -/
def totP0 (x0 : Vec Ideal S256x1024 .f32) (x1 : Vec Ideal S4x704x1024 .bf16) (x2 x3 : Vec Ideal S4x256x704 .bf16) (x4 x5 : Vec Ideal S4x1024x704 .bf16) :
    FVec Ideal S256x1024 .f32 :=
  k1_pay9 (F := Ideal)
      (k1_pay5 x0
        (View.ld x1 (Rect.unit ![0, 0, 0] ![1, 704, 1024] inb_S4x704x1024_S1x704x1024_0_0_0))
        (View.ld x2 (Rect.unit ![0, 0, 0] ![1, 256, 704] inb_S4x256x704_S1x256x704_0_0_0))
        (View.ld x3 (Rect.unit ![0, 0, 0] ![1, 256, 704] inb_S4x256x704_S1x256x704_0_0_0)))
      (k1_pay6 x0
        (View.ld x1 (Rect.unit ![0, 0, 0] ![1, 704, 1024] inb_S4x704x1024_S1x704x1024_0_0_0))
        (View.ld x2 (Rect.unit ![0, 0, 0] ![1, 256, 704] inb_S4x256x704_S1x256x704_0_0_0)))
        (View.ld x4 (Rect.unit ![0, 0, 0] ![1, 1024, 704] inb_S4x1024x704_S1x1024x704_0_0_0))
        (View.ld x5 (Rect.unit ![0, 0, 0] ![1, 1024, 704] inb_S4x1024x704_S1x1024x704_0_0_0))

/-- With the second chip's. -/
def totP1 (x0 : Vec Ideal S256x1024 .f32) (x1 : Vec Ideal S4x704x1024 .bf16) (x2 x3 : Vec Ideal S4x256x704 .bf16) (x4 x5 : Vec Ideal S4x1024x704 .bf16) :
    FVec Ideal S256x1024 .f32 :=
  k1_pay17 (F := Ideal) (totP0 x0 x1 x2 x3 x4 x5)
      (k1_pay13
      (k1_pay1 x0)
        (View.ld x1 (Rect.unit ![1, 0, 0] ![1, 704, 1024] inb_S4x704x1024_S1x704x1024_1_0_0))
        (View.ld x2 (Rect.unit ![1, 0, 0] ![1, 256, 704] inb_S4x256x704_S1x256x704_1_0_0))
        (View.ld x3 (Rect.unit ![1, 0, 0] ![1, 256, 704] inb_S4x256x704_S1x256x704_1_0_0)))
      (k1_pay14
      (k1_pay1 x0)
        (View.ld x1 (Rect.unit ![1, 0, 0] ![1, 704, 1024] inb_S4x704x1024_S1x704x1024_1_0_0))
        (View.ld x2 (Rect.unit ![1, 0, 0] ![1, 256, 704] inb_S4x256x704_S1x256x704_1_0_0)))
        (View.ld x4 (Rect.unit ![1, 0, 0] ![1, 1024, 704] inb_S4x1024x704_S1x1024x704_1_0_0))
        (View.ld x5 (Rect.unit ![1, 0, 0] ![1, 1024, 704] inb_S4x1024x704_S1x1024x704_1_0_0))

/-- With the third chip's. -/
def totP2 (x0 : Vec Ideal S256x1024 .f32) (x1 : Vec Ideal S4x704x1024 .bf16) (x2 x3 : Vec Ideal S4x256x704 .bf16) (x4 x5 : Vec Ideal S4x1024x704 .bf16) :
    FVec Ideal S256x1024 .f32 :=
  k1_pay26 (F := Ideal) (totP1 x0 x1 x2 x3 x4 x5)
      (k1_pay18
      (k1_pay1 x0)
        (View.ld x1 (Rect.unit ![2, 0, 0] ![1, 704, 1024] inb_S4x704x1024_S1x704x1024_2_0_0)))
      (k1_pay19 (View.ld x2 (Rect.unit ![2, 0, 0] ![1, 256, 704] inb_S4x256x704_S1x256x704_2_0_0)))
      (k1_pay20 (View.ld x2 (Rect.unit ![2, 0, 0] ![1, 256, 704] inb_S4x256x704_S1x256x704_2_0_0)))
      (k1_pay21
      (k1_pay1 x0)
        (View.ld x1 (Rect.unit ![2, 0, 0] ![1, 704, 1024] inb_S4x704x1024_S1x704x1024_2_0_0))
        (View.ld x3 (Rect.unit ![2, 0, 0] ![1, 256, 704] inb_S4x256x704_S1x256x704_2_0_0)))
        (View.ld x4 (Rect.unit ![2, 0, 0] ![1, 1024, 704] inb_S4x1024x704_S1x1024x704_2_0_0))
        (View.ld x5 (Rect.unit ![2, 0, 0] ![1, 1024, 704] inb_S4x1024x704_S1x1024x704_2_0_0))

/-- With the fourth chip's: the cotangent of the normalised row as the four chips' products add it up. -/
def totP (x0 : Vec Ideal S256x1024 .f32) (x1 : Vec Ideal S4x704x1024 .bf16) (x2 x3 : Vec Ideal S4x256x704 .bf16) (x4 x5 : Vec Ideal S4x1024x704 .bf16) :
    FVec Ideal S256x1024 .f32 :=
  k1_pay35 (F := Ideal) (totP2 x0 x1 x2 x3 x4 x5)
      (k1_pay27
      (k1_pay1 x0)
        (View.ld x1 (Rect.unit ![3, 0, 0] ![1, 704, 1024] inb_S4x704x1024_S1x704x1024_3_0_0)))
      (k1_pay28 (View.ld x2 (Rect.unit ![3, 0, 0] ![1, 256, 704] inb_S4x256x704_S1x256x704_3_0_0)))
      (k1_pay29 (View.ld x2 (Rect.unit ![3, 0, 0] ![1, 256, 704] inb_S4x256x704_S1x256x704_3_0_0)))
        (View.ld x3 (Rect.unit ![3, 0, 0] ![1, 256, 704] inb_S4x256x704_S1x256x704_3_0_0))
        (View.ld x4 (Rect.unit ![3, 0, 0] ![1, 1024, 704] inb_S4x1024x704_S1x1024x704_3_0_0))
        (View.ld x5 (Rect.unit ![3, 0, 0] ![1, 1024, 704] inb_S4x1024x704_S1x1024x704_3_0_0))

theorem totP0_eq : totP0 (dB I t) (wdB I) (gB I t) (uB I t) (wgB I) (wuB I) = fun y : S256x1024.Idx => ((chip I 0 (row t (y 0)) (y 1) : ℝ) : EReal) := by
  unfold totP0
  rw [dg_0, du_0]
  funext y
  pointwise [k1_pay9, dgT, duT, wgB, wuB]
  simp only [← EReal.coe_mul, coe_sum, ← EReal.coe_add]
  refine coe_congr ?_
  rfl

theorem totP1_eq : totP1 (dB I t) (wdB I) (gB I t) (uB I t) (wgB I) (wuB I) = fun y : S256x1024.Idx => ((chip I 0 (row t (y 0)) (y 1) + chip I 1 (row t (y 0)) (y 1) : ℝ) : EReal) := by
  unfold totP1
  rw [totP0_eq, dg_1, du_1]
  funext y
  pointwise [k1_pay17, dgT, duT, wgB, wuB]
  simp only [← EReal.coe_mul, coe_sum, ← EReal.coe_add]
  refine coe_congr ?_
  rfl

theorem totP2_eq : totP2 (dB I t) (wdB I) (gB I t) (uB I t) (wgB I) (wuB I) = fun y : S256x1024.Idx => ((chip I 0 (row t (y 0)) (y 1) + chip I 1 (row t (y 0)) (y 1) + chip I 2 (row t (y 0)) (y 1) : ℝ) : EReal) := by
  unfold totP2
  dsimp only [k1_pay26]
  rw [totP1_eq, dg_2, du_2]
  funext y
  pointwise [dgT, duT, wgB, wuB]
  simp only [← EReal.coe_mul, coe_sum, ← EReal.coe_add]
  refine coe_congr ?_
  rfl

theorem totP_eq : totP (dB I t) (wdB I) (gB I t) (uB I t) (wgB I) (wuB I) = fun y : S256x1024.Idx => ((tot I (row t (y 0)) (y 1) : ℝ) : EReal) := by
  unfold totP
  dsimp only [k1_pay35]
  rw [totP2_eq, dg_3, du_3]
  funext y
  pointwise [dgT, duT, wgB, wuB]
  simp only [← EReal.coe_mul, coe_sum, ← EReal.coe_add]
  refine coe_congr ?_
  rfl

end Cert.Ffn
-- ==== Proof.Ffn.lean ====
/- The gradient of the gated product: the kernel's four results over real arguments. -/
module

public import proofs.«01_k».proof.Proof.FfnTile
public import proofs.«01_k».proof.Proof.Gen.Pre_finite4

@[expose] public section

set_option maxRecDepth 16384

noncomputable section

namespace Cert.Ffn

open Idealize.ShloMosaic hiding ix1 ix2 ix3 ix4 ix5
open Idealize.ShloMosaic.ValueIdx Idealize.ShloMosaic.TcCoe Idealize.SL.Sem
open Cert.Reals Cert.RmsNorm Cert.Sums Cert.Kernel4Ideal Cert.Kernel4Ideal.Gen

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![t.val, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![0, 0, 0] := (by decide +kernel : ∀ t : Fin grid1.N, _)
theorem idx1_2 : ∀ t : Fin cfg1.N, win1_2.index t = ![0, t.val, 0] := (by decide +kernel : ∀ t : Fin grid1.N, _)
theorem idx1_3 : ∀ t : Fin cfg1.N, win1_3.index t = ![0, t.val, 0] := (by decide +kernel : ∀ t : Fin grid1.N, _)
theorem idx1_4 : ∀ t : Fin cfg1.N, win1_4.index t = ![0, 0, 0] := (by decide +kernel : ∀ t : Fin grid1.N, _)
theorem idx1_5 : ∀ t : Fin cfg1.N, win1_5.index t = ![0, 0, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![0, t.val, 0] := (by decide +kernel : ∀ t : Fin grid1.N, _)
theorem idx1_9 : ∀ t : Fin cfg1.N, win1_9.index t = ![0, t.val, 0] := (by decide +kernel : ∀ t : Fin grid1.N, _)
theorem idx1_10 : ∀ t : Fin cfg1.N, win1_10.index t = ![t.val, 0] := (by decide +kernel : ∀ t : Fin grid1.N, _)
theorem idx1_11 : ∀ t : Fin cfg1.N, win1_11.index t = ![0, 0] := (by decide +kernel : ∀ t : Fin grid1.N, _)

/-- The launch's arguments are real. -/
structure Args (I : In) (m : (ℓ : Loc nD τ sig) → Buf (Elt Ideal) ℓ) (c : Dev nD) : Prop where
  x : m ((c : Thread nD τ).loc main_arg0) = xA I
  w : m ((c : Thread nD τ).loc main_arg1) = wA I
  wg : m ((c : Thread nD τ).loc main_arg2) = wgA I
  wu : m ((c : Thread nD τ).loc main_arg3) = wuA I
  wd : m ((c : Thread nD τ).loc main_arg4) = wdA I
  d : m ((c : Thread nD τ).loc main_arg5) = dA I

variable {I : In} {m : (ℓ : Loc nD τ sig) → Buf (Elt Ideal) ℓ} {ρ : Dev nD → PrngReg} {c : Dev nD} (A : Args I m c)
include A

/-! ### What the host prepares -/

theorem V_wg : V1 m ρ c main_v2 = fun i : S4x1024x704.Idx => ((I.wg (i 1) (col (i 0) (i 2)) : ℝ) : EReal) := by
  show StableHlo.after hostOps0 (W0 m ρ c) (Proc.devRef .tc main_v2) = _
  simp only [hostOps0]
  after_results
  funext i
  pointwise []
  exact congrFun A.wg _

theorem V_wu : V1 m ρ c main_v5 = fun i : S4x1024x704.Idx => ((I.wu (i 1) (col (i 0) (i 2)) : ℝ) : EReal) := by
  show StableHlo.after hostOps0 (W0 m ρ c) (Proc.devRef .tc main_v5) = _
  simp only [hostOps0]
  after_results
  funext i
  pointwise []
  exact congrFun A.wu _

theorem V_wd : V1 m ρ c main_v7 = fun i : S4x704x1024.Idx => ((I.wd (col (i 0) (i 1)) (i 2) : ℝ) : EReal) := by
  show StableHlo.after hostOps0 (W0 m ρ c) (Proc.devRef .tc main_v7) = _
  simp only [hostOps0]
  after_results
  funext i
  pointwise []
  exact congrFun A.wd _

theorem V_w : V1 m ρ c main_v8 = fun i : S1x1024.Idx => ((I.w (i 1) : ℝ) : EReal) := by
  show StableHlo.after hostOps0 (W0 m ρ c) (Proc.devRef .tc main_v8) = _
  simp only [hostOps0]
  after_results
  funext i
  pointwise []
  exact congrFun A.w _

theorem V_arg_x : V1 m ρ c main_arg0 = xA I :=
  (W1_args m ρ c main_arg0 (by decide)).trans A.x

theorem V_arg_w : V1 m ρ c main_arg1 = wA I :=
  (W1_args m ρ c main_arg1 (by decide)).trans A.w

theorem V_arg_wg : V1 m ρ c main_arg2 = wgA I :=
  (W1_args m ρ c main_arg2 (by decide)).trans A.wg

theorem V_arg_wu : V1 m ρ c main_arg3 = wuA I :=
  (W1_args m ρ c main_arg3 (by decide)).trans A.wu

theorem V_arg_wd : V1 m ρ c main_arg4 = wdA I :=
  (W1_args m ρ c main_arg4 (by decide)).trans A.wd

theorem V_arg_d : V1 m ρ c main_arg5 = dA I :=
  (W1_args m ρ c main_arg5 (by decide)).trans A.d

/-! ### The blocks of the forward region -/

theorem blk0_0 (t : Fin cfg0.N) : iblk0 (V1 m ρ) c 0 t = fun y : S512x1024.Idx => ((I.x (row0 t (y 0)) (y 1) : ℝ) : EReal) := by
  funext y
  show (V1 m ρ) c main_arg0 ((win0_0.blk t).view.emb y) = _
  rw [V_arg_x A]
  refine coe_congr (congrArg₂ (I.x) (Fin.ext ?_) (Fin.ext ?_))
  all_goals blk_simp [idx0_0 t]
  all_goals rfl

theorem blk0_1 (t : Fin cfg0.N) : iblk0 (V1 m ρ) c 1 t = fun y : S1x1024.Idx => ((I.w (y 1) : ℝ) : EReal) := by
  funext y
  show (V1 m ρ) c main_v8 ((win0_1.blk t).view.emb y) = _
  rw [V_w A]
  refine coe_congr (congrArg (I.w) (Fin.ext ?_))
  all_goals blk_simp [idx0_1 t]
  all_goals rfl

theorem blk0_2 (t : Fin cfg0.N) : iblk0 (V1 m ρ) c 2 t = fun y : S4x1024x704.Idx => ((I.wg (y 1) (col (y 0) (y 2)) : ℝ) : EReal) := by
  funext y
  show (V1 m ρ) c main_v2 ((win0_2.blk t).view.emb y) = _
  rw [V_wg A]
  refine coe_congr (congrArg₂ I.wg (Fin.ext ?_) (congrArg₂ col (Fin.ext ?_) (Fin.ext ?_)))
  all_goals blk_simp [idx0_2 t]
  all_goals rfl

theorem blk0_3 (t : Fin cfg0.N) : iblk0 (V1 m ρ) c 3 t = fun y : S4x1024x704.Idx => ((I.wu (y 1) (col (y 0) (y 2)) : ℝ) : EReal) := by
  funext y
  show (V1 m ρ) c main_v5 ((win0_3.blk t).view.emb y) = _
  rw [V_wu A]
  refine coe_congr (congrArg₂ I.wu (Fin.ext ?_) (congrArg₂ col (Fin.ext ?_) (Fin.ext ?_)))
  all_goals blk_simp [idx0_3 t]
  all_goals rfl

theorem out_g (t : Fin cfg0.N) (y : S4x512x704.Idx) :
    out0_4 (iblk0 (V1 m ρ) c 0 t) (iblk0 (V1 m ρ) c 1 t) (iblk0 (V1 m ρ) c 2 t) (iblk0 (V1 m ρ) c 3 t) y
      = ((g I (row0 t (y 1)) (col (y 0) (y 2)) : ℝ) : EReal) := by
  rw [blk0_0 A, blk0_1 A, blk0_2 A, blk0_3 A]
  canon_tiles x h
  all_goals
    pointwise [k0_pay1, k0_pay2, k0_pay3, k0_pay4, k0_pay5, k0_pay6, k0_pay7, k0_pay8, k0_pay9, k0_pay10, k0_pay13, k0_pay14, k0_pay15, k0_pay16, k0_pay19, k0_pay20, k0_pay21, k0_pay22, k0_pay24]
    have e0 : (1024 : ℝ) ≠ 0 := by norm_num
    simp only [← EReal.coe_mul, coe_sum, w1024, ε_word, div_coe_coe _ e0, ← EReal.coe_add, rsqrt_mean _ (show (0 : ℝ) ≤ 1024 by norm_num)]
    refine coe_congr (Finset.sum_congr rfl fun k _ => congrArg₂ (fun r q => h I r k * I.wg k q) (congrArg (row0 t) (Fin.ext h1.symm)) (Fin.ext ?_))
    show _ * 704 + (x 2).val = (y 0).val * 704 + (y 2).val
    rw [h0, h2, show (x 0).val = 0 by omega]
    rfl

theorem out_u (t : Fin cfg0.N) (y : S4x512x704.Idx) :
    out0_5 (iblk0 (V1 m ρ) c 0 t) (iblk0 (V1 m ρ) c 1 t) (iblk0 (V1 m ρ) c 2 t) (iblk0 (V1 m ρ) c 3 t) y
      = ((u I (row0 t (y 1)) (col (y 0) (y 2)) : ℝ) : EReal) := by
  rw [blk0_0 A, blk0_1 A, blk0_2 A, blk0_3 A]
  canon_tiles x h
  all_goals
    pointwise [k0_pay1, k0_pay2, k0_pay3, k0_pay4, k0_pay5, k0_pay6, k0_pay7, k0_pay8, k0_pay9, k0_pay10, k0_pay13, k0_pay14, k0_pay15, k0_pay16, k0_pay19, k0_pay20, k0_pay21, k0_pay22, k0_pay24]
    have e0 : (1024 : ℝ) ≠ 0 := by norm_num
    simp only [← EReal.coe_mul, coe_sum, w1024, ε_word, div_coe_coe _ e0, ← EReal.coe_add, rsqrt_mean _ (show (0 : ℝ) ≤ 1024 by norm_num)]
    refine coe_congr (Finset.sum_congr rfl fun k _ => congrArg₂ (fun r q => h I r k * I.wu k q) (congrArg (row0 t) (Fin.ext h1.symm)) (Fin.ext ?_))
    show _ * 704 + (x 2).val = (y 0).val * 704 + (y 2).val
    rw [h0, h2, show (x 0).val = 0 by omega]
    rfl

theorem out_act (t : Fin cfg0.N) (y : S4x512x704.Idx) :
    out0_6 (iblk0 (V1 m ρ) c 0 t) (iblk0 (V1 m ρ) c 1 t) (iblk0 (V1 m ρ) c 2 t) (iblk0 (V1 m ρ) c 3 t) y
      = ((act I (row0 t (y 1)) (col (y 0) (y 2)) : ℝ) : EReal) := by
  rw [blk0_0 A, blk0_1 A, blk0_2 A, blk0_3 A]
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24]
    have e0 : (1024 : ℝ) ≠ 0 := by norm_num
    simp only [← EReal.coe_mul, coe_sum, w1024, ε_word, div_coe_coe _ e0, ← EReal.coe_add, rsqrt_mean _ (show (0 : ℝ) ≤ 1024 by norm_num), whalf, tanh_coe, sig_tanh]
    refine coe_congr (congrArg₂ (act I) (x := row0 t (x 1)) (congrArg (row0 t) (Fin.ext h1.symm)) (Fin.ext ?_))
    show _ * 704 + (x 2).val = (y 0).val * 704 + (y 2).val
    rw [h0, h2, show (x 0).val = 0 by omega]
    rfl

theorem out_h (t : Fin cfg0.N) (y : S512x1024.Idx) :
    out0_7 (iblk0 (V1 m ρ) c 0 t) (iblk0 (V1 m ρ) c 1 t) (iblk0 (V1 m ρ) c 2 t) (iblk0 (V1 m ρ) c 3 t) y = ((h I (row0 t (y 0)) (y 1) : ℝ) : EReal) := by
  rw [blk0_0 A, blk0_1 A, blk0_2 A, blk0_3 A]
  frame_out
  pointwise [k0_pay6]
  have e0 : (1024 : ℝ) ≠ 0 := by norm_num
  simp only [← EReal.coe_mul, coe_sum, w1024, ε_word, div_coe_coe _ e0, ← EReal.coe_add, rsqrt_mean _ (show (0 : ℝ) ≤ 1024 by norm_num)]
  rfl

theorem final_g : (dat0 (V1 m ρ) c).arrAt 4 cfg0.N = fun i : S4x4096x704.Idx => ((g I (i 1) (col (i 0) (i 2)) : ℝ) : EReal) := by
  refine (dat0 (V1 m ρ) c).arrAt_eq_of_covers 4 _ (by decide +kernel) fun t hf y => ?_
  blk_simp
  rw [after0_4]
  refine (out_g A t y).trans ?_
  have hi : (win0_4.blk t).view.emb y = ix3 (y 0) (row0 t (y 1)) (y 2) :=
    ext3 (by blk_simp [idx0_4 t]) (by blk_simp [idx0_4 t]; rfl) (by blk_simp [idx0_4 t])
  rw [hi]

theorem final_u : (dat0 (V1 m ρ) c).arrAt 5 cfg0.N = fun i : S4x4096x704.Idx => ((u I (i 1) (col (i 0) (i 2)) : ℝ) : EReal) := by
  refine (dat0 (V1 m ρ) c).arrAt_eq_of_covers 5 _ (by decide +kernel) fun t hf y => ?_
  blk_simp
  rw [after0_5]
  refine (out_u A t y).trans ?_
  have hi : (win0_5.blk t).view.emb y = ix3 (y 0) (row0 t (y 1)) (y 2) :=
    ext3 (by blk_simp [idx0_5 t]) (by blk_simp [idx0_5 t]; rfl) (by blk_simp [idx0_5 t])
  rw [hi]

theorem final_act : (dat0 (V1 m ρ) c).arrAt 6 cfg0.N = fun i : S4x4096x704.Idx => ((act I (i 1) (col (i 0) (i 2)) : ℝ) : EReal) := by
  refine (dat0 (V1 m ρ) c).arrAt_eq_of_covers 6 _ (by decide +kernel) fun t hf y => ?_
  blk_simp
  rw [after0_6]
  refine (out_act A t y).trans ?_
  have hi : (win0_6.blk t).view.emb y = ix3 (y 0) (row0 t (y 1)) (y 2) :=
    ext3 (by blk_simp [idx0_6 t]) (by blk_simp [idx0_6 t]; rfl) (by blk_simp [idx0_6 t])
  rw [hi]

theorem final_h : (dat0 (V1 m ρ) c).arrAt 7 cfg0.N = fun i : S4096x1024.Idx => ((h I (i 0) (i 1) : ℝ) : EReal) := by
  refine (dat0 (V1 m ρ) c).arrAt_eq_of_covers 7 _ (by decide +kernel) fun t hf y => ?_
  blk_simp
  rw [after0_7]
  refine (out_h A t y).trans ?_
  have hi : (win0_7.blk t).view.emb y = ix2 (row0 t (y 0)) (y 1) :=
    ext2 (by blk_simp [idx0_7 t]; rfl) (by blk_simp [idx0_7 t])
  rw [hi]

/-! ### The blocks of the backward region -/

theorem V2_wg : V2 m ρ c main_v2 = fun i : S4x1024x704.Idx => ((I.wg (i 1) (col (i 0) (i 2)) : ℝ) : EReal) :=
  (W2_of m ρ c main_v2 (by decide)).trans (V_wg A)

theorem V2_wu : V2 m ρ c main_v5 = fun i : S4x1024x704.Idx => ((I.wu (i 1) (col (i 0) (i 2)) : ℝ) : EReal) :=
  (W2_of m ρ c main_v5 (by decide)).trans (V_wu A)

theorem V2_wd : V2 m ρ c main_v7 = fun i : S4x704x1024.Idx => ((I.wd (col (i 0) (i 1)) (i 2) : ℝ) : EReal) :=
  (W2_of m ρ c main_v7 (by decide)).trans (V_wd A)

theorem V2_w : V2 m ρ c main_v8 = fun i : S1x1024.Idx => ((I.w (i 1) : ℝ) : EReal) :=
  (W2_of m ρ c main_v8 (by decide)).trans (V_w A)

theorem V2_x : V2 m ρ c main_arg0 = xA I :=
  (W2_args m ρ c main_arg0 (by decide)).trans A.x

theorem V2_d : V2 m ρ c main_arg5 = dA I :=
  (W2_args m ρ c main_arg5 (by decide)).trans A.d

theorem V2_g : V2 m ρ c main_v9_0 = fun i : S4x4096x704.Idx => ((g I (i 1) (col (i 0) (i 2)) : ℝ) : EReal) :=
  (hF0 m ρ c 4).symm.trans (final_g A)

theorem V2_u : V2 m ρ c main_v9_1 = fun i : S4x4096x704.Idx => ((u I (i 1) (col (i 0) (i 2)) : ℝ) : EReal) :=
  (hF0 m ρ c 5).symm.trans (final_u A)

theorem blk1_0 (t : Fin cfg1.N) : iblk1 (V2 m ρ) c 0 t = fun y : S256x1024.Idx => ((I.d (row t (y 0)) (y 1) : ℝ) : EReal) := by
  funext y
  show (V2 m ρ) c main_arg5 ((win1_0.blk t).view.emb y) = _
  rw [V2_d A]
  refine coe_congr (congrArg₂ (I.d) (Fin.ext ?_) (Fin.ext ?_))
  all_goals blk_simp [idx1_0 t]
  all_goals rfl

theorem blk1_1 (t : Fin cfg1.N) : iblk1 (V2 m ρ) c 1 t = fun y : S4x704x1024.Idx => ((I.wd (col (y 0) (y 1)) (y 2) : ℝ) : EReal) := by
  funext y
  show (V2 m ρ) c main_v7 ((win1_1.blk t).view.emb y) = _
  rw [V2_wd A]
  refine coe_congr (congrArg₂ I.wd (congrArg₂ col (Fin.ext ?_) (Fin.ext ?_)) (Fin.ext ?_))
  all_goals blk_simp [idx1_1 t]
  all_goals rfl

theorem blk1_2 (t : Fin cfg1.N) : iblk1 (V2 m ρ) c 2 t = fun y : S4x256x704.Idx => ((g I (row t (y 1)) (col (y 0) (y 2)) : ℝ) : EReal) := by
  funext y
  show (V2 m ρ) c main_v9_0 ((win1_2.blk t).view.emb y) = _
  rw [V2_g A]
  refine coe_congr (congrArg₂ (g I) (Fin.ext ?_) (congrArg₂ col (Fin.ext ?_) (Fin.ext ?_)))
  all_goals blk_simp [idx1_2 t]
  all_goals rfl

theorem blk1_3 (t : Fin cfg1.N) : iblk1 (V2 m ρ) c 3 t = fun y : S4x256x704.Idx => ((u I (row t (y 1)) (col (y 0) (y 2)) : ℝ) : EReal) := by
  funext y
  show (V2 m ρ) c main_v9_1 ((win1_3.blk t).view.emb y) = _
  rw [V2_u A]
  refine coe_congr (congrArg₂ (u I) (Fin.ext ?_) (congrArg₂ col (Fin.ext ?_) (Fin.ext ?_)))
  all_goals blk_simp [idx1_3 t]
  all_goals rfl

theorem blk1_4 (t : Fin cfg1.N) : iblk1 (V2 m ρ) c 4 t = fun y : S4x1024x704.Idx => ((I.wg (y 1) (col (y 0) (y 2)) : ℝ) : EReal) := by
  funext y
  show (V2 m ρ) c main_v2 ((win1_4.blk t).view.emb y) = _
  rw [V2_wg A]
  refine coe_congr (congrArg₂ I.wg (Fin.ext ?_) (congrArg₂ col (Fin.ext ?_) (Fin.ext ?_)))
  all_goals blk_simp [idx1_4 t]
  all_goals rfl

theorem blk1_5 (t : Fin cfg1.N) : iblk1 (V2 m ρ) c 5 t = fun y : S4x1024x704.Idx => ((I.wu (y 1) (col (y 0) (y 2)) : ℝ) : EReal) := by
  funext y
  show (V2 m ρ) c main_v5 ((win1_5.blk t).view.emb y) = _
  rw [V2_wu A]
  refine coe_congr (congrArg₂ I.wu (Fin.ext ?_) (congrArg₂ col (Fin.ext ?_) (Fin.ext ?_)))
  all_goals blk_simp [idx1_5 t]
  all_goals rfl

theorem blk1_6 (t : Fin cfg1.N) : iblk1 (V2 m ρ) c 6 t = fun y : S256x1024.Idx => ((I.x (row t (y 0)) (y 1) : ℝ) : EReal) := by
  funext y
  show (V2 m ρ) c main_arg0 ((win1_6.blk t).view.emb y) = _
  rw [V2_x A]
  refine coe_congr (congrArg₂ (I.x) (Fin.ext ?_) (Fin.ext ?_))
  all_goals blk_simp [idx1_6 t]
  all_goals rfl

theorem blk1_7 (t : Fin cfg1.N) : iblk1 (V2 m ρ) c 7 t = fun y : S1x1024.Idx => ((I.w (y 1) : ℝ) : EReal) := by
  funext y
  show (V2 m ρ) c main_v8 ((win1_7.blk t).view.emb y) = _
  rw [V2_w A]
  refine coe_congr (congrArg (I.w) (Fin.ext ?_))
  all_goals blk_simp [idx1_7 t]
  all_goals rfl

/-! ### What a tile computes -/

theorem outs_dg (t : Fin cfg1.N) (y : S4x256x704.Idx) : (outsAt1 (V2 m ρ) c t.val t.isLt).1 y
    = ((dg I (row t (y 1)) (col (y 0) (y 2)) : ℝ) : EReal) := by
  rcases Classical.em (t.val % 16 = 0) with h | h
  on_goal 1 => rw [outsAt1_A (V2 m ρ) c t h]
  on_goal 2 => rw [outsAt1_B (V2 m ρ) c t h]
  all_goals
    frame_out
    rw [blk1_0 A, blk1_1 A, blk1_2 A, blk1_3 A]
    canon_tiles x h
    all_goals
      pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40]
      simp only [← EReal.coe_mul, coe_sum, whalf, tanh_coe, sig_tanh, one_sub_coe, one_add_coe, ← EReal.coe_add]
      refine coe_congr (congrArg₂ (dg I) (x := row t (x 1)) (congrArg (row t) (Fin.ext h1.symm)) (Fin.ext ?_))
      show _ * 704 + (x 2).val = (y 0).val * 704 + (y 2).val
      rw [h0, h2, show (x 0).val = 0 by omega]
      rfl

theorem outs_du (t : Fin cfg1.N) (y : S4x256x704.Idx) : (outsAt1 (V2 m ρ) c t.val t.isLt).2.1 y
    = ((du I (row t (y 1)) (col (y 0) (y 2)) : ℝ) : EReal) := by
  rcases Classical.em (t.val % 16 = 0) with h | h
  on_goal 1 => rw [outsAt1_A (V2 m ρ) c t h]
  on_goal 2 => rw [outsAt1_B (V2 m ρ) c t h]
  all_goals
    frame_out
    rw [blk1_0 A, blk1_1 A, blk1_2 A]
    canon_tiles x h
    all_goals
      pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40]
      simp only [← EReal.coe_mul, coe_sum, whalf, tanh_coe, sig_tanh, one_sub_coe, one_add_coe, ← EReal.coe_add]
      refine coe_congr (congrArg₂ (du I) (x := row t (x 1)) (congrArg (row t) (Fin.ext h1.symm)) (Fin.ext ?_))
      show _ * 704 + (x 2).val = (y 0).val * 704 + (y 2).val
      rw [h0, h2, show (x 0).val = 0 by omega]
      rfl

theorem totP_A (t : Fin cfg1.N) :
    totP (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t)
      = fun y => ((tot I (row t (y 0)) (y 1) : ℝ) : EReal) := by
  rw [blk1_0 A, blk1_1 A, blk1_2 A, blk1_3 A, blk1_4 A, blk1_5 A]
  exact totP_eq I t

theorem outs_dx (t : Fin cfg1.N) (y : S256x1024.Idx) : (outsAt1 (V2 m ρ) c t.val t.isLt).2.2.1 y
    = ((dx I (row t (y 0)) (y 1) : ℝ) : EReal) := by
  have e : k1_pay38 (F := Ideal) (iblk1 (V2 m ρ) c 0 t) (totP (iblk1 (V2 m ρ) c 0 t) (iblk1 (V2 m ρ) c 1 t) (iblk1 (V2 m ρ) c 2 t) (iblk1 (V2 m ρ) c 3 t)
      (iblk1 (V2 m ρ) c 4 t) (iblk1 (V2 m ρ) c 5 t)) (iblk1 (V2 m ρ) c 6 t) (k1_pay36 (iblk1 (V2 m ρ) c 6 t)) (iblk1 (V2 m ρ) c 7 t) y
        = ((dx I (row t (y 0)) (y 1) : ℝ) : EReal) := by
    rw [totP_A A, blk1_0 A, blk1_6 A, blk1_7 A]
    pointwise [k1_pay36, k1_pay37, k1_pay38]
    have e0 : (1024 : ℝ) ≠ 0 := by norm_num
    simp only [← EReal.coe_mul, ← EReal.coe_sub, coe_sum, ← EReal.coe_add, w1024, ε_word, div_coe_coe _ e0, rsqrt_mean _ (show (0 : ℝ) ≤ 1024 by norm_num)]
    exact coe_congr (dx_tot I (row t (y 0)) (y 1))
  rcases Classical.em (t.val % 16 = 0) with h | h
  on_goal 1 => rw [outsAt1_A (V2 m ρ) c t h]
  on_goal 2 => rw [outsAt1_B (V2 m ρ) c t h]
  all_goals
    frame_out
    exact e

/-- What a tile adds to the weight's gradient at a row of a group of eight. -/
def part (I : In) (t : Fin cfg1.N) (b : Fin 8) (k : Fin 1024) : ℝ := ∑ x : Fin 32, dw I (row t ⟨x.val * 8 + b.val, by omega⟩) k

theorem pay_dw (t : Fin cfg1.N) (y : S8x1024.Idx) (v : FVec Ideal S8x1024 .f32) :
    k1_pay40 (F := Ideal) (totP (iblk1 (V2 m ρ) c 0 t) (iblk1 (V2 m ρ) c 1 t) (iblk1 (V2 m ρ) c 2 t) (iblk1 (V2 m ρ) c 3 t)
      (iblk1 (V2 m ρ) c 4 t) (iblk1 (V2 m ρ) c 5 t)) (iblk1 (V2 m ρ) c 6 t) (k1_pay36 (iblk1 (V2 m ρ) c 6 t)) v y
        = v y + ((part I t (y 0) (y 1) : ℝ) : EReal) := by
  rw [totP_A A, blk1_6 A]
  pointwise [k1_pay36, k1_pay37, k1_pay40]
  have e0 : (1024 : ℝ) ≠ 0 := by norm_num
  simp only [← EReal.coe_mul, ← EReal.coe_sub, coe_sum, ← EReal.coe_add, w1024, ε_word, div_coe_coe _ e0, rsqrt_mean _ (show (0 : ℝ) ≤ 1024 by norm_num)]
  exact congrArg (v y + ·) (coe_congr (Finset.sum_congr rfl fun x _ => dw_tot I _ (y 1)))

theorem outs_dw_A (t : Fin cfg1.N) (h : t.val % 16 = 0) (y : S8x1024.Idx) : (outsAt1 (V2 m ρ) c t.val t.isLt).2.2.2 y
    = ((part I t (y 0) (y 1) : ℝ) : EReal) := by
  rw [outsAt1_A (V2 m ρ) c t h]
  frame_out
  refine (pay_dw A t y _).trans ?_
  rw [show k1_pay39 (F := Ideal) y = Ideal.ofBits .f32 0#32 from rfl, zero_word', ← EReal.coe_add, zero_add]

theorem outs_dw_B (t : Fin cfg1.N) (h : ¬ t.val % 16 = 0) (y : S8x1024.Idx) : (outsAt1 (V2 m ρ) c t.val t.isLt).2.2.2 y
    = (outsAt1 (V2 m ρ) c (t.val - 1) (Nat.lt_of_le_of_lt (Nat.sub_le _ _) t.isLt)).2.2.2 y + ((part I t (y 0) (y 1) : ℝ) : EReal) := by
  rw [outsAt1_B (V2 m ρ) c t h]
  frame_out
  exact pay_dw A t y _

/-! ### The results' arrays -/

theorem final_dg : (dat1 (V2 m ρ) c).arrAt 8 cfg1.N = fun i : S4x4096x704.Idx => ((dg I (i 1) (col (i 0) (i 2)) : ℝ) : EReal) := by
  refine (dat1 (V2 m ρ) c).arrAt_eq_of_covers 8 _ (by decide +kernel) fun t hf y => ?_
  blk_simp
  rw [after1_8, outs_dg A]
  have hi : (win1_8.blk t).view.emb y = ix3 (y 0) (row t (y 1)) (y 2) :=
    ext3 (by blk_simp [idx1_8 t]) (by blk_simp [idx1_8 t]; rfl) (by blk_simp [idx1_8 t])
  rw [hi]

theorem final_du : (dat1 (V2 m ρ) c).arrAt 9 cfg1.N = fun i : S4x4096x704.Idx => ((du I (i 1) (col (i 0) (i 2)) : ℝ) : EReal) := by
  refine (dat1 (V2 m ρ) c).arrAt_eq_of_covers 9 _ (by decide +kernel) fun t hf y => ?_
  blk_simp
  rw [after1_9, outs_du A]
  have hi : (win1_9.blk t).view.emb y = ix3 (y 0) (row t (y 1)) (y 2) :=
    ext3 (by blk_simp [idx1_9 t]) (by blk_simp [idx1_9 t]; rfl) (by blk_simp [idx1_9 t])
  rw [hi]

theorem final_dx : (dat1 (V2 m ρ) c).arrAt 10 cfg1.N = fun i : S4096x1024.Idx => ((dx I (i 0) (i 1) : ℝ) : EReal) := by
  refine (dat1 (V2 m ρ) c).arrAt_eq_of_covers 10 _ (by decide +kernel) fun t hf y => ?_
  blk_simp
  rw [after1_10, outs_dx A]
  have hi : (win1_10.blk t).view.emb y = ix2 (row t (y 0)) (y 1) := ext2 (by blk_simp [idx1_10 t]; rfl) (by blk_simp [idx1_10 t])
  rw [hi]

omit A in
theorem last (t : Fin cfg1.N) (h : t.val % 16 = 15) : t.val = 15 := by have := t.isLt; have hN : cfg1.N = 16 := N_1; omega

omit A in
theorem not_first {n : Nat} (h : n + 1 < cfg1.N) : ¬ (n + 1) % 16 = 0 := by have hN : cfg1.N = 16 := N_1; omega

omit A in
/-- The sum up to the last tile is the sum over the tiles. -/
theorem sum_to_last (p : Fin cfg1.N → ℝ) (t : Fin cfg1.N) (h : t.val = 15) :
    ∑ k : Fin (t.val + 1), p ⟨k.val, Nat.lt_of_lt_of_le k.isLt t.isLt⟩ = ∑ t, p t := by
  obtain ⟨n, hn⟩ := t
  obtain rfl : n = 15 := h
  rfl

theorem final_dw : (dat1 (V2 m ρ) c).arrAt 11 cfg1.N = fun y : S8x1024.Idx => ((∑ t : Fin cfg1.N, part I t (y 0) (y 1) : ℝ) : EReal) := by
  refine (dat1 (V2 m ρ) c).arrAt_eq_of_covers 11 _ (by decide +kernel) fun t hf y => ?_
  have ht := last t ((flush1_11 t).mp hf)
  blk_simp
  rw [after1_11]
  have hi : (win1_11.blk t).view.emb y = y := ext2 (by blk_simp [idx1_11 t]) (by blk_simp [idx1_11 t])
  rw [hi]
  refine (acc_sum (fun n h => (outsAt1 (V2 m ρ) c n h).2.2.2 y) (fun t => part I t (y 0) (y 1)) (fun h => outs_dw_A A ⟨0, h⟩ rfl y)
    (fun n h => outs_dw_B A ⟨n + 1, h⟩ (not_first h) y) t.val t.isLt).trans ?_
  exact coe_congr (sum_to_last (fun t => part I t (y 0) (y 1)) t ht)

theorem tail_dw : W4 m ρ c (Proc.devRef .tc main_v11) = fun i : S1024.Idx => ((∑ r, dw I r (i 0) : ℝ) : EReal) := by
  show StableHlo.after hostOps2 (W3 m ρ c) (Proc.devRef .tc main_v11) = _
  simp only [hostOps2]
  after_results
  refine (congrArg (fun v : FVec Ideal S8x1024 .f32 => Host.reduceAdd v _ reducesTo_S8x1024_S1024_d0 h_S_) ((W3_arr m ρ c 11).trans (final_dw A))).trans ?_
  funext i
  pointwise []
  simp only [coe_sum]
  exact coe_congr (sum_groups 16 32 8 rfl fun r => dw I r (i 0))

end Cert.Ffn

namespace Cert.Ffn

open Idealize.ShloMosaic hiding ix1 ix2 ix3 ix4 ix5
open Idealize.ShloMosaic.ValueIdx Idealize.ShloMosaic.TcCoe Idealize.SL.Sem
open Cert.Reals Cert.Kernel4Ideal Cert.Kernel4Ideal.Gen Cert.Reference4Ideal.Read

/-- The kernel's run, its eight results named. -/
theorem run_kernel (m : (ℓ : Loc nD τ sig) → Buf (Elt Ideal) ℓ) (ρ : Dev nD → PrngReg) (I : Dev nD → In) (A : ∀ c, Args (I c) m c) :
    θ_run defs (onTc (τ := τ) (main (F := Ideal))) ⟨m, fun _ => 0, ρ⟩ fun r => ∀ c : Dev nD,
      r.2.mem ((c : Thread nD τ).loc main_v10_0) = (fun i : S4x4096x704.Idx => ((dg (I c) (i 1) (col (i 0) (i 2)) : ℝ) : EReal))
      ∧ r.2.mem ((c : Thread nD τ).loc main_v10_1) = (fun i : S4x4096x704.Idx => ((du (I c) (i 1) (col (i 0) (i 2)) : ℝ) : EReal))
      ∧ r.2.mem ((c : Thread nD τ).loc main_v10_2) = (fun i : S4096x1024.Idx => ((dx (I c) (i 0) (i 1) : ℝ) : EReal))
      ∧ r.2.mem ((c : Thread nD τ).loc main_v11) = (fun i : S1024.Idx => ((∑ r, dw (I c) r (i 0) : ℝ) : EReal))
      ∧ r.2.mem ((c : Thread nD τ).loc main_v9_0) = (fun i : S4x4096x704.Idx => ((g (I c) (i 1) (col (i 0) (i 2)) : ℝ) : EReal))
      ∧ r.2.mem ((c : Thread nD τ).loc main_v9_1) = (fun i : S4x4096x704.Idx => ((u (I c) (i 1) (col (i 0) (i 2)) : ℝ) : EReal))
      ∧ r.2.mem ((c : Thread nD τ).loc main_v9_2) = (fun i : S4x4096x704.Idx => ((act (I c) (i 1) (col (i 0) (i 2)) : ℝ) : EReal))
      ∧ r.2.mem ((c : Thread nD τ).loc main_v9_3) = (fun i : S4096x1024.Idx => ((Cert.Ffn.h (I c) (i 0) (i 1) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨
      (h c _ (mem_uc main_v10_0 (by decide))).trans ((W4_of m ρ c main_v10_0 (by decide)).trans ((W3_arr m ρ c 8).trans (final_dg (A c)))),
      (h c _ (mem_uc main_v10_1 (by decide))).trans ((W4_of m ρ c main_v10_1 (by decide)).trans ((W3_arr m ρ c 9).trans (final_du (A c)))),
      (h c _ (mem_uc main_v10_2 (by decide))).trans ((W4_of m ρ c main_v10_2 (by decide)).trans ((W3_arr m ρ c 10).trans (final_dx (A c)))),
      (h c _ (mem_uc main_v11 (by decide))).trans (tail_dw (A c)),
      (h c _ (mem_uc main_v9_0 (by decide))).trans ((W4_of m ρ c main_v9_0 (by decide)).trans ((W3_of m ρ c main_v9_0 (by decide)).trans (V2_g (A c)))),
      (h c _ (mem_uc main_v9_1 (by decide))).trans ((W4_of m ρ c main_v9_1 (by decide)).trans ((W3_of m ρ c main_v9_1 (by decide)).trans (V2_u (A c)))),
      (h c _ (mem_uc main_v9_2 (by decide))).trans ((W4_of m ρ c main_v9_2 (by decide)).trans ((W3_of m ρ c main_v9_2 (by decide)).trans ((W2_arr m ρ c 6).trans (final_act (A c))))),
      (h c _ (mem_uc main_v9_3 (by decide))).trans ((W4_of m ρ c main_v9_3 (by decide)).trans ((W3_of m ρ c main_v9_3 (by decide)).trans ((W2_arr m ρ c 7).trans (final_h (A c))))),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (run_all m ρ)

theorem reals [Cert.Pre_finite4.Facts] (x : S4096x1024.Idx → EReal) (w : S1024.Idx → EReal) (wg : S1024x2816.Idx → EReal) (wu : S1024x2816.Idx → EReal) (wd : S2816x1024.Idx → EReal) (d : S4096x1024.Idx → EReal)
    (h : Cert.Pre_finite4.fn (F := Ideal) x w wg wu wd d = fun _ => 1#1) :
    (∀ i, IsReal (x i)) ∧ (∀ i, IsReal (w i)) ∧ (∀ i, IsReal (wg i)) ∧ (∀ i, IsReal (wu i)) ∧ (∀ i, IsReal (wd i)) ∧ (∀ i, IsReal (d i)) := by
  obtain ⟨h, h5⟩ := and_one (congrFun h (fun k => k.elim0))
  obtain ⟨h, h4⟩ := and_one h
  obtain ⟨h, h3⟩ := and_one h
  obtain ⟨h, h2⟩ := and_one h
  obtain ⟨h, h1⟩ := and_one h
  exact ⟨isReal_of_all x _ _ _ _ h, isReal_of_all w _ _ _ _ h1, isReal_of_all wg _ _ _ _ h2, isReal_of_all wu _ _ _ _ h3, isReal_of_all wd _ _ _ _ h4, isReal_of_all d _ _ _ _ h5⟩

/-- The kernel's run under the precondition, and the reference's values of its arguments as the results. -/
theorem results [Cert.Pre_finite4.Facts] (m : (ℓ : Loc nD τ sig) → Buf (Elt Ideal) ℓ) (ρ : Dev nD → PrngReg)
    (hp : ∀ c : Dev nD, Cert.Pre_finite4.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    θ_run defs (onTc (τ := τ) (main (F := Ideal))) ⟨m, fun _ => 0, ρ⟩ fun r => ∀ c : Dev nD,
      r.2.mem ((c : Thread nD τ).loc main_v10_0) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v10_1) = val_main_v53 (F := Ideal) (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v10_2) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v11) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v9_0) = val_main_v70 (F := Ideal) (m ((c : Thread nD τ).loc main_arg0)) (m ((c : Thread nD τ).loc main_arg1)) (m ((c : Thread nD τ).loc main_arg2))
      ∧ r.2.mem ((c : Thread nD τ).loc main_v9_1) = val_main_v73 (F := Ideal) (m ((c : Thread nD τ).loc main_arg0)) (m ((c : Thread nD τ).loc main_arg1)) (m ((c : Thread nD τ).loc main_arg3))
      ∧ r.2.mem ((c : Thread nD τ).loc main_v9_2) = val_main_v78 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v9_3) = val_main_v79 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have R := fun c => reals _ _ _ _ _ _ (hp c)
  choose x h_x using fun c => reals2 (R c).1
  choose w h_w using fun c => reals1 (R c).2.1
  choose wg h_wg using fun c => reals2 (R c).2.2.1
  choose wu h_wu using fun c => reals2 (R c).2.2.2.1
  choose wd h_wd using fun c => reals2 (R c).2.2.2.2.1
  choose d h_d using fun c => reals2 (R c).2.2.2.2.2
  let I : Dev nD → In := fun c => ⟨x c, w c, wg c, wu c, wd c, d c⟩
  have h_x : ∀ c : Dev nD, m ((c : Thread nD τ).loc main_arg0) = xA (I c) := h_x
  have h_w : ∀ c : Dev nD, m ((c : Thread nD τ).loc main_arg1) = wA (I c) := h_w
  have h_wg : ∀ c : Dev nD, m ((c : Thread nD τ).loc main_arg2) = wgA (I c) := h_wg
  have h_wu : ∀ c : Dev nD, m ((c : Thread nD τ).loc main_arg3) = wuA (I c) := h_wu
  have h_wd : ∀ c : Dev nD, m ((c : Thread nD τ).loc main_arg4) = wdA (I c) := h_wd
  have h_d : ∀ c : Dev nD, m ((c : Thread nD τ).loc main_arg5) = dA (I c) := h_d
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_,
      (h c).2.2.2.2.2.2.1.trans ?_, (h c).2.2.2.2.2.2.2.1.trans ?_, (h c).2.2.2.2.2.2.2.2⟩)
    (run_kernel m ρ I fun c => ⟨h_x c, h_w c, h_wg c, h_wu c, h_wd c, h_d c⟩)
  · rw [h_x c, h_w c, h_wg c, h_wu c, h_wd c, h_d c]
    exact (funext (ref_dg (I c))).symm
  · rw [h_x c, h_w c, h_wg c, h_wd c, h_d c]
    exact (funext (ref_du (I c))).symm
  · rw [h_x c, h_w c, h_wg c, h_wu c, h_wd c, h_d c]
    exact (funext (ref_dx (I c))).symm
  · rw [h_x c, h_w c, h_wg c, h_wu c, h_wd c, h_d c]
    exact (funext (ref_dw (I c))).symm
  · rw [h_x c, h_w c, h_wg c]
    exact (funext (ref_g (I c))).symm
  · rw [h_x c, h_w c, h_wu c]
    exact (funext (ref_u (I c))).symm
  · rw [h_x c, h_w c, h_wg c, h_wu c]
    exact (funext (ref_act (I c))).symm
  · rw [h_x c, h_w c]
    exact (funext (ref_h (I c))).symm

end Cert.Ffn

end
-- ==== Proof.AttnRun.lean ====
/- The gradient of the attention: the run of the kernel's regions and host operations, every array's final contents named. -/
module

public import proofs.«01_k».proof.Proof.Gen.Kernel3Ideal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel3Ideal Cert.Kernel3Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- The tokens the staging cells start with are what the launch deals out. -/
theorem dealt : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro H; imodintro
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  rw [BI.bigSep_emp_const]
  iempintro

set_option backward.isDefEq.respectTransparency.types false in
/-- Every execution ends with every array as the last boundary's contents have it. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := dealt)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hb, Hg, Ho⟩
      isplitl [Hb Hg]
      · isplitl [Hb]
        · iexact Hb
        iexact Hg
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hg, -⟩, -⟩
      imodintro
      isplitl [Hb]
      · iexact Hb
      isplitl [Hg]
      · iexists _; iexact Hg
      iexists ∅; iexact Ho)
    (QY := fun c s => ∀ b ∈ Pipeline.ucRefs τ sig, s.mem ((c : Thread nD τ).1, b) = W22 m ρ c b)
    (hfin := fun c s => by
      iintro ⟨⟨Hb, -⟩, Hs⟩
      unfold StableHlo.held
      imodintro
      iapply (pointsTo_read_all (Pipeline.ucRefs τ sig) (fun b => ((c : Thread nD τ).1, b)) (W22 m ρ c) s)
      isplitl [Hb] <;> iassumption)
    (hQ := fun _ h => h)

end Cert.Attn

end
-- ==== Proof.AttnMath.lean ====
/- The gradient of the attention: the mathematics, over real arguments. -/
module

public import proofs.«01_k».proof.Proof.RmsNorm
public import proofs.«01_k».proof.Proof.Sums

@[expose] public section

set_option maxRecDepth 16384

noncomputable section

namespace Cert.Attn

open Cert.Reals Cert.RmsNorm Cert.Sums

theorem coe_congr {a b : ℝ} (h : a = b) : (a : EReal) = (b : EReal) := congrArg _ h

/-! ### One head's row: the norm and the rotary embedding, with their gradients -/

/-- The mean square of a head's row. -/
def ms (u : Fin 64 → ℝ) : ℝ := (∑ x, u x * u x) / 64

/-- The normalised and weighted row. -/
def nrm (u w : Fin 64 → ℝ) (x : Fin 64) : ℝ := u x * rinv (ms u) * w x

/-- The row with the two quarters of each half exchanged, the later one negated. -/
def rot (f : Fin 64 → ℝ) (x : Fin 64) : ℝ :=
  if h : x.val < 16 then -f ⟨16 + x.val, by omega⟩
  else if h : x.val - 16 < 16 then f ⟨x.val - 16, by omega⟩
  else if h : x.val - 16 - 16 < 16 then -f ⟨48 + (x.val - 16 - 16), by omega⟩
  else f ⟨32 + (x.val - 16 - 16 - 16), by omega⟩

/-- The same exchange, the earlier quarter negated: the transposed map. -/
def rotT (f : Fin 64 → ℝ) (x : Fin 64) : ℝ :=
  if h : x.val < 16 then f ⟨16 + x.val, by omega⟩
  else if h : x.val - 16 < 16 then -f ⟨x.val - 16, by omega⟩
  else if h : x.val - 16 - 16 < 16 then f ⟨48 + (x.val - 16 - 16), by omega⟩
  else -f ⟨32 + (x.val - 16 - 16 - 16), by omega⟩

def rope (c s f : Fin 64 → ℝ) (x : Fin 64) : ℝ := f x * c x + rot f x * s x

/-- The gradient of the rotary embedding. -/
def ropeT (c s e : Fin 64 → ℝ) (x : Fin 64) : ℝ := e x * c x + rotT (fun y => e y * s y) x

/-- The gradient of the norm in its row, and a row's part of the gradient in its weight. -/
def nrmT (u w e : Fin 64 → ℝ) (x : Fin 64) : ℝ := ngrad (ms u) (u x) (e x * w x) ((∑ y, u y * (e y * w y)) / 64)
def wT (u e : Fin 64 → ℝ) (x : Fin 64) : ℝ := u x * rinv (ms u) * e x

/-! ### Softmax -/

def soft {n : Nat} (f : Fin n → ℝ) (j : Fin n) : ℝ := Real.exp (f j) / ∑ k, Real.exp (f k)

/-- The cotangent of softmax's argument. -/
def softT {n : Nat} (p e : Fin n → ℝ) (j : Fin n) : ℝ := p j * (e j - ∑ k, p k * e k)

theorem exp_sum_pos {n : Nat} (f : Fin (n + 1) → ℝ) : 0 < ∑ k, Real.exp (f k) :=
  Finset.sum_pos (fun _ _ => Real.exp_pos _) ⟨0, Finset.mem_univ _⟩

theorem soft_shift {n : Nat} (f : Fin n → ℝ) (M : ℝ) (j : Fin n) :
    Real.exp (f j - M) / ∑ k, Real.exp (f k - M) = soft f j := by
  unfold soft
  simp only [sub_eq_add_neg, Real.exp_add, ← Finset.sum_mul]
  rw [mul_div_mul_right _ _ (Real.exp_pos _).ne']

theorem softT_shift {n : Nat} (f e : Fin (n + 1) → ℝ) (M : ℝ) (j : Fin (n + 1)) :
    (e j / (∑ k, Real.exp (f k - M)) + -(∑ k, e k * (1 / ((∑ k, Real.exp (f k - M)) * ∑ k, Real.exp (f k - M))) * Real.exp (f k - M)))
      * Real.exp (f j - M) = softT (soft f) e j := by
  unfold softT
  simp only [← soft_shift f M]
  have h := (exp_sum_pos (fun k => f k - M)).ne'
  generalize (∑ k, Real.exp (f k - M)) = S at *
  rw [show (∑ k, e k * (1 / (S * S)) * Real.exp (f k - M)) = (∑ k, Real.exp (f k - M) / S * e k) / S by
    rw [Finset.sum_div]; exact Finset.sum_congr rfl fun k _ => by field_simp]
  generalize (∑ k, Real.exp (f k - M) / S * e k) = T
  field_simp
  ring

/-! ### The arguments -/

/-- The arguments, as functions of their coordinates, with the rotary embedding's two tables. -/
structure In where
  p : Fin 4096 → Fin 2560 → ℝ
  qw : Fin 64 → ℝ
  kw : Fin 64 → ℝ
  d : Fin 4096 → Fin 512 → ℝ
  C : Fin 2048 → Fin 64 → ℝ
  S : Fin 2048 → Fin 64 → ℝ

variable (I : In)

/-- A batch entry's row; a head of a key's group; a head's lane. -/
def row (b : Fin 2) (s : Fin 2048) : Fin 4096 := ⟨b.val * 2048 + s.val, by omega⟩
def hd (g : Fin 2) (n : Fin 4) : Fin 8 := ⟨g.val * 4 + n.val, by omega⟩
def lane (h : Fin 8) (x : Fin 64) : Fin 512 := ⟨h.val * 64 + x.val, by omega⟩

def qx (b : Fin 2) (s : Fin 2048) (h : Fin 8) (x : Fin 64) : ℝ := I.p (row b s) ⟨h.val * 64 + x.val, by omega⟩
def kx (b : Fin 2) (s : Fin 2048) (g : Fin 2) (x : Fin 64) : ℝ := I.p (row b s) ⟨512 + (g.val * 64 + x.val), by omega⟩
def vx (b : Fin 2) (s : Fin 2048) (g : Fin 2) (x : Fin 64) : ℝ := I.p (row b s) ⟨640 + (g.val * 64 + x.val), by omega⟩
def ct (b : Fin 2) (s : Fin 2048) (h : Fin 8) (x : Fin 64) : ℝ := I.d (row b s) (lane h x)

/-! ### The attention, with its gradients -/

def qs (b : Fin 2) (s : Fin 2048) (h : Fin 8) (x : Fin 64) : ℝ := rope (I.C s) (I.S s) (nrm (qx I b s h) I.qw) x * (1 / 8)
def kr (b : Fin 2) (s : Fin 2048) (g : Fin 2) (x : Fin 64) : ℝ := rope (I.C s) (I.S s) (nrm (kx I b s g) I.kw) x

/-- A query's scores, and the cotangents of its probabilities. -/
def sc (b g : Fin 2) (n : Fin 4) (i j : Fin 2048) : ℝ := ∑ x, kr I b j g x * qs I b i (hd g n) x
def dP (b g : Fin 2) (n : Fin 4) (i j : Fin 2048) : ℝ := ∑ x, ct I b i (hd g n) x * vx I b j g x
def dS (b g : Fin 2) (n : Fin 4) (i j : Fin 2048) : ℝ := softT (soft (sc I b g n i)) (dP I b g n i) j

def dqs (b : Fin 2) (i : Fin 2048) (g : Fin 2) (n : Fin 4) (x : Fin 64) : ℝ := ∑ j, dS I b g n i j * kr I b j g x
def dkr (b : Fin 2) (j : Fin 2048) (g : Fin 2) (x : Fin 64) : ℝ := ∑ n, ∑ i, dS I b g n i j * qs I b i (hd g n) x
def dv (b : Fin 2) (j : Fin 2048) (g : Fin 2) (x : Fin 64) : ℝ := ∑ n, ∑ i, ct I b i (hd g n) x * soft (sc I b g n i) j

/-- A head's key group and its place there. -/
def grp (h : Fin 8) : Fin 2 := ⟨h.val / 4, by omega⟩
def plc (h : Fin 8) : Fin 4 := ⟨h.val % 4, by omega⟩

/-- The cotangents of the normalised rows. -/
def eQ (b : Fin 2) (s : Fin 2048) (h : Fin 8) (x : Fin 64) : ℝ := ropeT (I.C s) (I.S s) (fun y => dqs I b s (grp h) (plc h) y * (1 / 8)) x
def eK (b : Fin 2) (s : Fin 2048) (g : Fin 2) (x : Fin 64) : ℝ := ropeT (I.C s) (I.S s) (dkr I b s g) x

def dq (b : Fin 2) (s : Fin 2048) (h : Fin 8) (x : Fin 64) : ℝ := nrmT (qx I b s h) I.qw (eQ I b s h) x
def dk (b : Fin 2) (s : Fin 2048) (g : Fin 2) (x : Fin 64) : ℝ := nrmT (kx I b s g) I.kw (eK I b s g) x

def dqw (x : Fin 64) : ℝ := ∑ b, ∑ s, ∑ h, wT (qx I b s h) (eQ I b s h) x
def dkw (x : Fin 64) : ℝ := ∑ b, ∑ s, ∑ g, wT (kx I b s g) (eK I b s g) x

/-- A row's batch entry and its place there. -/
def bat (r : Fin 4096) : Fin 2 := ⟨r.val / 2048, by omega⟩
def pos (r : Fin 4096) : Fin 2048 := ⟨r.val % 2048, by omega⟩

/-- The gradient of a row's columns: queries, keys and values one after the other. -/
def dqkv (r : Fin 4096) (l : Fin 768) : ℝ :=
  if h : l.val < 512 then dq I (bat r) (pos r) ⟨l.val / 64, by omega⟩ ⟨l.val % 64, by omega⟩
  else if h' : l.val < 640 then dk I (bat r) (pos r) ⟨(l.val - 512) / 64, by omega⟩ ⟨(l.val - 512) % 64, by omega⟩
  else dv I (bat r) (pos r) ⟨(l.val - 640) / 64, by omega⟩ ⟨(l.val - 640) % 64, by omega⟩

/-! ### Lanes: heads side by side, and products with the matrices that join, exchange and repeat them -/

def rem (b : Nat) : Fin 64 := ⟨b % 64, by omega⟩

variable {M H : Nat}

/-- A lane's head, as a row. -/
def hrow (hM : H * 64 = M) (P : Fin M → ℝ) (b : Fin M) (x : Fin 64) : ℝ := P ⟨b.val / 64 * 64 + x.val, head_lt hM b x⟩

theorem hrow_rem (hM : H * 64 = M) (P : Fin M → ℝ) (b : Fin M) : hrow hM P b (rem b.val) = P b :=
  congrArg P (Fin.ext (by show b.val / 64 * 64 + b.val % 64 = b.val; omega))

/-- A function of a lane's head and place, at the lane `x` of the head of `b`. -/
theorem hrow_at (hM : H * 64 = M) (P : Fin M → ℝ) (F : (Fin 64 → ℝ) → Fin 64 → ℝ) (b : Fin M) :
    hrow hM (fun a => F (hrow hM P a) (rem a.val)) b = F (hrow hM P b) := by
  funext x
  have e1 : (b.val / 64 * 64 + x.val) / 64 = b.val / 64 := by omega
  have e2 : (b.val / 64 * 64 + x.val) % 64 = x.val := by omega
  have h1 : hrow hM P ⟨b.val / 64 * 64 + x.val, head_lt hM b x⟩ = hrow hM P b :=
    funext fun y => congrArg P (Fin.ext (by show (b.val / 64 * 64 + x.val) / 64 * 64 + y.val = b.val / 64 * 64 + y.val; rw [e1]))
  have h2 : rem (b.val / 64 * 64 + x.val) = x := Fin.ext e2
  show F (hrow hM P ⟨b.val / 64 * 64 + x.val, head_lt hM b x⟩) (rem (b.val / 64 * 64 + x.val)) = _
  rw [h1, h2]

def segm (a b : Fin M) : ℝ := if a.val / 64 = b.val / 64 then 1 / 64 else 0

def rotm (a b : Fin M) : ℝ :=
  if b.val % 32 < 16 then if a.val = b.val + 16 then -1 else 0 else if a.val + 16 = b.val then 1 else 0

def repm (a : Fin 128) (b : Fin 512) : ℝ := if a.val = b.val / 256 * 64 + b.val % 64 then 1 else 0

theorem sum_segm (hM : H * 64 = M) (f : Fin M → ℝ) (b : Fin M) : ∑ a, f a * segm a b = (∑ x, hrow hM f b x) / 64 := seg_mean H hM f b

theorem sum_one (f : Fin M → ℝ) (c : Fin M) (k : Fin M → ℝ) (h : ∀ a, a ≠ c → k a = 0) : ∑ a, f a * k a = f c * k c :=
  Finset.sum_eq_single c (fun a _ ha => by rw [h a ha, mul_zero]) fun hn => absurd (Finset.mem_univ _) hn

theorem sum_rotm (hM : H * 64 = M) (f : Fin M → ℝ) (b : Fin M) : ∑ a, f a * rotm a b = rot (hrow hM f b) (rem b.val) := by
  have hb := b.isLt
  have hH : b.val / 64 < H := by omega
  have key : ∀ (c : Nat) (hc : b.val / 64 * 64 + c < M) (k : ℝ), (∀ a : Fin M, a.val ≠ b.val / 64 * 64 + c → rotm a b = 0) →
      rotm (⟨b.val / 64 * 64 + c, hc⟩ : Fin M) b = k → ∑ a, f a * rotm a b = f ⟨b.val / 64 * 64 + c, hc⟩ * k := fun c hc k h0 h1 => by
    rw [sum_one f ⟨b.val / 64 * 64 + c, hc⟩ (fun a => rotm a b) fun a ha => h0 a fun e => ha (Fin.ext e), h1]
  have hr : (rem b.val).val = b.val % 64 := rfl
  unfold rot
  split_ifs with h1 h2 h3 <;> rw [hr] at *
  · refine (key (16 + b.val % 64) (by omega) (-1) (fun a ha => ?_) ?_).trans (by rw [mul_neg_one]; rfl)
    · unfold rotm; rw [if_pos (by omega), if_neg (by omega)]
    · unfold rotm; rw [if_pos (by omega), if_pos (by show b.val / 64 * 64 + (16 + b.val % 64) = b.val + 16; omega)]
  · refine (key (b.val % 64 - 16) (by omega) 1 (fun a ha => ?_) ?_).trans (mul_one _)
    · unfold rotm; rw [if_neg (by omega), if_neg (by omega)]
    · unfold rotm; rw [if_neg (by omega), if_pos (by show b.val / 64 * 64 + (b.val % 64 - 16) + 16 = b.val; omega)]
  · refine (key (48 + (b.val % 64 - 16 - 16)) (by omega) (-1) (fun a ha => ?_) ?_).trans (by rw [mul_neg_one]; rfl)
    · unfold rotm; rw [if_pos (by omega), if_neg (by omega)]
    · unfold rotm; rw [if_pos (by omega), if_pos (by show b.val / 64 * 64 + (48 + (b.val % 64 - 16 - 16)) = b.val + 16; omega)]
  · refine (key (32 + (b.val % 64 - 16 - 16 - 16)) (by omega) 1 (fun a ha => ?_) ?_).trans (mul_one _)
    · unfold rotm; rw [if_neg (by omega), if_neg (by omega)]
    · unfold rotm; rw [if_neg (by omega), if_pos (by show b.val / 64 * 64 + (32 + (b.val % 64 - 16 - 16 - 16)) + 16 = b.val; omega)]

theorem rotT_eq (f : Fin 64 → ℝ) (x : Fin 64) : rotT f x = -rot f x := by
  unfold rot rotT
  split_ifs <;> simp only [neg_neg]

theorem sum_repm (f : Fin 128 → ℝ) (b : Fin 512) : ∑ a, f a * repm a b = f ⟨b.val / 256 * 64 + b.val % 64, by omega⟩ := by
  rw [sum_one f ⟨b.val / 256 * 64 + b.val % 64, by omega⟩ (fun a => repm a b) fun a ha => if_neg fun e => ha (Fin.ext e)]
  unfold repm
  rw [if_pos rfl, mul_one]

theorem sum_repm_t (f : Fin 512 → ℝ) (a : Fin 128) :
    ∑ b, f b * repm a b = ∑ n : Fin 4, f ⟨a.val / 64 * 256 + (n.val * 64 + a.val % 64), by omega⟩ := by
  have hg : a.val / 64 < 2 := by omega
  rw [sum_split 2 256 rfl, Finset.sum_eq_single (⟨a.val / 64, hg⟩ : Fin 2)]
  · rw [sum_split 4 64 rfl]
    refine Finset.sum_congr rfl fun n _ => ?_
    refine (sum_one (fun x : Fin 64 => f ⟨a.val / 64 * 256 + (n.val * 64 + x.val), by omega⟩) (rem a.val)
      (fun x => repm a ⟨a.val / 64 * 256 + (n.val * 64 + x.val), by omega⟩) fun x hx => ?_).trans ?_
    · refine if_neg fun e => hx (Fin.ext ?_)
      have e' : a.val = (a.val / 64 * 256 + (n.val * 64 + x.val)) / 256 * 64 + (a.val / 64 * 256 + (n.val * 64 + x.val)) % 64 := e
      show x.val = a.val % 64
      omega
    · rw [show repm a ⟨a.val / 64 * 256 + (n.val * 64 + (rem a.val).val), by have := (rem a.val).isLt; omega⟩ = 1 from if_pos (by
        show a.val = (a.val / 64 * 256 + (n.val * 64 + a.val % 64)) / 256 * 64 + (a.val / 64 * 256 + (n.val * 64 + a.val % 64)) % 64
        omega), mul_one]
      rfl
  · refine fun g _ hg' => Finset.sum_eq_zero fun y _ => ?_
    rw [show repm a ⟨g.val * 256 + y.val, by omega⟩ = 0 from if_neg fun e => hg' (Fin.ext ?_), mul_zero]
    have e' : a.val = (g.val * 256 + y.val) / 256 * 64 + (g.val * 256 + y.val) % 64 := e
    show g.val = a.val / 64
    omega
  · exact fun hn => absurd (Finset.mem_univ _) hn

/-! ### The lanes of a row -/

theorem row_bat_pos (r : Fin 4096) : row (bat r) (pos r) = r := Fin.ext (by show r.val / 2048 * 2048 + r.val % 2048 = r.val; omega)

def pq (r : Fin 4096) (l : Fin 512) : ℝ := I.p r ⟨l.val, by omega⟩
def pk (r : Fin 4096) (l : Fin 128) : ℝ := I.p r ⟨512 + l.val, by omega⟩
def pv (r : Fin 4096) (l : Fin 128) : ℝ := I.p r ⟨640 + l.val, by omega⟩

def hq (l : Fin 512) : Fin 8 := ⟨l.val / 64, by omega⟩
def hk (l : Fin 128) : Fin 2 := ⟨l.val / 64, by omega⟩

theorem pq_row (r : Fin 4096) (l : Fin 512) : hrow (H := 8) rfl (pq I r) l = qx I (bat r) (pos r) (hq l) := by
  funext x
  unfold qx
  rw [row_bat_pos]
  rfl

theorem pk_row (r : Fin 4096) (l : Fin 128) : hrow (H := 2) rfl (pk I r) l = kx I (bat r) (pos r) (hk l) := by
  funext x
  unfold kx
  rw [row_bat_pos]
  rfl

/-! ### The norm and the rotary embedding of a row of lanes -/

theorem ms_sum (hM : H * 64 = M) (P : Fin M → ℝ) (b : Fin M) : ∑ a, P a * P a * segm a b = ms (hrow hM P b) :=
  sum_segm hM (fun a => P a * P a) b

theorem nrm_lane (hM : H * 64 = M) (P : Fin M → ℝ) (w : Fin 64 → ℝ) (b : Fin M) :
    P b * rinv (ms (hrow hM P b)) * w (rem b.val) = nrm (hrow hM P b) w (rem b.val) := by
  unfold nrm
  rw [hrow_rem]

theorem rot_lane (hM : H * 64 = M) (P : Fin M → ℝ) (w : Fin 64 → ℝ) (b : Fin M) :
    ∑ a, nrm (hrow hM P a) w (rem a.val) * rotm a b = rot (nrm (hrow hM P b) w) (rem b.val) := by
  rw [sum_rotm hM (fun a => nrm (hrow hM P a) w (rem a.val)) b]
  exact congrArg (fun f => rot f (rem b.val)) (hrow_at hM P (fun u => nrm u w) b)

theorem rsqrt_ms (u : Fin 64 → ℝ) : Idealize.ShloMosaic.Ideal.rsqrt ((ms u + ε : ℝ) : EReal) = ((rinv (ms u) : ℝ) : EReal) :=
  rsqrt_mean u (show (0 : ℝ) ≤ 64 by norm_num)

def qsL (r : Fin 4096) (l : Fin 512) : ℝ := qs I (bat r) (pos r) (hq l) (rem l.val)
def krL (r : Fin 4096) (l : Fin 128) : ℝ := kr I (bat r) (pos r) (hk l) (rem l.val)

/-- The key's lane that a repeated lane shows. -/
def rl (l : Fin 512) : Fin 128 := ⟨l.val / 256 * 64 + l.val % 64, by omega⟩

/-- The attention's output, row by row and lane by lane. -/
def yF (r : Fin 4096) (L : Fin 512) : ℝ := ∑ j, soft (sc I (bat r) (grp (hq L)) (plc (hq L)) (pos r)) j * vx I (bat r) j (grp (hq L)) (rem L.val)

theorem q_close (r : Fin 4096) (l : Fin 512) :
    (nrm (hrow (H := 8) rfl (pq I r) l) I.qw (rem l.val) * I.C (pos r) (rem l.val)
      + rot (nrm (hrow (H := 8) rfl (pq I r) l) I.qw) (rem l.val) * I.S (pos r) (rem l.val)) * (1 / 8) = qsL I r l := by
  unfold qsL qs rope
  rw [← pq_row]

theorem k_close (r : Fin 4096) (l : Fin 128) :
    nrm (hrow (H := 2) rfl (pk I r) l) I.kw (rem l.val) * I.C (pos r) (rem l.val)
      + rot (nrm (hrow (H := 2) rfl (pk I r) l) I.kw) (rem l.val) * I.S (pos r) (rem l.val) = krL I r l := by
  unfold krL kr rope
  rw [← pk_row]

theorem rep_close (f : Fin 128 → ℝ) (l : Fin 512) : ∑ a, f a * repm a l = f (rl l) := sum_repm f l

end Cert.Attn

end
-- ==== Proof.AttnRef.lean ====
/- The gradient of the attention: the reference's values over real arguments, stage by stage. -/
module

public import proofs.«01_k».proof.Proof.AttnMath
public import proofs.«01_k».proof.Proof.Reduce
public import proofs.«01_k».proof.Proof.Gen.Reference3Ideal.Read
public import Idealize.ShloMosaic.Lib.Pipeline.ValueKit.Point

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Reduce Cert.Reference3Ideal Cert.Reference3Ideal.Read

theorem w8th : Ideal.ofBits .f32 1040187392#32 = (((1 / 8) : ℝ) : EReal) := by
  simp [Ideal.ofBits, Ideal.ieee, -EReal.coe_mul]; norm_num

theorem bot_word : Ideal.ofBits .f32 4286578688#32 = ⊥ := neg_inf_word

/-- The greatest of at least one real number, folded from `⊥`, is real. -/
theorem isReal_fold {ι : Type} [DecidableEq ι] (s : Finset ι) (hs : s.Nonempty) (f : ι → EReal) (h : ∀ k, IsReal (f k)) :
    IsReal (s.fold max ⊥ f) := by
  obtain ⟨a, ha⟩ := hs
  refine isReal_of_ne (fun e => ?_) (fun e => ?_)
  · have : s.fold max ⊥ f < ⊤ := Finset.fold_max_lt (c := ⊤) |>.2
      ⟨bot_lt_top, fun k _ => by obtain ⟨r, hr⟩ := h k; rw [hr]; exact EReal.coe_lt_top r⟩
    exact this.ne e
  · have : (⊥ : EReal) < s.fold max ⊥ f := Finset.lt_fold_max (c := ⊥) |>.2
      (Or.inr ⟨a, ha, by obtain ⟨r, hr⟩ := h a; rw [hr]; exact EReal.bot_lt_coe r⟩)
    exact this.ne' e

theorem reals4 {n0 n1 n2 n3 : Nat} {v : (⟨4, ![n0, n1, n2, n3]⟩ : Shape).Idx → EReal} (h : ∀ i, IsReal (v i)) :
    ∃ V : Fin n0 → Fin n1 → Fin n2 → Fin n3 → ℝ, v = fun i => ((V (i 0) (i 1) (i 2) (i 3) : ℝ) : EReal) := by
  obtain ⟨V, rfl⟩ := exists_reals h
  exact ⟨fun a b c d => V (ix4 a b c d), funext fun i => congrArg (fun j => ((V j : ℝ) : EReal))
    (funext fun d => match d with | ⟨0, _⟩ => rfl | ⟨1, _⟩ => rfl | ⟨2, _⟩ => rfl | ⟨3, _⟩ => rfl)⟩

theorem one_div_coe {b : ℝ} (h : b ≠ 0) : Ideal.div 1 (b : EReal) = ((1 / b : ℝ) : EReal) := by
  rw [← EReal.coe_one, div_coe_coe _ h]

/-- The norm's gradient as the chain rule writes it. -/
theorem nrm_vjp (u w e : Fin 64 → ℝ) (x : Fin 64) :
    e x * w x * rinv (ms u) + u x * ((∑ y, u y * (e y * w y)) * (-1 / 2 * (rinv (ms u) * (rinv (ms u) * rinv (ms u)))) / 64)
      + (∑ y, u y * (e y * w y)) * (-1 / 2 * (rinv (ms u) * (rinv (ms u) * rinv (ms u)))) / 64 * u x = nrmT u w e x := by
  unfold nrmT ngrad
  ring

/-! ### The arguments' arrays, and the two tables -/

variable (I : In)

def pA : S4096x2560.Idx → EReal := fun i => ((I.p (i 0) (i 1) : ℝ) : EReal)
def qwA : S64.Idx → EReal := fun i => ((I.qw (i 0) : ℝ) : EReal)
def kwA : S64.Idx → EReal := fun i => ((I.kw (i 0) : ℝ) : EReal)
def dA : S4096x512.Idx → EReal := fun i => ((I.d (i 0) (i 1) : ℝ) : EReal)

/-- The rotary embedding's tables are the reference's. -/
structure Tab : Prop where
  C : val_main_v28 (F := Ideal) = fun i : S2048x64.Idx => ((I.C (i 0) (i 1) : ℝ) : EReal)
  S : val_main_v29 (F := Ideal) = fun i : S2048x64.Idx => ((I.S (i 0) (i 1) : ℝ) : EReal)

variable {I} (T : Tab I)

theorem r32 : val_main_v32 (F := Ideal) (pA I) = fun i : S2x2048x8x64.Idx => ((qx I (i 0) (i 1) (i 2) (i 3) : ℝ) : EReal) := by
  funext i
  pointwise [val_main_v32, val_main_v31, val_main_v30, pA]
  rfl

theorem r50 : val_main_v50 (F := Ideal) (pA I) = fun i : S2x2048x2x64.Idx => ((kx I (i 0) (i 1) (i 2) (i 3) : ℝ) : EReal) := by
  funext i
  pointwise [val_main_v50, val_main_v49, val_main_v30, pA]
  rfl

theorem r68 : val_main_v68 (F := Ideal) (pA I) = fun i : S2x2048x2x64.Idx => ((vx I (i 0) (i 1) (i 2) (i 3) : ℝ) : EReal) := by
  funext i
  pointwise [val_main_v68, val_main_v67, val_main_v30, pA]
  rfl

theorem r40 : val_main_v40 (F := Ideal) (pA I) = fun i : S2x2048x8x1.Idx => ((rinv (ms (qx I (i 0) (i 1) (i 2))) : ℝ) : EReal) := by
  funext i
  pointwise [val_main_v40, val_main_v39, val_main_v37, val_main_v38, val_main_v35, val_main_v36, val_main_cst_5, val_main_v34, val_main_cst_4,
    val_main_v33, val_main_cst_3, r32, pA]
  have h0 : (64 : ℝ) ≠ 0 := by norm_num
  simp only [← EReal.coe_mul, coe_sum, w64, ε_word, wneg_half, div_coe_coe _ h0, ← EReal.coe_add, rsqrt_mean _ (show (0 : ℝ) ≤ 64 by norm_num)]
  rfl

theorem r58 : val_main_v58 (F := Ideal) (pA I) = fun i : S2x2048x2x1.Idx => ((rinv (ms (kx I (i 0) (i 1) (i 2))) : ℝ) : EReal) := by
  funext i
  pointwise [val_main_v58, val_main_v57, val_main_v55, val_main_v56, val_main_v53, val_main_v54, val_main_cst_9, val_main_v52, val_main_cst_8,
    val_main_v51, val_main_cst_7, r50, pA]
  have h0 : (64 : ℝ) ≠ 0 := by norm_num
  simp only [← EReal.coe_mul, coe_sum, w64, ε_word, wneg_half, div_coe_coe _ h0, ← EReal.coe_add, rsqrt_mean _ (show (0 : ℝ) ≤ 64 by norm_num)]
  rfl

theorem r48 : val_main_v48 (F := Ideal) (pA I) (qwA I) = fun i : S2x2048x8x64.Idx => ((nrm (qx I (i 0) (i 1) (i 2)) I.qw (i 3) : ℝ) : EReal) := by
  funext i
  pointwise [val_main_v48, val_main_v45, val_main_v47, val_main_v44, val_main_v46, r32, r40, pA, qwA]
  simp only [← EReal.coe_mul]
  rfl

theorem r66 : val_main_v66 (F := Ideal) (pA I) (kwA I) = fun i : S2x2048x2x64.Idx => ((nrm (kx I (i 0) (i 1) (i 2)) I.kw (i 3) : ℝ) : EReal) := by
  funext i
  pointwise [val_main_v66, val_main_v63, val_main_v65, val_main_v62, val_main_v64, r50, r58, pA, kwA]
  simp only [← EReal.coe_mul]
  rfl

include T in
theorem r84 : val_main_v84 (F := Ideal) (pA I) (qwA I) = fun i : S2x2048x8x64.Idx => ((qs I (i 0) (i 1) (i 2) (i 3) : ℝ) : EReal) := by
  funext i
  pointwise [val_main_v84, val_main_v82, val_main_v83, val_main_v78, val_main_v81, val_main_cst_11, val_main_v77, val_main_v75, val_main_v80,
    val_main_v76, val_main_v73, val_main_v69, val_main_v74, val_main_v71, val_main_v79, val_main_v70, val_main_v72, T.C, T.S, r48, pA, qwA]
  show _ = ((rope _ _ _ _ * _ : ℝ) : EReal)
  unfold rope rot
  split_ifs <;> simp only [← EReal.coe_neg, ← EReal.coe_mul, ← EReal.coe_add, w8th] <;> rfl

include T in
theorem r98 : val_main_v98 (F := Ideal) (pA I) (kwA I) = fun i : S2x2048x2x64.Idx => ((kr I (i 0) (i 1) (i 2) (i 3) : ℝ) : EReal) := by
  funext i
  pointwise [val_main_v98, val_main_v94, val_main_v97, val_main_v93, val_main_v91, val_main_v96, val_main_v92, val_main_v89, val_main_v85, val_main_v90,
    val_main_v87, val_main_v95, val_main_v86, val_main_v88, T.C, T.S, r66, pA, kwA]
  show _ = ((rope _ _ _ _ : ℝ) : EReal)
  unfold rope rot
  split_ifs <;> simp only [← EReal.coe_neg, ← EReal.coe_mul, ← EReal.coe_add, w8th] <;> rfl

include T in
theorem r101 : val_main_v101 (F := Ideal) (pA I) (qwA I) (kwA I) = fun i : S2x2x4x2048x2048.Idx => ((sc I (i 0) (i 1) (i 2) (i 3) (i 4) : ℝ) : EReal) := by
  funext i
  pointwise [val_main_v101, val_main_v100, val_main_v99, r84 T, r98 T, pA, qwA, kwA]
  simp only [← EReal.coe_mul, coe_sum]
  rfl

theorem r134 : val_main_v134 (F := Ideal) (dA I) = fun i : S2x2x64x4x2048.Idx => ((ct I (i 0) (i 4) (hd (i 1) (i 3)) (i 2) : ℝ) : EReal) := by
  funext i
  pointwise [val_main_v134, val_main_v133, dA]
  refine coe_congr (congrArg₂ I.d rfl (Fin.ext ?_))
  show (i 1).val * 256 + (i 3).val * 64 + (i 2).val = ((i 1).val * 4 + (i 3).val) * 64 + (i 2).val
  omega

theorem r135 : val_main_v135 (F := Ideal) (pA I) (dA I) = fun i : S2x2x4x2048x2048.Idx => ((dP I (i 0) (i 1) (i 2) (i 3) (i 4) : ℝ) : EReal) := by
  funext i
  pointwise [val_main_v135, r134, r68, pA, dA]
  simp only [← EReal.coe_mul, coe_sum]
  rfl

include T in
/-- The scores' row maxima are real. -/
theorem r102 : ∃ M : Fin 2 → Fin 2 → Fin 4 → Fin 2048 → ℝ,
    val_main_v102 (F := Ideal) (pA I) (qwA I) (kwA I) = fun i : S2x2x4x2048.Idx => ((M (i 0) (i 1) (i 2) (i 3) : ℝ) : EReal) := by
  have h : ∀ i, IsReal (val_main_v102 (F := Ideal) (pA I) (qwA I) (kwA I) i) := fun i => by
    pointwise [val_main_v102, val_main_cst_12, r101 T]
    rw [bot_word]
    exact isReal_fold _ ⟨(0 : Fin 2048), Finset.mem_univ _⟩ _ fun k => ⟨_, rfl⟩
  exact reals4 h

include T in
theorem r126 : val_main_v126 (F := Ideal) (pA I) (qwA I) (kwA I) = fun i : S2x2x4x2048x2048.Idx => ((soft (sc I (i 0) (i 1) (i 2) (i 3)) (i 4) : ℝ) : EReal) := by
  obtain ⟨M, hM⟩ := r102 T
  funext i
  pointwise [val_main_v126, val_main_v122, val_main_v125, val_main_v121, val_main_v124, val_main_v120, val_main_v123, val_main_v119, val_main_cst_20,
    val_main_v109, val_main_v108, val_main_cst_14, r101 T, hM, pA, qwA, kwA]
  have h := (exp_sum_pos fun k => sc I (i 0) (i 1) (i 2) (i 3) k - M (i 0) (i 1) (i 2) (i 3)).ne'
  simp only [bot_word, max_eq_right bot_le, ← EReal.coe_sub, Ideal.exp_coe, coe_sum, div_coe_coe _ h]
  exact coe_congr (soft_shift _ _ _)

include T in
/-- The attention's output. -/
theorem r132 : val_main_v132 (F := Ideal) (pA I) (qwA I) (kwA I) = fun i : S4096x512.Idx => ((yF I (i 0) (i 1) : ℝ) : EReal) := by
  have e : val_main_v130 (F := Ideal) (pA I) (qwA I) (kwA I) = fun i : S2x2x64x4x2048.Idx =>
      ((∑ j, vx I (i 0) j (i 1) (i 2) * soft (sc I (i 0) (i 1) (i 3) (i 4)) j : ℝ) : EReal) := by
    funext i
    pointwise [val_main_v130, r68, r126 T, pA, qwA, kwA]
    simp only [← EReal.coe_mul, coe_sum]
  funext i
  pointwise [val_main_v132, val_main_v131, e, pA, qwA, kwA]
  refine coe_congr (Finset.sum_congr rfl fun j _ => ?_)
  rw [mul_comm]
  have eg : (⟨(i 1).val / 256, Nat.div_lt_of_lt_mul (i 1).isLt⟩ : Fin 2) = grp (hq (i 1)) := Fin.ext (by show (i 1).val / 256 = (i 1).val / 64 / 4; omega)
  exact congrArg (fun g => soft (sc I (bat (i 0)) g (plc (hq (i 1))) (pos (i 0))) j * vx I (bat (i 0)) j g (rem (i 1).val)) eg

include T in
theorem r149 : val_main_v149 (F := Ideal) (pA I) (qwA I) (kwA I) (dA I) = fun i : S2x2x4x2048x2048.Idx => ((dS I (i 0) (i 1) (i 2) (i 3) (i 4) : ℝ) : EReal) := by
  obtain ⟨M, hM⟩ := r102 T
  funext i
  pointwise [val_main_v149, val_main_v148, val_main_v122, val_main_v145, val_main_v147, val_main_v121, val_main_v144, val_main_v146, val_main_v120,
    val_main_v124, val_main_v143, val_main_cst_23, val_main_v119, val_main_v123, val_main_v142, val_main_v109, val_main_cst_20, val_main_v141,
    val_main_v108, val_main_v140, val_main_cst_22, val_main_cst_14, val_main_v139, val_main_v138, val_main_v129, val_main_v128, val_main_v127,
    val_main_cst_21, r101 T, hM, r135, pA, qwA, kwA, dA]
  have h := (exp_sum_pos fun k => sc I (i 0) (i 1) (i 2) (i 3) k - M (i 0) (i 1) (i 2) (i 3)).ne'
  simp only [bot_word, max_eq_right bot_le, ← EReal.coe_sub, Ideal.exp_coe, coe_sum, div_coe_coe _ h, div_coe_coe _ (mul_ne_zero h h), ← EReal.coe_mul, one_div_coe (mul_ne_zero h h), ← EReal.coe_neg, ← EReal.coe_add]
  refine coe_congr ?_
  simp only [Fin.sum_univ_one]
  exact softT_shift _ _ _ _

include T in
theorem r155 : val_main_v155 (F := Ideal) (pA I) (qwA I) (kwA I) (dA I) = fun i : S2x2048x8x64.Idx => ((dqs I (i 0) (i 1) (grp (i 2)) (plc (i 2)) (i 3) : ℝ) : EReal) := by
  funext i
  pointwise [val_main_v155, val_main_v152, val_main_v151, val_main_v150, r149 T, r98 T, pA, qwA, kwA, dA]
  simp only [← EReal.coe_mul, coe_sum]
  rfl

include T in
theorem r154 : val_main_v154 (F := Ideal) (pA I) (qwA I) (kwA I) (dA I) = fun i : S2x2048x2x64.Idx => ((dkr I (i 0) (i 1) (i 2) (i 3) : ℝ) : EReal) := by
  funext i
  pointwise [val_main_v154, val_main_v153, val_main_v150, val_main_v99, r149 T, r84 T, pA, qwA, kwA, dA]
  simp only [← EReal.coe_mul, coe_sum]
  rw [Finset.sum_comm]
  rfl

include T in
theorem r137 : val_main_v137 (F := Ideal) (pA I) (qwA I) (kwA I) (dA I) = fun i : S2x2048x2x64.Idx => ((dv I (i 0) (i 1) (i 2) (i 3) : ℝ) : EReal) := by
  funext i
  pointwise [val_main_v137, val_main_v136, r134, r126 T, pA, qwA, kwA, dA]
  simp only [← EReal.coe_mul, coe_sum]
  rfl

include T in
theorem r181 : val_main_v181 (F := Ideal) (pA I) (qwA I) (kwA I) (dA I) = fun i : S2x2048x8x64.Idx => ((eQ I (i 0) (i 1) (i 2) (i 3) : ℝ) : EReal) := by
  funext i
  pointwise [val_main_v181, val_main_v173, val_main_v180, val_main_v169, val_main_v172, val_main_v175, val_main_v179, val_main_v177, val_main_v178,
    val_main_v168, val_main_v76, val_main_v171, val_main_v174, val_main_v176, val_main_cst_24, val_main_v170, val_main_v79, T.C, T.S, r155 T,
    pA, qwA, kwA, dA]
  show _ = ((ropeT _ _ _ _ : ℝ) : EReal)
  unfold ropeT rotT
  split_ifs <;> simp only [← EReal.coe_neg, ← EReal.coe_mul, ← EReal.coe_add, w8th] <;> rfl

include T in
theorem r167 : val_main_v167 (F := Ideal) (pA I) (qwA I) (kwA I) (dA I) = fun i : S2x2048x2x64.Idx => ((eK I (i 0) (i 1) (i 2) (i 3) : ℝ) : EReal) := by
  funext i
  pointwise [val_main_v167, val_main_v159, val_main_v166, val_main_v158, val_main_v161, val_main_v165, val_main_v163, val_main_v164, val_main_v92,
    val_main_v157, val_main_v160, val_main_v162, val_main_v156, val_main_v95, T.C, T.S, r154 T, pA, qwA, kwA, dA]
  show _ = ((ropeT _ _ _ _ : ℝ) : EReal)
  unfold ropeT rotT
  split_ifs <;> simp only [← EReal.coe_neg, ← EReal.coe_mul, ← EReal.coe_add, w8th] <;> rfl

include T in
theorem r226 : val_main_v226 (F := Ideal) (pA I) (qwA I) (kwA I) (dA I) = fun i : S2x2048x8x64.Idx => ((dq I (i 0) (i 1) (i 2) (i 3) : ℝ) : EReal) := by
  funext i
  pointwise [val_main_v226, val_main_v224, val_main_v225, val_main_v217, val_main_v223, val_main_v222, val_main_v211, val_main_v216, val_main_v221,
    val_main_v210, val_main_v40, val_main_v220, val_main_cst_36, val_main_v46, val_main_v39, val_main_v218, val_main_v219, val_main_v37,
    val_main_v38, val_main_v215, val_main_v43, val_main_cst_35, val_main_v35, val_main_v36, val_main_cst_5, val_main_v214, val_main_v42,
    val_main_v41, val_main_v34, val_main_cst_4, val_main_v213, val_main_cst_34, val_main_cst_6, val_main_v33, val_main_cst_3, r32, r181 T, pA,
    qwA, kwA, dA]
  have h0 : (64 : ℝ) ≠ 0 := by norm_num
  have h1 := mean_ε_ne (qx I (i 0) (i 1) (i 2)) (N := 64) (by norm_num)
  simp only [← EReal.coe_mul, coe_sum, w64, ε_word, wneg_half, div_coe_coe _ h0, ← EReal.coe_add, rsqrt_mean _ (show (0 : ℝ) ≤ 64 by norm_num), div_coe_coe _ h1]
  refine coe_congr ?_
  rw [rinv_div _ (by norm_num), Fin.sum_univ_one]
  exact nrm_vjp _ _ _ _

include T in
theorem r203 : val_main_v203 (F := Ideal) (pA I) (qwA I) (kwA I) (dA I) = fun i : S2x2048x2x64.Idx => ((dk I (i 0) (i 1) (i 2) (i 3) : ℝ) : EReal) := by
  funext i
  pointwise [val_main_v203, val_main_v201, val_main_v202, val_main_v194, val_main_v200, val_main_v199, val_main_v188, val_main_v193, val_main_v198,
    val_main_v187, val_main_v58, val_main_v197, val_main_cst_30, val_main_v64, val_main_v57, val_main_v195, val_main_v196, val_main_v55,
    val_main_v56, val_main_v192, val_main_v61, val_main_cst_29, val_main_v53, val_main_v54, val_main_cst_9, val_main_v191, val_main_v60,
    val_main_v59, val_main_v52, val_main_cst_8, val_main_v190, val_main_cst_28, val_main_cst_10, val_main_v51, val_main_cst_7, r50, r167 T, pA,
    qwA, kwA, dA]
  have h0 : (64 : ℝ) ≠ 0 := by norm_num
  have h1 := mean_ε_ne (kx I (i 0) (i 1) (i 2)) (N := 64) (by norm_num)
  simp only [← EReal.coe_mul, coe_sum, w64, ε_word, wneg_half, div_coe_coe _ h0, ← EReal.coe_add, rsqrt_mean _ (show (0 : ℝ) ≤ 64 by norm_num), div_coe_coe _ h1]
  refine coe_congr ?_
  rw [rinv_div _ (by norm_num), Fin.sum_univ_one]
  exact nrm_vjp _ _ _ _

include T in
theorem r212 : val_main_v212 (F := Ideal) (pA I) (qwA I) (kwA I) (dA I) = fun i : S64.Idx => ((dqw I (i 0) : ℝ) : EReal) := by
  funext i
  pointwise [val_main_v212, val_main_v209, val_main_cst_33, val_main_v208, val_main_v207, val_main_cst_32, val_main_v45, val_main_v44, r32, r40, r181 T,
    pA, qwA, kwA, dA, sum_first_three]
  simp only [zero_add, ← EReal.coe_mul, coe_sum, Fin.sum_univ_one]
  rfl

include T in
theorem r189 : val_main_v189 (F := Ideal) (pA I) (qwA I) (kwA I) (dA I) = fun i : S64.Idx => ((dkw I (i 0) : ℝ) : EReal) := by
  funext i
  pointwise [val_main_v189, val_main_v186, val_main_cst_27, val_main_v185, val_main_v184, val_main_cst_26, val_main_v63, val_main_v62, r50, r58, r167 T,
    pA, qwA, kwA, dA, sum_first_three]
  simp only [zero_add, ← EReal.coe_mul, coe_sum, Fin.sum_univ_one]
  rfl

include T in
theorem r230 : val_main_v230 (F := Ideal) (pA I) (qwA I) (kwA I) (dA I) = fun i : S4096x768.Idx => ((dqkv I (i 0) (i 1) : ℝ) : EReal) := by
  funext i
  pointwise [val_main_v230, val_main_v229, val_main_v206, val_main_v228, val_main_v183, val_main_v205, val_main_v227, val_main_cst_37, val_main_v182,
    val_main_cst_25, val_main_v204, val_main_cst_31, r226 T, r203 T, r137 T, pA, qwA, kwA, dA]
  unfold dqkv
  have hi : (i 1).val < 768 := (i 1).isLt
  rcases Nat.lt_or_ge (i 1).val 512 with h | h
  · rw [dif_neg (by omega), dif_neg (by omega), dif_pos h, dif_pos h]
    exact (congrArg (· + _) (add_zero _)).trans (zero_add _)
  · rcases Nat.lt_or_ge (i 1).val 640 with h' | h'
    · rw [dif_neg (by omega), dif_pos (by omega), dif_neg (by omega), dif_neg (by omega), dif_pos h']
      exact (add_zero _).trans (zero_add _)
    · rw [dif_pos (by omega), dif_neg (by omega), dif_neg (by omega), dif_neg (by omega), dif_neg (by omega)]
      exact (add_zero _).trans (add_zero _)

end Cert.Attn
-- ==== Proof.AttnTile1.lean ====
/- The attention's gradient: what the body that multiplies a tile's queries with all keys computes, of real arguments.
A key group's four heads lie side by side in a tile's lanes; the body stacks them, each alone in its own lanes. -/
module

public import Idealize.ShloMosaic.Lib.Pipeline.ValueKit.Point
public import proofs.«01_k».proof.Proof.AttnRun
public import proofs.«01_k».proof.Proof.AttnRef

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

/-! ### Stacked heads -/

/-- A lane's head in its group; a stacked row's head and its row in the tile. -/
def hl (l : Fin 256) : Fin 4 := ⟨l.val / 64, by omega⟩
def pl (r : Fin 1024) : Fin 4 := ⟨r.val / 256, by omega⟩
def ri (r : Fin 1024) : Fin 256 := ⟨r.val % 256, by omega⟩

/-- Rows stacked once for each head, with the head's own lanes alone. -/
def stk (f : Fin 256 → Fin 256 → ℝ) (r : Fin 1024) (l : Fin 256) : ℝ := if hl l = pl r then f (ri r) l else 0

theorem sum_stk (f : Fin 256 → Fin 256 → ℝ) (k : Fin 256 → ℝ) (r : Fin 1024) :
    ∑ l, stk f r l * k l = ∑ x : Fin 64, f (ri r) ⟨(pl r).val * 64 + x.val, by omega⟩ * k ⟨(pl r).val * 64 + x.val, by omega⟩ := by
  rw [sum_split 4 64 rfl, Finset.sum_eq_single (pl r)]
  · refine Finset.sum_congr rfl fun x _ => ?_
    unfold stk
    rw [if_pos (Fin.ext (by show ((pl r).val * 64 + x.val) / 64 = (pl r).val; omega))]
  · refine fun n _ hn => Finset.sum_eq_zero fun x _ => ?_
    unfold stk
    rw [if_neg fun e => hn (Fin.ext ?_), zero_mul]
    have e' : (n.val * 64 + x.val) / 64 = (pl r).val := congrArg Fin.val e
    omega
  · exact fun hn => absurd (Finset.mem_univ _) hn

theorem sum_rows (f : Fin 256 → Fin 256 → ℝ) (D : Fin 1024 → ℝ) (l : Fin 256) :
    ∑ r, D r * stk f r l = ∑ i : Fin 256, D ⟨(hl l).val * 256 + i.val, by omega⟩ * f i l := by
  rw [sum_split 4 256 rfl, Finset.sum_eq_single (hl l)]
  · refine Finset.sum_congr rfl fun i _ => ?_
    have e1 : hl l = pl ⟨(hl l).val * 256 + i.val, by omega⟩ := Fin.ext (by show (hl l).val = ((hl l).val * 256 + i.val) / 256; omega)
    have e2 : ri ⟨(hl l).val * 256 + i.val, by omega⟩ = i := Fin.ext (by show ((hl l).val * 256 + i.val) % 256 = i.val; omega)
    unfold stk
    rw [if_pos e1, e2]
  · refine fun n _ hn => Finset.sum_eq_zero fun i _ => ?_
    unfold stk
    rw [if_neg fun e => hn (Fin.ext ?_), mul_zero]
    have e' : (hl l).val = (n.val * 256 + i.val) / 256 := congrArg Fin.val e
    omega
  · exact fun hn => absurd (Finset.mem_univ _) hn

/-! ### The lanes' masks -/

def mask (n : Fin 4) : IVec S256x256 1 := fun y => if hl (y 1) = n then 1#1 else 0#1

def lanes : IVec S256x256 32 := iota .tc S256x256 32 [1] iota_S256x256_d1_w32

theorem mask0 : k1_pay8 = mask 0 := by
  funext y
  exact (by decide +kernel : ∀ l : Fin 256, k1_pay8 (ix2 0 l) = mask 0 (ix2 0 l)) (y 1)

theorem mask1 : k1_pay9 lanes = mask 1 := by
  funext y
  exact (by decide +kernel : ∀ l : Fin 256, k1_pay9 lanes (ix2 0 l) = mask 1 (ix2 0 l)) (y 1)

theorem mask2 : k1_pay13 (k1_pay10 lanes) (k1_pay11 lanes) (k1_pay12 lanes) = mask 2 := by
  funext y
  exact (by decide +kernel : ∀ l : Fin 256, k1_pay13 (k1_pay10 lanes) (k1_pay11 lanes) (k1_pay12 lanes) (ix2 0 l) = mask 2 (ix2 0 l)) (y 1)

theorem mask3 : k1_pay14 lanes = mask 3 := by
  funext y
  exact (by decide +kernel : ∀ l : Fin 256, k1_pay14 lanes (ix2 0 l) = mask 3 (ix2 0 l)) (y 1)

theorem select_mask {α : Type} (p : Prop) [Decidable p] (a b : α) : Scalar.select (if p then 1#1 else 0#1) a b = if p then a else b := by
  split <;> rfl

/-! ### The blocks -/

variable (I : In) (b g : Fin 2) (ρ : Fin 256 → Fin 2048)

def qL (i : Fin 2048) (l : Fin 256) : ℝ := qs I b i (hd g (hl l)) (rem l.val)
def dL (i : Fin 2048) (l : Fin 256) : ℝ := ct I b i (hd g (hl l)) (rem l.val)
def kL (j : Fin 2048) (l : Fin 256) : ℝ := kr I b j g (rem l.val)
def vL (j : Fin 2048) (l : Fin 256) : ℝ := vx I b j g (rem l.val)

def qT (i l : Fin 256) : ℝ := qL I b g (ρ i) l
def dT (i l : Fin 256) : ℝ := dL I b g (ρ i) l

def qBl : Vec Ideal S256x256 .bf16 := fun y => ((qT I b g ρ (y 0) (y 1) : ℝ) : EReal)
def dBl : Vec Ideal S256x256 .f32 := fun y => ((dT I b g ρ (y 0) (y 1) : ℝ) : EReal)
def kBl : Vec Ideal S2048x256 .bf16 := fun y => ((kL I b g (y 0) (y 1) : ℝ) : EReal)
def vBl : Vec Ideal S2048x256 .bf16 := fun y => ((vL I b g (y 0) (y 1) : ℝ) : EReal)

/-- The stacked queries and cotangents. -/
def q4 : FVec Ideal S1024x256 .bf16 := fun y => ((stk (qT I b g ρ) (y 0) (y 1) : ℝ) : EReal)
def d4 : FVec Ideal S1024x256 .bf16 := fun y => ((stk (dT I b g ρ) (y 0) (y 1) : ℝ) : EReal)

theorem zero16 : Ideal.ofBits .bf16 0#16 = ((0 : ℝ) : EReal) := by
  simp [Ideal.ofBits, Ideal.ieee]

theorem ite_coe (p : Prop) [Decidable p] (x : ℝ) : Scalar.select (if p then 1#1 else 0#1) (x : EReal) 0 = ((if p then x else 0 : ℝ) : EReal) := by
  rw [select_mask]; split <;> rfl

theorem stack (f : Fin 256 → Fin 256 → ℝ) (r : Fin 1024) (l : Fin 256) (n : Fin 4) (i : Fin 256) (h : r.val = n.val * 256 + i.val) :
    Scalar.select (if hl l = n then 1#1 else 0#1) ((f i l : ℝ) : EReal) 0 = ((stk f r l : ℝ) : EReal) := by
  have e1 : pl r = n := Fin.ext (by show r.val / 256 = n.val; omega)
  have e2 : ri r = i := Fin.ext (by show r.val % 256 = i.val; omega)
  unfold stk
  rw [e1, e2, ite_coe]

theorem stacked (f : Fin 256 → Fin 256 → ℝ) (r : Fin 1024) (l : Fin 256) :
    (if h : r.val < 256 then Scalar.select (if hl l = 0 then 1#1 else 0#1) ((f ⟨r.val, h⟩ l : ℝ) : EReal) 0
    else if h : r.val - 256 < 256 then Scalar.select (if hl l = 1 then 1#1 else 0#1) ((f ⟨r.val - 256, h⟩ l : ℝ) : EReal) 0
    else if h : r.val - 256 - 256 < 256 then Scalar.select (if hl l = 2 then 1#1 else 0#1) ((f ⟨r.val - 256 - 256, h⟩ l : ℝ) : EReal) 0
    else Scalar.select (if hl l = 3 then 1#1 else 0#1) ((f ⟨r.val - 256 - 256 - 256, by omega⟩ l : ℝ) : EReal) 0) = ((stk f r l : ℝ) : EReal) := by
  by_cases h0 : r.val < 256
  · rw [dif_pos h0]
    exact stack f r l 0 _ (by show r.val = 0 * 256 + r.val; omega)
  rw [dif_neg h0]
  by_cases h1 : r.val - 256 < 256
  · rw [dif_pos h1]
    exact stack f r l 1 _ (by show r.val = 1 * 256 + (r.val - 256); omega)
  rw [dif_neg h1]
  by_cases h2 : r.val - 256 - 256 < 256
  · rw [dif_pos h2]
    exact stack f r l 2 _ (by show r.val = 2 * 256 + (r.val - 256 - 256); omega)
  rw [dif_neg h2]
  exact stack f r l 3 ⟨r.val - 256 - 256 - 256, by omega⟩ (by show r.val = 3 * 256 + (r.val - 256 - 256 - 256); omega)

theorem pay_q4 : k1_pay16 (F := Ideal) (k1_pay4 (qBl I b g ρ)) lanes k1_pay8 (k1_pay9 lanes) (k1_pay10 lanes) (k1_pay11 lanes) (k1_pay12 lanes)
    = q4 I b g ρ := by
  dsimp only [k1_pay16]
  rw [mask0, mask1, mask2, mask3]
  funext y
  pointwise [mask, k1_pay4, qBl, q4]
  exact stacked (qT I b g ρ) (y 0) (y 1)

theorem pay_d4 : k1_pay18 (F := Ideal) (k1_pay7 (dBl I b g ρ)) (mask 1) (mask 2) (mask 3) (k1_pay17 (k1_pay7 (dBl I b g ρ)) (mask 0)) = d4 I b g ρ := by
  funext y
  pointwise [mask, k1_pay7, k1_pay17, k1_pay18, dBl, d4]
  exact stacked (dT I b g ρ) (y 0) (y 1)

/-! ### Scores, probabilities and their cotangents -/

theorem sc_sum (r : Fin 1024) (j : Fin 2048) : ∑ l, stk (qT I b g ρ) r l * kL I b g j l = sc I b g (pl r) (ρ (ri r)) j := by
  rw [sum_stk]
  refine Finset.sum_congr rfl fun x _ => ?_
  have e1 : hl ⟨(pl r).val * 64 + x.val, by omega⟩ = pl r := Fin.ext (by show ((pl r).val * 64 + x.val) / 64 = (pl r).val; omega)
  have e2 : rem ((pl r).val * 64 + x.val) = x := Fin.ext (by show ((pl r).val * 64 + x.val) % 64 = x.val; omega)
  unfold qT qL kL
  rw [e1, e2, mul_comm]

theorem dP_sum (r : Fin 1024) (j : Fin 2048) : ∑ l, stk (dT I b g ρ) r l * vL I b g j l = dP I b g (pl r) (ρ (ri r)) j := by
  rw [sum_stk]
  refine Finset.sum_congr rfl fun x _ => ?_
  have e1 : hl ⟨(pl r).val * 64 + x.val, by omega⟩ = pl r := Fin.ext (by show ((pl r).val * 64 + x.val) / 64 = (pl r).val; omega)
  have e2 : rem ((pl r).val * 64 + x.val) = x := Fin.ext (by show ((pl r).val * 64 + x.val) % 64 = x.val; omega)
  unfold dT dL vL
  rw [e1, e2]

def p4 : FVec Ideal S1024x2048 .f32 := fun y => ((soft (sc I b g (pl (y 0)) (ρ (ri (y 0)))) (y 1) : ℝ) : EReal)
def s4 : FVec Ideal S1024x2048 .bf16 := fun y => ((dS I b g (pl (y 0)) (ρ (ri (y 0))) (y 1) : ℝ) : EReal)

theorem soft_close {n : Nat} (f : Fin (n + 1) → ℝ) (j : Fin (n + 1)) (m : EReal) (hm : IsReal m) :
    Ideal.exp ((f j : EReal) - m) * Ideal.div 1 (∑ k, Ideal.exp ((f k : EReal) - m)) = ((soft f j : ℝ) : EReal) := by
  obtain ⟨M, rfl⟩ := hm
  have h := (exp_sum_pos fun k => f k - M).ne'
  simp only [← EReal.coe_sub, Ideal.exp_coe, coe_sum, one_div_coe h, ← EReal.coe_mul]
  refine coe_congr ?_
  rw [mul_one_div]
  exact soft_shift f M j

def sc4 : FVec Ideal S1024x2048 .f32 := fun y => ((sc I b g (pl (y 0)) (ρ (ri (y 0))) (y 1) : ℝ) : EReal)

theorem pay_sc : (matmul (F := Ideal) dot_S1024x256_S2048x256_S1024x2048_1_1_0_0_n_n none (q4 I b g ρ) (k1_pay5 (kBl I b g))
    (constant S1024x2048 .f32 0x00000000#32) : FVec Ideal S1024x2048 .f32) = sc4 I b g ρ := by
  funext y
  pointwise [k1_pay5, kBl, q4, sc4]
  simp only [← EReal.coe_mul, coe_sum]
  exact coe_congr (sc_sum I b g ρ (y 0) (y 1))

theorem pay_max : ∃ M : Fin 1024 → ℝ, multiReduction (F := Ideal) .maximumf [1] S1024 (sc4 I b g ρ) 0xFF800000#32 reduces_S1024x2048_S1024 (.inl rfl) rfl
    = fun i => ((M (i 0) : ℝ) : EReal) := by
  have h : ∀ i, IsReal (multiReduction (F := Ideal) .maximumf [1] S1024 (sc4 I b g ρ) 0xFF800000#32 reduces_S1024x2048_S1024 (.inl rfl) rfl i) := fun i => by
    pointwise [sc4]
    exact isReal_fold _ ⟨(0 : Fin 2048), Finset.mem_univ _⟩ _ fun k => ⟨_, rfl⟩
  exact reals1 h

theorem pay_p4 : k1_pay19 (F := Ideal) (k1_pay5 (kBl I b g)) (q4 I b g ρ) = p4 I b g ρ := by
  obtain ⟨M, hM⟩ := pay_max I b g ρ
  dsimp only [k1_pay19]
  rw [pay_sc, hM]
  funext y
  pointwise [sc4, p4]
  exact soft_close (sc I b g (pl (y 0)) (ρ (ri (y 0)))) (y 1) _ ⟨_, rfl⟩

theorem pay_s4 : k1_pay20 (F := Ideal) (k1_pay5 (kBl I b g)) (k1_pay6 (vBl I b g)) (k1_pay7 (dBl I b g ρ)) (mask 1) (mask 2) (mask 3) (q4 I b g ρ)
      (k1_pay17 (k1_pay7 (dBl I b g ρ)) (mask 0)) = s4 I b g ρ := by
  dsimp only [k1_pay20]
  rw [pay_p4, pay_d4]
  funext y
  pointwise [k1_pay6, vBl, d4, p4, s4]
  simp only [← EReal.coe_mul, coe_sum, ← EReal.coe_sub]
  refine coe_congr ?_
  obtain ⟨r, hr⟩ : ∃ r : Fin 1024, r = y 0 := ⟨_, rfl⟩
  obtain ⟨j, hj⟩ : ∃ j : Fin 2048, j = y 1 := ⟨_, rfl⟩
  rw [← hr, ← hj]
  simp only [dP_sum]
  rfl

/-! ### The products with the cotangents of the scores -/

theorem at_head (n : Fin 4) (i : Fin 256) (v : Nat) (h : v < 1024) (e : v = n.val * 256 + i.val) : pl ⟨v, h⟩ = n ∧ ri ⟨v, h⟩ = i :=
  ⟨Fin.ext (by show v / 256 = n.val; omega), Fin.ext (by show v % 256 = i.val; omega)⟩

def dqC (l : Fin 256) (r : Fin 1024) : EReal := ((∑ k, dS I b g (pl r) (ρ (ri r)) k * kL I b g k l : ℝ) : EReal)

theorem dqC_at (l : Fin 256) (n : Fin 4) (i : Fin 256) (v : Nat) (h : v < 1024) (e : v = n.val * 256 + i.val) :
    dqC I b g ρ l ⟨v, h⟩ = ((dqs I b (ρ i) g n (rem l.val) : ℝ) : EReal) := by
  unfold dqC
  rw [(at_head n i v h e).1, (at_head n i v h e).2]
  rfl

theorem dq_close (i l : Fin 256) :
    Scalar.select (if hl l = 3 then 1#1 else 0#1) (dqC I b g ρ l ⟨768 + i.val, by omega⟩)
      (Scalar.select (if hl l = 2 then 1#1 else 0#1) (dqC I b g ρ l ⟨512 + i.val, by omega⟩)
        (Scalar.select (if hl l = 1 then 1#1 else 0#1) (dqC I b g ρ l ⟨256 + i.val, by omega⟩)
          (Scalar.select (if hl l = 0 then 1#1 else 0#1) (dqC I b g ρ l ⟨i.val, by omega⟩) 0)))
      = ((dqs I b (ρ i) g (hl l) (rem l.val) : ℝ) : EReal) := by
  rw [dqC_at I b g ρ l 3 i _ _ (by show 768 + i.val = 3 * 256 + i.val; omega), dqC_at I b g ρ l 2 i _ _ (by show 512 + i.val = 2 * 256 + i.val; omega),
    dqC_at I b g ρ l 1 i _ _ (by show 256 + i.val = 1 * 256 + i.val; omega), dqC_at I b g ρ l 0 i _ _ (by show i.val = 0 * 256 + i.val; omega)]
  simp only [select_mask]
  generalize hl l = n
  fin_cases n <;> rfl

theorem pay_dq : k1_pay21 (F := Ideal) (k1_pay5 (kBl I b g)) (k1_pay6 (vBl I b g)) (k1_pay7 (dBl I b g ρ)) (mask 0) (mask 1) (mask 2) (mask 3) k1_pay15
      (q4 I b g ρ) (k1_pay17 (k1_pay7 (dBl I b g ρ)) (mask 0))
    = fun y : S256x256.Idx => ((dqs I b (ρ (y 0)) g (hl (y 1)) (rem (y 1).val) : ℝ) : EReal) := by
  dsimp only [k1_pay21]
  rw [pay_s4]
  funext y
  pointwise [k1_pay5, k1_pay15, kBl, s4, mask]
  simp only [← EReal.coe_mul, coe_sum]
  exact dq_close I b g ρ (y 0) (y 1)

/-- A tile's part of the gradients of the repeated keys and values. -/
def dkP (j : Fin 2048) (l : Fin 256) : ℝ := ∑ i : Fin 256, dS I b g (hl l) (ρ i) j * qT I b g ρ i l
def dvP (j : Fin 2048) (l : Fin 256) : ℝ := ∑ i : Fin 256, soft (sc I b g (hl l) (ρ i)) j * dT I b g ρ i l

theorem head_row (l : Fin 256) (i : Fin 256) : pl ⟨(hl l).val * 256 + i.val, by omega⟩ = hl l ∧ ri ⟨(hl l).val * 256 + i.val, by omega⟩ = i :=
  ⟨Fin.ext (by show ((hl l).val * 256 + i.val) / 256 = (hl l).val; omega), Fin.ext (by show ((hl l).val * 256 + i.val) % 256 = i.val; omega)⟩

theorem dkP_sum (j : Fin 2048) (l : Fin 256) : ∑ r, dS I b g (pl r) (ρ (ri r)) j * stk (qT I b g ρ) r l = dkP I b g ρ j l := by
  rw [sum_rows (qT I b g ρ) (fun r => dS I b g (pl r) (ρ (ri r)) j)]
  exact Finset.sum_congr rfl fun i _ => by rw [(head_row l i).1, (head_row l i).2]

theorem dvP_sum (j : Fin 2048) (l : Fin 256) : ∑ r, soft (sc I b g (pl r) (ρ (ri r))) j * stk (dT I b g ρ) r l = dvP I b g ρ j l := by
  rw [sum_rows (dT I b g ρ) (fun r => soft (sc I b g (pl r) (ρ (ri r))) j)]
  exact Finset.sum_congr rfl fun i _ => by rw [(head_row l i).1, (head_row l i).2]

theorem pay_dk (old : Vec Ideal S2048x256 .f32) : k1_pay22 (F := Ideal) (k1_pay5 (kBl I b g)) (k1_pay6 (vBl I b g)) (k1_pay7 (dBl I b g ρ)) (mask 1) (mask 2) (mask 3)
      (q4 I b g ρ) (k1_pay17 (k1_pay7 (dBl I b g ρ)) (mask 0)) old
    = fun y : S2048x256.Idx => old y + ((dkP I b g ρ (y 0) (y 1) : ℝ) : EReal) := by
  dsimp only [k1_pay22]
  rw [pay_s4]
  funext y
  pointwise [q4, s4]
  simp only [← EReal.coe_mul, coe_sum]
  exact congrArg (old y + ·) (coe_congr (dkP_sum I b g ρ (y 0) (y 1)))

theorem pay_dv (old : Vec Ideal S2048x256 .f32) : k1_pay1 (F := Ideal) (d4 I b g ρ) (p4 I b g ρ) old
    = fun y : S2048x256.Idx => old y + ((dvP I b g ρ (y 0) (y 1) : ℝ) : EReal) := by
  funext y
  pointwise [d4, p4, k1_pay1]
  simp only [← EReal.coe_mul, coe_sum]
  exact congrArg (old y + ·) (coe_congr (dvP_sum I b g ρ (y 0) (y 1)))

end Cert.Attn

end
-- ==== Proof.AttnTile.lean ====
/- The attention's gradient: what the bodies that prepare and finish a tile compute, of real arguments. -/
module

public import Idealize.ShloMosaic.Lib.Pipeline.ValueKit.Point
public import proofs.«01_k».proof.Proof.AttnRun
public import proofs.«01_k».proof.Proof.AttnRef

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

variable (I : In) (ρ : Fin 256 → Fin 4096)

/-! ### The blocks a tile of rows reads -/

def pqB : Vec Ideal S256x512 .f32 := fun y => ((pq I (ρ (y 0)) (y 1) : ℝ) : EReal)
def pkB : Vec Ideal S256x128 .f32 := fun y => ((pk I (ρ (y 0)) (y 1) : ℝ) : EReal)
def pvB : Vec Ideal S256x128 .f32 := fun y => ((pv I (ρ (y 0)) (y 1) : ℝ) : EReal)
def qwB : Vec Ideal S1x512 .f32 := fun y => ((I.qw (rem (y 1).val) : ℝ) : EReal)
def kwB : Vec Ideal S1x128 .f32 := fun y => ((I.kw (rem (y 1).val) : ℝ) : EReal)
def cqB : Vec Ideal S256x512 .f32 := fun y => ((I.C (pos (ρ (y 0))) (rem (y 1).val) : ℝ) : EReal)
def sqB : Vec Ideal S256x512 .f32 := fun y => ((I.S (pos (ρ (y 0))) (rem (y 1).val) : ℝ) : EReal)
def ckB : Vec Ideal S256x128 .f32 := fun y => ((I.C (pos (ρ (y 0))) (rem (y 1).val) : ℝ) : EReal)
def skB : Vec Ideal S256x128 .f32 := fun y => ((I.S (pos (ρ (y 0))) (rem (y 1).val) : ℝ) : EReal)
def segqB : Vec Ideal S512x512 .bf16 := fun y => ((segm (y 0) (y 1) : ℝ) : EReal)
def segkB : Vec Ideal S128x128 .bf16 := fun y => ((segm (y 0) (y 1) : ℝ) : EReal)
def rotqB : Vec Ideal S512x512 .bf16 := fun y => ((rotm (y 0) (y 1) : ℝ) : EReal)
def rotkB : Vec Ideal S128x128 .bf16 := fun y => ((rotm (y 0) (y 1) : ℝ) : EReal)
def repB : Vec Ideal S128x512 .bf16 := fun y => ((repm (y 0) (y 1) : ℝ) : EReal)

/-! ### Preparing: the normalised and rotated queries, keys and values -/

theorem prep_q : k0_pay2 (F := Ideal) (pqB I ρ) segqB (qwB I) (cqB I ρ) rotqB (sqB I ρ)
    = fun y : S256x512.Idx => ((qsL I (ρ (y 0)) (y 1) : ℝ) : EReal) := by
  funext y
  pointwise [pqB, segqB, qwB, cqB, rotqB, sqB, k0_pay2]
  obtain ⟨l, hl⟩ : ∃ l : Fin 512, l = y 1 := ⟨_, rfl⟩
  rw [← hl]
  simp only [← EReal.coe_mul, coe_sum, ε_word, w8th, ← EReal.coe_add, ← EReal.coe_sub, sub_self, zero_mul, Finset.sum_const_zero, add_zero,
    ms_sum (H := 8) rfl, rsqrt_ms, nrm_lane, rot_lane]
  exact coe_congr (q_close I (ρ (y 0)) l)

theorem prep_k : k0_pay4 (F := Ideal) (pkB I ρ) (k0_pay3 (pkB I ρ)) segkB (kwB I) (ckB I ρ) rotkB (skB I ρ) repB
    = fun y : S256x512.Idx => ((krL I (ρ (y 0)) (rl (y 1)) : ℝ) : EReal) := by
  funext y
  pointwise [pkB, segkB, kwB, ckB, rotkB, skB, repB, k0_pay3, k0_pay4]
  simp only [← EReal.coe_mul, coe_sum, ε_word, ← EReal.coe_add, ← EReal.coe_sub, sub_self, zero_mul, Finset.sum_const_zero, add_zero,
    ms_sum (H := 2) rfl, rsqrt_ms, nrm_lane, rot_lane, k_close]
  exact coe_congr (rep_close (krL I (ρ (y 0))) (y 1))

theorem prep_v : k0_pay1 (F := Ideal) (k0_pay5 (pvB I ρ)) repB
    = fun y : S256x512.Idx => ((pv I (ρ (y 0)) (rl (y 1)) : ℝ) : EReal) := by
  funext y
  pointwise [pvB, repB, k0_pay1, k0_pay5]
  simp only [← EReal.coe_mul, coe_sum]
  exact coe_congr (rep_close (pv I (ρ (y 0))) (y 1))

end Cert.Attn

end
-- ==== Proof.AttnTile2.lean ====
/- The attention's gradient: what the body that takes the gradients back through the rotary embedding and the norm
computes, of real arguments. -/
module

public import proofs.«01_k».proof.Proof.AttnTile

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

variable (I : In)

/-! ### The gradients' lanes -/

def dqL (r : Fin 4096) (l : Fin 512) : ℝ := dqs I (bat r) (pos r) (grp (hq l)) (plc (hq l)) (rem l.val)
def eqL (r : Fin 4096) (l : Fin 512) : ℝ := eQ I (bat r) (pos r) (hq l) (rem l.val)
def ekL (r : Fin 4096) (l : Fin 128) : ℝ := eK I (bat r) (pos r) (hk l) (rem l.val)

/-- A repeated lane's key group and the head it was multiplied with. -/
def lg (l : Fin 512) : Fin 2 := ⟨l.val / 256, by omega⟩
def ln (l : Fin 512) : Fin 4 := ⟨l.val % 256 / 64, by omega⟩

/-- The gradients of the repeated keys and values, before the heads are added. -/
def dkL (r : Fin 4096) (l : Fin 512) : ℝ := ∑ i, dS I (bat r) (lg l) (ln l) i (pos r) * qs I (bat r) i (hd (lg l) (ln l)) (rem l.val)
def dvL (r : Fin 4096) (l : Fin 512) : ℝ := ∑ i, ct I (bat r) i (hd (lg l) (ln l)) (rem l.val) * soft (sc I (bat r) (lg l) (ln l) i) (pos r)

/-- A row's lanes of the two gradients that are joined, and of the parts of the weights' gradients. -/
def dqO (r : Fin 4096) (l : Fin 512) : ℝ := dq I (bat r) (pos r) (hq l) (rem l.val)
def dkO (r : Fin 4096) (l : Fin 128) : ℝ := dk I (bat r) (pos r) (hk l) (rem l.val)
def dvO (r : Fin 4096) (l : Fin 128) : ℝ := dv I (bat r) (pos r) (hk l) (rem l.val)
def wqL (r : Fin 4096) (l : Fin 512) : ℝ := wT (qx I (bat r) (pos r) (hq l)) (eQ I (bat r) (pos r) (hq l)) (rem l.val)
def wkL (r : Fin 4096) (l : Fin 128) : ℝ := wT (kx I (bat r) (pos r) (hk l)) (eK I (bat r) (pos r) (hk l)) (rem l.val)

/-- A lane of a row, by its head and place. -/
theorem hrow_lanes {M H : Nat} (hM : H * 64 = M) (h : Fin M → Fin H) (hh : ∀ a, (h a).val = a.val / 64) (F : Fin H → Fin 64 → ℝ) (l : Fin M) :
    hrow hM (fun a => F (h a) (rem a.val)) l = F (h l) := by
  funext x
  have e1 : h ⟨l.val / 64 * 64 + x.val, head_lt hM l x⟩ = h l := Fin.ext (by rw [hh, hh]; show (l.val / 64 * 64 + x.val) / 64 = l.val / 64; omega)
  have e2 : rem (l.val / 64 * 64 + x.val) = x := Fin.ext (by show (l.val / 64 * 64 + x.val) % 64 = x.val; omega)
  show F (h ⟨l.val / 64 * 64 + x.val, head_lt hM l x⟩) (rem (l.val / 64 * 64 + x.val)) = _
  rw [e1, e2]

theorem eq_close (r : Fin 4096) (l : Fin 512) :
    dqL I r l * (1 / 8) * I.C (pos r) (rem l.val) - ∑ a, dqL I r a * (1 / 8) * I.S (pos r) (rem a.val) * rotm a l = eqL I r l := by
  unfold dqL
  rw [sum_rotm (H := 8) rfl (fun a => dqs I (bat r) (pos r) (grp (hq a)) (plc (hq a)) (rem a.val) * (1 / 8) * I.S (pos r) (rem a.val)) l,
    hrow_lanes (H := 8) rfl hq (fun _ => rfl) (fun h x => dqs I (bat r) (pos r) (grp h) (plc h) x * (1 / 8) * I.S (pos r) x) l]
  unfold eqL eQ ropeT
  rw [rotT_eq, ← sub_eq_add_neg]

theorem ek_sum (r : Fin 4096) (l : Fin 128) : ∑ a, dkL I r a * repm l a = dkr I (bat r) (pos r) (hk l) (rem l.val) := by
  rw [sum_repm_t]
  refine Finset.sum_congr rfl fun n _ => ?_
  have e1 : lg ⟨l.val / 64 * 256 + (n.val * 64 + l.val % 64), by omega⟩ = hk l := Fin.ext (by show (l.val / 64 * 256 + (n.val * 64 + l.val % 64)) / 256 = l.val / 64; omega)
  have e2 : ln ⟨l.val / 64 * 256 + (n.val * 64 + l.val % 64), by omega⟩ = n := Fin.ext (by show (l.val / 64 * 256 + (n.val * 64 + l.val % 64)) % 256 / 64 = n.val; omega)
  have e3 : rem (l.val / 64 * 256 + (n.val * 64 + l.val % 64)) = rem l.val := Fin.ext (by show (l.val / 64 * 256 + (n.val * 64 + l.val % 64)) % 64 = l.val % 64; omega)
  unfold dkL
  rw [e1, e2, e3]

theorem ev_sum (r : Fin 4096) (l : Fin 128) : ∑ a, dvL I r a * repm l a = dvO I r l := by
  unfold dvO dv
  rw [sum_repm_t]
  refine Finset.sum_congr rfl fun n _ => ?_
  have e1 : lg ⟨l.val / 64 * 256 + (n.val * 64 + l.val % 64), by omega⟩ = hk l := Fin.ext (by show (l.val / 64 * 256 + (n.val * 64 + l.val % 64)) / 256 = l.val / 64; omega)
  have e2 : ln ⟨l.val / 64 * 256 + (n.val * 64 + l.val % 64), by omega⟩ = n := Fin.ext (by show (l.val / 64 * 256 + (n.val * 64 + l.val % 64)) % 256 / 64 = n.val; omega)
  have e3 : rem (l.val / 64 * 256 + (n.val * 64 + l.val % 64)) = rem l.val := Fin.ext (by show (l.val / 64 * 256 + (n.val * 64 + l.val % 64)) % 64 = l.val % 64; omega)
  unfold dvL
  rw [e1, e2, e3]

theorem ek_close (r : Fin 4096) (l : Fin 128) :
    dkr I (bat r) (pos r) (hk l) (rem l.val) * I.C (pos r) (rem l.val)
      - ∑ a : Fin 128, dkr I (bat r) (pos r) (hk a) (rem a.val) * I.S (pos r) (rem a.val) * rotm a l = ekL I r l := by
  rw [sum_rotm (H := 2) rfl (fun a : Fin 128 => dkr I (bat r) (pos r) (hk a) (rem a.val) * I.S (pos r) (rem a.val)) l,
    hrow_lanes (H := 2) rfl hk (fun _ => rfl) (fun h x => dkr I (bat r) (pos r) h x * I.S (pos r) x) l]
  unfold ekL eK ropeT
  rw [rotT_eq, ← sub_eq_add_neg]

def mq (r : Fin 4096) (l : Fin 512) : ℝ := rinv (ms (hrow (H := 8) rfl (pq I r) l))
def mk (r : Fin 4096) (l : Fin 128) : ℝ := rinv (ms (hrow (H := 2) rfl (pk I r) l))

/-- The gradient of the norm, lane by lane. -/
theorem norm_close {M H : Nat} (hM : H * 64 = M) (P : Fin M → ℝ) (h : Fin M → Fin H) (hh : ∀ a, (h a).val = a.val / 64) (E : Fin H → Fin 64 → ℝ)
    (w : Fin 64 → ℝ) (l : Fin M) :
    rinv (ms (hrow hM P l)) * (E (h l) (rem l.val) * w (rem l.val))
      - P l * (rinv (ms (hrow hM P l)) * rinv (ms (hrow hM P l)) * rinv (ms (hrow hM P l)))
        * ∑ a, E (h a) (rem a.val) * w (rem a.val) * P a * segm a l = nrmT (hrow hM P l) w (E (h l)) (rem l.val) := by
  rw [sum_segm hM (fun a => E (h a) (rem a.val) * w (rem a.val) * P a) l]
  have e : ∀ x, hrow hM (fun a => E (h a) (rem a.val) * w (rem a.val) * P a) l x = hrow hM P l x * (E (h l) x * w x) := fun x => by
    refine (mul_comm (hrow hM (fun a => E (h a) (rem a.val) * w (rem a.val)) l x) (hrow hM P l x)).trans ?_
    exact congrArg (hrow hM P l x * ·) (congrFun (hrow_lanes hM h hh (fun h x => E h x * w x) l) x)
  unfold nrmT ngrad
  rw [hrow_rem]
  simp only [e]

theorem dq_lane (r : Fin 4096) (l : Fin 512) :
    mq I r l * (eqL I r l * I.qw (rem l.val)) - pq I r l * (mq I r l * mq I r l * mq I r l) * ∑ a, eqL I r a * I.qw (rem a.val) * pq I r a * segm a l
      = dqO I r l := by
  refine (norm_close (H := 8) rfl (pq I r) hq (fun _ => rfl) (eQ I (bat r) (pos r)) I.qw l).trans ?_
  unfold dqO dq
  rw [← pq_row]

theorem dk_lane (r : Fin 4096) (l : Fin 128) :
    mk I r l * (ekL I r l * I.kw (rem l.val)) - pk I r l * (mk I r l * mk I r l * mk I r l) * ∑ a, ekL I r a * I.kw (rem a.val) * pk I r a * segm a l
      = dkO I r l := by
  refine (norm_close (H := 2) rfl (pk I r) hk (fun _ => rfl) (eK I (bat r) (pos r)) I.kw l).trans ?_
  unfold dkO dk
  rw [← pk_row]

theorem wq_lane (r : Fin 4096) (l : Fin 512) : eqL I r l * pq I r l * mq I r l = wqL I r l := by
  unfold wqL wT mq
  rw [← pq_row, hrow_rem]
  show eqL I r l * _ * _ = _ * _ * eqL I r l
  ring

theorem wk_lane (r : Fin 4096) (l : Fin 128) : ekL I r l * pk I r l * mk I r l = wkL I r l := by
  unfold wkL wT mk
  rw [← pk_row, hrow_rem]
  show ekL I r l * _ * _ = _ * _ * ekL I r l
  ring

/-! ### The blocks -/

variable (ρ : Fin 256 → Fin 4096)

def gqB : Vec Ideal S256x512 .f32 := fun y => ((dqL I (ρ (y 0)) (y 1) : ℝ) : EReal)
def gkB : Vec Ideal S256x512 .f32 := fun y => ((dkL I (ρ (y 0)) (y 1) : ℝ) : EReal)
def gvB : Vec Ideal S256x512 .f32 := fun y => ((dvL I (ρ (y 0)) (y 1) : ℝ) : EReal)
def reptB : Vec Ideal S512x128 .bf16 := fun y => ((repm (y 1) (y 0) : ℝ) : EReal)

theorem e_q : k2_pay6 (F := Ideal) (cqB I ρ) (sqB I ρ) rotqB (gqB I ρ) = fun y : S256x512.Idx => ((eqL I (ρ (y 0)) (y 1) : ℝ) : EReal) := by
  funext y
  pointwise [cqB, sqB, rotqB, gqB, k2_pay6]
  simp only [← EReal.coe_mul, coe_sum, w8th, ← EReal.coe_add, ← EReal.coe_sub, sub_self, zero_mul, Finset.sum_const_zero, add_zero]
  exact coe_congr (eq_close I (ρ (y 0)) (y 1))

theorem r_q : k2_pay7 (F := Ideal) (pqB I ρ) segqB = fun y : S256x512.Idx => ((mq I (ρ (y 0)) (y 1) : ℝ) : EReal) := by
  funext y
  pointwise [pqB, segqB, k2_pay7, k2_pay5]
  simp only [← EReal.coe_mul, coe_sum, ε_word, ← EReal.coe_add]
  exact (congrArg (fun s : ℝ => Ideal.rsqrt ((s + ε : ℝ) : EReal)) (ms_sum (H := 8) rfl (pq I (ρ (y 0))) (y 1))).trans (rsqrt_ms _)

theorem g_q : k2_pay8 (F := Ideal) (qwB I) (cqB I ρ) (sqB I ρ) rotqB (gqB I ρ)
    = fun y : S256x512.Idx => ((eqL I (ρ (y 0)) (y 1) * I.qw (rem (y 1).val) : ℝ) : EReal) := by
  dsimp only [k2_pay8]
  rw [e_q]
  funext y
  pointwise [qwB]
  simp only [← EReal.coe_mul]

theorem tile_dq : k2_pay21 (F := Ideal) (k2_pay14 (k2_pay5 segqB) (k2_pay9 (pqB I ρ) (qwB I) (cqB I ρ) (sqB I ρ) segqB rotqB (gqB I ρ)) (k2_pay10 (pqB I ρ) segqB)
      (k2_pay11 (pqB I ρ) (qwB I) (cqB I ρ) (sqB I ρ) rotqB (gqB I ρ)) (k2_pay12 (pqB I ρ) (qwB I) (cqB I ρ) (sqB I ρ) rotqB (gqB I ρ))
      (k2_pay13 (pqB I ρ) (qwB I) (cqB I ρ) (sqB I ρ) rotqB (gqB I ρ)))
    = fun y : S256x512.Idx => ((dqO I (ρ (y 0)) (y 1) : ℝ) : EReal) := by
  dsimp only [k2_pay9, k2_pay10, k2_pay11, k2_pay12, k2_pay13]
  rw [g_q, r_q]
  funext y
  pointwise [pqB, segqB, k2_pay5, k2_pay14, k2_pay21]
  simp only [← EReal.coe_mul, coe_sum, ← EReal.coe_add, ← EReal.coe_sub, sub_self, zero_mul, Finset.sum_const_zero, add_zero]
  exact coe_congr (dq_lane I (ρ (y 0)) (y 1))

theorem tile_wq : k2_pay15 (F := Ideal) (pqB I ρ) (k2_pay6 (cqB I ρ) (sqB I ρ) rotqB (gqB I ρ)) (k2_pay7 (pqB I ρ) segqB)
    = fun y : S8x512.Idx => ((∑ k : Fin 32, wqL I (ρ ⟨k.val * 8 + (y 0).val, by have : (y 0).val < 8 := (y 0).isLt; omega⟩) (y 1) : ℝ) : EReal) := by
  rw [e_q, r_q]
  funext y
  pointwise [pqB, k2_pay15]
  simp only [← EReal.coe_mul, coe_sum]
  exact coe_congr (Finset.sum_congr rfl fun k _ => wq_lane I _ _)

theorem e_k : k2_pay18 (F := Ideal) (gkB I ρ) reptB (ckB I ρ) (skB I ρ) rotkB = fun y : S256x128.Idx => ((ekL I (ρ (y 0)) (y 1) : ℝ) : EReal) := by
  funext y
  pointwise [ckB, skB, rotkB, gkB, reptB, k2_pay18]
  simp only [← EReal.coe_mul, coe_sum, ← EReal.coe_add, ← EReal.coe_sub, sub_self, zero_mul, Finset.sum_const_zero, add_zero, ek_sum]
  obtain ⟨l, hl⟩ : ∃ l : Fin 128, l = y 1 := ⟨_, rfl⟩
  rw [← hl, ek_sum]
  exact coe_congr (ek_close I (ρ (y 0)) l)

theorem r_k : k2_pay19 (F := Ideal) (pkB I ρ) (k2_pay17 segkB) = fun y : S256x128.Idx => ((mk I (ρ (y 0)) (y 1) : ℝ) : EReal) := by
  funext y
  pointwise [pkB, segkB, k2_pay19, k2_pay17]
  simp only [← EReal.coe_mul, coe_sum, ε_word, ← EReal.coe_add]
  exact (congrArg (fun s : ℝ => Ideal.rsqrt ((s + ε : ℝ) : EReal)) (ms_sum (H := 2) rfl (pk I (ρ (y 0))) (y 1))).trans (rsqrt_ms _)

theorem tile_dk : k2_pay22 (F := Ideal) (pkB I ρ) (k2_pay16 (kwB I)) (k2_pay17 segkB) (k2_pay18 (gkB I ρ) reptB (ckB I ρ) (skB I ρ) rotkB)
    = fun y : S256x128.Idx => ((dkO I (ρ (y 0)) (y 1) : ℝ) : EReal) := by
  dsimp only [k2_pay22]
  rw [e_k, r_k]
  funext y
  pointwise [pkB, segkB, kwB, k2_pay16, k2_pay17]
  simp only [← EReal.coe_mul, coe_sum, ← EReal.coe_add, ← EReal.coe_sub, sub_self, zero_mul, Finset.sum_const_zero, add_zero]
  exact coe_congr (dk_lane I (ρ (y 0)) (y 1))

theorem tile_wk : k2_pay20 (F := Ideal) (pkB I ρ) (k2_pay17 segkB) (k2_pay18 (gkB I ρ) reptB (ckB I ρ) (skB I ρ) rotkB)
    = fun y : S8x128.Idx => ((∑ k : Fin 32, wkL I (ρ ⟨k.val * 8 + (y 0).val, by have : (y 0).val < 8 := (y 0).isLt; omega⟩) (y 1) : ℝ) : EReal) := by
  dsimp only [k2_pay20]
  rw [e_k, r_k]
  funext y
  pointwise [pkB]
  simp only [← EReal.coe_mul, coe_sum]
  exact coe_congr (Finset.sum_congr rfl fun k _ => wk_lane I _ _)

theorem tile_dv : k2_pay23 (F := Ideal) (gvB I ρ) reptB = fun y : S256x128.Idx => ((dvO I (ρ (y 0)) (y 1) : ℝ) : EReal) := by
  funext y
  pointwise [gvB, reptB, k2_pay23]
  simp only [← EReal.coe_mul, coe_sum]
  exact coe_congr (ev_sum I (ρ (y 0)) (y 1))

end Cert.Attn

end
-- ==== Proof.AttnTab.lean ====
/- The rotary embedding's tables: every cosine and sine in them is a real number. -/
module

public import proofs.«01_k».proof.Proof.AttnRef
public import Idealize.ShloMosaic.Lib.Pipeline.ValueKit.Point

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Reduce Cert.Reference3Ideal Cert.Reference3Ideal.Read

theorem two_word : Ideal.ofBits .f32 0x40000000#32 = ((2 : ℝ) : EReal) := by
  simp [Ideal.ofBits, Ideal.ieee, -EReal.coe_mul]; norm_num

theorem w32 : Ideal.ofBits .f32 0x42000000#32 = ((32 : ℝ) : EReal) := by
  simp [Ideal.ofBits, Ideal.ieee, -EReal.coe_mul]; norm_num

theorem w10000 : Ideal.ofBits .f32 0x461C4000#32 = ((10000 : ℝ) : EReal) := by
  simp [Ideal.ofBits, Ideal.ieee, -EReal.coe_mul]; norm_num

theorem isReal_coe (r : ℝ) : IsReal (r : EReal) := ⟨r, rfl⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_dite {p : Prop} [Decidable p] (f : p → EReal) (g : ¬p → EReal) (hf : ∀ h, IsReal (f h)) (hg : ∀ h, IsReal (g h)) : IsReal (dite p f g) := by
  by_cases h : p
  · rw [dif_pos h]; exact hf h
  · rw [dif_neg h]; exact hg h

theorem speed_close (x : ℝ) : IsReal (Ideal.pow (Ideal.ofBits .f32 0x461C4000#32) (Ideal.div (-(Ideal.ofBits .f32 0x40000000#32 * (x : EReal))) (Ideal.ofBits .f32 0x42000000#32))) := by
  rw [w10000, two_word, w32, ← EReal.coe_mul, ← EReal.coe_neg, Ideal.div_coe (by norm_num), ← EReal.coe_mul, Ideal.pow_coe_coe]
  exact isReal_coe _

theorem speed_real (i : S16.Idx) : IsReal (val_main_v16 (F := Ideal) i) := by
  pointwise [val_main_v16, val_main_v15, val_main_v14, val_main_v13, val_main_v12, val_main_v11, val_main_v10, val_main_v9, val_main_v8, val_main_v7,
    val_main_cst, val_main_cst_0, val_main_cst_1, val_main_cst_2]
  exact speed_close _

theorem row_real (i : S2048.Idx) : IsReal (val_main_v2 (F := Ideal) i) := by
  pointwise [val_main_v2, val_main_v1, val_main_v0]
  exact isReal_coe _

theorem col_real (i : S2048.Idx) : IsReal (val_main_v6 (F := Ideal) i) := by
  pointwise [val_main_v6, val_main_v5, val_main_v4, val_main_v3]
  exact isReal_coe _

theorem row_at (a : Fin 2048) : IsReal (val_main_v2 (F := Ideal) (Idealize.ShloMosaic.ix1 a)) := row_real _
theorem col_at (a : Fin 2048) : IsReal (val_main_v6 (F := Ideal) (Idealize.ShloMosaic.ix1 a)) := col_real _
theorem speed_at (a : Fin 16) : IsReal (val_main_v16 (F := Ideal) (Idealize.ShloMosaic.ix1 a)) := speed_real _

theorem angle_real (i : S2048x64.Idx) : IsReal (val_main_v27 (F := Ideal) i) := by
  pointwise [val_main_v27, val_main_v26, val_main_v25, val_main_v24, val_main_v23, val_main_v22, val_main_v21, val_main_v20, val_main_v19, val_main_v18, val_main_v17]
  exact isReal_dite _ _ (fun _ => isReal_mul (row_at _) (speed_at _)) fun _ => isReal_dite _ _ (fun _ => isReal_mul (row_at _) (speed_at _)) fun _ =>
    isReal_dite _ _ (fun _ => isReal_mul (col_at _) (speed_at _)) fun _ => isReal_mul (col_at _) (speed_at _)

theorem cos_real (i : S2048x64.Idx) : IsReal (val_main_v28 (F := Ideal) i) := by
  obtain ⟨r, hr⟩ := angle_real i
  exact ⟨Real.cos r, by rw [val_main_v28_apply, hr]; rfl⟩

theorem sin_real (i : S2048x64.Idx) : IsReal (val_main_v29 (F := Ideal) i) := by
  obtain ⟨r, hr⟩ := angle_real i
  exact ⟨Real.sin r, by rw [val_main_v29_apply, hr]; rfl⟩

end Cert.Attn

end
-- ==== Proof.AttnHost.lean ====
/- The attention's gradient: what the host prepares, the rotary embedding's tables and the matrices that join, exchange
and repeat lanes. -/
module

public import proofs.«01_k».proof.Proof.AttnTile1
public import proofs.«01_k».proof.Proof.AttnTile2
public import proofs.«01_k».proof.Proof.AttnTab

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

/-! ### Integers below a word's size -/

theorem eq_small (a b : Nat) (ha : a < 4294967296) (hb : b < 4294967296) :
    IntOp.cmpi .eq (BitVec.ofNat 32 a) (BitVec.ofNat 32 b) = if a = b then 1#1 else 0#1 := by
  simp only [IntOp.cmpi]
  by_cases h : a = b
  · subst h; simp
  · rw [if_neg h]
    have : BitVec.ofNat 32 a ≠ BitVec.ofNat 32 b := fun e => h (by
      have := congrArg BitVec.toNat e
      simp only [BitVec.toNat_ofNat] at this
      omega)
    rw [beq_false_of_ne this]
    rfl

theorem quot64 : ∀ a : Fin 512, IntOp.divsi .host (BitVec.ofNat 32 a.val) 64#32 = BitVec.ofNat 32 (a.val / 64) := by decide +kernel

theorem half : ∀ b : Fin 512, IntOp.cmpi .slt (IntOp.remsi .host (BitVec.ofNat 32 b.val) 32#32) 16#32 = if b.val % 32 < 16 then 1#1 else 0#1 := by
  decide +kernel

theorem plus16 : ∀ b : Fin 512, IntOp.addi (BitVec.ofNat 32 b.val) 16#32 = BitVec.ofNat 32 (b.val + 16) := by decide +kernel

theorem minus16 : ∀ b : Fin 512, IntOp.subi (BitVec.ofNat 32 b.val) 16#32 = BitVec.ofNat 32 ((b.val + 4294967280) % 4294967296) := by decide +kernel

theorem place : ∀ b : Fin 512, IntOp.addi (IntOp.muli (IntOp.divsi .host (BitVec.ofNat 32 b.val) 256#32) 64#32) (IntOp.remsi .host (BitVec.ofNat 32 b.val) 64#32)
    = BitVec.ofNat 32 (b.val / 256 * 64 + b.val % 64) := by decide +kernel

/-! ### The matrices' entries -/

theorem neg_one_word : Ideal.ofBits .f32 3212836864#32 = ((-1 : ℝ) : EReal) := by
  simp [Ideal.ofBits, Ideal.ieee, -EReal.coe_mul]; norm_num

theorem w64th : Ideal.ofBits .f32 1015021568#32 = ((1 / 64 : ℝ) : EReal) := by
  simp [Ideal.ofBits, Ideal.ieee, -EReal.coe_mul]; norm_num

theorem one_word' : Ideal.ofBits .f32 1065353216#32 = ((1 : ℝ) : EReal) := by
  simp [Ideal.ofBits, Ideal.ieee, -EReal.coe_mul]; norm_num

theorem seg_entry (a b : Fin 512) :
    Scalar.select (IntOp.cmpi .eq (IntOp.divsi .host (BitVec.ofNat 32 a.val) 64#32) (IntOp.divsi .host (BitVec.ofNat 32 b.val) 64#32))
      (Ideal.ofBits .f32 1015021568#32) (Ideal.ofBits .f32 0#32) = ((if a.val / 64 = b.val / 64 then 1 / 64 else 0 : ℝ) : EReal) := by
  rw [quot64, quot64, eq_small _ _ (by omega) (by omega), select_mask, w64th, zero_word']
  split <;> rfl

theorem rep_entry (a b : Fin 512) :
    Scalar.select (IntOp.cmpi .eq (BitVec.ofNat 32 a.val)
        (IntOp.addi (IntOp.muli (IntOp.divsi .host (BitVec.ofNat 32 b.val) 256#32) 64#32) (IntOp.remsi .host (BitVec.ofNat 32 b.val) 64#32)))
      (Ideal.ofBits .f32 1065353216#32) (Ideal.ofBits .f32 0#32) = ((if a.val = b.val / 256 * 64 + b.val % 64 then 1 else 0 : ℝ) : EReal) := by
  rw [place, eq_small _ _ (by omega) (by omega), select_mask, one_word', zero_word']
  split <;> rfl

theorem rot_entry (a b : Fin 512) :
    Scalar.select (IntOp.andi (IntOp.cmpi .slt (IntOp.remsi .host (BitVec.ofNat 32 b.val) 32#32) 16#32)
        (IntOp.cmpi .eq (BitVec.ofNat 32 a.val) (IntOp.addi (BitVec.ofNat 32 b.val) 16#32))) (Ideal.ofBits .f32 3212836864#32)
      (Scalar.select (IntOp.andi (~~~(IntOp.cmpi .slt (IntOp.remsi .host (BitVec.ofNat 32 b.val) 32#32) 16#32))
        (IntOp.cmpi .eq (BitVec.ofNat 32 a.val) (IntOp.subi (BitVec.ofNat 32 b.val) 16#32))) (Ideal.ofBits .f32 1065353216#32) (Ideal.ofBits .f32 0#32))
    = ((if b.val % 32 < 16 then if a.val = b.val + 16 then -1 else 0 else if a.val + 16 = b.val then 1 else 0 : ℝ) : EReal) := by
  rw [half, plus16, minus16, eq_small _ _ (by omega) (by omega), eq_small _ _ (by omega) (by omega), neg_one_word, one_word', zero_word']
  by_cases h : b.val % 32 < 16
  · rw [if_pos h, if_pos h]
    by_cases h' : a.val = b.val + 16
    · rw [if_pos h', if_pos h']; rfl
    · rw [if_neg h', if_neg h']
      by_cases h2 : a.val = (b.val + 4294967280) % 4294967296
      · rw [if_pos h2]; rfl
      · rw [if_neg h2]; rfl
  · rw [if_neg h, if_neg h]
    have e : (a.val = (b.val + 4294967280) % 4294967296) = (a.val + 16 = b.val) := propext (by omega)
    rw [if_congr (iff_of_eq e) rfl rfl]
    by_cases h2 : a.val + 16 = b.val
    · rw [if_pos h2, if_pos h2]
      by_cases h' : a.val = b.val + 16
      · rw [if_pos h']; rfl
      · rw [if_neg h']; rfl
    · rw [if_neg h2, if_neg h2]
      by_cases h' : a.val = b.val + 16
      · rw [if_pos h']; rfl
      · rw [if_neg h']; rfl

/-! ### The matrices -/

variable {m : (ℓ : Loc nD τ sig) → Buf (Elt Ideal) ℓ} {ρ : Dev nD → PrngReg} {c : Dev nD}

theorem keep15 (r : Ref sig .tc) (h : ∀ L ∈ [hostOps0_15_W, hostOps0_16_W], r ∉ L) : W17 m ρ c (Proc.devRef .tc r) = W15 m ρ c (Proc.devRef .tc r) :=
  (W17_of m ρ c r (h _ (by simp))).trans (W16_of m ρ c r (h _ (by simp)))
theorem keep13 (r : Ref sig .tc) (h : ∀ L ∈ [hostOps0_13_W, hostOps0_14_W, hostOps0_15_W, hostOps0_16_W], r ∉ L) :
    W17 m ρ c (Proc.devRef .tc r) = W13 m ρ c (Proc.devRef .tc r) :=
  (keep15 r fun L hL => h L (by simp at hL ⊢; tauto)).trans ((W15_of m ρ c r (h _ (by simp))).trans (W14_of m ρ c r (h _ (by simp))))
theorem keep9 (r : Ref sig .tc)
    (h : ∀ L ∈ [hostOps0_9_W, hostOps0_10_W, hostOps0_11_W, hostOps0_12_W, hostOps0_13_W, hostOps0_14_W, hostOps0_15_W, hostOps0_16_W], r ∉ L) :
    W17 m ρ c (Proc.devRef .tc r) = W9 m ρ c (Proc.devRef .tc r) :=
  (keep13 r fun L hL => h L (by simp at hL ⊢; tauto)).trans ((W13_of m ρ c r (h _ (by simp))).trans ((W12_of m ρ c r (h _ (by simp))).trans
    ((W11_of m ρ c r (h _ (by simp))).trans (W10_of m ρ c r (h _ (by simp))))))

theorem W3_segq : W3 m ρ c main_v50 = fun i : S512x512.Idx => ((segm (i 0) (i 1) : ℝ) : EReal) := by
  show StableHlo.after hostOps0_2 (StableHlo.after hostOps0_1 (StableHlo.after hostOps0 (W0 m ρ c))) (Proc.devRef .tc main_v50) = _
  simp only [hostOps0, hostOps0_1, hostOps0_2]
  after_results
  funext i
  exact seg_entry ⟨(i 0).val, by have : (i 0).val < 512 := (i 0).isLt; omega⟩ ⟨(i 1).val, by have : (i 1).val < 512 := (i 1).isLt; omega⟩

theorem W5_segk : W5 m ρ c main_v59 = fun i : S128x128.Idx => ((segm (i 0) (i 1) : ℝ) : EReal) := by
  show StableHlo.after hostOps0_4 (StableHlo.after hostOps0_3 (StableHlo.after hostOps0_2 (W2 m ρ c))) (Proc.devRef .tc main_v59) = _
  simp only [hostOps0_2, hostOps0_3, hostOps0_4]
  after_results
  funext i
  exact seg_entry ⟨(i 0).val, by have : (i 0).val < 128 := (i 0).isLt; omega⟩ ⟨(i 1).val, by have : (i 1).val < 128 := (i 1).isLt; omega⟩

theorem W9_rotq : W9 m ρ c main_v77 = fun i : S512x512.Idx => ((rotm (i 0) (i 1) : ℝ) : EReal) := by
  show StableHlo.after hostOps0_8 (StableHlo.after hostOps0_7 (StableHlo.after hostOps0_6 (StableHlo.after hostOps0_5 (StableHlo.after hostOps0_4 (W4 m ρ c))))) (Proc.devRef .tc main_v77) = _
  simp only [hostOps0_4, hostOps0_5, hostOps0_6, hostOps0_7, hostOps0_8]
  after_results
  funext i
  exact rot_entry ⟨(i 0).val, by have : (i 0).val < 512 := (i 0).isLt; omega⟩ ⟨(i 1).val, by have : (i 1).val < 512 := (i 1).isLt; omega⟩

theorem W13_rotk : W13 m ρ c main_v95 = fun i : S128x128.Idx => ((rotm (i 0) (i 1) : ℝ) : EReal) := by
  show StableHlo.after hostOps0_12 (StableHlo.after hostOps0_11 (StableHlo.after hostOps0_10 (StableHlo.after hostOps0_9 (StableHlo.after hostOps0_8 (W8 m ρ c))))) (Proc.devRef .tc main_v95) = _
  simp only [hostOps0_8, hostOps0_9, hostOps0_10, hostOps0_11, hostOps0_12]
  after_results
  funext i
  exact rot_entry ⟨(i 0).val, by have : (i 0).val < 128 := (i 0).isLt; omega⟩ ⟨(i 1).val, by have : (i 1).val < 128 := (i 1).isLt; omega⟩

theorem W15_rep : W15 m ρ c main_v107 = fun i : S128x512.Idx => ((repm (i 0) (i 1) : ℝ) : EReal) := by
  show StableHlo.after hostOps0_14 (StableHlo.after hostOps0_13 (StableHlo.after hostOps0_12 (W12 m ρ c))) (Proc.devRef .tc main_v107) = _
  simp only [hostOps0_12, hostOps0_13, hostOps0_14]
  after_results
  funext i
  exact rep_entry ⟨(i 0).val, by have : (i 0).val < 128 := (i 0).isLt; omega⟩ ⟨(i 1).val, by have : (i 1).val < 512 := (i 1).isLt; omega⟩

theorem W17_rept : W17 m ρ c main_v120 = fun i : S512x128.Idx => ((repm (i 1) (i 0) : ℝ) : EReal) := by
  show StableHlo.after hostOps0_16 (StableHlo.after hostOps0_15 (StableHlo.after hostOps0_14 (W14 m ρ c))) (Proc.devRef .tc main_v120) = _
  simp only [hostOps0_14, hostOps0_15, hostOps0_16]
  after_results
  funext i
  exact rep_entry ⟨(i 1).val, by have : (i 1).val < 128 := (i 1).isLt; omega⟩ ⟨(i 0).val, by have : (i 0).val < 512 := (i 0).isLt; omega⟩

/-! ### The tables -/

theorem keep5 (r : Ref sig .tc) (h : ∀ L ∈ [hostOps0_5_W, hostOps0_6_W, hostOps0_7_W, hostOps0_8_W, hostOps0_9_W, hostOps0_10_W, hostOps0_11_W, hostOps0_12_W, hostOps0_13_W, hostOps0_14_W, hostOps0_15_W, hostOps0_16_W], r ∉ L) : W17 m ρ c (Proc.devRef .tc r) = W5 m ρ c (Proc.devRef .tc r) :=
  (keep9 r fun L hL => h L (by simp at hL ⊢; tauto)).trans ((W9_of m ρ c r (h _ (by simp))).trans ((W8_of m ρ c r (h _ (by simp))).trans ((W7_of m ρ c r (h _ (by simp))).trans (W6_of m ρ c r (h _ (by simp))))))
theorem keep3 (r : Ref sig .tc) (h : ∀ L ∈ [hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W], r ∉ L) : W17 m ρ c (Proc.devRef .tc r) = W3 m ρ c (Proc.devRef .tc r) :=
  (keep5 r fun L hL => h L (by simp at hL ⊢; tauto)).trans ((W5_of m ρ c r (h _ (by simp))).trans (W4_of m ρ c r (h _ (by simp))))
theorem keep1 (r : Ref sig .tc) (h : ∀ L ∈ [hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W], r ∉ L) : W17 m ρ c (Proc.devRef .tc r) = W1 m ρ c (Proc.devRef .tc r) :=
  (keep3 r fun L hL => h L (by simp at hL ⊢; tauto)).trans ((W3_of m ρ c r (h _ (by simp))).trans (W2_of m ρ c r (h _ (by simp))))

theorem W1_cos : W1 m ρ c main_v28 = Cert.Reference3Ideal.Read.val_main_v28 (F := Ideal) := by
  show StableHlo.after hostOps0 (W0 m ρ c) (Proc.devRef .tc main_v28) = _
  simp only [hostOps0]
  after_results
  rfl

theorem W1_sin : W1 m ρ c main_v29 = Cert.Reference3Ideal.Read.val_main_v29 (F := Ideal) := by
  show StableHlo.after hostOps0 (W0 m ρ c) (Proc.devRef .tc main_v29) = _
  simp only [hostOps0]
  after_results
  rfl

variable {I : In} (T : Tab I)
include T

theorem W1_v32 : W1 m ρ c main_v32 = fun i : S2048x512.Idx => ((I.C (i 0) (rem (i 1).val) : ℝ) : EReal) := by
  have e : W1 m ρ c main_v32 = shapeCast S2048x512 (broadcastInDim S1x2048x8x64 ![0, 1, 2, 3] bcast_S1x2048x1x64_S1x2048x8x64_0_1_2_3
      (shapeCast S1x2048x1x64 (W1 m ρ c main_v28 : FVec Ideal S2048x64 .f32) shapeCasts_S2048x64_S1x2048x1x64)) shapeCasts_S1x2048x8x64_S2048x512 := by
    show StableHlo.after hostOps0 (W0 m ρ c) (Proc.devRef .tc main_v32) = shapeCast S2048x512 (broadcastInDim S1x2048x8x64 ![0, 1, 2, 3] bcast_S1x2048x1x64_S1x2048x8x64_0_1_2_3
      (shapeCast S1x2048x1x64 (StableHlo.after hostOps0 (W0 m ρ c) (Proc.devRef .tc main_v28) : FVec Ideal S2048x64 .f32) shapeCasts_S2048x64_S1x2048x1x64)) shapeCasts_S1x2048x8x64_S2048x512
    simp only [hostOps0]
    after_results
    rfl
  rw [e, W1_cos, T.C]
  funext i
  pointwise []
  rfl

theorem W1_v35 : W1 m ρ c main_v35 = fun i : S2048x512.Idx => ((I.S (i 0) (rem (i 1).val) : ℝ) : EReal) := by
  have e : W1 m ρ c main_v35 = shapeCast S2048x512 (broadcastInDim S1x2048x8x64 ![0, 1, 2, 3] bcast_S1x2048x1x64_S1x2048x8x64_0_1_2_3
      (shapeCast S1x2048x1x64 (W1 m ρ c main_v29 : FVec Ideal S2048x64 .f32) shapeCasts_S2048x64_S1x2048x1x64)) shapeCasts_S1x2048x8x64_S2048x512 := by
    show StableHlo.after hostOps0 (W0 m ρ c) (Proc.devRef .tc main_v35) = shapeCast S2048x512 (broadcastInDim S1x2048x8x64 ![0, 1, 2, 3] bcast_S1x2048x1x64_S1x2048x8x64_0_1_2_3
      (shapeCast S1x2048x1x64 (StableHlo.after hostOps0 (W0 m ρ c) (Proc.devRef .tc main_v29) : FVec Ideal S2048x64 .f32) shapeCasts_S2048x64_S1x2048x1x64)) shapeCasts_S1x2048x8x64_S2048x512
    simp only [hostOps0]
    after_results
    rfl
  rw [e, W1_sin, T.S]
  funext i
  pointwise []
  rfl

theorem W1_v38 : W1 m ρ c main_v38 = fun i : S2048x128.Idx => ((I.C (i 0) (rem (i 1).val) : ℝ) : EReal) := by
  have e : W1 m ρ c main_v38 = shapeCast S2048x128 (broadcastInDim S1x2048x2x64 ![0, 1, 2, 3] bcast_S1x2048x1x64_S1x2048x2x64_0_1_2_3
      (shapeCast S1x2048x1x64 (W1 m ρ c main_v28 : FVec Ideal S2048x64 .f32) shapeCasts_S2048x64_S1x2048x1x64)) shapeCasts_S1x2048x2x64_S2048x128 := by
    show StableHlo.after hostOps0 (W0 m ρ c) (Proc.devRef .tc main_v38) = shapeCast S2048x128 (broadcastInDim S1x2048x2x64 ![0, 1, 2, 3] bcast_S1x2048x1x64_S1x2048x2x64_0_1_2_3
      (shapeCast S1x2048x1x64 (StableHlo.after hostOps0 (W0 m ρ c) (Proc.devRef .tc main_v28) : FVec Ideal S2048x64 .f32) shapeCasts_S2048x64_S1x2048x1x64)) shapeCasts_S1x2048x2x64_S2048x128
    simp only [hostOps0]
    after_results
    rfl
  rw [e, W1_cos, T.C]
  funext i
  pointwise []
  rfl

theorem W1_v41 : W1 m ρ c main_v41 = fun i : S2048x128.Idx => ((I.S (i 0) (rem (i 1).val) : ℝ) : EReal) := by
  have e : W1 m ρ c main_v41 = shapeCast S2048x128 (broadcastInDim S1x2048x2x64 ![0, 1, 2, 3] bcast_S1x2048x1x64_S1x2048x2x64_0_1_2_3
      (shapeCast S1x2048x1x64 (W1 m ρ c main_v29 : FVec Ideal S2048x64 .f32) shapeCasts_S2048x64_S1x2048x1x64)) shapeCasts_S1x2048x2x64_S2048x128 := by
    show StableHlo.after hostOps0 (W0 m ρ c) (Proc.devRef .tc main_v41) = shapeCast S2048x128 (broadcastInDim S1x2048x2x64 ![0, 1, 2, 3] bcast_S1x2048x1x64_S1x2048x2x64_0_1_2_3
      (shapeCast S1x2048x1x64 (StableHlo.after hostOps0 (W0 m ρ c) (Proc.devRef .tc main_v29) : FVec Ideal S2048x64 .f32) shapeCasts_S2048x64_S1x2048x1x64)) shapeCasts_S1x2048x2x64_S2048x128
    simp only [hostOps0]
    after_results
    rfl
  rw [e, W1_sin, T.S]
  funext i
  pointwise []
  rfl

omit T

theorem W17_v124 (h : m ((c : Thread nD τ).loc main_arg1) = fun i : S64.Idx => ((I.qw (i 0) : ℝ) : EReal)) :
    W17 m ρ c main_v124 = fun i : S1x512.Idx => ((I.qw (rem (i 1).val) : ℝ) : EReal) := by
  have e : W17 m ρ c main_v124 = shapeCast S1x512 (broadcastInDim S1x1x8x64 ![0, 1, 2, 3] bcast_S1x1x1x64_S1x1x8x64_0_1_2_3
      (shapeCast S1x1x1x64 (shapeCast S1x64 (W0 m ρ c (Proc.devRef .tc main_arg1) : FVec Ideal S64 .f32) shapeCasts_S64_S1x64) shapeCasts_S1x64_S1x1x1x64)) shapeCasts_S1x1x8x64_S1x512 := by
    show StableHlo.after hostOps0_16 (W16 m ρ c) (Proc.devRef .tc main_v124) = _
    simp only [hostOps0_16]
    after_results
    rfl
  have h0 : W0 m ρ c (Proc.devRef .tc main_arg1) = fun i : S64.Idx => ((I.qw (i 0) : ℝ) : EReal) := h
  rw [e, h0]
  funext i
  pointwise []
  rfl

theorem W17_v128 (h : m ((c : Thread nD τ).loc main_arg2) = fun i : S64.Idx => ((I.kw (i 0) : ℝ) : EReal)) :
    W17 m ρ c main_v128 = fun i : S1x128.Idx => ((I.kw (rem (i 1).val) : ℝ) : EReal) := by
  have e : W17 m ρ c main_v128 = shapeCast S1x128 (broadcastInDim S1x1x2x64 ![0, 1, 2, 3] bcast_S1x1x1x64_S1x1x2x64_0_1_2_3
      (shapeCast S1x1x1x64 (shapeCast S1x64 (W0 m ρ c (Proc.devRef .tc main_arg2) : FVec Ideal S64 .f32) shapeCasts_S64_S1x64) shapeCasts_S1x64_S1x1x1x64)) shapeCasts_S1x1x2x64_S1x128 := by
    show StableHlo.after hostOps0_16 (W16 m ρ c) (Proc.devRef .tc main_v128) = _
    simp only [hostOps0_16]
    after_results
    rfl
  have h0 : W0 m ρ c (Proc.devRef .tc main_arg2) = fun i : S64.Idx => ((I.kw (i 0) : ℝ) : EReal) := h
  rw [e, h0]
  funext i
  pointwise []
  rfl

end Cert.Attn

end
-- ==== Proof.AttnReg0.lean ====
/- The attention's gradient: the arguments, what the host prepares of them, and what the region that prepares queries, keys
and values leaves. -/
module

public import proofs.«01_k».proof.Proof.AttnHost
public import proofs.«01_k».proof.Proof.AttnRun

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

theorem idx0_0 : ∀ t : Fin cfg0.N, win0_0.index t = ![t.val, 0] := (by decide +kernel : ∀ t : Fin grid0.N, _)
theorem idx0_1 : ∀ t : Fin cfg0.N, win0_1.index t = ![t.val, 4] := (by decide +kernel : ∀ t : Fin grid0.N, _)
theorem idx0_2 : ∀ t : Fin cfg0.N, win0_2.index t = ![t.val, 5] := (by decide +kernel : ∀ t : Fin grid0.N, _)
theorem idx0_3 : ∀ t : Fin cfg0.N, win0_3.index t = ![t.val % 8, 0] := (by decide +kernel : ∀ t : Fin grid0.N, _)
theorem idx0_4 : ∀ t : Fin cfg0.N, win0_4.index t = ![t.val % 8, 0] := (by decide +kernel : ∀ t : Fin grid0.N, _)
theorem idx0_5 : ∀ t : Fin cfg0.N, win0_5.index t = ![t.val % 8, 0] := (by decide +kernel : ∀ t : Fin grid0.N, _)
theorem idx0_6 : ∀ t : Fin cfg0.N, win0_6.index t = ![t.val % 8, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)
theorem idx0_11 : ∀ t : Fin cfg0.N, win0_11.index t = ![0, 0] := (by decide +kernel : ∀ t : Fin grid0.N, _)
theorem idx0_12 : ∀ t : Fin cfg0.N, win0_12.index t = ![0, 0] := (by decide +kernel : ∀ t : Fin grid0.N, _)
theorem idx0_13 : ∀ t : Fin cfg0.N, win0_13.index t = ![0, 0] := (by decide +kernel : ∀ t : Fin grid0.N, _)
theorem idx0_14 : ∀ t : Fin cfg0.N, win0_14.index t = ![t.val, 0] := (by decide +kernel : ∀ t : Fin grid0.N, _)
theorem idx0_15 : ∀ t : Fin cfg0.N, win0_15.index t = ![t.val, 0] := (by decide +kernel : ∀ t : Fin grid0.N, _)
theorem idx0_16 : ∀ t : Fin cfg0.N, win0_16.index t = ![t.val, 0] := (by decide +kernel : ∀ t : Fin grid0.N, _)

/-- A row of a tile of 256 rows. -/
def tl (t : Fin 16) (i : Fin 256) : Fin 4096 := ⟨t.val * 256 + i.val, by omega⟩

theorem tl_pos (t : Fin 16) (i : Fin 256) : t.val % 8 * 256 + i.val = (pos (tl t i)).val := by
  show _ = (t.val * 256 + i.val) % 2048
  omega

def t0 (t : Fin cfg0.N) : Fin 16 := ⟨t.val, Nat.lt_of_lt_of_eq t.isLt N_0⟩

/-- The arguments are the real arrays `I`, and the tables its `C` and `S`. -/
structure Args (I : In) (m : (ℓ : Loc nD τ sig) → Buf (Elt Ideal) ℓ) (c : Dev nD) : Prop where
  p : m ((c : Thread nD τ).loc main_arg0) = pA I
  qw : m ((c : Thread nD τ).loc main_arg1) = qwA I
  kw : m ((c : Thread nD τ).loc main_arg2) = kwA I
  d : m ((c : Thread nD τ).loc main_arg3) = dA I
  tab : Tab I

variable {I : In} {m : (ℓ : Loc nD τ sig) → Buf (Elt Ideal) ℓ} {ρ : Dev nD → PrngReg} {c : Dev nD} (A : Args I m c)
include A

/-! ### What the regions find -/

theorem V17_p : V17 m ρ c main_arg0 = fun i : S4096x2560.Idx => ((I.p (i 0) (i 1) : ℝ) : EReal) :=
  (W17_args m ρ c main_arg0 (by decide)).trans A.p

theorem V17_d : V17 m ρ c main_arg3 = fun i : S4096x512.Idx => ((I.d (i 0) (i 1) : ℝ) : EReal) :=
  (W17_args m ρ c main_arg3 (by decide)).trans A.d

theorem V17_qw : V17 m ρ c main_v124 = fun i : S1x512.Idx => ((I.qw (rem (i 1).val) : ℝ) : EReal) :=
  W17_v124 A.qw

theorem V17_kw : V17 m ρ c main_v128 = fun i : S1x128.Idx => ((I.kw (rem (i 1).val) : ℝ) : EReal) :=
  W17_v128 A.kw

theorem V17_v32 : V17 m ρ c main_v32 = fun i : S2048x512.Idx => ((I.C (i 0) (rem (i 1).val) : ℝ) : EReal) :=
  (keep1 main_v32 (by decide)).trans (W1_v32 A.tab)

theorem V17_v35 : V17 m ρ c main_v35 = fun i : S2048x512.Idx => ((I.S (i 0) (rem (i 1).val) : ℝ) : EReal) :=
  (keep1 main_v35 (by decide)).trans (W1_v35 A.tab)

theorem V17_v38 : V17 m ρ c main_v38 = fun i : S2048x128.Idx => ((I.C (i 0) (rem (i 1).val) : ℝ) : EReal) :=
  (keep1 main_v38 (by decide)).trans (W1_v38 A.tab)

theorem V17_v41 : V17 m ρ c main_v41 = fun i : S2048x128.Idx => ((I.S (i 0) (rem (i 1).val) : ℝ) : EReal) :=
  (keep1 main_v41 (by decide)).trans (W1_v41 A.tab)

theorem V17_v50 : V17 m ρ c main_v50 = fun i : S512x512.Idx => ((segm (i 0) (i 1) : ℝ) : EReal) :=
  (keep3 main_v50 (by decide)).trans W3_segq

theorem V17_v59 : V17 m ρ c main_v59 = fun i : S128x128.Idx => ((segm (i 0) (i 1) : ℝ) : EReal) :=
  (keep5 main_v59 (by decide)).trans W5_segk

theorem V17_v77 : V17 m ρ c main_v77 = fun i : S512x512.Idx => ((rotm (i 0) (i 1) : ℝ) : EReal) :=
  (keep9 main_v77 (by decide)).trans W9_rotq

theorem V17_v95 : V17 m ρ c main_v95 = fun i : S128x128.Idx => ((rotm (i 0) (i 1) : ℝ) : EReal) :=
  (keep13 main_v95 (by decide)).trans W13_rotk

theorem V17_v107 : V17 m ρ c main_v107 = fun i : S128x512.Idx => ((repm (i 0) (i 1) : ℝ) : EReal) :=
  (keep15 main_v107 (by decide)).trans W15_rep

theorem V17_v120 : V17 m ρ c main_v120 = fun i : S512x128.Idx => ((repm (i 1) (i 0) : ℝ) : EReal) :=
  W17_rept

/-! ### The blocks -/

theorem blk0_0 (t : Fin cfg0.N) : iblk0 (V17 m ρ) c 0 t = pqB I (tl (t0 t)) := by
  funext y
  show (V17 m ρ) c main_arg0 ((win0_0.blk t).view.emb y) = _
  rw [V17_p A]
  refine coe_congr (congrArg₂ I.p (Fin.ext ?_) (Fin.ext ?_))
  all_goals blk_simp [idx0_0 t]
  all_goals rfl

theorem blk0_1 (t : Fin cfg0.N) : iblk0 (V17 m ρ) c 1 t = pkB I (tl (t0 t)) := by
  funext y
  show (V17 m ρ) c main_arg0 ((win0_1.blk t).view.emb y) = _
  rw [V17_p A]
  refine coe_congr (congrArg₂ I.p (Fin.ext ?_) (Fin.ext ?_))
  all_goals blk_simp [idx0_1 t]
  all_goals rfl

theorem blk0_2 (t : Fin cfg0.N) : iblk0 (V17 m ρ) c 2 t = pvB I (tl (t0 t)) := by
  funext y
  show (V17 m ρ) c main_arg0 ((win0_2.blk t).view.emb y) = _
  rw [V17_p A]
  refine coe_congr (congrArg₂ I.p (Fin.ext ?_) (Fin.ext ?_))
  all_goals blk_simp [idx0_2 t]
  all_goals rfl

theorem blk0_3 (t : Fin cfg0.N) : iblk0 (V17 m ρ) c 3 t = cqB I (tl (t0 t)) := by
  funext y
  show (V17 m ρ) c main_v32 ((win0_3.blk t).view.emb y) = _
  rw [V17_v32 A]
  refine coe_congr (congrArg₂ I.C (Fin.ext ((?_ : _ = t.val % 8 * 256 + (y 0).val).trans (tl_pos (t0 t) (y 0)))) (congrArg rem ?_))
  all_goals blk_simp [idx0_3 t]
  all_goals rfl

theorem blk0_4 (t : Fin cfg0.N) : iblk0 (V17 m ρ) c 4 t = sqB I (tl (t0 t)) := by
  funext y
  show (V17 m ρ) c main_v35 ((win0_4.blk t).view.emb y) = _
  rw [V17_v35 A]
  refine coe_congr (congrArg₂ I.S (Fin.ext ((?_ : _ = t.val % 8 * 256 + (y 0).val).trans (tl_pos (t0 t) (y 0)))) (congrArg rem ?_))
  all_goals blk_simp [idx0_4 t]
  all_goals rfl

theorem blk0_5 (t : Fin cfg0.N) : iblk0 (V17 m ρ) c 5 t = ckB I (tl (t0 t)) := by
  funext y
  show (V17 m ρ) c main_v38 ((win0_5.blk t).view.emb y) = _
  rw [V17_v38 A]
  refine coe_congr (congrArg₂ I.C (Fin.ext ((?_ : _ = t.val % 8 * 256 + (y 0).val).trans (tl_pos (t0 t) (y 0)))) (congrArg rem ?_))
  all_goals blk_simp [idx0_5 t]
  all_goals rfl

theorem blk0_6 (t : Fin cfg0.N) : iblk0 (V17 m ρ) c 6 t = skB I (tl (t0 t)) := by
  funext y
  show (V17 m ρ) c main_v41 ((win0_6.blk t).view.emb y) = _
  rw [V17_v41 A]
  refine coe_congr (congrArg₂ I.S (Fin.ext ((?_ : _ = t.val % 8 * 256 + (y 0).val).trans (tl_pos (t0 t) (y 0)))) (congrArg rem ?_))
  all_goals blk_simp [idx0_6 t]
  all_goals rfl

theorem blk0_7 (t : Fin cfg0.N) : iblk0 (V17 m ρ) c 7 t = qwB I := by
  funext y
  show (V17 m ρ) c main_v124 ((win0_7.blk t).view.emb y) = _
  rw [V17_qw A]
  refine coe_congr (congrArg I.qw (congrArg rem ?_))
  all_goals blk_simp [idx0_7 t]
  all_goals rfl

theorem blk0_8 (t : Fin cfg0.N) : iblk0 (V17 m ρ) c 8 t = kwB I := by
  funext y
  show (V17 m ρ) c main_v128 ((win0_8.blk t).view.emb y) = _
  rw [V17_kw A]
  refine coe_congr (congrArg I.kw (congrArg rem ?_))
  all_goals blk_simp [idx0_8 t]
  all_goals rfl

theorem blk0_9 (t : Fin cfg0.N) : iblk0 (V17 m ρ) c 9 t = segqB := by
  funext y
  show (V17 m ρ) c main_v50 ((win0_9.blk t).view.emb y) = _
  rw [V17_v50 A]
  refine coe_congr (congrArg₂ segm (Fin.ext ?_) (Fin.ext ?_))
  all_goals blk_simp [idx0_9 t]
  all_goals rfl

theorem blk0_10 (t : Fin cfg0.N) : iblk0 (V17 m ρ) c 10 t = segkB := by
  funext y
  show (V17 m ρ) c main_v59 ((win0_10.blk t).view.emb y) = _
  rw [V17_v59 A]
  refine coe_congr (congrArg₂ segm (Fin.ext ?_) (Fin.ext ?_))
  all_goals blk_simp [idx0_10 t]
  all_goals rfl

theorem blk0_11 (t : Fin cfg0.N) : iblk0 (V17 m ρ) c 11 t = rotqB := by
  funext y
  show (V17 m ρ) c main_v77 ((win0_11.blk t).view.emb y) = _
  rw [V17_v77 A]
  refine coe_congr (congrArg₂ rotm (Fin.ext ?_) (Fin.ext ?_))
  all_goals blk_simp [idx0_11 t]
  all_goals rfl

theorem blk0_12 (t : Fin cfg0.N) : iblk0 (V17 m ρ) c 12 t = rotkB := by
  funext y
  show (V17 m ρ) c main_v95 ((win0_12.blk t).view.emb y) = _
  rw [V17_v95 A]
  refine coe_congr (congrArg₂ rotm (Fin.ext ?_) (Fin.ext ?_))
  all_goals blk_simp [idx0_12 t]
  all_goals rfl

theorem blk0_13 (t : Fin cfg0.N) : iblk0 (V17 m ρ) c 13 t = repB := by
  funext y
  show (V17 m ρ) c main_v107 ((win0_13.blk t).view.emb y) = _
  rw [V17_v107 A]
  refine coe_congr (congrArg₂ repm (Fin.ext ?_) (Fin.ext ?_))
  all_goals blk_simp [idx0_13 t]
  all_goals rfl

theorem out_q (t : Fin cfg0.N) (y : S256x512.Idx) : (dat0 (V17 m ρ) c).after 14 t y = ((qsL I (tl (t0 t) (y 0)) (y 1) : ℝ) : EReal) := by
  rw [after0_14]
  frame_out
  rw [blk0_0 A, blk0_9 A, blk0_7 A, blk0_3 A, blk0_11 A, blk0_4 A]
  exact congrFun (prep_q I (tl (t0 t))) y

theorem final_q : (dat0 (V17 m ρ) c).arrAt 14 cfg0.N = fun i : S4096x512.Idx => ((qsL I (i 0) (i 1) : ℝ) : EReal) := by
  refine (dat0 (V17 m ρ) c).arrAt_eq_of_covers 14 _ (by decide +kernel) fun t hf y => ?_
  blk_simp
  rw [out_q A]
  have hi : (win0_14.blk t).view.emb y = ix2 (tl (t0 t) (y 0)) (y 1) := ext2 (by blk_simp [idx0_14 t]; rfl) (by blk_simp [idx0_14 t])
  rw [hi]

theorem out_k (t : Fin cfg0.N) (y : S256x512.Idx) : (dat0 (V17 m ρ) c).after 15 t y = ((krL I (tl (t0 t) (y 0)) (rl (y 1)) : ℝ) : EReal) := by
  rw [after0_15]
  frame_out
  rw [blk0_1 A, blk0_10 A, blk0_8 A, blk0_5 A, blk0_12 A, blk0_6 A, blk0_13 A]
  exact congrFun (prep_k I (tl (t0 t))) y

theorem final_k : (dat0 (V17 m ρ) c).arrAt 15 cfg0.N = fun i : S4096x512.Idx => ((krL I (i 0) (rl (i 1)) : ℝ) : EReal) := by
  refine (dat0 (V17 m ρ) c).arrAt_eq_of_covers 15 _ (by decide +kernel) fun t hf y => ?_
  blk_simp
  rw [out_k A]
  have hi : (win0_15.blk t).view.emb y = ix2 (tl (t0 t) (y 0)) (y 1) := ext2 (by blk_simp [idx0_15 t]; rfl) (by blk_simp [idx0_15 t])
  rw [hi]

theorem out_v (t : Fin cfg0.N) (y : S256x512.Idx) : (dat0 (V17 m ρ) c).after 16 t y = ((pv I (tl (t0 t) (y 0)) (rl (y 1)) : ℝ) : EReal) := by
  rw [after0_16]
  frame_out
  rw [blk0_2 A, blk0_13 A]
  exact congrFun (prep_v I (tl (t0 t))) y

theorem final_v : (dat0 (V17 m ρ) c).arrAt 16 cfg0.N = fun i : S4096x512.Idx => ((pv I (i 0) (rl (i 1)) : ℝ) : EReal) := by
  refine (dat0 (V17 m ρ) c).arrAt_eq_of_covers 16 _ (by decide +kernel) fun t hf y => ?_
  blk_simp
  rw [out_v A]
  have hi : (win0_16.blk t).view.emb y = ix2 (tl (t0 t) (y 0)) (y 1) := ext2 (by blk_simp [idx0_16 t]; rfl) (by blk_simp [idx0_16 t])
  rw [hi]

end Cert.Attn

end
-- ==== Proof.AttnReg1.lean ====
/- The attention's gradient: what the region that computes the scores' gradients leaves, every tile of query rows adding its part
to the keys' and the values' gradients. -/
module

public import proofs.«01_k».proof.Proof.AttnReg0

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

theorem idx1_0 : ∀ t : Fin cfg1.N, win1_0.index t = ![t.val / 16 * 8 + t.val % 8, t.val / 8 % 2] := (by decide +kernel : ∀ t : Fin grid1.N, _)
theorem idx1_1 : ∀ t : Fin cfg1.N, win1_1.index t = ![t.val / 16, t.val / 8 % 2] := (by decide +kernel : ∀ t : Fin grid1.N, _)
theorem idx1_2 : ∀ t : Fin cfg1.N, win1_2.index t = ![t.val / 16, t.val / 8 % 2] := (by decide +kernel : ∀ t : Fin grid1.N, _)
theorem idx1_3 : ∀ t : Fin cfg1.N, win1_3.index t = ![t.val / 16 * 8 + t.val % 8, t.val / 8 % 2] := (by decide +kernel : ∀ t : Fin grid1.N, _)
theorem idx1_4 : ∀ t : Fin cfg1.N, win1_4.index t = ![t.val / 16 * 8 + t.val % 8, t.val / 8 % 2] := (by decide +kernel : ∀ t : Fin grid1.N, _)
theorem idx1_5 : ∀ t : Fin cfg1.N, win1_5.index t = ![t.val / 16, t.val / 8 % 2] := (by decide +kernel : ∀ t : Fin grid1.N, _)
theorem idx1_6 : ∀ t : Fin cfg1.N, win1_6.index t = ![t.val / 16, t.val / 8 % 2] := (by decide +kernel : ∀ t : Fin grid1.N, _)

theorem lt32 (t : Fin cfg1.N) : t.val < 32 := Nat.lt_of_lt_of_eq t.isLt N_1

/-- A tile's batch entry, group of heads and place among the tiles of query rows. -/
def b1 (n : Nat) (h : n < 32) : Fin 2 := ⟨n / 16, by omega⟩
def g1 (n : Nat) : Fin 2 := ⟨n / 8 % 2, by omega⟩
def r1 (n : Nat) (i : Fin 256) : Fin 2048 := ⟨n % 8 * 256 + i.val, by omega⟩

theorem spot (r : Fin 4096) (L : Fin 512) (b : Fin 2) (i : Fin 2048) (g : Fin 2) (l : Fin 256) (hr : r.val = b.val * 2048 + i.val)
    (hL : L.val = g.val * 256 + l.val) : bat r = b ∧ pos r = i ∧ hq L = hd g (hl l) ∧ rem L.val = rem l.val := by
  refine ⟨Fin.ext ?_, Fin.ext ?_, Fin.ext ?_, Fin.ext ?_⟩
  · show r.val / 2048 = b.val; omega
  · show r.val % 2048 = i.val; omega
  · show L.val / 64 = g.val * 4 + l.val / 64; omega
  · show L.val % 64 = l.val % 64; omega

section
variable (I : In) (r : Fin 4096) (L : Fin 512) (b : Fin 2) (g : Fin 2) (l : Fin 256)

theorem q_spot (i : Fin 2048) (hr : r.val = b.val * 2048 + i.val) (hL : L.val = g.val * 256 + l.val) : qsL I r L = qL I b g i l := by
  obtain ⟨h1, h2, h3, h4⟩ := spot r L b i g l hr hL
  unfold qsL qL
  rw [h1, h2, h3, h4]

theorem k_spot (i : Fin 2048) (hr : r.val = b.val * 2048 + i.val) (hL : L.val = g.val * 256 + l.val) : krL I r (rl L) = kL I b g i l := by
  obtain ⟨h1, h2, h3, h4⟩ := spot r L b i g l hr hL
  have h5 : hk (rl L) = g := Fin.ext (by show (L.val / 256 * 64 + L.val % 64) / 64 = g.val; omega)
  have h6 : rem (rl L).val = rem l.val := Fin.ext (by show (L.val / 256 * 64 + L.val % 64) % 64 = l.val % 64; omega)
  unfold krL kL
  rw [h1, h2, h5, h6]

theorem v_spot (i : Fin 2048) (hr : r.val = b.val * 2048 + i.val) (hL : L.val = g.val * 256 + l.val) : pv I r (rl L) = vL I b g i l := by
  refine congrArg₂ I.p (Fin.ext hr) (Fin.ext ?_)
  show 640 + (L.val / 256 * 64 + L.val % 64) = 640 + (g.val * 64 + l.val % 64)
  omega

theorem d_spot (i : Fin 2048) (hr : r.val = b.val * 2048 + i.val) (hL : L.val = g.val * 256 + l.val) : I.d r L = dL I b g i l := by
  refine congrArg₂ I.d (Fin.ext hr) (Fin.ext ?_)
  show L.val = (g.val * 4 + l.val / 64) * 64 + l.val % 64
  omega

theorem dq_spot (i : Fin 2048) (hr : r.val = b.val * 2048 + i.val) (hL : L.val = g.val * 256 + l.val) : dqs I b i g (hl l) (rem l.val) = dqL I r L := by
  obtain ⟨h1, h2, h3, h4⟩ := spot r L b i g l hr hL
  have h5 : grp (hq L) = g := Fin.ext (by show L.val / 64 / 4 = g.val; omega)
  have h6 : plc (hq L) = hl l := Fin.ext (by show L.val / 64 % 4 = l.val / 64; omega)
  unfold dqL
  rw [h5, h6, h1, h2, h4]

theorem lane_spot (hL : L.val = g.val * 256 + l.val) : lg L = g ∧ ln L = hl l :=
  ⟨Fin.ext (by show L.val / 256 = g.val; omega), Fin.ext (by show L.val % 256 / 64 = l.val / 64; omega)⟩

theorem dk_spot (j : Fin 2048) (hr : r.val = b.val * 2048 + j.val) (hL : L.val = g.val * 256 + l.val) :
    ∑ n : Fin 8, dkP I b g (r1 n.val) j l = dkL I r L := by
  obtain ⟨h1, h2, h3, h4⟩ := spot r L b j g l hr hL
  obtain ⟨h5, h6⟩ := lane_spot L g l hL
  unfold dkL dkP
  rw [h1, h2, h5, h6, h4]
  refine Eq.trans ?_ (sum_split 8 256 rfl fun i : Fin 2048 => dS I b g (hl l) i j * qs I b i (hd g (hl l)) (rem l.val)).symm
  refine Finset.sum_congr rfl fun n _ => Finset.sum_congr rfl fun i _ => ?_
  have e : r1 n.val i = ⟨n.val * 256 + i.val, by omega⟩ := Fin.ext (by show n.val % 8 * 256 + i.val = n.val * 256 + i.val; omega)
  unfold qT qL
  rw [e]

theorem dv_spot (j : Fin 2048) (hr : r.val = b.val * 2048 + j.val) (hL : L.val = g.val * 256 + l.val) :
    ∑ n : Fin 8, dvP I b g (r1 n.val) j l = dvL I r L := by
  obtain ⟨h1, h2, h3, h4⟩ := spot r L b j g l hr hL
  obtain ⟨h5, h6⟩ := lane_spot L g l hL
  unfold dvL dvP
  rw [h1, h2, h5, h6, h4]
  refine Eq.trans ?_ (sum_split 8 256 rfl fun i : Fin 2048 => ct I b i (hd g (hl l)) (rem l.val) * soft (sc I b g (hl l) i) j).symm
  refine Finset.sum_congr rfl fun n _ => Finset.sum_congr rfl fun i _ => ?_
  have e : r1 n.val i = ⟨n.val * 256 + i.val, by omega⟩ := Fin.ext (by show n.val % 8 * 256 + i.val = n.val * 256 + i.val; omega)
  unfold dT dL
  rw [e, mul_comm]

end

variable {I : In} {m : (ℓ : Loc nD τ sig) → Buf (Elt Ideal) ℓ} {ρ : Dev nD → PrngReg} {c : Dev nD} (A : Args I m c)
include A

theorem V18_q : V18 m ρ c main_v129_0 = fun i : S4096x512.Idx => ((qsL I (i 0) (i 1) : ℝ) : EReal) := (hF0 m ρ c 14).symm.trans (final_q A)
theorem V18_k : V18 m ρ c main_v129_1 = fun i : S4096x512.Idx => ((krL I (i 0) (rl (i 1)) : ℝ) : EReal) := (hF0 m ρ c 15).symm.trans (final_k A)
theorem V18_v : V18 m ρ c main_v129_2 = fun i : S4096x512.Idx => ((pv I (i 0) (rl (i 1)) : ℝ) : EReal) := (hF0 m ρ c 16).symm.trans (final_v A)
theorem V18_d : V18 m ρ c main_arg3 = fun i : S4096x512.Idx => ((I.d (i 0) (i 1) : ℝ) : EReal) := (W18_args m ρ c main_arg3 (by decide)).trans A.d

theorem blk1_0 (t : Fin cfg1.N) : iblk1 (V18 m ρ) c 0 t = qBl I (b1 t.val (lt32 t)) (g1 t.val) (r1 t.val) := by
  funext y
  show (V18 m ρ) c main_v129_0 ((win1_0.blk t).view.emb y) = _
  rw [V18_q A]
  refine coe_congr (q_spot I _ _ (b1 t.val (lt32 t)) (g1 t.val) (y 1) (r1 t.val (y 0)) ?_ ?_)
  · blk_simp [idx1_0 t]
    show (t.val / 16 * 8 + t.val % 8) * 256 + (y 0).val = t.val / 16 * 2048 + (t.val % 8 * 256 + (y 0).val)
    omega
  · blk_simp [idx1_0 t]
    rfl

theorem blk1_1 (t : Fin cfg1.N) : iblk1 (V18 m ρ) c 1 t = kBl I (b1 t.val (lt32 t)) (g1 t.val) := by
  funext y
  show (V18 m ρ) c main_v129_1 ((win1_1.blk t).view.emb y) = _
  rw [V18_k A]
  refine coe_congr (k_spot I _ _ (b1 t.val (lt32 t)) (g1 t.val) (y 1) (y 0) ?_ ?_)
  · blk_simp [idx1_1 t]
    show t.val / 16 * 2048 + (y 0).val = t.val / 16 * 2048 + (y 0).val
    rfl
  · blk_simp [idx1_1 t]
    rfl

theorem blk1_2 (t : Fin cfg1.N) : iblk1 (V18 m ρ) c 2 t = vBl I (b1 t.val (lt32 t)) (g1 t.val) := by
  funext y
  show (V18 m ρ) c main_v129_2 ((win1_2.blk t).view.emb y) = _
  rw [V18_v A]
  refine coe_congr (v_spot I _ _ (b1 t.val (lt32 t)) (g1 t.val) (y 1) (y 0) ?_ ?_)
  · blk_simp [idx1_2 t]
    show t.val / 16 * 2048 + (y 0).val = t.val / 16 * 2048 + (y 0).val
    rfl
  · blk_simp [idx1_2 t]
    rfl

theorem blk1_3 (t : Fin cfg1.N) : iblk1 (V18 m ρ) c 3 t = dBl I (b1 t.val (lt32 t)) (g1 t.val) (r1 t.val) := by
  funext y
  show (V18 m ρ) c main_arg3 ((win1_3.blk t).view.emb y) = _
  rw [V18_d A]
  refine coe_congr (d_spot I _ _ (b1 t.val (lt32 t)) (g1 t.val) (y 1) (r1 t.val (y 0)) ?_ ?_)
  · blk_simp [idx1_3 t]
    show (t.val / 16 * 8 + t.val % 8) * 256 + (y 0).val = t.val / 16 * 2048 + (t.val % 8 * 256 + (y 0).val)
    omega
  · blk_simp [idx1_3 t]
    rfl

/-! ### What a tile computes -/

theorem outs1_dq (t : Fin cfg1.N) (y : S256x256.Idx) : (outsAt1 (V18 m ρ) c t.val t.isLt).1 y
    = ((dqs I (b1 t.val (lt32 t)) (r1 t.val (y 0)) (g1 t.val) (hl (y 1)) (rem (y 1).val) : ℝ) : EReal) := by
  rcases Classical.em (t.val % 8 = 0) with h | h
  on_goal 1 => rw [outsAt1_A (V18 m ρ) c t h]
  on_goal 2 => rw [outsAt1_B (V18 m ρ) c t h]
  all_goals
    frame_out
    rw [blk1_0 A, blk1_1 A, blk1_2 A, blk1_3 A, show iota Kind.tc S256x256 32 [1] iota_S256x256_d1_w32 = lanes from rfl, pay_q4, mask2, mask1, mask3, mask0]
    exact congrFun (pay_dq I _ _ _) y

theorem outs1_dk_A (t : Fin cfg1.N) (h : t.val % 8 = 0) (y : S2048x256.Idx) : (outsAt1 (V18 m ρ) c t.val t.isLt).2.1 y
    = ((dkP I (b1 t.val (lt32 t)) (g1 t.val) (r1 t.val) (y 0) (y 1) : ℝ) : EReal) := by
  rw [outsAt1_A (V18 m ρ) c t h]
  frame_out
  rw [blk1_0 A, blk1_1 A, blk1_2 A, blk1_3 A, show iota Kind.tc S256x256 32 [1] iota_S256x256_d1_w32 = lanes from rfl, pay_q4, mask2, mask1, mask3, mask0]
  refine (congrFun (pay_dk I _ _ _ _) y).trans ?_
  rw [show k1_pay2 (F := Ideal) y = Ideal.ofBits .f32 0#32 from rfl, zero_word', ← EReal.coe_add, zero_add]

theorem outs1_dk_B (t : Fin cfg1.N) (h : ¬ t.val % 8 = 0) (y : S2048x256.Idx) : (outsAt1 (V18 m ρ) c t.val t.isLt).2.1 y
    = (outsAt1 (V18 m ρ) c (t.val - 1) (Nat.lt_of_le_of_lt (Nat.sub_le _ _) t.isLt)).2.1 y
      + ((dkP I (b1 t.val (lt32 t)) (g1 t.val) (r1 t.val) (y 0) (y 1) : ℝ) : EReal) := by
  rw [outsAt1_B (V18 m ρ) c t h]
  frame_out
  rw [blk1_0 A, blk1_1 A, blk1_2 A, blk1_3 A, show iota Kind.tc S256x256 32 [1] iota_S256x256_d1_w32 = lanes from rfl, pay_q4, mask2, mask1, mask3, mask0]
  exact congrFun (pay_dk I _ _ _ _) y

theorem outs1_dv_A (t : Fin cfg1.N) (h : t.val % 8 = 0) (y : S2048x256.Idx) : (outsAt1 (V18 m ρ) c t.val t.isLt).2.2 y
    = ((dvP I (b1 t.val (lt32 t)) (g1 t.val) (r1 t.val) (y 0) (y 1) : ℝ) : EReal) := by
  rw [outsAt1_A (V18 m ρ) c t h]
  frame_out
  rw [blk1_0 A, blk1_1 A, blk1_3 A, show iota Kind.tc S256x256 32 [1] iota_S256x256_d1_w32 = lanes from rfl, pay_q4, mask2, mask1, mask3, mask0, pay_d4, pay_p4]
  refine (congrFun (pay_dv I _ _ _ _) y).trans ?_
  rw [show k1_pay3 (F := Ideal) y = Ideal.ofBits .f32 0#32 from rfl, zero_word', ← EReal.coe_add, zero_add]

theorem outs1_dv_B (t : Fin cfg1.N) (h : ¬ t.val % 8 = 0) (y : S2048x256.Idx) : (outsAt1 (V18 m ρ) c t.val t.isLt).2.2 y
    = (outsAt1 (V18 m ρ) c (t.val - 1) (Nat.lt_of_le_of_lt (Nat.sub_le _ _) t.isLt)).2.2 y
      + ((dvP I (b1 t.val (lt32 t)) (g1 t.val) (r1 t.val) (y 0) (y 1) : ℝ) : EReal) := by
  rw [outsAt1_B (V18 m ρ) c t h]
  frame_out
  rw [blk1_0 A, blk1_1 A, blk1_3 A, show iota Kind.tc S256x256 32 [1] iota_S256x256_d1_w32 = lanes from rfl, pay_q4, mask2, mask1, mask3, mask0, pay_d4, pay_p4]
  exact congrFun (pay_dv I _ _ _ _) y

omit A in
theorem at_lt (q : Nat) (h : q < 4) (n : Nat) (hn : n < 8) : q * 8 + n < cfg1.N := by
  have : cfg1.N = 32 := N_1
  omega

omit A in
theorem dk_same (q : Nat) (h : q < 4) (n : Nat) (hn : n < 8) (h32 : q * 8 + n < 32) (j : Fin 2048) (l : Fin 256) :
    dkP I (b1 (q * 8 + n) h32) (g1 (q * 8 + n)) (r1 (q * 8 + n)) j l = dkP I ⟨q / 2, by omega⟩ ⟨q % 2, by omega⟩ (r1 n) j l := by
  have e1 : b1 (q * 8 + n) h32 = ⟨q / 2, by omega⟩ := Fin.ext (by show (q * 8 + n) / 16 = q / 2; omega)
  have e2 : g1 (q * 8 + n) = ⟨q % 2, by omega⟩ := Fin.ext (by show (q * 8 + n) / 8 % 2 = q % 2; omega)
  have e3 : r1 (q * 8 + n) = r1 n := funext fun i => Fin.ext (by show (q * 8 + n) % 8 * 256 + i.val = n % 8 * 256 + i.val; omega)
  rw [e1, e2, e3]

theorem run_dk (q : Nat) (h : q < 4) (y : S2048x256.Idx) : (outsAt1 (V18 m ρ) c (q * 8 + 7) (at_lt q h 7 (by decide))).2.1 y
    = ((∑ n : Fin 8, dkP I ⟨q / 2, by omega⟩ ⟨q % 2, by omega⟩ (r1 n.val) (y 0) (y 1) : ℝ) : EReal) :=
  acc_sum (N := 8) (fun n hn => (outsAt1 (V18 m ρ) c (q * 8 + n) (at_lt q h n hn)).2.1 y)
    (fun n => dkP I ⟨q / 2, by omega⟩ ⟨q % 2, by omega⟩ (r1 n.val) (y 0) (y 1))
    (fun hn => (outs1_dk_A A ⟨q * 8 + 0, at_lt q h 0 hn⟩ (by show (q * 8 + 0) % 8 = 0; omega) y).trans (coe_congr (dk_same q h 0 hn _ _ _)))
    (fun n hn => (outs1_dk_B A ⟨q * 8 + (n + 1), at_lt q h (n + 1) hn⟩ (by show ¬ (q * 8 + (n + 1)) % 8 = 0; omega) y).trans
      (congrArg ((outsAt1 (V18 m ρ) c (q * 8 + n) (at_lt q h n (Nat.lt_of_succ_lt hn))).2.1 y + ·) (coe_congr (dk_same q h (n + 1) hn _ _ _)))) 7 (by decide)

theorem outs1_dk (t : Fin cfg1.N) (h : t.val % 8 = 7) (y : S2048x256.Idx) (r : Fin 4096) (L : Fin 512) (hr : r.val = t.val / 16 * 2048 + (y 0).val)
    (hL : L.val = t.val / 8 % 2 * 256 + (y 1).val) : (outsAt1 (V18 m ρ) c t.val t.isLt).2.1 y = ((dkL I r L : ℝ) : EReal) := by
  have h32 := lt32 t
  have e : t.val = t.val / 8 * 8 + 7 := by omega
  have e' : t = ⟨t.val / 8 * 8 + 7, at_lt _ (by omega) 7 (by decide)⟩ := Fin.ext e
  have h1 := run_dk (ρ := ρ) A (t.val / 8) (by omega) y
  have h2 : (outsAt1 (V18 m ρ) c t.val t.isLt).2.1 y = (outsAt1 (V18 m ρ) c (t.val / 8 * 8 + 7) (at_lt _ (by omega) 7 (by decide))).2.1 y :=
    congrArg (fun s : Fin cfg1.N => (outsAt1 (V18 m ρ) c s.val s.isLt).2.1 y) e'
  rw [h2, h1]
  exact coe_congr (dk_spot I r L _ _ (y 1) (y 0) (by rw [hr]; show _ = t.val / 8 / 2 * 2048 + (y 0).val; omega) hL)

omit A in
theorem dv_same (q : Nat) (h : q < 4) (n : Nat) (hn : n < 8) (h32 : q * 8 + n < 32) (j : Fin 2048) (l : Fin 256) :
    dvP I (b1 (q * 8 + n) h32) (g1 (q * 8 + n)) (r1 (q * 8 + n)) j l = dvP I ⟨q / 2, by omega⟩ ⟨q % 2, by omega⟩ (r1 n) j l := by
  have e1 : b1 (q * 8 + n) h32 = ⟨q / 2, by omega⟩ := Fin.ext (by show (q * 8 + n) / 16 = q / 2; omega)
  have e2 : g1 (q * 8 + n) = ⟨q % 2, by omega⟩ := Fin.ext (by show (q * 8 + n) / 8 % 2 = q % 2; omega)
  have e3 : r1 (q * 8 + n) = r1 n := funext fun i => Fin.ext (by show (q * 8 + n) % 8 * 256 + i.val = n % 8 * 256 + i.val; omega)
  rw [e1, e2, e3]

theorem run_dv (q : Nat) (h : q < 4) (y : S2048x256.Idx) : (outsAt1 (V18 m ρ) c (q * 8 + 7) (at_lt q h 7 (by decide))).2.2 y
    = ((∑ n : Fin 8, dvP I ⟨q / 2, by omega⟩ ⟨q % 2, by omega⟩ (r1 n.val) (y 0) (y 1) : ℝ) : EReal) :=
  acc_sum (N := 8) (fun n hn => (outsAt1 (V18 m ρ) c (q * 8 + n) (at_lt q h n hn)).2.2 y)
    (fun n => dvP I ⟨q / 2, by omega⟩ ⟨q % 2, by omega⟩ (r1 n.val) (y 0) (y 1))
    (fun hn => (outs1_dv_A A ⟨q * 8 + 0, at_lt q h 0 hn⟩ (by show (q * 8 + 0) % 8 = 0; omega) y).trans (coe_congr (dv_same q h 0 hn _ _ _)))
    (fun n hn => (outs1_dv_B A ⟨q * 8 + (n + 1), at_lt q h (n + 1) hn⟩ (by show ¬ (q * 8 + (n + 1)) % 8 = 0; omega) y).trans
      (congrArg ((outsAt1 (V18 m ρ) c (q * 8 + n) (at_lt q h n (Nat.lt_of_succ_lt hn))).2.2 y + ·) (coe_congr (dv_same q h (n + 1) hn _ _ _)))) 7 (by decide)

theorem outs1_dv (t : Fin cfg1.N) (h : t.val % 8 = 7) (y : S2048x256.Idx) (r : Fin 4096) (L : Fin 512) (hr : r.val = t.val / 16 * 2048 + (y 0).val)
    (hL : L.val = t.val / 8 % 2 * 256 + (y 1).val) : (outsAt1 (V18 m ρ) c t.val t.isLt).2.2 y = ((dvL I r L : ℝ) : EReal) := by
  have h32 := lt32 t
  have e : t.val = t.val / 8 * 8 + 7 := by omega
  have e' : t = ⟨t.val / 8 * 8 + 7, at_lt _ (by omega) 7 (by decide)⟩ := Fin.ext e
  have h1 := run_dv (ρ := ρ) A (t.val / 8) (by omega) y
  have h2 : (outsAt1 (V18 m ρ) c t.val t.isLt).2.2 y = (outsAt1 (V18 m ρ) c (t.val / 8 * 8 + 7) (at_lt _ (by omega) 7 (by decide))).2.2 y :=
    congrArg (fun s : Fin cfg1.N => (outsAt1 (V18 m ρ) c s.val s.isLt).2.2 y) e'
  rw [h2, h1]
  exact coe_congr (dv_spot I r L _ _ (y 1) (y 0) (by rw [hr]; show _ = t.val / 8 / 2 * 2048 + (y 0).val; omega) hL)

/-! ### The region's arrays -/

theorem final_dqs : (dat1 (V18 m ρ) c).arrAt 4 cfg1.N = fun i : S4096x512.Idx => ((dqL I (i 0) (i 1) : ℝ) : EReal) := by
  refine (dat1 (V18 m ρ) c).arrAt_eq_of_covers 4 _ (by decide +kernel) fun t hf y => ?_
  blk_simp
  rw [after1_4, outs1_dq A]
  refine coe_congr (dq_spot I _ _ (b1 t.val (lt32 t)) (g1 t.val) (y 1) (r1 t.val (y 0)) ?_ ?_)
  · blk_simp [idx1_4 t]
    show (t.val / 16 * 8 + t.val % 8) * 256 + (y 0).val = t.val / 16 * 2048 + (t.val % 8 * 256 + (y 0).val)
    omega
  · blk_simp [idx1_4 t]
    rfl

theorem final_dkL : (dat1 (V18 m ρ) c).arrAt 5 cfg1.N = fun i : S4096x512.Idx => ((dkL I (i 0) (i 1) : ℝ) : EReal) := by
  refine (dat1 (V18 m ρ) c).arrAt_eq_of_covers 5 _ (by decide +kernel) fun t hf y => ?_
  have ht := (flush1_5 t).mp hf
  blk_simp
  rw [after1_5]
  refine outs1_dk A t ht y _ _ ?_ ?_
  · blk_simp [idx1_5 t]
  · blk_simp [idx1_5 t]

theorem final_dvL : (dat1 (V18 m ρ) c).arrAt 6 cfg1.N = fun i : S4096x512.Idx => ((dvL I (i 0) (i 1) : ℝ) : EReal) := by
  refine (dat1 (V18 m ρ) c).arrAt_eq_of_covers 6 _ (by decide +kernel) fun t hf y => ?_
  have ht := (flush1_6 t).mp hf
  blk_simp
  rw [after1_6]
  refine outs1_dv A t ht y _ _ ?_ ?_
  · blk_simp [idx1_6 t]
  · blk_simp [idx1_6 t]

end Cert.Attn

end
-- ==== Proof.AttnReg2.lean ====
/- The attention's gradient: what the last region leaves, the gradients through the rotary embedding and the norm, and the weights'
gradients every tile of rows adds to. -/
module

public import proofs.«01_k».proof.Proof.AttnReg1

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

theorem idx2_0 : ∀ t : Fin cfg2.N, win2_0.index t = ![t.val, 0] := (by decide +kernel : ∀ t : Fin grid2.N, _)
theorem idx2_1 : ∀ t : Fin cfg2.N, win2_1.index t = ![t.val, 4] := (by decide +kernel : ∀ t : Fin grid2.N, _)
theorem idx2_2 : ∀ t : Fin cfg2.N, win2_2.index t = ![t.val % 8, 0] := (by decide +kernel : ∀ t : Fin grid2.N, _)
theorem idx2_3 : ∀ t : Fin cfg2.N, win2_3.index t = ![t.val % 8, 0] := (by decide +kernel : ∀ t : Fin grid2.N, _)
theorem idx2_4 : ∀ t : Fin cfg2.N, win2_4.index t = ![t.val % 8, 0] := (by decide +kernel : ∀ t : Fin grid2.N, _)
theorem idx2_5 : ∀ t : Fin cfg2.N, win2_5.index t = ![t.val % 8, 0] := (by decide +kernel : ∀ t : Fin grid2.N, _)
theorem idx2_6 : ∀ t : Fin cfg2.N, win2_6.index t = ![0, 0] := (by decide +kernel : ∀ t : Fin grid2.N, _)
theorem idx2_7 : ∀ t : Fin cfg2.N, win2_7.index t = ![0, 0] := (by decide +kernel : ∀ t : Fin grid2.N, _)
theorem idx2_8 : ∀ t : Fin cfg2.N, win2_8.index t = ![0, 0] := (by decide +kernel : ∀ t : Fin grid2.N, _)
theorem idx2_9 : ∀ t : Fin cfg2.N, win2_9.index t = ![0, 0] := (by decide +kernel : ∀ t : Fin grid2.N, _)
theorem idx2_10 : ∀ t : Fin cfg2.N, win2_10.index t = ![0, 0] := (by decide +kernel : ∀ t : Fin grid2.N, _)
theorem idx2_11 : ∀ t : Fin cfg2.N, win2_11.index t = ![0, 0] := (by decide +kernel : ∀ t : Fin grid2.N, _)
theorem idx2_12 : ∀ t : Fin cfg2.N, win2_12.index t = ![0, 0] := (by decide +kernel : ∀ t : Fin grid2.N, _)
theorem idx2_13 : ∀ t : Fin cfg2.N, win2_13.index t = ![t.val, 0] := (by decide +kernel : ∀ t : Fin grid2.N, _)
theorem idx2_14 : ∀ t : Fin cfg2.N, win2_14.index t = ![t.val, 0] := (by decide +kernel : ∀ t : Fin grid2.N, _)
theorem idx2_15 : ∀ t : Fin cfg2.N, win2_15.index t = ![t.val, 0] := (by decide +kernel : ∀ t : Fin grid2.N, _)
theorem idx2_16 : ∀ t : Fin cfg2.N, win2_16.index t = ![t.val, 0] := (by decide +kernel : ∀ t : Fin grid2.N, _)
theorem idx2_17 : ∀ t : Fin cfg2.N, win2_17.index t = ![0, 0] := (by decide +kernel : ∀ t : Fin grid2.N, _)
theorem idx2_18 : ∀ t : Fin cfg2.N, win2_18.index t = ![0, 0] := (by decide +kernel : ∀ t : Fin grid2.N, _)

def t2 (t : Fin cfg2.N) : Fin 16 := ⟨t.val, Nat.lt_of_lt_of_eq t.isLt N_2⟩

variable {I : In} {m : (ℓ : Loc nD τ sig) → Buf (Elt Ideal) ℓ} {ρ : Dev nD → PrngReg} {c : Dev nD} (A : Args I m c)
include A

theorem V19_p : V19 m ρ c main_arg0 = fun i : S4096x2560.Idx => ((I.p (i 0) (i 1) : ℝ) : EReal) :=
  (W19_args m ρ c main_arg0 (by decide)).trans A.p

theorem V19_qw : V19 m ρ c main_v124 = fun i : S1x512.Idx => ((I.qw (rem (i 1).val) : ℝ) : EReal) :=
  (W19_of m ρ c main_v124 (by decide)).trans ((W18_of m ρ c main_v124 (by decide)).trans (V17_qw A))

theorem V19_kw : V19 m ρ c main_v128 = fun i : S1x128.Idx => ((I.kw (rem (i 1).val) : ℝ) : EReal) :=
  (W19_of m ρ c main_v128 (by decide)).trans ((W18_of m ρ c main_v128 (by decide)).trans (V17_kw A))

theorem V19_v32 : V19 m ρ c main_v32 = fun i : S2048x512.Idx => ((I.C (i 0) (rem (i 1).val) : ℝ) : EReal) :=
  (W19_of m ρ c main_v32 (by decide)).trans ((W18_of m ρ c main_v32 (by decide)).trans (V17_v32 A))

theorem V19_v35 : V19 m ρ c main_v35 = fun i : S2048x512.Idx => ((I.S (i 0) (rem (i 1).val) : ℝ) : EReal) :=
  (W19_of m ρ c main_v35 (by decide)).trans ((W18_of m ρ c main_v35 (by decide)).trans (V17_v35 A))

theorem V19_v38 : V19 m ρ c main_v38 = fun i : S2048x128.Idx => ((I.C (i 0) (rem (i 1).val) : ℝ) : EReal) :=
  (W19_of m ρ c main_v38 (by decide)).trans ((W18_of m ρ c main_v38 (by decide)).trans (V17_v38 A))

theorem V19_v41 : V19 m ρ c main_v41 = fun i : S2048x128.Idx => ((I.S (i 0) (rem (i 1).val) : ℝ) : EReal) :=
  (W19_of m ρ c main_v41 (by decide)).trans ((W18_of m ρ c main_v41 (by decide)).trans (V17_v41 A))

theorem V19_v50 : V19 m ρ c main_v50 = fun i : S512x512.Idx => ((segm (i 0) (i 1) : ℝ) : EReal) :=
  (W19_of m ρ c main_v50 (by decide)).trans ((W18_of m ρ c main_v50 (by decide)).trans (V17_v50 A))

theorem V19_v59 : V19 m ρ c main_v59 = fun i : S128x128.Idx => ((segm (i 0) (i 1) : ℝ) : EReal) :=
  (W19_of m ρ c main_v59 (by decide)).trans ((W18_of m ρ c main_v59 (by decide)).trans (V17_v59 A))

theorem V19_v77 : V19 m ρ c main_v77 = fun i : S512x512.Idx => ((rotm (i 0) (i 1) : ℝ) : EReal) :=
  (W19_of m ρ c main_v77 (by decide)).trans ((W18_of m ρ c main_v77 (by decide)).trans (V17_v77 A))

theorem V19_v95 : V19 m ρ c main_v95 = fun i : S128x128.Idx => ((rotm (i 0) (i 1) : ℝ) : EReal) :=
  (W19_of m ρ c main_v95 (by decide)).trans ((W18_of m ρ c main_v95 (by decide)).trans (V17_v95 A))

theorem V19_v120 : V19 m ρ c main_v120 = fun i : S512x128.Idx => ((repm (i 1) (i 0) : ℝ) : EReal) :=
  (W19_of m ρ c main_v120 (by decide)).trans ((W18_of m ρ c main_v120 (by decide)).trans (V17_v120 A))

theorem V19_gq : V19 m ρ c main_v130_0 = fun i : S4096x512.Idx => ((dqL I (i 0) (i 1) : ℝ) : EReal) := (hF1 m ρ c 4).symm.trans (final_dqs A)

theorem V19_gk : V19 m ρ c main_v130_1 = fun i : S4096x512.Idx => ((dkL I (i 0) (i 1) : ℝ) : EReal) := (hF1 m ρ c 5).symm.trans (final_dkL A)

theorem V19_gv : V19 m ρ c main_v130_2 = fun i : S4096x512.Idx => ((dvL I (i 0) (i 1) : ℝ) : EReal) := (hF1 m ρ c 6).symm.trans (final_dvL A)

theorem blk2_0 (t : Fin cfg2.N) : iblk2 (V19 m ρ) c 0 t = pqB I (tl (t2 t)) := by
  funext y
  show (V19 m ρ) c main_arg0 ((win2_0.blk t).view.emb y) = _
  rw [V19_p A]
  refine coe_congr (congrArg₂ I.p (Fin.ext ?_) (Fin.ext ?_))
  all_goals blk_simp [idx2_0 t]
  all_goals rfl

theorem blk2_1 (t : Fin cfg2.N) : iblk2 (V19 m ρ) c 1 t = pkB I (tl (t2 t)) := by
  funext y
  show (V19 m ρ) c main_arg0 ((win2_1.blk t).view.emb y) = _
  rw [V19_p A]
  refine coe_congr (congrArg₂ I.p (Fin.ext ?_) (Fin.ext ?_))
  all_goals blk_simp [idx2_1 t]
  all_goals rfl

theorem blk2_2 (t : Fin cfg2.N) : iblk2 (V19 m ρ) c 2 t = cqB I (tl (t2 t)) := by
  funext y
  show (V19 m ρ) c main_v32 ((win2_2.blk t).view.emb y) = _
  rw [V19_v32 A]
  refine coe_congr (congrArg₂ I.C (Fin.ext ((?_ : _ = t.val % 8 * 256 + (y 0).val).trans (tl_pos (t2 t) (y 0)))) (congrArg rem ?_))
  all_goals blk_simp [idx2_2 t]
  all_goals rfl

theorem blk2_3 (t : Fin cfg2.N) : iblk2 (V19 m ρ) c 3 t = sqB I (tl (t2 t)) := by
  funext y
  show (V19 m ρ) c main_v35 ((win2_3.blk t).view.emb y) = _
  rw [V19_v35 A]
  refine coe_congr (congrArg₂ I.S (Fin.ext ((?_ : _ = t.val % 8 * 256 + (y 0).val).trans (tl_pos (t2 t) (y 0)))) (congrArg rem ?_))
  all_goals blk_simp [idx2_3 t]
  all_goals rfl

theorem blk2_4 (t : Fin cfg2.N) : iblk2 (V19 m ρ) c 4 t = ckB I (tl (t2 t)) := by
  funext y
  show (V19 m ρ) c main_v38 ((win2_4.blk t).view.emb y) = _
  rw [V19_v38 A]
  refine coe_congr (congrArg₂ I.C (Fin.ext ((?_ : _ = t.val % 8 * 256 + (y 0).val).trans (tl_pos (t2 t) (y 0)))) (congrArg rem ?_))
  all_goals blk_simp [idx2_4 t]
  all_goals rfl

theorem blk2_5 (t : Fin cfg2.N) : iblk2 (V19 m ρ) c 5 t = skB I (tl (t2 t)) := by
  funext y
  show (V19 m ρ) c main_v41 ((win2_5.blk t).view.emb y) = _
  rw [V19_v41 A]
  refine coe_congr (congrArg₂ I.S (Fin.ext ((?_ : _ = t.val % 8 * 256 + (y 0).val).trans (tl_pos (t2 t) (y 0)))) (congrArg rem ?_))
  all_goals blk_simp [idx2_5 t]
  all_goals rfl

theorem blk2_6 (t : Fin cfg2.N) : iblk2 (V19 m ρ) c 6 t = qwB I := by
  funext y
  show (V19 m ρ) c main_v124 ((win2_6.blk t).view.emb y) = _
  rw [V19_qw A]
  refine coe_congr (congrArg I.qw (congrArg rem ?_))
  all_goals blk_simp [idx2_6 t]
  all_goals rfl

theorem blk2_7 (t : Fin cfg2.N) : iblk2 (V19 m ρ) c 7 t = kwB I := by
  funext y
  show (V19 m ρ) c main_v128 ((win2_7.blk t).view.emb y) = _
  rw [V19_kw A]
  refine coe_congr (congrArg I.kw (congrArg rem ?_))
  all_goals blk_simp [idx2_7 t]
  all_goals rfl

theorem blk2_8 (t : Fin cfg2.N) : iblk2 (V19 m ρ) c 8 t = segqB := by
  funext y
  show (V19 m ρ) c main_v50 ((win2_8.blk t).view.emb y) = _
  rw [V19_v50 A]
  refine coe_congr (congrArg₂ segm (Fin.ext ?_) (Fin.ext ?_))
  all_goals blk_simp [idx2_8 t]
  all_goals rfl

theorem blk2_9 (t : Fin cfg2.N) : iblk2 (V19 m ρ) c 9 t = segkB := by
  funext y
  show (V19 m ρ) c main_v59 ((win2_9.blk t).view.emb y) = _
  rw [V19_v59 A]
  refine coe_congr (congrArg₂ segm (Fin.ext ?_) (Fin.ext ?_))
  all_goals blk_simp [idx2_9 t]
  all_goals rfl

theorem blk2_10 (t : Fin cfg2.N) : iblk2 (V19 m ρ) c 10 t = rotqB := by
  funext y
  show (V19 m ρ) c main_v77 ((win2_10.blk t).view.emb y) = _
  rw [V19_v77 A]
  refine coe_congr (congrArg₂ rotm (Fin.ext ?_) (Fin.ext ?_))
  all_goals blk_simp [idx2_10 t]
  all_goals rfl

theorem blk2_11 (t : Fin cfg2.N) : iblk2 (V19 m ρ) c 11 t = rotkB := by
  funext y
  show (V19 m ρ) c main_v95 ((win2_11.blk t).view.emb y) = _
  rw [V19_v95 A]
  refine coe_congr (congrArg₂ rotm (Fin.ext ?_) (Fin.ext ?_))
  all_goals blk_simp [idx2_11 t]
  all_goals rfl

theorem blk2_12 (t : Fin cfg2.N) : iblk2 (V19 m ρ) c 12 t = reptB := by
  funext y
  show (V19 m ρ) c main_v120 ((win2_12.blk t).view.emb y) = _
  rw [V19_v120 A]
  refine coe_congr (congrArg₂ repm (Fin.ext ?_) (Fin.ext ?_))
  all_goals blk_simp [idx2_12 t]
  all_goals rfl

theorem blk2_13 (t : Fin cfg2.N) : iblk2 (V19 m ρ) c 13 t = gqB I (tl (t2 t)) := by
  funext y
  show (V19 m ρ) c main_v130_0 ((win2_13.blk t).view.emb y) = _
  rw [V19_gq A]
  refine coe_congr (congrArg₂ (dqL I) (Fin.ext ?_) (Fin.ext ?_))
  all_goals blk_simp [idx2_13 t]
  all_goals rfl

theorem blk2_14 (t : Fin cfg2.N) : iblk2 (V19 m ρ) c 14 t = gkB I (tl (t2 t)) := by
  funext y
  show (V19 m ρ) c main_v130_1 ((win2_14.blk t).view.emb y) = _
  rw [V19_gk A]
  refine coe_congr (congrArg₂ (dkL I) (Fin.ext ?_) (Fin.ext ?_))
  all_goals blk_simp [idx2_14 t]
  all_goals rfl

theorem blk2_15 (t : Fin cfg2.N) : iblk2 (V19 m ρ) c 15 t = gvB I (tl (t2 t)) := by
  funext y
  show (V19 m ρ) c main_v130_2 ((win2_15.blk t).view.emb y) = _
  rw [V19_gv A]
  refine coe_congr (congrArg₂ (dvL I) (Fin.ext ?_) (Fin.ext ?_))
  all_goals blk_simp [idx2_15 t]
  all_goals rfl

/-! ### What a tile computes -/

omit A in
theorem dqkv_q (r : Fin 4096) (l : Fin 768) (x : Fin 512) (h : l.val = x.val) : dqO I r x = dqkv I r l := by
  unfold dqkv
  rw [dif_pos (by omega)]
  refine congrArg₂ (dq I (bat r) (pos r)) (Fin.ext ?_) (Fin.ext ?_)
  · show x.val / 64 = l.val / 64; omega
  · show x.val % 64 = l.val % 64; omega

omit A in
theorem dqkv_k (r : Fin 4096) (l : Fin 768) (x : Fin 128) (h : l.val = 512 + x.val) : dkO I r x = dqkv I r l := by
  unfold dqkv
  rw [dif_neg (by omega), dif_pos (by omega)]
  refine congrArg₂ (dk I (bat r) (pos r)) (Fin.ext ?_) (Fin.ext ?_)
  · show x.val / 64 = (l.val - 512) / 64; omega
  · show x.val % 64 = (l.val - 512) % 64; omega

omit A in
theorem dqkv_v (r : Fin 4096) (l : Fin 768) (x : Fin 128) (h : l.val = 640 + x.val) : dvO I r x = dqkv I r l := by
  unfold dqkv
  rw [dif_neg (by omega), dif_neg (by omega)]
  refine congrArg₂ (dv I (bat r) (pos r)) (Fin.ext ?_) (Fin.ext ?_)
  · show x.val / 64 = (l.val - 640) / 64; omega
  · show x.val % 64 = (l.val - 640) % 64; omega

theorem outs2_d (t : Fin cfg2.N) (y : S256x768.Idx) : (outsAt2 (V19 m ρ) c t.val t.isLt).1 y = ((dqkv I (tl (t2 t) (y 0)) (y 1) : ℝ) : EReal) := by
  rcases Classical.em (t.val % 16 = 0) with h | h
  on_goal 1 => rw [outsAt2_A (V19 m ρ) c t h]
  on_goal 2 => rw [outsAt2_B (V19 m ρ) c t h]
  all_goals
    frame_out
    rw [blk2_0 A, blk2_1 A, blk2_2 A, blk2_3 A, blk2_4 A, blk2_5 A, blk2_6 A, blk2_7 A, blk2_8 A, blk2_9 A, blk2_10 A, blk2_11 A, blk2_12 A, blk2_13 A, blk2_14 A, blk2_15 A, tile_dq, tile_dk, tile_dv]
    canon_tiles x h using (View.cover_of_tiledBy _ ![256, 128] (by sl_kernel_rfl) y)
    · exact coe_congr ((congrArg (fun r => dvO I (tl (t2 t) r) (x 1)) (Fin.ext h0.symm)).trans (dqkv_v _ _ _ h1))
    · exact coe_congr ((congrArg (fun r => dkO I (tl (t2 t) r) (x 1)) (Fin.ext h0.symm)).trans (dqkv_k _ _ _ h1))
    · exact coe_congr ((congrArg (fun r => dqO I (tl (t2 t) r) (x 1)) (Fin.ext h0.symm)).trans (dqkv_q _ _ _ h1))

/-- What a tile adds to the weight's gradient at a row of a group of eight. -/
def part_q (I : In) (t : Fin cfg2.N) (b : Fin 8) (l : Fin 512) : ℝ := ∑ k : Fin 32, wqL I (tl (t2 t) ⟨k.val * 8 + b.val, by omega⟩) l

theorem outs2_q_A (t : Fin cfg2.N) (h : t.val % 16 = 0) (y : S8x512.Idx) : (outsAt2 (V19 m ρ) c t.val t.isLt).2.1 y
    = ((part_q I t (y 0) (y 1) : ℝ) : EReal) := by
  rw [outsAt2_A (V19 m ρ) c t h]
  frame_out
  rw [blk2_0 A, blk2_2 A, blk2_3 A, blk2_8 A, blk2_10 A, blk2_13 A, tile_wq]
  pointwise [k2_pay3, k2_pay1]
  rfl

theorem outs2_q_B (t : Fin cfg2.N) (h : ¬ t.val % 16 = 0) (y : S8x512.Idx) : (outsAt2 (V19 m ρ) c t.val t.isLt).2.1 y
    = (outsAt2 (V19 m ρ) c (t.val - 1) (Nat.lt_of_le_of_lt (Nat.sub_le _ _) t.isLt)).2.1 y + ((part_q I t (y 0) (y 1) : ℝ) : EReal) := by
  rw [outsAt2_B (V19 m ρ) c t h]
  frame_out
  rw [blk2_0 A, blk2_2 A, blk2_3 A, blk2_8 A, blk2_10 A, blk2_13 A, tile_wq]
  pointwise [k2_pay3]
  rfl

/-- What a tile adds to the weight's gradient at a row of a group of eight. -/
def part_k (I : In) (t : Fin cfg2.N) (b : Fin 8) (l : Fin 128) : ℝ := ∑ k : Fin 32, wkL I (tl (t2 t) ⟨k.val * 8 + b.val, by omega⟩) l

theorem outs2_k_A (t : Fin cfg2.N) (h : t.val % 16 = 0) (y : S8x128.Idx) : (outsAt2 (V19 m ρ) c t.val t.isLt).2.2 y
    = ((part_k I t (y 0) (y 1) : ℝ) : EReal) := by
  rw [outsAt2_A (V19 m ρ) c t h]
  frame_out
  rw [blk2_1 A, blk2_4 A, blk2_5 A, blk2_9 A, blk2_11 A, blk2_12 A, blk2_14 A, tile_wk]
  pointwise [k2_pay4, k2_pay2]
  rfl

theorem outs2_k_B (t : Fin cfg2.N) (h : ¬ t.val % 16 = 0) (y : S8x128.Idx) : (outsAt2 (V19 m ρ) c t.val t.isLt).2.2 y
    = (outsAt2 (V19 m ρ) c (t.val - 1) (Nat.lt_of_le_of_lt (Nat.sub_le _ _) t.isLt)).2.2 y + ((part_k I t (y 0) (y 1) : ℝ) : EReal) := by
  rw [outsAt2_B (V19 m ρ) c t h]
  frame_out
  rw [blk2_1 A, blk2_4 A, blk2_5 A, blk2_9 A, blk2_11 A, blk2_12 A, blk2_14 A, tile_wk]
  pointwise [k2_pay4]
  rfl

/-! ### The arrays the region leaves -/

theorem final_d : (dat2 (V19 m ρ) c).arrAt 16 cfg2.N = fun i : S4096x768.Idx => ((dqkv I (i 0) (i 1) : ℝ) : EReal) := by
  refine (dat2 (V19 m ρ) c).arrAt_eq_of_covers 16 _ (by decide +kernel) fun t _ y => ?_
  blk_simp
  rw [after2_16, outs2_d A]
  have hi : (win2_16.blk t).view.emb y = ix2 (tl (t2 t) (y 0)) (y 1) := ext2 (by blk_simp [idx2_16 t]; rfl) (by blk_simp [idx2_16 t])
  rw [hi]

omit A in
theorem last (t : Fin cfg2.N) (h : t.val % 16 = 15) : t.val = 15 := by have := t.isLt; have hN : cfg2.N = 16 := N_2; omega

omit A in
theorem not_first {n : Nat} (h : n + 1 < cfg2.N) : ¬ (n + 1) % 16 = 0 := by have hN : cfg2.N = 16 := N_2; omega

omit A in
/-- The sum up to the last tile is the sum over the tiles. -/
theorem sum_to_last (p : Fin cfg2.N → ℝ) (t : Fin cfg2.N) (h : t.val = 15) :
    ∑ k : Fin (t.val + 1), p ⟨k.val, Nat.lt_of_lt_of_le k.isLt t.isLt⟩ = ∑ t, p t := by
  obtain ⟨n, hn⟩ := t
  obtain rfl : n = 15 := h
  rfl

theorem final_wq : (dat2 (V19 m ρ) c).arrAt 17 cfg2.N = fun y : S8x512.Idx => ((∑ t : Fin cfg2.N, part_q I t (y 0) (y 1) : ℝ) : EReal) := by
  refine (dat2 (V19 m ρ) c).arrAt_eq_of_covers 17 _ (by decide +kernel) fun t hf y => ?_
  have ht := last t ((flush2_17 t).mp hf)
  blk_simp
  rw [after2_17]
  have hi : (win2_17.blk t).view.emb y = y := ext2 (by blk_simp [idx2_17 t]) (by blk_simp [idx2_17 t])
  rw [hi]
  refine (acc_sum (fun n h => (outsAt2 (V19 m ρ) c n h).2.1 y) (fun t => part_q I t (y 0) (y 1)) (fun h => outs2_q_A A ⟨0, h⟩ rfl y)
    (fun n h => outs2_q_B A ⟨n + 1, h⟩ (not_first h) y) t.val t.isLt).trans ?_
  exact coe_congr (sum_to_last (fun t => part_q I t (y 0) (y 1)) t ht)

theorem final_wk : (dat2 (V19 m ρ) c).arrAt 18 cfg2.N = fun y : S8x128.Idx => ((∑ t : Fin cfg2.N, part_k I t (y 0) (y 1) : ℝ) : EReal) := by
  refine (dat2 (V19 m ρ) c).arrAt_eq_of_covers 18 _ (by decide +kernel) fun t hf y => ?_
  have ht := last t ((flush2_18 t).mp hf)
  blk_simp
  rw [after2_18]
  have hi : (win2_18.blk t).view.emb y = y := ext2 (by blk_simp [idx2_18 t]) (by blk_simp [idx2_18 t])
  rw [hi]
  refine (acc_sum (fun n h => (outsAt2 (V19 m ρ) c n h).2.2 y) (fun t => part_k I t (y 0) (y 1)) (fun h => outs2_k_A A ⟨0, h⟩ rfl y)
    (fun n h => outs2_k_B A ⟨n + 1, h⟩ (not_first h) y) t.val t.isLt).trans ?_
  exact coe_congr (sum_to_last (fun t => part_k I t (y 0) (y 1)) t ht)

end Cert.Attn

end
-- ==== Proof.AttnFwd.lean ====
/- The attention itself: what the body that computes one tile's outputs computes, of real arguments. A key group's four heads lie side
by side in a tile's lanes, and the body takes them one after another, each with the other heads' lanes masked out. -/
module

public import proofs.«01_k».proof.Proof.AttnReg2

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

/-! ### The lanes' masks -/

def maskF (n : Fin 4) : IVec S512x256 1 := fun y => if hl (y 1) = n then 1#1 else 0#1
def lanesF : IVec S512x256 32 := iota .tc S512x256 32 [1] iota_S512x256_d1_w32

theorem maskF0 : k3_pay6 = maskF 0 := by
  funext y
  exact (by decide +kernel : ∀ l : Fin 256, k3_pay6 (ix2 0 l) = maskF 0 (ix2 0 l)) (y 1)

theorem maskF1 : k3_pay9 lanesF 64#32 k3_pay7 k3_pay8 0#32 = maskF 1 := by
  funext y
  exact (by decide +kernel : ∀ l : Fin 256, k3_pay9 lanesF 64#32 k3_pay7 k3_pay8 0#32 (ix2 0 l) = maskF 1 (ix2 0 l)) (y 1)

theorem maskF2 : k3_pay10 lanesF = maskF 2 := by
  funext y
  exact (by decide +kernel : ∀ l : Fin 256, k3_pay10 lanesF (ix2 0 l) = maskF 2 (ix2 0 l)) (y 1)

theorem maskF3 : k3_pay11 lanesF = maskF 3 := by
  funext y
  exact (by decide +kernel : ∀ l : Fin 256, k3_pay11 lanesF (ix2 0 l) = maskF 3 (ix2 0 l)) (y 1)

/-! ### One head of a tile -/

variable (I : In) (b g : Fin 2) (ρ : Fin 512 → Fin 2048)

/-- A query row's output in one lane, by the head `n`; every lane by its own head. -/
def oH (n : Fin 4) (i : Fin 2048) (l : Fin 256) : ℝ := ∑ j, soft (sc I b g n i) j * vL I b g j l
def oL (i : Fin 2048) (l : Fin 256) : ℝ := oH I b g (hl l) i l

def qF : Vec Ideal S512x256 .bf16 := fun y => ((qL I b g (ρ (y 0)) (y 1) : ℝ) : EReal)
/-- The queries of one head alone, and its scores. -/
def qH (n : Fin 4) : FVec Ideal S512x256 .bf16 := fun y => ((if hl (y 1) = n then qL I b g (ρ (y 0)) (y 1) else 0 : ℝ) : EReal)
def scF (n : Fin 4) : FVec Ideal S512x2048 .f32 := fun y => ((sc I b g n (ρ (y 0)) (y 1) : ℝ) : EReal)

theorem sum_head (n : Fin 4) (f k : Fin 256 → ℝ) :
    ∑ l, (if hl l = n then f l else 0) * k l = ∑ x : Fin 64, f ⟨n.val * 64 + x.val, by omega⟩ * k ⟨n.val * 64 + x.val, by omega⟩ := by
  rw [sum_split 4 64 rfl, Finset.sum_eq_single n]
  · refine Finset.sum_congr rfl fun x _ => ?_
    rw [if_pos (Fin.ext (by show (n.val * 64 + x.val) / 64 = n.val; omega))]
  · refine fun q _ hq => Finset.sum_eq_zero fun x _ => ?_
    rw [if_neg fun e => hq (Fin.ext ?_), zero_mul]
    have e' : (q.val * 64 + x.val) / 64 = n.val := congrArg Fin.val e
    omega
  · exact fun hn => absurd (Finset.mem_univ _) hn

theorem sc_head (n : Fin 4) (i j : Fin 2048) : ∑ l, (if hl l = n then qL I b g i l else 0) * kL I b g j l = sc I b g n i j := by
  rw [sum_head]
  refine Finset.sum_congr rfl fun x _ => ?_
  have e1 : hl ⟨n.val * 64 + x.val, by omega⟩ = n := Fin.ext (by show (n.val * 64 + x.val) / 64 = n.val; omega)
  have e2 : rem (n.val * 64 + x.val) = x := Fin.ext (by show (n.val * 64 + x.val) % 64 = x.val; omega)
  unfold qL kL
  rw [e1, e2, mul_comm]

theorem pay_qH (n : Fin 4) : (select (maskF n) (k3_pay2 (qF I b g ρ)) (broadcast S512x256 (Scalar.ofBits (F := Ideal) .bf16 0x0000#16)) : FVec Ideal S512x256 .bf16)
    = qH I b g ρ n := by
  funext y
  pointwise [maskF, k3_pay2, qF, qH]
  exact ite_coe _ _

theorem pay_scF (n : Fin 4) : (matmul (F := Ideal) dot_S512x256_S2048x256_S512x2048_1_1_0_0_n_n none (qH I b g ρ n) (k3_pay3 (kBl I b g))
    (constant S512x2048 .f32 0x00000000#32) : FVec Ideal S512x2048 .f32) = scF I b g ρ n := by
  funext y
  pointwise [k3_pay3, kBl, qH, scF]
  simp only [← EReal.coe_mul, coe_sum]
  exact coe_congr (sc_head I b g n (ρ (y 0)) (y 1))

theorem pay_maxF (n : Fin 4) : ∃ M : Fin 512 → ℝ, multiReduction (F := Ideal) .maximumf [1] S512 (scF I b g ρ n) 0xFF800000#32 reduces_S512x2048_S512 (.inl rfl) rfl
    = fun i => ((M (i 0) : ℝ) : EReal) := by
  have h : ∀ i, IsReal (multiReduction (F := Ideal) .maximumf [1] S512 (scF I b g ρ n) 0xFF800000#32 reduces_S512x2048_S512 (.inl rfl) rfl i) := fun i => by
    pointwise [scF]
    exact isReal_fold _ ⟨(0 : Fin 2048), Finset.mem_univ _⟩ _ fun k => ⟨_, rfl⟩
  exact reals1 h

/-- A row's output with the division by the row's sum after the product with the values. -/
theorem head_close {n : Nat} (f v : Fin (n + 1) → ℝ) (M : ℝ) :
    (∑ k, Ideal.exp ((f k : EReal) - (M : EReal)) * (v k : EReal)) * Ideal.div 1 (∑ k, Ideal.exp ((f k : EReal) - (M : EReal)))
      = ((∑ k, soft f k * v k : ℝ) : EReal) := by
  have h := (exp_sum_pos fun k => f k - M).ne'
  simp only [← EReal.coe_sub, Ideal.exp_coe, ← EReal.coe_mul, coe_sum, one_div_coe h]
  refine coe_congr ?_
  rw [Finset.sum_mul]
  refine Finset.sum_congr rfl fun k _ => ?_
  rw [← soft_shift f M k]
  ring

theorem pay_head (n : Fin 4) (old : FVec Ideal S512x256 .f32) :
    k3_pay12 (F := Ideal) (k3_pay2 (qF I b g ρ)) (k3_pay3 (kBl I b g)) (k3_pay4 (vBl I b g)) old (maskF n)
      = fun y : S512x256.Idx => if hl (y 1) = n then ((oH I b g n (ρ (y 0)) (y 1) : ℝ) : EReal) else old y := by
  obtain ⟨M, hM⟩ := pay_maxF I b g ρ n
  dsimp only [k3_pay12]
  rw [pay_qH, pay_scF, hM]
  funext y
  pointwise [scF, maskF, k3_pay4, vBl]
  refine (select_mask _ _ _).trans ?_
  rw [head_close (sc I b g n (ρ (y 0))) (fun k => vL I b g k (y 1)) (M (y 0))]
  rfl

theorem pick (n : Fin 4) (f : Fin 4 → EReal) (z : EReal) :
    (if n = 3 then f 3 else if n = 2 then f 2 else if n = 1 then f 1 else if n = 0 then f 0 else z) = f n := by
  fin_cases n <;> rfl

theorem pay_out : k3_pay1 (F := Ideal) (k3_pay4 (vBl I b g)) (maskF 3)
      (k3_pay14 (k3_pay2 (qF I b g ρ)) (k3_pay3 (kBl I b g)) (k3_pay4 (vBl I b g)) (maskF 1) (maskF 2)
        (k3_pay12 (k3_pay2 (qF I b g ρ)) (k3_pay3 (kBl I b g)) (k3_pay4 (vBl I b g)) k3_pay5 (maskF 0)) (k3_pay13 (k3_pay2 (qF I b g ρ)) (maskF 1)))
      (k3_pay15 (k3_pay2 (qF I b g ρ)) (k3_pay3 (kBl I b g)) (maskF 3)) (k3_pay16 (k3_pay2 (qF I b g ρ)) (k3_pay3 (kBl I b g)) (maskF 3))
    = fun y : S512x256.Idx => ((oL I b g (ρ (y 0)) (y 1) : ℝ) : EReal) := by
  have e (old : FVec Ideal S512x256 .f32) : k3_pay14 (F := Ideal) (k3_pay2 (qF I b g ρ)) (k3_pay3 (kBl I b g)) (k3_pay4 (vBl I b g)) (maskF 1) (maskF 2) old
      (k3_pay13 (k3_pay2 (qF I b g ρ)) (maskF 1))
      = k3_pay12 (k3_pay2 (qF I b g ρ)) (k3_pay3 (kBl I b g)) (k3_pay4 (vBl I b g))
        (k3_pay12 (k3_pay2 (qF I b g ρ)) (k3_pay3 (kBl I b g)) (k3_pay4 (vBl I b g)) old (maskF 1)) (maskF 2) := rfl
  have e' (old : FVec Ideal S512x256 .f32) : k3_pay1 (F := Ideal) (k3_pay4 (vBl I b g)) (maskF 3) old
      (k3_pay15 (k3_pay2 (qF I b g ρ)) (k3_pay3 (kBl I b g)) (maskF 3)) (k3_pay16 (k3_pay2 (qF I b g ρ)) (k3_pay3 (kBl I b g)) (maskF 3))
      = k3_pay12 (k3_pay2 (qF I b g ρ)) (k3_pay3 (kBl I b g)) (k3_pay4 (vBl I b g)) old (maskF 3) := rfl
  rw [e, e', pay_head, pay_head, pay_head, pay_head]
  funext y
  exact pick (hl (y 1)) (fun n => ((oH I b g n (ρ (y 0)) (y 1) : ℝ) : EReal)) _

/-! ### The tiles -/

theorem idx3_0 : ∀ t : Fin cfg3.N, win3_0.index t = ![t.val / 8 * 4 + t.val % 4, t.val / 4 % 2] := (by decide +kernel : ∀ t : Fin grid3.N, _)
theorem idx3_1 : ∀ t : Fin cfg3.N, win3_1.index t = ![t.val / 8, t.val / 4 % 2] := (by decide +kernel : ∀ t : Fin grid3.N, _)
theorem idx3_2 : ∀ t : Fin cfg3.N, win3_2.index t = ![t.val / 8, t.val / 4 % 2] := (by decide +kernel : ∀ t : Fin grid3.N, _)
theorem idx3_3 : ∀ t : Fin cfg3.N, win3_3.index t = ![t.val / 8 * 4 + t.val % 4, t.val / 4 % 2] := (by decide +kernel : ∀ t : Fin grid3.N, _)

theorem lt16 (t : Fin cfg3.N) : t.val < 16 := Nat.lt_of_lt_of_eq t.isLt N_3

def b3 (n : Nat) (h : n < 16) : Fin 2 := ⟨n / 8, by omega⟩
def g3 (n : Nat) : Fin 2 := ⟨n / 4 % 2, by omega⟩
def r3 (n : Nat) (i : Fin 512) : Fin 2048 := ⟨n % 4 * 512 + i.val, by omega⟩

theorem y_spot (r : Fin 4096) (L : Fin 512) (l : Fin 256) (i : Fin 2048) (hr : r.val = b.val * 2048 + i.val) (hL : L.val = g.val * 256 + l.val) :
    oL I b g i l = yF I r L := by
  obtain ⟨h1, h2, h3, h4⟩ := spot r L b i g l hr hL
  have h5 : grp (hq L) = g := Fin.ext (by show L.val / 64 / 4 = g.val; omega)
  have h6 : plc (hq L) = hl l := Fin.ext (by show L.val / 64 % 4 = l.val / 64; omega)
  unfold yF oL oH vL
  rw [h5, h6, h1, h2, h4]

end Cert.Attn

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

variable {I : In} {m : (ℓ : Loc nD τ sig) → Buf (Elt Ideal) ℓ} {ρ : Dev nD → PrngReg} {c : Dev nD} (A : Args I m c)
include A

theorem V20_q : V20 m ρ c main_v129_0 = fun i : S4096x512.Idx => ((qsL I (i 0) (i 1) : ℝ) : EReal) :=
  (W20_of m ρ c main_v129_0 (by decide)).trans ((W19_of m ρ c main_v129_0 (by decide)).trans (V18_q A))
theorem V20_k : V20 m ρ c main_v129_1 = fun i : S4096x512.Idx => ((krL I (i 0) (rl (i 1)) : ℝ) : EReal) :=
  (W20_of m ρ c main_v129_1 (by decide)).trans ((W19_of m ρ c main_v129_1 (by decide)).trans (V18_k A))
theorem V20_v : V20 m ρ c main_v129_2 = fun i : S4096x512.Idx => ((pv I (i 0) (rl (i 1)) : ℝ) : EReal) :=
  (W20_of m ρ c main_v129_2 (by decide)).trans ((W19_of m ρ c main_v129_2 (by decide)).trans (V18_v A))

theorem blk3_0 (t : Fin cfg3.N) : iblk3 (V20 m ρ) c 0 t = qF I (b3 t.val (lt16 t)) (g3 t.val) (r3 t.val) := by
  funext y
  show (V20 m ρ) c main_v129_0 ((win3_0.blk t).view.emb y) = _
  rw [V20_q A]
  refine coe_congr (q_spot I _ _ (b3 t.val (lt16 t)) (g3 t.val) (y 1) (r3 t.val (y 0)) ?_ ?_)
  · blk_simp [idx3_0 t]
    show (t.val / 8 * 4 + t.val % 4) * 512 + (y 0).val = t.val / 8 * 2048 + (t.val % 4 * 512 + (y 0).val)
    omega
  · blk_simp [idx3_0 t]
    rfl

theorem blk3_1 (t : Fin cfg3.N) : iblk3 (V20 m ρ) c 1 t = kBl I (b3 t.val (lt16 t)) (g3 t.val) := by
  funext y
  show (V20 m ρ) c main_v129_1 ((win3_1.blk t).view.emb y) = _
  rw [V20_k A]
  refine coe_congr (k_spot I _ _ (b3 t.val (lt16 t)) (g3 t.val) (y 1) (y 0) ?_ ?_)
  all_goals blk_simp [idx3_1 t]
  all_goals rfl

theorem blk3_2 (t : Fin cfg3.N) : iblk3 (V20 m ρ) c 2 t = vBl I (b3 t.val (lt16 t)) (g3 t.val) := by
  funext y
  show (V20 m ρ) c main_v129_2 ((win3_2.blk t).view.emb y) = _
  rw [V20_v A]
  refine coe_congr (v_spot I _ _ (b3 t.val (lt16 t)) (g3 t.val) (y 1) (y 0) ?_ ?_)
  all_goals blk_simp [idx3_2 t]
  all_goals rfl

theorem outs3 (t : Fin cfg3.N) (y : S512x256.Idx) : out3_3 (F := Ideal) (iblk3 (V20 m ρ) c 0 t) (iblk3 (V20 m ρ) c 1 t) (iblk3 (V20 m ρ) c 2 t) y
    = ((oL I (b3 t.val (lt16 t)) (g3 t.val) (r3 t.val (y 0)) (y 1) : ℝ) : EReal) := by
  rw [blk3_0 A, blk3_1 A, blk3_2 A]
  unfold_out out3_3
  frame_out
  rw [show iota Kind.tc S512x256 32 [1] iota_S512x256_d1_w32 = lanesF from rfl, maskF0, maskF1, maskF2, maskF3]
  exact congrFun (pay_out I _ _ _) y

/-- What the region leaves in the output's array. -/
theorem final_y : (dat3 (V20 m ρ) c).arrAt 3 cfg3.N = fun i : S4096x512.Idx => ((yF I (i 0) (i 1) : ℝ) : EReal) := by
  refine (dat3 (V20 m ρ) c).arrAt_eq_of_covers 3 _ (by decide +kernel) fun t hf y => ?_
  blk_simp
  rw [after3_3, outs3 A]
  refine coe_congr (y_spot I _ _ _ _ _ _ ?_ ?_)
  · blk_simp [idx3_3 t]
    show (t.val / 8 * 4 + t.val % 4) * 512 + (y 0).val = t.val / 8 * 2048 + (t.val % 4 * 512 + (y 0).val)
    omega
  · blk_simp [idx3_3 t]
    rfl

end Cert.Attn

end
-- ==== Proof.Attn.lean ====
/- The attention and its gradient: the weights' gradients summed up on the host, the kernel's run, and the equality with the reference. -/
module

public import proofs.«01_k».proof.Proof.AttnFwd
import proofs.«01_k».proof.Proof.AttnTab
public import proofs.«01_k».proof.Proof.Gen.Pre_finite3

@[expose] public section

set_option maxRecDepth 16384

noncomputable section

namespace Cert.Attn

open Idealize.ShloMosaic hiding ix1 ix2 ix3 ix4 ix5
open Idealize.ShloMosaic.ValueIdx Idealize.ShloMosaic.TcCoe Idealize.SL.Sem
open Cert.Reals Cert.RmsNorm Cert.Sums Cert.Kernel3Ideal Cert.Kernel3Ideal.Gen

variable {I : In} {m : (ℓ : Loc nD τ sig) → Buf (Elt Ideal) ℓ} {ρ : Dev nD → PrngReg} {c : Dev nD}

/-! ### The weights' gradients -/

theorem bat_split (b : Fin 2) (s : Fin 2048) : bat ⟨b.val * 2048 + s.val, split_lt b s⟩ = b := Fin.ext (by show (b.val * 2048 + s.val) / 2048 = b.val; omega)
theorem pos_split (b : Fin 2) (s : Fin 2048) : pos ⟨b.val * 2048 + s.val, split_lt b s⟩ = s := Fin.ext (by show (b.val * 2048 + s.val) % 2048 = s.val; omega)
theorem hq_lane (h : Fin 8) (x : Fin 64) : hq ⟨h.val * 64 + x.val, by omega⟩ = h := Fin.ext (by show (h.val * 64 + x.val) / 64 = h.val; omega)
theorem hk_lane (h : Fin 2) (x : Fin 64) : hk ⟨h.val * 64 + x.val, by omega⟩ = h := Fin.ext (by show (h.val * 64 + x.val) / 64 = h.val; omega)
theorem rem_lane (h : Nat) (x : Fin 64) : rem (h * 64 + x.val) = x := Fin.ext (by show (h * 64 + x.val) % 64 = x.val; omega)

theorem sum_heads_q (x : Fin 64) : ∑ h : Fin 8, ∑ r, wqL I r ⟨h.val * 64 + x.val, by omega⟩ = dqw I x := by
  unfold dqw
  rw [Finset.sum_comm, sum_split 2 2048 rfl]
  refine Finset.sum_congr rfl fun b _ => Finset.sum_congr rfl fun s _ => Finset.sum_congr rfl fun h _ => ?_
  unfold wqL
  rw [bat_split, pos_split, hq_lane, rem_lane]

theorem tail_q (A : Args I m c) : W22 m ρ c (Proc.devRef .tc main_v135) = fun i : S64.Idx => ((dqw I (i 0) : ℝ) : EReal) := by
  show StableHlo.after hostOps4 (W21 m ρ c) (Proc.devRef .tc main_v135) = _
  simp only [hostOps4]
  after_results
  have e : W21 m ρ c (Proc.devRef .tc main_v131_1) = fun y : S8x512.Idx => ((∑ t : Fin cfg2.N, part_q I t (y 0) (y 1) : ℝ) : EReal) := (W21_of m ρ c main_v131_1 (by decide)).trans ((W20_arr m ρ c 17).trans (final_wq A))
  rw [e]
  have e2 : Host.reduceAdd (F := Ideal) (φ := .f32) (fun y : S8x512.Idx => ((∑ t : Fin cfg2.N, part_q I t (y 0) (y 1) : ℝ) : EReal)) (constant S_ .f32 0x00000000#32) reducesTo_S8x512_S512_d0 h_S_
      = fun i : S512.Idx => ((∑ r, wqL I r (i 0) : ℝ) : EReal) := by
    funext i
    pointwise []
    simp only [coe_sum]
    exact coe_congr (sum_groups 16 32 8 rfl fun r => wqL I r (i 0))
  rw [e2]
  funext i
  pointwise []
  simp only [coe_sum]
  exact coe_congr (sum_heads_q (i 0))

theorem sum_heads_k (x : Fin 64) : ∑ h : Fin 2, ∑ r, wkL I r ⟨h.val * 64 + x.val, by omega⟩ = dkw I x := by
  unfold dkw
  rw [Finset.sum_comm, sum_split 2 2048 rfl]
  refine Finset.sum_congr rfl fun b _ => Finset.sum_congr rfl fun s _ => Finset.sum_congr rfl fun h _ => ?_
  unfold wkL
  rw [bat_split, pos_split, hk_lane, rem_lane]

theorem tail_k (A : Args I m c) : W22 m ρ c (Proc.devRef .tc main_v138) = fun i : S64.Idx => ((dkw I (i 0) : ℝ) : EReal) := by
  show StableHlo.after hostOps4 (W21 m ρ c) (Proc.devRef .tc main_v138) = _
  simp only [hostOps4]
  after_results
  have e : W21 m ρ c (Proc.devRef .tc main_v131_2) = fun y : S8x128.Idx => ((∑ t : Fin cfg2.N, part_k I t (y 0) (y 1) : ℝ) : EReal) := (W21_of m ρ c main_v131_2 (by decide)).trans ((W20_arr m ρ c 18).trans (final_wk A))
  rw [e]
  have e2 : Host.reduceAdd (F := Ideal) (φ := .f32) (fun y : S8x128.Idx => ((∑ t : Fin cfg2.N, part_k I t (y 0) (y 1) : ℝ) : EReal)) (constant S_ .f32 0x00000000#32) reducesTo_S8x128_S128_d0 h_S_
      = fun i : S128.Idx => ((∑ r, wkL I r (i 0) : ℝ) : EReal) := by
    funext i
    pointwise []
    simp only [coe_sum]
    exact coe_congr (sum_groups 16 32 8 rfl fun r => wkL I r (i 0))
  rw [e2]
  funext i
  pointwise []
  simp only [coe_sum]
  exact coe_congr (sum_heads_k (i 0))

end Cert.Attn

namespace Cert.Attn

open Idealize.ShloMosaic hiding ix1 ix2 ix3 ix4 ix5
open Idealize.ShloMosaic.ValueIdx Idealize.ShloMosaic.TcCoe Idealize.SL.Sem
open Cert.Reals Cert.Kernel3Ideal Cert.Kernel3Ideal.Gen Cert.Reference3Ideal.Read

/-- The kernel's run, its four results named. -/
theorem run_kernel (m : (ℓ : Loc nD τ sig) → Buf (Elt Ideal) ℓ) (ρ : Dev nD → PrngReg) (I : Dev nD → In) (A : ∀ c, Args (I c) m c) :
    θ_run defs (onTc (τ := τ) (main (F := Ideal))) ⟨m, fun _ => 0, ρ⟩ fun r => ∀ c : Dev nD,
      r.2.mem ((c : Thread nD τ).loc main_v131_0) = (fun i : S4096x768.Idx => ((dqkv (I c) (i 0) (i 1) : ℝ) : EReal))
      ∧ r.2.mem ((c : Thread nD τ).loc main_v135) = (fun i : S64.Idx => ((dqw (I c) (i 0) : ℝ) : EReal))
      ∧ r.2.mem ((c : Thread nD τ).loc main_v138) = (fun i : S64.Idx => ((dkw (I c) (i 0) : ℝ) : EReal))
      ∧ r.2.mem ((c : Thread nD τ).loc main_v132) = (fun i : S4096x512.Idx => ((yF (I c) (i 0) (i 1) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨
      (h c _ (mem_uc main_v131_0 (by decide))).trans ((W22_of m ρ c main_v131_0 (by decide)).trans ((W21_of m ρ c main_v131_0 (by decide)).trans ((W20_arr m ρ c 16).trans (final_d (A c))))),
      (h c _ (mem_uc main_v135 (by decide))).trans (tail_q (A c)),
      (h c _ (mem_uc main_v138 (by decide))).trans (tail_k (A c)),
      (h c _ (mem_uc main_v132 (by decide))).trans ((W22_of m ρ c main_v132 (by decide)).trans ((W21_arr m ρ c 3).trans (final_y (A c)))),
      (h c _ (mem_uc main_arg0 (by decide))).trans (W22_main_arg0 m ρ c),
      (h c _ (mem_uc main_arg1 (by decide))).trans (W22_main_arg1 m ρ c),
      (h c _ (mem_uc main_arg2 (by decide))).trans (W22_main_arg2 m ρ c),
      (h c _ (mem_uc main_arg3 (by decide))).trans (W22_main_arg3 m ρ c)⟩) (run_all m ρ)

theorem reals [Cert.Pre_finite3.Facts] (p : S4096x2560.Idx → EReal) (qw : S64.Idx → EReal) (kw : S64.Idx → EReal) (d : S4096x512.Idx → EReal)
    (h : Cert.Pre_finite3.fn (F := Ideal) p qw kw d = fun _ => 1#1) : (∀ i, IsReal (p i)) ∧ (∀ i, IsReal (qw i)) ∧ (∀ i, IsReal (kw i)) ∧ (∀ i, IsReal (d i)) := by
  obtain ⟨h, h3⟩ := and_one (congrFun h (fun k => k.elim0))
  obtain ⟨h, h2⟩ := and_one h
  obtain ⟨h, h1⟩ := and_one h
  exact ⟨isReal_of_all p _ _ _ _ h, isReal_of_all qw _ _ _ _ h1, isReal_of_all kw _ _ _ _ h2, isReal_of_all d _ _ _ _ h3⟩

/-- The kernel's run under the precondition, and the reference's values of its arguments as the results. -/
theorem results [Cert.Pre_finite3.Facts] (m : (ℓ : Loc nD τ sig) → Buf (Elt Ideal) ℓ) (ρ : Dev nD → PrngReg)
    (hp : ∀ c : Dev nD, Cert.Pre_finite3.fn (F := Ideal) (m ((c : Thread nD τ).loc main_arg0)) (m ((c : Thread nD τ).loc main_arg1)) (m ((c : Thread nD τ).loc main_arg2)) (m ((c : Thread nD τ).loc main_arg3)) = fun _ => 1#1) :
    θ_run defs (onTc (τ := τ) (main (F := Ideal))) ⟨m, fun _ => 0, ρ⟩ fun r => ∀ c : Dev nD,
      r.2.mem ((c : Thread nD τ).loc main_v131_0) = val_main_v230 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v135) = val_main_v212 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v138) = val_main_v189 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v132) = val_main_v132 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have R := fun c => reals _ _ _ _ (hp c)
  choose p h_p using fun c => reals2 (R c).1
  choose qw h_qw using fun c => reals1 (R c).2.1
  choose kw h_kw using fun c => reals1 (R c).2.2.1
  choose d h_d using fun c => reals2 (R c).2.2.2
  obtain ⟨C, h_C⟩ := reals2 cos_real
  obtain ⟨S, h_S⟩ := reals2 sin_real
  let I : Dev nD → In := fun c => ⟨p c, qw c, kw c, d c, C, S⟩
  have T : ∀ c, Tab (I c) := fun c => ⟨h_C, h_S⟩
  have h_p : ∀ c : Dev nD, m ((c : Thread nD τ).loc main_arg0) = pA (I c) := h_p
  have h_qw : ∀ c : Dev nD, m ((c : Thread nD τ).loc main_arg1) = qwA (I c) := h_qw
  have h_kw : ∀ c : Dev nD, m ((c : Thread nD τ).loc main_arg2) = kwA (I c) := h_kw
  have h_d : ∀ c : Dev nD, m ((c : Thread nD τ).loc main_arg3) = dA (I c) := h_d
  refine (θ_run defs _ _).mono (fun _ h c => ⟨(h c).1.trans ?_, (h c).2.1.trans ?_, (h c).2.2.1.trans ?_, (h c).2.2.2.1.trans ?_, (h c).2.2.2.2⟩)
    (run_kernel m ρ I fun c => ⟨h_p c, h_qw c, h_kw c, h_d c, T c⟩)
  · rw [h_p c, h_qw c, h_kw c, h_d c]
    exact (r230 (T c)).symm
  · rw [h_p c, h_qw c, h_kw c, h_d c]
    exact (r212 (T c)).symm
  · rw [h_p c, h_qw c, h_kw c, h_d c]
    exact (r189 (T c)).symm
  · rw [h_p c, h_qw c, h_kw c]
    exact (r132 (T c)).symm

end Cert.Attn

end
-- ==== Proof.Loss.lean ====
/- The loss and its gradient at the last layer's output: the kernel's two results, over any extended reals. -/
module

public import proofs.«01_k».proof.Proof.Gen.Kernel8Ideal.Frame
public import proofs.«01_k».proof.Proof.Gen.Reference8Ideal.Read
public import proofs.«01_k».proof.Proof.RmsNorm
public import proofs.«01_k».proof.Proof.Sums
public import proofs.«01_k».proof.Proof.Reduce
public import Idealize.ShloMosaic.Lib.Pipeline.ValueKit.Point
public import Idealize.ShloMosaic.Lib.ValueIdxRank1

@[expose] public section

set_option maxRecDepth 16384

noncomputable section

namespace Cert.Loss

open Idealize.ShloMosaic hiding ix1 ix2 ix3 ix4 ix5
open Idealize.ShloMosaic.ValueIdx Idealize.ShloMosaic.TcCoe Idealize.SL.Sem
open Cert.Reals Cert.RmsNorm Cert.Sums Cert.Reduce Cert.Kernel8Ideal Cert.Kernel8Ideal.Gen

/-! ### The mathematics -/

/-- What the loss reads: the activations, the last weight, the residual rows and the target. -/
structure In where
  a : Fin 4096 → Fin 2816 → EReal
  w : Fin 2816 → Fin 1024 → EReal
  x : Fin 4096 → Fin 1024 → EReal
  t : Fin 4096 → Fin 1024 → EReal

/-- The last layer's output less the target. -/
def err (I : In) (r : Fin 4096) (k : Fin 1024) : EReal := I.x r k + ∑ q, I.a r q * I.w q k - I.t r k

theorem sq_nonneg' (x : EReal) : 0 ≤ x * x := by
  induction x using EReal.rec with
  | bot => simp
  | top => simp
  | coe x => exact_mod_cast mul_self_nonneg x

/-- Numbers of one sign may be multiplied after they are summed. -/
theorem sum_mul {ι : Type} (s : Finset ι) (f : ι → EReal) (h : ∀ i, 0 ≤ f i) (c : EReal) : (∑ i ∈ s, f i) * c = ∑ i ∈ s, f i * c := by
  classical
  induction s using Finset.induction_on with
  | empty => simp
  | insert a s ha ih =>
      rw [Finset.sum_insert ha, Finset.sum_insert ha, EReal.right_distrib_of_nonneg (h a) (Finset.sum_nonneg fun i _ => h i), ih]

theorem acc_sum' {N : Nat} (f : (n : Nat) → n < N → EReal) (p : Fin N → EReal) (h0 : ∀ h, f 0 h = p ⟨0, h⟩)
    (hs : ∀ n (h : n + 1 < N), f (n + 1) h = f n (Nat.lt_of_succ_lt h) + p ⟨n + 1, h⟩) :
    ∀ n (h : n < N), f n h = ∑ t : Fin (n + 1), p ⟨t.val, Nat.lt_of_lt_of_le t.isLt h⟩
  | 0, h => by rw [h0 h, Fin.sum_univ_one]; rfl
  | n + 1, h => by
      rw [hs n h, acc_sum' f p h0 hs n (Nat.lt_of_succ_lt h), Fin.sum_univ_castSucc (n := n + 1)]
      rfl

theorem half_word : Ideal.ofBits .f32 1056964608#32 = ((1 / 2 : ℝ) : EReal) := by
  simp [Ideal.ofBits, Ideal.ieee, -EReal.coe_mul]; norm_num

theorem two_word : Ideal.ofBits .f32 1073741824#32 = ((2 : ℝ) : EReal) := by
  simp [Ideal.ofBits, Ideal.ieee, -EReal.coe_mul]; norm_num

theorem inv_word : Ideal.ofBits .f32 981467136#32 = ((1 / 1024 : ℝ) : EReal) := by
  simp [Ideal.ofBits, Ideal.ieee, -EReal.coe_mul]; norm_num

/-! ### The reference -/

/-- The arrays the programs read. -/
abbrev aA (I : In) : S4096x2816.Idx → EReal := fun i => I.a (i 0) (i 1)
abbrev wA (I : In) : S2816x1024.Idx → EReal := fun i => I.w (i 0) (i 1)
abbrev xA (I : In) : S4096x1024.Idx → EReal := fun i => I.x (i 0) (i 1)
abbrev tA (I : In) : S4096x1024.Idx → EReal := fun i => I.t (i 0) (i 1)

open Cert.Reference8Ideal.Read

theorem ref_err (I : In) : val_main_v2 (F := Ideal) (aA I) (wA I) (xA I) (tA I) = fun i => err I (i 0) (i 1) := by
  funext i
  pointwise [val_main_v2, val_main_v1, val_main_v0]
  rfl

theorem ref_dy (I : In) (i : S4096x1024.Idx) : val_main_v16 (F := Ideal) (aA I) (wA I) (xA I) (tA I) i
    = err I (i 0) (i 1) * ((1 / 1024 : ℝ) : EReal) := by
  have e0 : (1024 : ℝ) ≠ 0 := by norm_num
  unfold val_main_v16 val_main_v5
  rw [ref_err]
  pointwise [val_main_v15, val_main_v14, val_main_v13, val_main_v12, val_main_v11, val_main_v4, val_main_cst, val_main_cst_4,
    val_main_cst_5, val_main_cst_6]
  simp only [half_word, two_word, one_word', w1024, ← EReal.coe_mul, div_coe_coe _ e0]
  rw [← mul_assoc, ← EReal.coe_mul, mul_comm]
  congr 2
  norm_num

theorem ref_loss (I : In) (i : S_.Idx) : val_main_v10 (F := Ideal) (aA I) (wA I) (xA I) (tA I) i
    = ((1 / 2 : ℝ) : EReal) * (∑ r, ∑ k, err I r k * err I r k) * ((1 / 1024 : ℝ) : EReal) := by
  have e0 : (1024 : ℝ) ≠ 0 := by norm_num
  have e (r : Fin 4096) : val_main_v8 (F := Ideal) (aA I) (wA I) (xA I) (tA I) (ix1 r) = (∑ k, err I r k * err I r k) * ((1 / 1024 : ℝ) : EReal) := by
    unfold val_main_v8 val_main_v6 val_main_v3
    rw [ref_err]
    pointwise [val_main_v7, val_main_cst_0, val_main_cst_1]
    simp only [w1024, zero_word', EReal.coe_zero, zero_add, Ideal.div_coe e0]
  rw [val_main_v10_apply, val_main_v9_apply, ← idxEquiv1.symm.sum_comp]
  refine (congrArg (fun v => Ideal.ofBits .f32 1056964608#32 * (Ideal.ofBits .f32 0#32 + v)) (Finset.sum_congr rfl fun r _ => e r)).trans ?_
  rw [← sum_mul _ _ fun r => Finset.sum_nonneg fun k _ => sq_nonneg' _, half_word, zero_word', EReal.coe_zero, zero_add, mul_assoc]

/-! ### The kernel -/

/-- A tile's row of the array. -/
def row (t : Fin cfg0.N) (r : Fin 512) : Fin 4096 := ⟨t.val * 512 + r.val, by have := t.isLt; have : cfg0.N = 8 := N_0; omega⟩

/-- A chip's column of the activations. -/
def col (a : Fin 4) (q : Fin 704) : Fin 2816 := ⟨a.val * 704 + q.val, by omega⟩

theorem idx_0 : ∀ t : Fin cfg0.N, win0_0.index t = ![0, t.val, 0] := (by decide +kernel : ∀ t : Fin grid0.N, _)
theorem idx_1 : ∀ t : Fin cfg0.N, win0_1.index t = ![0, 0, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![0, 0] := (by decide +kernel : ∀ t : Fin grid0.N, _)

/-- The launch's arguments. -/
structure Args (I : In) (m : (ℓ : Loc nD τ sig) → Buf (Elt Ideal) ℓ) (c : Dev nD) : Prop where
  a : m ((c : Thread nD τ).loc main_arg0) = aA I
  w : m ((c : Thread nD τ).loc main_arg1) = wA I
  x : m ((c : Thread nD τ).loc main_arg2) = xA I
  t : m ((c : Thread nD τ).loc main_arg3) = tA I

variable {I : In} {m : (ℓ : Loc nD τ sig) → Buf (Elt Ideal) ℓ} {c : Dev nD} (A : Args I m c)
include A

theorem V_a : V m c main_v2 = fun i : S4x4096x704.Idx => I.a (i 1) (col (i 0) (i 2)) := by
  show StableHlo.after [hostOps0].flatten (fun b => m (c, b)) (Proc.tc.devRef _) = _
  simp only [List.flatten_cons, List.flatten_nil, List.append_nil, hostOps0]
  after_results
  funext i
  pointwise []
  exact congrFun A.a _

theorem V_w : V m c main_v4 = fun i : S4x704x1024.Idx => I.w (col (i 0) (i 1)) (i 2) := by
  show StableHlo.after [hostOps0].flatten (fun b => m (c, b)) (Proc.tc.devRef _) = _
  simp only [List.flatten_cons, List.flatten_nil, List.append_nil, hostOps0]
  after_results
  funext i
  pointwise []
  exact congrFun A.w _

theorem blk_0 (t : Fin cfg0.N) : iblk m c 0 t = fun y : S4x512x704.Idx => I.a (row t (y 1)) (col (y 0) (y 2)) := by
  funext y
  show V m c main_v2 ((win0_0.blk t).view.emb y) = _
  rw [V_a A]
  refine congrArg₂ I.a (Fin.ext ?_) (congrArg₂ col (Fin.ext ?_) (Fin.ext ?_))
  all_goals blk_simp [idx_0 t]
  all_goals rfl

theorem blk_1 (t : Fin cfg0.N) : iblk m c 1 t = fun y : S4x704x1024.Idx => I.w (col (y 0) (y 1)) (y 2) := by
  funext y
  show V m c main_v4 ((win0_1.blk t).view.emb y) = _
  rw [V_w A]
  refine congrArg₂ I.w (congrArg₂ col (Fin.ext ?_) (Fin.ext ?_)) (Fin.ext ?_)
  all_goals blk_simp [idx_1 t]
  all_goals rfl

theorem blk_2 (t : Fin cfg0.N) : iblk m c 2 t = fun y : S512x1024.Idx => I.x (row t (y 0)) (y 1) := by
  funext y
  show m ((c : Thread nD τ).loc main_arg2) ((win0_2.blk t).view.emb y) = _
  rw [A.x]
  refine congrArg₂ I.x (Fin.ext ?_) (Fin.ext ?_)
  all_goals blk_simp [idx_2 t]
  all_goals rfl

theorem blk_3 (t : Fin cfg0.N) : iblk m c 3 t = fun y : S512x1024.Idx => I.t (row t (y 0)) (y 1) := by
  funext y
  show m ((c : Thread nD τ).loc main_arg3) ((win0_3.blk t).view.emb y) = _
  rw [A.t]
  refine congrArg₂ I.t (Fin.ext ?_) (Fin.ext ?_)
  all_goals blk_simp [idx_3 t]
  all_goals rfl

omit A in
/-- The columns by chip, in order. -/
theorem sum_cols (f : Fin 2816 → EReal) : ∑ q, f (col 0 q) + ∑ q, f (col 1 q) + ∑ q, f (col 2 q) + ∑ q, f (col 3 q) = ∑ q, f q := by
  rw [sum_split 4 704 rfl f, Fin.sum_univ_four]
  rfl

/-- The body's difference from the target. -/
theorem pay4 (t : Fin cfg0.N) : k0_pay4 (F := Ideal) (iblk m c 2 t)
        (View.ld (iblk m c 0 t) (Rect.unit ![0, 0, 0] ![1, 512, 704] inb_S4x512x704_S1x512x704_0_0_0))
        (View.ld (iblk m c 1 t) (Rect.unit ![0, 0, 0] ![1, 704, 1024] inb_S4x704x1024_S1x704x1024_0_0_0))
        (View.ld (iblk m c 0 t) (Rect.unit ![1, 0, 0] ![1, 512, 704] inb_S4x512x704_S1x512x704_1_0_0))
        (View.ld (iblk m c 1 t) (Rect.unit ![1, 0, 0] ![1, 704, 1024] inb_S4x704x1024_S1x704x1024_1_0_0))
        (View.ld (iblk m c 0 t) (Rect.unit ![2, 0, 0] ![1, 512, 704] inb_S4x512x704_S1x512x704_2_0_0))
        (View.ld (iblk m c 1 t) (Rect.unit ![2, 0, 0] ![1, 704, 1024] inb_S4x704x1024_S1x704x1024_2_0_0))
        (View.ld (iblk m c 0 t) (Rect.unit ![3, 0, 0] ![1, 512, 704] inb_S4x512x704_S1x512x704_3_0_0))
        (View.ld (iblk m c 1 t) (Rect.unit ![3, 0, 0] ![1, 704, 1024] inb_S4x704x1024_S1x704x1024_3_0_0))
        (iblk m c 3 t)
      = fun y : S512x1024.Idx => err I (row t (y 0)) (y 1) := by
  rw [blk_0 A, blk_1 A, blk_2 A, blk_3 A]
  funext y
  pointwise [k0_pay4]
  refine congrArg (· - I.t (row t (y 0)) (y 1)) (Eq.trans ?_ (congrArg (I.x (row t (y 0)) (y 1) + ·)
    (sum_cols fun q => I.a (row t (y 0)) q * I.w q (y 1))))
  rw [← add_assoc, ← add_assoc, ← add_assoc]

/-- What a tile adds to the squares' sum at a row of a group of eight. -/
def part (I : In) (t : Fin cfg0.N) (g : Fin 8) (k : Fin 1024) : EReal :=
  ∑ x : Fin 64, err I (row t ⟨x.val * 8 + g.val, by omega⟩) k * err I (row t ⟨x.val * 8 + g.val, by omega⟩) k

omit A in
theorem pay3 (t : Fin cfg0.N) (y : S8x1024.Idx) (v : S8x1024.Idx → EReal) :
    k0_pay3 (F := Ideal) (fun y : S512x1024.Idx => err I (row t (y 0)) (y 1)) v y = v y + part I t (y 0) (y 1) := by
  pointwise [k0_pay3]
  rfl

omit A in
theorem pay1 (t : Fin cfg0.N) (y : S512x1024.Idx) :
    k0_pay1 (F := Ideal) (fun y : S512x1024.Idx => err I (row t (y 0)) (y 1)) y = err I (row t (y 0)) (y 1) * ((1 / 1024 : ℝ) : EReal) := by
  pointwise [k0_pay1]
  rw [inv_word]

theorem outs_dy (t : Fin cfg0.N) : (outsAt0 m c t.val t.isLt).1
    = fun y : S512x1024.Idx => err I (row t (y 0)) (y 1) * ((1 / 1024 : ℝ) : EReal) := by
  funext y
  by_cases h : t.val % 8 = 0
  · rw [outsAt0_A m c t h]
    frame_out
    exact (congrArg (fun v => k0_pay1 v y) (pay4 A t)).trans (pay1 t y)
  · rw [outsAt0_B m c t h]
    frame_out
    exact (congrArg (fun v => k0_pay1 v y) (pay4 A t)).trans (pay1 t y)

theorem outs_sq_A (t : Fin cfg0.N) (h : t.val % 8 = 0) (y : S8x1024.Idx) : (outsAt0 m c t.val t.isLt).2 y = part I t (y 0) (y 1) := by
  rw [outsAt0_A m c t h]
  frame_out
  refine (congrArg (fun v => k0_pay3 v _ y) (pay4 A t)).trans ((pay3 t y _).trans ?_)
  rw [show k0_pay2 (F := Ideal) y = Ideal.ofBits .f32 0#32 from rfl, zero_word', EReal.coe_zero, zero_add]

theorem outs_sq_B (t : Fin cfg0.N) (h : ¬ t.val % 8 = 0) (y : S8x1024.Idx) : (outsAt0 m c t.val t.isLt).2 y
    = (outsAt0 m c (t.val - 1) (Nat.lt_of_le_of_lt (Nat.sub_le _ _) t.isLt)).2 y + part I t (y 0) (y 1) := by
  rw [outsAt0_B m c t h]
  frame_out
  exact (congrArg (fun v => k0_pay3 v _ y) (pay4 A t)).trans (pay3 t y _)

theorem final_dy : (dats m 0 c).arrAt 4 cfg0.N = fun i : S4096x1024.Idx => err I (i 0) (i 1) * ((1 / 1024 : ℝ) : EReal) := by
  refine (dats m 0 c).arrAt_eq_of_covers 4 _ (by decide +kernel) fun t hf y => ?_
  blk_simp
  rw [after0_4, outs_dy A]
  have hi : (win0_4.blk t).view.emb y = ix2 (row t (y 0)) (y 1) := ext2 (by blk_simp [idx_4 t]; rfl) (by blk_simp [idx_4 t])
  rw [hi]

theorem final_sq : (dats m 0 c).arrAt 5 cfg0.N = fun y : S8x1024.Idx => ∑ t : Fin cfg0.N, part I t (y 0) (y 1) := by
  refine (dats m 0 c).arrAt_eq_of_covers 5 _ (by decide +kernel) fun t hf y => ?_
  have ht := (flush0_5 t).mp hf
  have hN : cfg0.N = 8 := N_0
  have ht7 : t.val = 7 := by have := t.isLt; omega
  blk_simp
  rw [after0_5]
  have hi : (win0_5.blk t).view.emb y = y := ext2 (by blk_simp [idx_5 t]) (by blk_simp [idx_5 t])
  rw [hi]
  refine (acc_sum' (fun n h => (outsAt0 m c n h).2 y) (fun t => part I t (y 0) (y 1)) (fun h => outs_sq_A A ⟨0, h⟩ rfl y)
    (fun n h => outs_sq_B A ⟨n + 1, h⟩ (by show ¬ (n + 1) % 8 = 0; omega) y) t.val t.isLt).trans ?_
  obtain ⟨n, hn⟩ := t
  obtain rfl : n = 7 := ht7
  rfl

omit A in
/-- The groups' sums are all the squares. -/
theorem sum_parts : ∑ j : S8x1024.Idx, ∑ t : Fin cfg0.N, part I t (j 0) (j 1) = ∑ r, ∑ k, err I r k * err I r k := by
  rw [ValueIdx.sum_idx2, Finset.sum_comm, Finset.sum_comm (γ := Fin 4096)]
  exact Finset.sum_congr rfl fun k _ => sum_groups 8 64 8 rfl fun r => err I r k * err I r k

theorem tail : Pipeline.afterTail₀ cfgs (dats m) 0 (V0 m) [hostOps1] c main_v8
    = fun _ : S_.Idx => ((1 / 2 : ℝ) : EReal) * (∑ r, ∑ k, err I r k * err I r k) * ((1 / 1024 : ℝ) : EReal) := by
  unfold Pipeline.afterTail₀
  simp only [List.flatten_cons, List.flatten_nil, List.append_nil, hostOps1]
  after_results
  have e0 : (1024 : ℝ) ≠ 0 := by norm_num
  funext i
  have e : Host.reduceAdd (F := Ideal) (fun y : S8x1024.Idx => ∑ t : Fin cfg0.N, part I t (y 0) (y 1)) (constant (F := Ideal) S_ .f32 0x00000000#32)
      reducesTo_S8x1024_S_d0_1 h_S_ i = ∑ r, ∑ k, err I r k * err I r k := by
    simp only [Host.reduceAdd, Ideal.hostReduceAdd_def]
    rw [Ideal.hostReduceAdd_total reducesTo_S8x1024_S_d0_1 (fun b => b.elim0), sum_parts]
    show Ideal.ofBits .f32 0#32 + _ = _
    rw [zero_word', EReal.coe_zero, zero_add]
  refine (congrArg (fun v : FVec Ideal S8x1024 .f32 => Ideal.div (Ideal.ofBits .f32 1056964608#32 * Host.reduceAdd v (constant (F := Ideal) S_ .f32 0x00000000#32)
    reducesTo_S8x1024_S_d0_1 h_S_ i) (Ideal.ofBits .f32 1149239296#32)) ((Pipeline.withArrays_arr spec0 (by decide) c _ _ 5).trans (final_sq A))).trans ?_
  rw [e, half_word, w1024, Ideal.div_coe e0]

end Cert.Loss

namespace Cert.Loss

open Idealize.ShloMosaic hiding ix1 ix2 ix3 ix4 ix5
open Idealize.ShloMosaic.ValueIdx Idealize.ShloMosaic.TcCoe Idealize.SL.Sem
open Cert.Reals Cert.Kernel8Ideal Cert.Kernel8Ideal.Gen Cert.Reference8Ideal.Read

/-- The kernel's run, and the reference's values of its arguments as the results. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = val_main_v10 (F := Ideal) (m ((c : Thread nD τ).loc main_arg0)) (m ((c : Thread nD τ).loc main_arg1))
        (m ((c : Thread nD τ).loc main_arg2)) (m ((c : Thread nD τ).loc main_arg3))
      ∧ r.2.mem ((c : Thread nD τ).loc main_v5_0) = val_main_v16 (F := Ideal) (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  let I : Dev nD → In := fun c => ⟨fun r q => m ((c : Thread nD τ).loc main_arg0) (ix2 r q), fun r q => m ((c : Thread nD τ).loc main_arg1) (ix2 r q),
    fun r q => m ((c : Thread nD τ).loc main_arg2) (ix2 r q), fun r q => m ((c : Thread nD τ).loc main_arg3) (ix2 r q)⟩
  have A : ∀ c, Args (I c) m c := fun c => ⟨funext fun _ => congrArg _ (ext2 rfl rfl), funext fun _ => congrArg _ (ext2 rfl rfl),
    funext fun _ => congrArg _ (ext2 rfl rfl), funext fun _ => congrArg _ (ext2 rfl rfl)⟩
  refine (θ_run defs _ _).mono (fun _ h c => ⟨((h.1 c).2 main_v8 (Pipeline.mem_restRefs_of main_v8 (by decide) (by decide))).trans ((tail (A c)).trans ?_),
    ((h.1 c).1 4).trans ((final_dy (A c)).trans ?_), h.2 c⟩) (θ_run_and (run_main m ρ) (unchanged m ρ))
  · rw [(A c).a, (A c).w, (A c).x, (A c).t]
    exact (funext (ref_loss (I c))).symm
  · rw [(A c).a, (A c).w, (A c).x, (A c).t]
    exact (funext (ref_dy (I c))).symm

end Cert.Loss

end
-- ==== Proof.MixFwd.lean ====
/- The output norms and the recurrence's gate: the kernel's result, over any extended reals. -/
module

public import proofs.«01_k».proof.Proof.Gen.Kernel9Ideal.Frame
public import proofs.«01_k».proof.Proof.Gen.Reference9Ideal.Read
public import proofs.«01_k».proof.Proof.Loss
public import proofs.«01_k».proof.Proof.Mix

@[expose] public section

set_option maxRecDepth 16384

noncomputable section

namespace Cert.MixFwd

open Idealize.ShloMosaic hiding ix1 ix2 ix3 ix4 ix5
open Idealize.ShloMosaic.ValueIdx Idealize.ShloMosaic.TcCoe Idealize.SL.Sem
open Cert.Reals Cert.RmsNorm Cert.Sums Cert.Kernel9Ideal Cert.Kernel9Ideal.Gen
open Cert.Mix (hd lane seg quot div_lt quot_eq lane_hd)
open Cert.Loss (sq_nonneg' sum_mul)

/-! ### The mathematics -/

/-- What the call reads. -/
structure In where
  ya : Fin 4096 → Fin 512 → EReal
  o1 : Fin 4096 → Fin 256 → EReal
  o2 : Fin 4096 → Fin 256 → EReal
  p : Fin 4096 → Fin 2560 → EReal
  yc : Fin 4096 → Fin 256 → EReal
  aw : Fin 512 → EReal
  gw : Fin 64 → EReal
  cw : Fin 256 → EReal

/-- The factor of a row whose squares sum to `s` over `n` entries. -/
def fac (s : EReal) (n : ℝ) : EReal := Ideal.rsqrt (Ideal.div s (n : EReal) + ((ε : ℝ) : EReal))

/-- The logistic. -/
def sg (x : EReal) : EReal := Ideal.div 1 (1 + Ideal.exp (-x))

/-- The half-angle form of the logistic, at the infinities too. -/
theorem sg_tanh (x : EReal) : ((1 / 2 : ℝ) : EReal) * Ideal.tanh (((1 / 2 : ℝ) : EReal) * x) + ((1 / 2 : ℝ) : EReal) = sg x := by
  have hp : (0 : EReal) < ((1 / 2 : ℝ) : EReal) := by exact_mod_cast (by norm_num : (0 : ℝ) < 1 / 2)
  have h1 : Ideal.div 1 1 = 1 := by
    have := div_coe_coe 1 (b := 1) one_ne_zero
    rwa [div_one, EReal.coe_one] at this
  induction x using EReal.rec with
  | bot =>
      have e : Ideal.tanh ⊥ = ((-1 : ℝ) : EReal) := by show (-1 : EReal) = _; rw [EReal.coe_neg, EReal.coe_one]
      have e2 : Ideal.exp (-⊥) = ⊤ := by rw [EReal.neg_bot]; rfl
      have e3 : (1 : EReal) + ⊤ = ⊤ := by rw [← EReal.coe_one]; exact EReal.coe_add_top 1
      unfold sg
      rw [EReal.mul_bot_of_pos hp, e, e2, e3, ← EReal.coe_mul, ← EReal.coe_add]
      unfold Ideal.div
      rw [if_neg EReal.top_ne_zero, EReal.inv_top, mul_zero, ← EReal.coe_zero]
      exact congrArg _ (by norm_num)
  | top =>
      have e : Ideal.tanh ⊤ = ((1 : ℝ) : EReal) := rfl
      have e2 : Ideal.exp (-⊤) = 0 := by rw [EReal.neg_top]; rfl
      unfold sg
      rw [EReal.mul_top_of_pos hp, e, e2, add_zero, h1, ← EReal.coe_mul, ← EReal.coe_add, ← EReal.coe_one]
      exact congrArg _ (by norm_num)
  | coe x =>
      unfold sg
      rw [sig_coe, ← EReal.coe_mul, tanh_coe, ← EReal.coe_mul, ← EReal.coe_add, sig_tanh]

variable (I : In)

/-- The two directions' sum, and the gate's column. -/
def o (r : Fin 4096) (j : Fin 256) : EReal := I.o1 r j + I.o2 r j
def hg (r : Fin 4096) (j : Fin 256) : EReal := I.p r ⟨1792 + j.val, by omega⟩

/-- The three parts of the mix. -/
def mA (r : Fin 4096) (k : Fin 512) : EReal := I.ya r k * fac (∑ q, I.ya r q * I.ya r q) 512 * I.aw k
def mC (r : Fin 4096) (k : Fin 256) : EReal := I.yc r k * fac (∑ q, I.yc r q * I.yc r q) 256 * I.cw k
def mH (r : Fin 4096) (j : Fin 256) : EReal :=
  o I r j * fac (∑ x, o I r (hd j x) * o I r (hd j x)) 64 * I.gw (lane j) * (hg I r j * sg (hg I r j))

/-- The mix, its three parts side by side. -/
def mix (r : Fin 4096) (k : Fin 1024) : EReal :=
  if h : k.val < 512 then mA I r ⟨k.val, h⟩
  else if h' : k.val < 768 then mH I r ⟨k.val - 512, by omega⟩ else mC I r ⟨k.val - 768, by omega⟩

/-- A head's mean square, as a product with the matrix of averages. -/
theorem seg_fac (r : Fin 4096) (j : Fin 256) :
    Ideal.rsqrt ((∑ a, o I r a * o I r a * ((seg a j : ℝ) : EReal)) + ((ε : ℝ) : EReal)) = fac (∑ x, o I r (hd j x) * o I r (hd j x)) 64 := by
  have e0 : (64 : ℝ) ≠ 0 := by norm_num
  unfold fac
  rw [Ideal.div_coe e0]
  refine congrArg (fun v => Ideal.rsqrt (v + _)) (Eq.trans ?_ ((sum_head 4 rfl (fun a => o I r a * o I r a * ((1 / 64 : ℝ) : EReal)) j).trans
    (sum_mul _ _ (fun x => sq_nonneg' _) _).symm))
  refine Finset.sum_congr rfl fun a _ => ?_
  unfold seg
  split <;> simp

def yaA : S4096x512.Idx → EReal := fun i => I.ya (i 0) (i 1)
def o1A : S4096x256.Idx → EReal := fun i => I.o1 (i 0) (i 1)
def o2A : S4096x256.Idx → EReal := fun i => I.o2 (i 0) (i 1)
def pA : S4096x2560.Idx → EReal := fun i => I.p (i 0) (i 1)
def ycA : S4096x256.Idx → EReal := fun i => I.yc (i 0) (i 1)
def awA : S512.Idx → EReal := fun i => I.aw (i 0)
def gwA : S64.Idx → EReal := fun i => I.gw (i 0)
def cwA : S256.Idx → EReal := fun i => I.cw (i 0)

/-! ### The reference -/

open Cert.Reference9Ideal.Read

theorem ref_a (i : S4096x512.Idx) : val_main_v32 (F := Ideal) (yaA I) (awA I) i = mA I (i 0) (i 1) := by
  unfold yaA awA
  pointwise [val_main_v32, val_main_v31, val_main_v30, val_main_v29, val_main_v28, val_main_v27, val_main_v26, val_main_v25, val_main_cst_4, val_main_v24,
    val_main_v23, val_main_cst_3, val_main_v22, val_main_v21, val_main_cst_2, val_main_v20]
  simp only [ε_word, w512, zero_word', EReal.coe_zero, zero_add]
  rfl

theorem ref_c (i : S4096x256.Idx) : val_main_v45 (F := Ideal) (ycA I) (cwA I) i = mC I (i 0) (i 1) := by
  unfold ycA cwA
  pointwise [val_main_v45, val_main_v44, val_main_v43, val_main_v42, val_main_v41, val_main_v40, val_main_v39, val_main_v38, val_main_cst_7, val_main_v37,
    val_main_v36, val_main_cst_6, val_main_v35, val_main_v34, val_main_cst_5, val_main_v33]
  simp only [ε_word, w256, zero_word', EReal.coe_zero, zero_add]
  rfl

theorem ref_hr (i : S4096x256.Idx) : val_main_v19 (F := Ideal) (o1A I) (o2A I) (pA I) (gwA I) i = mH I (i 0) (i 1) := by
  unfold o1A o2A pA gwA
  pointwise [val_main_v19, val_main_v18, val_main_v17, val_main_call0_v5, val_main_call0_v4, val_main_call0_cst_0, val_main_call0_v3, val_main_call0_v2,
    val_main_call0_cst, val_main_call0_v1, val_main_call0_v0, val_main_v16, val_main_v15, val_main_v14, val_main_v13, val_main_v12, val_main_v11, val_main_v10,
    val_main_v9, val_main_v8, val_main_cst_1, val_main_v7, val_main_v6, val_main_cst_0, val_main_v5, val_main_v4, val_main_cst, val_main_v3, val_main_v2,
    val_main_v1, val_main_v0]
  simp only [ε_word, w64, zero_word', one_word', EReal.coe_zero, EReal.coe_one, zero_add]
  rfl

theorem ref_mix (i : S4096x1024.Idx) :
    val_main_v47 (F := Ideal) (yaA I) (o1A I) (o2A I) (pA I) (ycA I) (awA I) (gwA I) (cwA I) i = mix I (i 0) (i 1) := by
  unfold val_main_v47 val_main_v46
  pointwise []
  unfold mix
  split
  · exact ref_a I _
  · split
    · rw [dif_pos (by omega)]; exact ref_hr I _
    · rw [dif_neg (by omega)]
      refine (ref_c I _).trans (congrArg (mC I (i 0)) (Fin.ext ?_))
      show (i 1).val - 512 - 256 = (i 1).val - 768
      omega

/-! ### The kernel -/

/-- A tile's row of the array. -/
def row (t : Fin cfg0.N) (r : Fin 256) : Fin 4096 := ⟨t.val * 256 + r.val, by have := t.isLt; have : cfg0.N = 16 := N_0; omega⟩

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 7] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![t.val, 0] := (by decide +kernel : ∀ t : Fin grid0.N, _)

/-- The launch's arguments. -/
structure Args (I : In) (m : (ℓ : Loc nD τ sig) → Buf (Elt Ideal) ℓ) (c : Dev nD) : Prop where
  ya : m ((c : Thread nD τ).loc main_arg0) = yaA I
  o1 : m ((c : Thread nD τ).loc main_arg1) = o1A I
  o2 : m ((c : Thread nD τ).loc main_arg2) = o2A I
  p : m ((c : Thread nD τ).loc main_arg3) = pA I
  yc : m ((c : Thread nD τ).loc main_arg4) = ycA I
  aw : m ((c : Thread nD τ).loc main_arg5) = awA I
  gw : m ((c : Thread nD τ).loc main_arg6) = gwA I
  cw : m ((c : Thread nD τ).loc main_arg7) = cwA I

variable {I : In} {m : (ℓ : Loc nD τ sig) → Buf (Elt Ideal) ℓ} {c : Dev nD} (A : Args I m c)

theorem tile_a (t : Fin cfg0.N) (x : S256x512.Idx) :
    k0_pay3 (F := Ideal) (fun y => I.ya (row t (y 0)) (y 1)) (fun y => I.aw (y 1)) x = mA I (row t (x 0)) (x 1) := by
  pointwise [k0_pay3]
  simp only [ε_word, w512, zero_word', EReal.coe_zero, zero_add]
  rfl

theorem tile_c (t : Fin cfg0.N) (x : S256x256.Idx) :
    k0_pay2 (F := Ideal) (fun y => I.yc (row t (y 0)) (y 1)) (fun y => I.cw (y 1)) x = mC I (row t (x 0)) (x 1) := by
  pointwise [k0_pay2]
  simp only [ε_word, w256, zero_word', EReal.coe_zero, zero_add]
  rfl

theorem tile_n (t : Fin cfg0.N) (x : S256x256.Idx) :
    k0_pay4 (F := Ideal) (fun y => I.o1 (row t (y 0)) (y 1)) (fun y => I.o2 (row t (y 0)) (y 1)) (fun y => ((seg (y 0) (y 1) : ℝ) : EReal)) (fun y => I.gw (lane (y 1))) x
      = o I (row t (x 0)) (x 1) * fac (∑ k, o I (row t (x 0)) (hd (x 1) k) * o I (row t (x 0)) (hd (x 1) k)) 64 * I.gw (lane (x 1)) := by
  pointwise [k0_pay4]
  simp only [ε_word, zero_word', EReal.coe_zero, zero_add, add_zero]
  exact congrArg (fun v => o I (row t (x 0)) (x 1) * v * I.gw (lane (x 1))) (seg_fac I (row t (x 0)) (x 1))

theorem tile_h (t : Fin cfg0.N) (v : S256x256.Idx → EReal) (x : S256x256.Idx) :
    k0_pay1 (F := Ideal) v (fun y => hg I (row t (y 0)) (y 1)) (k0_pay5 (F := Ideal) fun y => hg I (row t (y 0)) (y 1)) x
      = v x * (hg I (row t (x 0)) (x 1) * sg (hg I (row t (x 0)) (x 1))) := by
  pointwise [k0_pay1, k0_pay5]
  rw [whalf, ← sg_tanh]

section
include A

theorem V_aw : V m c main_v0 = fun i => I.aw (i 1) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  exact congrFun A.aw _
theorem V_gw : V m c main_v4 = fun i => I.gw (lane (i 1)) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  exact congrFun A.gw _
theorem V_cw : V m c main_v5 = fun i => I.cw (i 1) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  exact congrFun A.cw _
end

theorem V_seg : V m c main_v14 = fun i => ((seg (i 0) (i 1) : ℝ) : EReal) := by
  show StableHlo.after [hostOps0, hostOps0_1, hostOps0_2].flatten (fun b => m (c, b)) (Proc.tc.devRef _) = _
  simp only [List.flatten_cons, List.flatten_nil, List.append_nil, List.cons_append, List.nil_append, hostOps0, hostOps0_1, hostOps0_2]
  after_results
  funext i
  pointwise []
  show Scalar.select (IntOp.cmpi .eq (IntOp.divsi .host (BitVec.ofNat 32 (i 0).val) 64#32) (IntOp.divsi .host (BitVec.ofNat 32 (i 1).val) 64#32))
    (Ideal.ofBits .f32 1015021568#32) (Ideal.ofBits .f32 0#32) = _
  rw [quot (i 0), quot (i 1), quot_eq ⟨(i 0).val / 64, div_lt (i 0)⟩ ⟨(i 1).val / 64, div_lt (i 1)⟩, w64th, zero_word']
  unfold seg
  split <;> rfl
section
include A

theorem blk_0 (t : Fin cfg0.N) : iblk m c 0 t = fun y : S256x512.Idx => I.ya (row t (y 0)) (y 1) := by
  funext y
  show m ((c : Thread nD τ).loc main_arg0) ((win0_0.blk t).view.emb y) = _
  rw [A.ya]
  refine congrArg₂ I.ya (Fin.ext ?_) (Fin.ext ?_)
  all_goals blk_simp [idx_0 t]
  all_goals rfl

theorem blk_1 (t : Fin cfg0.N) : iblk m c 1 t = fun y : S256x256.Idx => I.o1 (row t (y 0)) (y 1) := by
  funext y
  show m ((c : Thread nD τ).loc main_arg1) ((win0_1.blk t).view.emb y) = _
  rw [A.o1]
  refine congrArg₂ I.o1 (Fin.ext ?_) (Fin.ext ?_)
  all_goals blk_simp [idx_1 t]
  all_goals rfl

theorem blk_2 (t : Fin cfg0.N) : iblk m c 2 t = fun y : S256x256.Idx => I.o2 (row t (y 0)) (y 1) := by
  funext y
  show m ((c : Thread nD τ).loc main_arg2) ((win0_2.blk t).view.emb y) = _
  rw [A.o2]
  refine congrArg₂ I.o2 (Fin.ext ?_) (Fin.ext ?_)
  all_goals blk_simp [idx_2 t]
  all_goals rfl

theorem blk_3 (t : Fin cfg0.N) : iblk m c 3 t = fun y : S256x256.Idx => hg I (row t (y 0)) (y 1) := by
  funext y
  show m ((c : Thread nD τ).loc main_arg3) ((win0_3.blk t).view.emb y) = _
  rw [A.p]
  refine congrArg₂ I.p (Fin.ext ?_) (Fin.ext ?_)
  all_goals blk_simp [idx_3 t]
  all_goals rfl

theorem blk_4 (t : Fin cfg0.N) : iblk m c 4 t = fun y : S256x256.Idx => I.yc (row t (y 0)) (y 1) := by
  funext y
  show m ((c : Thread nD τ).loc main_arg4) ((win0_4.blk t).view.emb y) = _
  rw [A.yc]
  refine congrArg₂ I.yc (Fin.ext ?_) (Fin.ext ?_)
  all_goals blk_simp [idx_4 t]
  all_goals rfl

theorem blk_5 (t : Fin cfg0.N) : iblk m c 5 t = fun y : S1x512.Idx => I.aw (y 1) := by
  funext y
  show V m c main_v0 ((win0_5.blk t).view.emb y) = _
  rw [V_aw A]
  refine congrArg I.aw (Fin.ext ?_)
  blk_simp [idx_5 t]

theorem blk_6 (t : Fin cfg0.N) : iblk m c 6 t = fun y : S1x256.Idx => I.gw (lane (y 1)) := by
  funext y
  show V m c main_v4 ((win0_6.blk t).view.emb y) = _
  rw [V_gw A]
  refine congrArg (fun q => I.gw (lane q)) (Fin.ext ?_)
  blk_simp [idx_6 t]

theorem blk_7 (t : Fin cfg0.N) : iblk m c 7 t = fun y : S1x256.Idx => I.cw (y 1) := by
  funext y
  show V m c main_v5 ((win0_7.blk t).view.emb y) = _
  rw [V_cw A]
  refine congrArg I.cw (Fin.ext ?_)
  blk_simp [idx_7 t]

omit A in
theorem blk_8 (t : Fin cfg0.N) : iblk m c 8 t = fun y : S256x256.Idx => ((seg (y 0) (y 1) : ℝ) : EReal) := by
  funext y
  show V m c main_v14 ((win0_8.blk t).view.emb y) = _
  rw [V_seg]
  refine congrArg (fun v : ℝ => (v : EReal)) (congrArg₂ seg (Fin.ext ?_) (Fin.ext ?_))
  all_goals blk_simp [idx_8 t]

theorem outs (t : Fin cfg0.N) : outsAt0 m c t = fun y : S256x1024.Idx => mix I (row t (y 0)) (y 1) := by
  funext y
  unfold outsAt0
  frame_out
  rw [blk_0 A, blk_1 A, blk_2 A, blk_3 A, blk_4 A, blk_5 A, blk_6 A, blk_7 A, blk_8]
  canon_tiles x h using (View.cover_of_tiledBy _ ![256, 256] (by sl_kernel_rfl) y)
  · rw [tile_c, show row t (y 0) = row t (x 0) from congrArg _ (Fin.ext h0)]
    unfold mix
    rw [dif_neg (by omega), dif_neg (by omega)]
    exact congrArg (mC I _) (Fin.ext (by show (x 1).val = (y 1).val - 768; omega))
  · rw [tile_h, tile_n, show row t (y 0) = row t (x 0) from congrArg _ (Fin.ext h0)]
    unfold mix
    rw [dif_neg (by omega), dif_pos (by omega)]
    exact congrArg (mH I _) (Fin.ext (a := x 1) (by show (x 1).val = (y 1).val - 512; omega))
  · rw [tile_a, show row t (y 0) = row t (x 0) from congrArg _ (Fin.ext h0)]
    unfold mix
    rw [dif_pos (by omega)]
    exact congrArg (mA I _) (Fin.ext (by show (x 1).val = (y 1).val; omega))

theorem final : (dats m 0 c).arrAt 9 cfg0.N = fun i : S4096x1024.Idx => mix I (i 0) (i 1) := by
  refine (dats m 0 c).arrAt_eq_of_covers 9 _ (by decide +kernel) fun t hf y => ?_
  blk_simp
  rw [after0_9, outs A]
  have hi : (win0_9.blk t).view.emb y = ix2 (row t (y 0)) (y 1) := ext2 (by blk_simp [idx_9 t]; rfl) (by blk_simp [idx_9 t])
  rw [hi]

end

end Cert.MixFwd

namespace Cert.MixFwd

open Idealize.ShloMosaic hiding ix1 ix2 ix3 ix4 ix5
open Idealize.ShloMosaic.ValueIdx Idealize.ShloMosaic.TcCoe Idealize.SL.Sem
open Cert.Reals Cert.Kernel9Ideal Cert.Kernel9Ideal.Gen Cert.Reference9Ideal.Read

/-- The kernel's run, and the reference's value of its arguments as the result. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15) = val_main_v47 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  let I : Dev nD → In := fun c => ⟨fun r q => m ((c : Thread nD τ).loc main_arg0) (ix2 r q), fun r q => m ((c : Thread nD τ).loc main_arg1) (ix2 r q), fun r q => m ((c : Thread nD τ).loc main_arg2) (ix2 r q), fun r q => m ((c : Thread nD τ).loc main_arg3) (ix2 r q), fun r q => m ((c : Thread nD τ).loc main_arg4) (ix2 r q), fun q => m ((c : Thread nD τ).loc main_arg5) (ix1 q), fun q => m ((c : Thread nD τ).loc main_arg6) (ix1 q), fun q => m ((c : Thread nD τ).loc main_arg7) (ix1 q)⟩
  have A : ∀ c, Args (I c) m c := fun c => ⟨funext fun _ => congrArg _ (ext2 rfl rfl),
    funext fun _ => congrArg _ (ext2 rfl rfl),
    funext fun _ => congrArg _ (ext2 rfl rfl),
    funext fun _ => congrArg _ (ext2 rfl rfl),
    funext fun _ => congrArg _ (ext2 rfl rfl),
    funext fun _ => congrArg _ (ext1 rfl),
    funext fun _ => congrArg _ (ext1 rfl),
    funext fun _ => congrArg _ (ext1 rfl)⟩
  refine (θ_run defs _ _).mono (fun _ h c => ⟨((h.1 c).1 9).trans ((final (A c)).trans ?_), h.2 c⟩) (θ_run_and (run_main m ρ) (unchanged m ρ))
  rw [(A c).ya, (A c).o1, (A c).o2, (A c).p, (A c).yc, (A c).aw, (A c).gw, (A c).cw]
  exact (funext (ref_mix (I c))).symm

end Cert.MixFwd

end
-- ==== Proof.InFwd.lean ====
/- The mixing block's input product and the norm before it: the kernel's two results, over any extended reals. -/
module

public import proofs.«01_k».proof.Proof.Gen.Kernel10Ideal.Frame
public import proofs.«01_k».proof.Proof.Gen.Reference10Ideal.Read
public import proofs.«01_k».proof.Proof.RmsNorm
public import Idealize.ShloMosaic.Lib.Pipeline.ValueKit.Point

@[expose] public section

set_option maxRecDepth 16384

noncomputable section

namespace Cert.InFwd

open Idealize.ShloMosaic hiding ix1 ix2 ix3 ix4 ix5
open Idealize.ShloMosaic.ValueIdx Idealize.ShloMosaic.TcCoe Idealize.SL.Sem
open Cert.Reals Cert.RmsNorm Cert.Kernel10Ideal Cert.Kernel10Ideal.Gen

/-! ### The mathematics -/

/-- What the call reads: the rows, the norm's weight and the projection's. -/
structure In where
  x : Fin 4096 → Fin 1024 → EReal
  w : Fin 1024 → EReal
  u : Fin 1024 → Fin 2560 → EReal

/-- A row's normalised and weighted entry. -/
def h (I : In) (r : Fin 4096) (k : Fin 1024) : EReal :=
  I.x r k * Ideal.rsqrt (Ideal.div (∑ q, I.x r q * I.x r q) ((1024 : ℝ) : EReal) + ((ε : ℝ) : EReal)) * I.w k

/-- The projection. -/
def p (I : In) (r : Fin 4096) (j : Fin 2560) : EReal := ∑ k, h I r k * I.u k j

abbrev xA (I : In) : S4096x1024.Idx → EReal := fun i => I.x (i 0) (i 1)
abbrev wA (I : In) : S1024.Idx → EReal := fun i => I.w (i 0)
abbrev uA (I : In) : S1024x2560.Idx → EReal := fun i => I.u (i 0) (i 1)

/-! ### The reference -/

open Cert.Reference10Ideal.Read

theorem ref_h (I : In) : val_main_v12 (F := Ideal) (xA I) (wA I) = fun i => h I (i 0) (i 1) := by
  funext i
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]
  simp only [ε_word, w1024, zero_word', EReal.coe_zero, zero_add]
  rfl

theorem ref_p (I : In) (i : S4096x2560.Idx) : val_main_v13 (F := Ideal) (xA I) (wA I) (uA I) i = p I (i 0) (i 1) := by
  unfold val_main_v13
  rw [ref_h]
  pointwise []
  rfl

/-! ### The kernel -/

/-- A tile's row of the array. -/
def row (t : Fin cfg0.N) (r : Fin 512) : Fin 4096 := ⟨t.val * 512 + r.val, by have := t.isLt; have : cfg0.N = 8 := N_0; omega⟩

/-- A chip's column of the projection. -/
def col (a : Fin 4) (q : Fin 640) : Fin 2560 := ⟨a.val * 640 + q.val, by omega⟩

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)

/-- The launch's arguments. -/
structure Args (I : In) (m : (ℓ : Loc nD τ sig) → Buf (Elt Ideal) ℓ) (c : Dev nD) : Prop where
  x : m ((c : Thread nD τ).loc main_arg0) = xA I
  w : m ((c : Thread nD τ).loc main_arg1) = wA I
  u : m ((c : Thread nD τ).loc main_arg2) = uA I

variable {I : In} {m : (ℓ : Loc nD τ sig) → Buf (Elt Ideal) ℓ} {c : Dev nD} (A : Args I m c)
include A

theorem V_w : V m c main_v3 = fun i : S1x1024.Idx => I.w (i 1) := by
  show StableHlo.after hostOps0 (fun b => m (c, b)) (Proc.tc.devRef _) = _
  simp only [hostOps0]
  after_results
  funext i
  pointwise []
  exact congrFun A.w _

theorem V_u : V m c main_v2 = fun i : S4x1024x640.Idx => I.u (i 1) (col (i 0) (i 2)) := by
  show StableHlo.after hostOps0 (fun b => m (c, b)) (Proc.tc.devRef _) = _
  simp only [hostOps0]
  after_results
  funext i
  pointwise []
  exact congrFun A.u _

theorem blk_0 (t : Fin cfg0.N) : iblk m c 0 t = fun y : S512x1024.Idx => I.x (row t (y 0)) (y 1) := by
  funext y
  show m ((c : Thread nD τ).loc main_arg0) ((win0_0.blk t).view.emb y) = _
  rw [A.x]
  refine congrArg₂ I.x (Fin.ext ?_) (Fin.ext ?_)
  all_goals blk_simp [idx_0 t]
  all_goals rfl

theorem blk_1 (t : Fin cfg0.N) : iblk m c 1 t = fun y : S1x1024.Idx => I.w (y 1) := by
  funext y
  show V m c main_v3 ((win0_1.blk t).view.emb y) = _
  rw [V_w A]
  refine congrArg I.w (Fin.ext ?_)
  all_goals blk_simp [idx_1 t]

theorem blk_2 (t : Fin cfg0.N) : iblk m c 2 t = fun y : S4x1024x640.Idx => I.u (y 1) (col (y 0) (y 2)) := by
  funext y
  show V m c main_v2 ((win0_2.blk t).view.emb y) = _
  rw [V_u A]
  refine congrArg₂ I.u (Fin.ext ?_) (congrArg₂ col (Fin.ext ?_) (Fin.ext ?_))
  all_goals blk_simp [idx_2 t]
  all_goals rfl

omit A in
/-- The body's normed rows. -/
theorem pay2 (t : Fin cfg0.N) : k0_pay2 (F := Ideal) (fun y : S512x1024.Idx => I.x (row t (y 0)) (y 1)) (fun y : S1x1024.Idx => I.w (y 1))
    = fun y : S512x1024.Idx => h I (row t (y 0)) (y 1) := by
  funext y
  pointwise [k0_pay2]
  simp only [ε_word, w1024, zero_word', EReal.coe_zero, zero_add]
  rfl

theorem out_h (t : Fin cfg0.N) : out0_4 (F := Ideal) (iblk m c 0 t) (iblk m c 1 t) (iblk m c 2 t) = fun y : S512x1024.Idx => h I (row t (y 0)) (y 1) := by
  rw [blk_0 A, blk_1 A]
  funext y
  frame_out
  exact congrFun (pay2 t) y

theorem out_p (t : Fin cfg0.N) : out0_3 (F := Ideal) (iblk m c 0 t) (iblk m c 1 t) (iblk m c 2 t) = fun y : S512x2560.Idx => p I (row t (y 0)) (y 1) := by
  rw [blk_0 A, blk_1 A, blk_2 A]
  funext y
  unfold out0_3
  canon_tiles x h
  all_goals
    pointwise [k0_pay1, k0_pay2, k0_pay3, k0_pay4, k0_pay5]
    simp only [ε_word, w1024, zero_word', EReal.coe_zero, zero_add]
    refine congrArg₂ (p I) (x := row t (x 0)) (congrArg (row t) (Fin.ext h0.symm)) (Fin.ext ?_)
    first
      | exact h1.symm
      | exact (Nat.zero_add _).trans h1.symm

theorem final_h : (dats m 0 c).arrAt 4 cfg0.N = fun i : S4096x1024.Idx => h I (i 0) (i 1) := by
  refine (dats m 0 c).arrAt_eq_of_covers 4 _ (by decide +kernel) fun t hf y => ?_
  blk_simp
  rw [after0_4, out_h A]
  have hi : (win0_4.blk t).view.emb y = ix2 (row t (y 0)) (y 1) := ext2 (by blk_simp [idx_4 t]; rfl) (by blk_simp [idx_4 t])
  rw [hi]

theorem final_p : (dats m 0 c).arrAt 3 cfg0.N = fun i : S4096x2560.Idx => p I (i 0) (i 1) := by
  refine (dats m 0 c).arrAt_eq_of_covers 3 _ (by decide +kernel) fun t hf y => ?_
  blk_simp
  rw [after0_3, out_p A]
  have hi : (win0_3.blk t).view.emb y = ix2 (row t (y 0)) (y 1) := ext2 (by blk_simp [idx_3 t]; rfl) (by blk_simp [idx_3 t])
  rw [hi]

end Cert.InFwd

namespace Cert.InFwd

open Idealize.ShloMosaic hiding ix1 ix2 ix3 ix4 ix5
open Idealize.ShloMosaic.ValueIdx Idealize.ShloMosaic.TcCoe Idealize.SL.Sem
open Cert.Reals Cert.Kernel10Ideal Cert.Kernel10Ideal.Gen Cert.Reference10Ideal.Read

/-- The kernel's run, and the reference's values of its arguments as the results. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4_0) = val_main_v13 (F := Ideal) (m ((c : Thread nD τ).loc main_arg0)) (m ((c : Thread nD τ).loc main_arg1))
        (m ((c : Thread nD τ).loc main_arg2))
      ∧ r.2.mem ((c : Thread nD τ).loc main_v4_1) = val_main_v14 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  let I : Dev nD → In := fun c => ⟨fun r q => m ((c : Thread nD τ).loc main_arg0) (ix2 r q), fun q => m ((c : Thread nD τ).loc main_arg1) (ix1 q),
    fun r q => m ((c : Thread nD τ).loc main_arg2) (ix2 r q)⟩
  have A : ∀ c, Args (I c) m c := fun c => ⟨funext fun _ => congrArg _ (ext2 rfl rfl), funext fun _ => congrArg _ (ext1 rfl),
    funext fun _ => congrArg _ (ext2 rfl rfl)⟩
  refine (θ_run defs _ _).mono (fun _ h c => ⟨((h.1 c).1 3).trans ((final_p (A c)).trans ?_),
    ((h.1 c).1 4).trans ((final_h (A c)).trans ?_), h.2 c⟩) (θ_run_and (run_main m ρ) (unchanged m ρ))
  · rw [(A c).x, (A c).w, (A c).u]
    exact (funext (ref_p (I c))).symm
  · rw [(A c).x, (A c).w]
    unfold val_main_v14
    rw [ref_h]
    rfl

end Cert.InFwd

end
-- ==== Proof.LowerFwd.lean ====
/- The lower bounds: the kernel's four rows against the reference's array, over any extended reals. -/
module

public import proofs.«01_k».proof.Proof.LowerBounds
public import proofs.«01_k».proof.Proof.Gen.Kernel11Ideal.Frame
public import proofs.«01_k».proof.Proof.Gen.Reference11Ideal.Read

@[expose] public section

set_option maxRecDepth 16384

noncomputable section

namespace Cert.LowerFwd

open Idealize.ShloMosaic hiding ix1 ix2 ix3 ix4 ix5
open Idealize.ShloMosaic.ValueIdx Idealize.ShloMosaic.TcCoe Idealize.SL.Sem
open Cert.Reals Cert.Kernel11Ideal Cert.Kernel11Ideal.Gen
open Cert.LowerBounds (A Wn range_wn wn_0 wn_1 share row_at exp_at)

/-- A bound: the layers' shares summed up to its own, less the first. -/
def bound (a b : EReal) (l : Fin 2) : EReal := (if l = 0 then share a b 0 else share a b 0 + share a b 1) - share a b 0

/-! ### The reference -/

/-- The sum over a layer and the one before it, the layer before the first counted as the initial value. -/
theorem window_at (h : A.ReduceWindows ![2, 1, 1] ![1, 1, 1] ![1, 0, 0] ![0, 0, 0] A) (x : A.Idx → EReal) (v : EReal)
    (l d : Fin 2) (c : Fin 64) :
    Ideal.hostReduceWindowAdd ![2, 1, 1] ![1, 1, 1] ![1, 0, 0] ![0, 0, 0] h x v (ix3 l d c)
      = v + (if l = 0 then v else x (ix3 0 d c)) + x (ix3 l d c) := by
  have hd : d.val < 2 := d.isLt
  have hc : c.val < 64 := c.isLt
  unfold Ideal.hostReduceWindowAdd Host.reduceWindow
  show List.foldl _ v (List.finRange Wn.numel) = _
  rw [range_wn]
  simp only [List.foldl_cons, List.foldl_nil]
  have in1 : ∀ a : Fin 3, ![1, 0, 0] a ≤ (ix3 l d c a).val * ![1, 1, 1] a + (Wn.rowMajor.symm ⟨1, by decide⟩ a).val
      ∧ (ix3 l d c a).val * ![1, 1, 1] a + (Wn.rowMajor.symm ⟨1, by decide⟩ a).val - ![1, 0, 0] a < ![2, 2, 64] a := by
    intro a
    rw [wn_1]
    match a with
    | ⟨0, _⟩ => show 1 ≤ l.val * 1 + 1 ∧ l.val * 1 + 1 - 1 < 2; omega
    | ⟨1, _⟩ => show 0 ≤ d.val * 1 + 0 ∧ d.val * 1 + 0 - 0 < 2; omega
    | ⟨2, _⟩ => show 0 ≤ c.val * 1 + 0 ∧ c.val * 1 + 0 - 0 < 64; omega
  have at1 (hin : ∀ a : Fin 3, (ix3 l d c a).val * ![1, 1, 1] a + (Wn.rowMajor.symm ⟨1, by decide⟩ a).val - ![1, 0, 0] a < A.size a) : x (fun a => ⟨(ix3 l d c a).val * ![1, 1, 1] a + (Wn.rowMajor.symm ⟨1, by decide⟩ a).val - ![1, 0, 0] a, hin a⟩) = x (ix3 l d c) := by
    refine congrArg x (funext fun a => Fin.ext ?_)
    show (ix3 l d c a).val * ![1, 1, 1] a + (Wn.rowMajor.symm ⟨1, by decide⟩ a).val - ![1, 0, 0] a = _
    rw [wn_1]
    match a with
    | ⟨0, _⟩ => show l.val * 1 + 1 - 1 = l.val; omega
    | ⟨1, _⟩ => show d.val * 1 + 0 - 0 = d.val; omega
    | ⟨2, _⟩ => show c.val * 1 + 0 - 0 = c.val; omega
  obtain rfl | rfl : l = 0 ∨ l = 1 := by omega
  · rw [dif_neg (by
      intro hin
      have h0 := (hin 0).1
      have h1 : 1 ≤ 0 * 1 + (Wn.rowMajor.symm ⟨0, by decide⟩ 0).val := h0
      rw [wn_0] at h1
      simp at h1), dif_pos (by exact in1), if_pos (by rfl)]
    exact congrArg (v + v + ·) (at1 _)
  · rw [dif_pos (by
      intro a
      show _ ≤ _ * _ + (Wn.rowMajor.symm ⟨0, by decide⟩ a).val ∧ _ * _ + (Wn.rowMajor.symm ⟨0, by decide⟩ a).val - _ < _
      rw [wn_0]
      match a with
      | ⟨0, _⟩ => show 1 ≤ 1 * 1 + 0 ∧ 1 * 1 + 0 - 1 < 2; omega
      | ⟨1, _⟩ => show 0 ≤ d.val * 1 + 0 ∧ d.val * 1 + 0 - 0 < 2; omega
      | ⟨2, _⟩ => show 0 ≤ c.val * 1 + 0 ∧ c.val * 1 + 0 - 0 < 64; omega), dif_pos (by exact in1), if_neg (by decide)]
    refine congrArg₂ (· + ·) (congrArg (v + ·) (congrArg x (funext fun a => Fin.ext ?_))) (at1 _)
    show _ * _ + (Wn.rowMajor.symm ⟨0, by decide⟩ a).val - _ = _
    rw [wn_0]
    match a with
    | ⟨0, _⟩ => rfl
    | ⟨1, _⟩ => show d.val * 1 + 0 - 0 = d.val; omega
    | ⟨2, _⟩ => show c.val * 1 + 0 - 0 = c.val; omega

theorem fold_two (f : Fin 2 → EReal) : (Finset.univ : Finset (Fin 2)).fold max ⊥ f = max (f 0) (f 1) := by
  rw [show (Finset.univ : Finset (Fin 2)) = {0, 1} from rfl, Finset.fold_insert (by decide), Finset.fold_singleton, max_eq_left bot_le]

open Cert.Reference11Ideal.Read Cert.Reference11Ideal.Gen

section
variable (x : A.Idx → EReal)

/-- The greater of a column's two logits. -/
theorem ref_top (d : Fin 2) (c : Fin 64) : val_main_v2 (F := Ideal) x (ix2 d c) = max (x (ix3 0 d c)) (x (ix3 1 d c)) := by
  rw [val_main_v2_apply, val_main_v0, val_main_v1_apply, val_main_cst_0_apply, Ideal.ofBits_def, neg_inf_word, Ideal.maximumf_def]
  refine (max_eq_right bot_le).trans ?_
  rw [Host.reduce_eq_fold_single (FloatOps.maximumf (F := Ideal)) _ _ _ (by decide)]
  rw [val_main_cst_apply, Ideal.ofBits_def, neg_inf_word]
  refine (fold_two _).trans ?_
  refine congrArg₂ max (congrArg x (ext3 ?_ ?_ ?_)) (congrArg x (ext3 ?_ ?_ ?_)) <;> rfl

theorem ref_exp (l d : Fin 2) (c : Fin 64) : val_main_v6 (F := Ideal) x (ix3 l d c)
    = Ideal.exp (x (ix3 l d c) - max (x (ix3 0 d c)) (x (ix3 1 d c))) := by
  pointwise [val_main_v6, val_main_v5, val_main_v4, val_main_v3]
  exact congrArg (fun v => Ideal.exp (x (ix3 l d c) - v)) (ref_top x d c)

theorem ref_share (l d : Fin 2) (c : Fin 64) : val_main_v10 (F := Ideal) x (ix3 l d c) = share (x (ix3 0 d c)) (x (ix3 1 d c)) l := by
  rw [val_main_v10_apply, val_main_v9_apply, val_main_v8_apply, val_main_v7_apply, val_main_cst_1_apply, Ideal.ofBits_def, zero_word, EReal.coe_zero,
    zero_add, Fin.sum_univ_two, ref_exp]
  have e (k : Fin 2) : idx_main_v7 (idx_main_v8 (idx_main_v9 (ix3 l d c))) k = ix3 k d c := ext3 rfl rfl rfl
  rw [e, e, ref_exp, ref_exp]
  unfold share
  match l with
  | ⟨0, _⟩ => rfl
  | ⟨1, _⟩ => rfl

theorem ref_bound (l d : Fin 2) (c : Fin 64) : val_main_v14 (F := Ideal) x (ix3 l d c) = bound (x (ix3 0 d c)) (x (ix3 1 d c)) l := by
  rw [val_main_v14_apply, val_main_v11]
  unfold Host.reduceWindowAdd
  rw [Ideal.hostReduceWindowAdd_def, window_at, ref_share, ref_share]
  have e13 : val_main_v13 (F := Ideal) x (ix3 l d c) = share (x (ix3 0 d c)) (x (ix3 1 d c)) 0 := by
    rw [val_main_v13_apply, val_main_v12_apply]
    have e : idx_main_v12 (idx_main_v13 (ix3 l d c)) = ix3 0 d c := ext3 rfl rfl rfl
    rw [e, ref_share]
  have e0 : val_main_call0_call0_v0 (F := Ideal) (Shape.Idx.first h_S_) = 0 := by
    rw [val_main_call0_call0_v0_apply, val_main_call0_call0_cst_apply, Ideal.ofBits_def, zero_word, EReal.coe_zero]
  rw [e13, e0, zero_add]
  unfold bound
  refine congrArg (· - _) ?_
  by_cases hl : l = 0
  · subst hl
    rw [if_pos rfl, if_pos rfl, zero_add]
  · obtain rfl : l = 1 := by omega
    rw [if_neg hl, if_neg hl]

end

/-! ### The kernel -/

/-- The kernel's bound at a row and column of the packed logits. -/
def out (u : (⟨2, ![4, 64]⟩ : Shape).Idx → EReal) (j : (⟨2, ![4, 64]⟩ : Shape).Idx) : EReal :=
  have h : (j 0).val < 4 := (j 0).isLt
  bound (u (ix2 (⟨(j 0).val % 2, by omega⟩ : Fin 4) (j 1))) (u (ix2 (⟨(j 0).val % 2 + 2, by omega⟩ : Fin 4) (j 1))) ⟨(j 0).val / 2, by omega⟩

theorem out_at (u : (⟨2, ![4, 64]⟩ : Shape).Idx → EReal) (j : (⟨2, ![4, 64]⟩ : Shape).Idx) (l d : Fin 2) (c : Fin 64)
    (h0 : (j 0).val = l.val * 2 + d.val) (h1 : (j 1).val = c.val) :
    out u j = bound (u (ix2 (⟨d.val, by omega⟩ : Fin 4) c)) (u (ix2 (⟨d.val + 2, by omega⟩ : Fin 4) c)) l := by
  have e : j 1 = c := Fin.ext h1
  have hd : (j 0).val % 2 = d.val := by omega
  have hl : (⟨(j 0).val / 2, by have h : (j 0).val < 4 := (j 0).isLt; omega⟩ : Fin 2) = l := Fin.ext (by
    show (j 0).val / 2 = l.val; omega)
  show bound (u (ix2 (⟨(j 0).val % 2, _⟩ : Fin 4) (j 1))) (u (ix2 (⟨(j 0).val % 2 + 2, _⟩ : Fin 4) (j 1))) _ = _
  rw [hl, e]
  refine congrArg₂ (fun p q => bound (u (ix2 p c)) (u (ix2 q c)) l) (Fin.ext hd) (Fin.ext ?_)
  show (j 0).val % 2 + 2 = _
  rw [hd]

theorem block_eq (u : (⟨2, ![4, 64]⟩ : Shape).Idx → EReal) (j : (⟨2, ![4, 64]⟩ : Shape).Idx) : out0_1 (F := Ideal) u j = out u j := by
  have e : ∀ i, broadcast (α := EReal) S1x64 (FloatOps.ofBits (F := Ideal) .f32 0#32) i = 0 := fun i => (zero_word : Ideal.ofBits .f32 0#32 = _).trans EReal.coe_zero
  canon_tiles x h
  · rw [out_at u j 1 1 (x 1) (by show _ = 1 * 2 + 1; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 1 (by decide), row_at _ 3 (by decide), e, zero_add]
    rfl
  · rw [out_at u j 0 1 (x 1) (by show _ = 0 * 2 + 1; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 1 (by decide), row_at _ 3 (by decide), e, zero_add]
    rfl
  · rw [out_at u j 1 0 (x 1) (by show _ = 1 * 2 + 0; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 0 (by decide), row_at _ 2 (by decide), e, zero_add]
    rfl
  · rw [out_at u j 0 0 (x 1) (by show _ = 0 * 2 + 0; omega) h1]
    open_payloads
    simp only [View.ld_unit_zero (S := S4x64) (show (![0, 0] : Fin 2 → Nat) = fun _ => 0 by decide), shapeCast_self,
      mulf_apply, divf_apply, addf_apply, subf_apply, maximumf_apply, exp_at, row_at _ 0 (by decide), row_at _ 2 (by decide), e, zero_add]
    rfl

variable (m : (ℓ : Loc nD τ sig) → Buf (Elt Ideal) ℓ) (ρ : Dev nD → PrngReg)

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)

theorem blk_0 (c : Dev nD) (t : Fin cfg0.N) :
    iblk m c 0 t = shapeCast S4x64 (m ((c : Thread nD τ).loc main_arg0)) Cert.Kernel11Ideal.Gen.shapeCasts_S2x2x64_S4x64 := by
  funext y
  blk_ext! [iblk, V, idx_0 t]

theorem final (c : Dev nD) : (dats m 0 c).arrAt 1 cfg0.N = out (shapeCast S4x64 (m ((c : Thread nD τ).loc main_arg0)) Cert.Kernel11Ideal.Gen.shapeCasts_S2x2x64_S4x64) := by
  refine (dats m 0 c).arrAt_eq_of_covers 1 _ (by decide +kernel) fun t hf y => ?_
  blk_simp
  rw [after0_1, block_eq, blk_0]
  exact congrArg (out _) (ext2 (by blk_simp [idx_1 t]) (by blk_simp [idx_1 t]))

theorem value_eq (x : A.Idx → EReal) (h : A.ShapeCasts S4x64) : out (shapeCast S4x64 x h) = val_main_v15 (F := Ideal) x := by
  funext j
  have h0 : (j 0).val < 4 := (j 0).isLt
  have h1 : (j 1).val < 64 := (j 1).isLt
  set l : Fin 2 := ⟨(j 0).val / 2, by omega⟩ with hl
  set d : Fin 2 := ⟨(j 0).val % 2, by omega⟩ with hd
  set c : Fin 64 := j 1 with hc
  have hlv : l.val = (j 0).val / 2 := rfl
  have hdv : d.val = (j 0).val % 2 := rfl
  rw [out_at _ j l d c (by omega) rfl, val_main_v15_apply, show idx_main_v15 j = ix3 l d c from ext3
      (by show ((j 0).val * 64 + (j 1).val) / 128 = l.val; omega)
      (by show ((j 0).val * 64 + (j 1).val) / 64 % 2 = d.val; omega)
      (by show ((j 0).val * 64 + (j 1).val) % 64 = (j 1).val; omega), ref_bound,
    Cert.LowerBounds.pack_at _ h 0 d _ c (by show d.val = 0 * 2 + d.val; omega), Cert.LowerBounds.pack_at _ h 1 d _ c (by show d.val + 2 = 1 * 2 + d.val; omega)]

/-- The kernel's run, and the reference's value of its argument as the result. -/
theorem results : θ_run defs (onTc (τ := τ) (main (F := Ideal))) ⟨m, fun _ => 0, ρ⟩ fun r => ∀ c : Dev nD,
      r.2.mem ((c : Thread nD τ).loc main_v1) = val_main_v15 (F := Ideal) (m ((c : Thread nD τ).loc main_arg0))
      ∧ r.2.mem ((c : Thread nD τ).loc main_arg0) = m ((c : Thread nD τ).loc main_arg0) :=
  (θ_run defs _ _).mono (fun _ h c => ⟨((h.1 c).1 1).trans ((final m c).trans (value_eq _ _)), h.2 c⟩) (θ_run_and (run_main m ρ) (unchanged m ρ))

end Cert.LowerFwd

end
-- ==== Proof.LossSum.lean ====
/-
  The loss over the devices (`Kernel12Ideal`): each of the eight devices scales its own sum of squares, one all-reduce adds
  the eight numbers on every device. No kernel region: @main is a host line, the all-reduce, and a reshape.

  `run_main` is the run at any floats: it ends with every buffer at the valuation `V₃` and every counter at zero.
-/
module

public import proofs.«01_k».proof.Proof.Gen.Kernel12Ideal
public import proofs.«01_k».proof.Proof.Gen.Kernel12Ideal.Launch
public import Idealize.ShloMosaic.Lib.Pipeline.Regions
public import Idealize.ShloMosaic.Lib.Pipeline.CollectiveSegs
public import Idealize.ShloMosaic.Lib.Pipeline.Kit
public import Idealize.ShloMosaic.Lib.Tactic

@[expose] public section

noncomputable section

namespace Cert.LossSum

open Cert.Kernel12Ideal Cert.Kernel12Ideal.Gen
open Cert.Kernel12Ideal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the proof: the kit's part, over no pipeline, and the all-reduce's. -/
abbrev U₂ : Type := UR sig nD τ × Sites.UC

local notation "𝕄" => MT nD τ sig ℕ (Elt F) ℕ U₂ ℕ

abbrev kitPart : Emb (UR sig nD τ) (MT nD τ sig ℕ (Elt F) ℕ U₂ ℕ) := embL
abbrev sitePart : Emb Sites.UC (MT nD τ sig ℕ (Elt F) ℕ U₂ ℕ) := embR

variable (m : (ℓ : Loc nD τ sig) → Buf (Elt F) ℓ) (ρ : Dev nD → PrngReg)

/-! ## The buffers, statement by statement -/

/-- At launch; -/
def V₀ (c : Dev nD) : Valuation τ sig (Elt F) := fun b => m (c, b)
/-- the device's own share of the loss computed; -/
def V₁ (c : Dev nD) : Valuation τ sig (Elt F) := StableHlo.after (hostOps0 (F := F)) (V₀ m c)
/-- the shares added; -/
def V₂ (c : Dev nD) : Valuation τ sig (Elt F) := (ar0 (F := F)).after₀ (V₁ m) c
/-- the sum reshaped. -/
def V₃ (c : Dev nD) : Valuation τ sig (Elt F) := StableHlo.after (hostOps1 (F := F)) (V₂ m c)

/-! ## The three segments -/

theorem line0_sub : ∀ op ∈ (hostOps0 (F := F)), op.bufs ⊆ Pipeline.ucRefs τ sig := fun op h => by
  simp only [hostOps0, List.mem_cons, List.mem_nil_iff, or_false] at h
  rcases h with rfl | rfl | rfl | rfl | rfl <;> exact Pipeline.sub_ucRefs _ (by simp)
theorem line0_fresh : ∀ op ∈ (hostOps0 (F := F)), op.fresh = ∅ := fun op h => by
  simp only [hostOps0, List.mem_cons, List.mem_nil_iff, or_false] at h
  rcases h with rfl | rfl | rfl | rfl | rfl <;> rfl
theorem line1_sub : ∀ op ∈ (hostOps1 (F := F)), op.bufs ⊆ Pipeline.ucRefs τ sig := fun op h => by
  simp only [hostOps1, List.mem_cons, List.mem_nil_iff, or_false] at h
  subst h; exact Pipeline.sub_ucRefs _ (by simp)
theorem line1_fresh : ∀ op ∈ (hostOps1 (F := F)), op.fresh = ∅ := fun op h => by
  simp only [hostOps1, List.mem_cons, List.mem_nil_iff, or_false] at h
  subst h; rfl

/-- The all-reduce's cells stand under their invariants; carried along for the counters at the end. -/
abbrev inv : sProp 𝕄 := iprop(∃ κ, (AllReduce.Dat.once (Ix := ℕ) (Name := ℕ) (U := U₂) (Lvl := ℕ) (ar0 (F := F)) (V₁ m)).cellInvs (Sites.E0 sitePart) κ)

abbrev noPipe : (p : Fin 0) → (pcfgs (F := F) p).Adm := fun p => p.elim0
def noDat : (p : Fin 0) → (c : Dev nD) → Pipeline.Dat τ (Elt F) ℕ ℕ U₂ ℕ (Pipeline.pin (pcfgs (F := F)) noPipe p) c := fun p => p.elim0

local notation "ℍ" => Pipeline.HostSeg (Ix := ℕ) (Name := ℕ) (U := U₂) (Lvl := ℕ) (pcfgs (F := F)) defs₀ Variants.none L lv

/-- The share's line, the launch state of the all-reduce riding along. -/
def scale : ℍ := Pipeline.HostSeg.ofOps _ _ _ _ _ (Pipeline.ucRefs τ sig) (hostOps0 (F := F)) line0_sub line0_fresh (V₀ m)
  (fun c => iprop(Sites.Es sitePart (V₁ m) 0 c ∗ inv m))
/-- The all-reduce, from what the line leaves. -/
def total : ℍ := Sites.seg0 sitePart Variants.none (V₁ m) (Sites.Rest0 (V₁ m) fun _ => inv m)
/-- The reshape; nothing is owed any more. -/
def shape : ℍ := Pipeline.HostSeg.ofOps _ _ _ _ _ (Pipeline.ucRefs τ sig) (hostOps1 (F := F)) line1_sub line1_fresh (V₂ m)
  (fun c => iprop(Sites.Es sitePart (V₁ m) 1 c ∗ (Sites.Ghost0 sitePart c ∗ inv m)))

def segs : List (Pipeline.Seg (pcfgs (F := F)) noPipe noDat 0 defs₀ Variants.none L lv) :=
  [.host (scale m), .host (total m), .host (shape m)]

theorem main_wp (c : Dev nD) (Q : PUnit → sProp 𝕄) :
    wp frame (wpE defs Variants.none.lift (c.tc : Thread nD τ) none) Set.univ (Pipeline.Seg.run (segs m)) Q
      ⊢ wp frame (wpE defs Variants.none.lift (c.tc : Thread nD τ) none) Set.univ (main (F := F) c) Q := by
  rw [main_segs noPipe noDat 0 Variants.none L lv (scale m) (shape m) (total m) rfl rfl rfl c]
  exact .rfl

/-! ## How they meet -/

abbrev first (c : Dev nD) : sProp 𝕄 := (scale m).pre c
/-- At the end: the buffers at `V₃`, the all-reduce's cells past their one execution. -/
abbrev last (c : Dev nD) : sProp 𝕄 :=
  iprop(StableHlo.held (c : Thread nD τ) (Pipeline.ucRefs τ sig) (V₃ m c) ∗ (inv m ∗ Sites.Ghost0 sitePart c))

theorem scale_total (c : Dev nD) : (scale m).post c ⊢ (total (F := F) m).pre c :=
  Sites.pre0 sitePart Variants.none (V₁ m) (fun _ => inv m) c

theorem total_shape (c : Dev nD) : (total m).post c ⊢ (shape (F := F) m).pre c :=
  Sites.post0 sitePart Variants.none (V₁ m) (fun _ => inv m) c

theorem shape_last (c : Dev nD) :
    (shape (F := F) m).post c ⊢ iprop(last m c ∗ ∃ W, owes (c : Thread nD τ) (0 : CellTallies nD τ sig ℕ) W) := by
  show iprop(StableHlo.held (c : Thread nD τ) (Pipeline.ucRefs τ sig) (V₃ m c)
    ∗ (Sites.Es sitePart (V₁ m) 1 c ∗ (Sites.Ghost0 sitePart c ∗ inv m))) ⊢ _
  iintro ⟨Hb, HE, Hg, Hi⟩
  isplitr [HE]
  · isplitl [Hb]; · iexact Hb
    isplitl [Hi] <;> iassumption
  · iapply (Sites.hE_last sitePart (V₁ m) c); iexact HE

/-- The launch element: the kit's over no cell, the all-reduce's. -/
def u₀ : U₂ :=
  (initOf (Pipeline.cells (Pipeline.pin (pcfgs (F := F)) noPipe) cellOf_inj) (Pipeline.launchToks (Pipeline.pin (pcfgs (F := F)) noPipe) cellOf_inj),
    Sites.uC (U := U₂) (V₁ m))

/-- What the launch hands device `c` for the all-reduce. -/
abbrev handed (c : Dev nD) : sProp 𝕄 :=
  iprop(unscopedSems0 c ∗ owes (c : Thread nD τ) (Sites.O0 (F := F) c) ∅ ∗ Pipeline.launchCred (Sites.O0 (F := F)) c ∗ prngReg c (ρ c)
    ∗ Sites.G sitePart (V₁ m) c)
/-- Its buffers as launched. -/
abbrev bufs (c : Dev nD) : sProp 𝕄 := unscopedBufs c (fun b => m ((c : Thread nD τ).loc b))

/-- The launch funds the all-reduce and starts the first line. -/
theorem init :
    iprop((bigSep Finset.univ fun c : Dev nD => iprop(bufs m c ∗ handed m ρ c)) ∗ levAts L lv)
      ⊢ (|={Set.univ}=> bigSep Finset.univ (first m) : sProp 𝕄) := by
  have enter (c : Dev nD) : iprop(Sites.Es sitePart (V₁ m) 0 c ∗ bufs m c) ⊢ first m c := by
    unfold first scale Pipeline.HostSeg.ofOps bufs
    rw [show (unscopedBufs c fun b => m ((c : Thread nD τ).loc b) : sProp 𝕄)
        = StableHlo.held (c.tc : Thread nD τ) (Pipeline.ucRefs τ sig) (V₀ m c) from Pipeline.unscopedBufs_held c (V₀ m c)]
    iintro ⟨HE, Hb⟩
    ihave #Hi := (show Sites.Es sitePart (V₁ m) 0 c ⊢ inv m from by
      rw [Sites.Es_0]; dsimp only [Sites.rides0]; unfold AllReduce.Dat.rides; iintro ⟨-, -, Hi, -⟩; iexact Hi) $$ HE
    isplitl [Hb]; · iexact Hb
    isplitl [HE]; · iexact HE
    iexact Hi
  iintro ⟨H, Hlv⟩
  ihave H' := (show _ ⊢ iprop((bigSep Finset.univ (bufs m)) ∗ bigSep Finset.univ (handed m ρ)) from by
    rw [← bigSep_sep']) $$ H
  icases H' with ⟨Hb, Hs⟩
  imod (Sites.hE0 sitePart (V₁ m) ρ) $$ [Hs Hlv] with HE
  · isplitl [Hs]; · iexact Hs
    iexact Hlv
  imodintro
  iapply (show iprop((bigSep Finset.univ (Sites.Es sitePart (V₁ m) 0)) ∗ bigSep Finset.univ (bufs m)) ⊢ bigSep Finset.univ (first m) from by
    rw [← bigSep_sep']; exact bigSep_mono fun c _ => enter c)
  isplitl [HE]; · iexact HE
  iexact Hb

/-! ## The run -/

-- the implicit arguments of the launch theorem are read off its conclusion
set_option backward.isDefEq.respectTransparency.types false in
/-- From any memory with zero counters @main ends on all eight devices, each unscoped buffer at `V₃`, every counter at zero. -/
theorem run_main : θ_run defs (onTc (τ := τ) (main (F := F))) ⟨m, fun _ => 0, ρ⟩ (fun r =>
    (∀ (c : Dev nD) (b : Ref sig .tc), (Proc.devRef .tc b : DevRef τ sig) ∈ Pipeline.ucRefs τ sig →
      r.2.mem ((c : Thread nD τ).loc b) = V₃ m c (Proc.devRef .tc b)) ∧ r.2.sem = fun _ => 0) :=
  Pipeline.θ_run_regions_kit_sems (pcfgs (F := F)) noPipe noDat 0 cellOf_inj kitPart defs₀ Variants.none L lv m ρ main (segs m)
    (main_wp m)
    (by simp only [segs, Pipeline.Seg.pipes_host, Pipeline.Seg.pipes_nil]; decide)
    (O₀ := Sites.O0) (hL := Sites.hL) (G := Sites.G sitePart (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨fun _ => .rfl, scale_total m, total_shape m, shape_last m⟩)
    (hinit := init m ρ)
    (QY := fun c s => (∀ b ∈ Pipeline.ucRefs τ sig, s.mem ((c.tc : Thread nD τ).1, b) = V₃ m c b)
      ∧ s.sem ((ar0 (F := F)).barrierCell c) = 0 ∧ s.sem ((ar0 (F := F)).recvCell c) = 0 ∧ s.sem ((ar0 (F := F)).sendCell c) = 0)
    (hfin := fun c s' => by
      unfold last StableHlo.held
      iintro ⟨⟨Hh, Hi⟩, HSI⟩
      ihave %h := (SI_pointsTo_bufs_agree (qs := fun _ => fullShare) (Pipeline.ucRefs τ sig)) $$ [HSI Hh]
      · isplitl [HSI]; · iexact HSI
        iexact Hh
      imod ((AllReduce.Dat.once (Ix := ℕ) (Name := ℕ) (U := U₂) (Lvl := ℕ) (ar0 (F := F)) (V₁ m)).ghostAfter_read (Sites.E0 sitePart) c (k := 0)
        le_rfl s') $$ [Hi HSI] with ⟨%hz, HSI⟩
      · isplitl [Hi] <;> iassumption
      imodintro
      isplitr; · ipureintro; exact ⟨h, hz⟩
      iexact HSI)
    (hQ := fun s h hs => ⟨fun c b hb => (h c).1 _ hb, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.LossSum

end
-- ==== Proof.LossSumVal.lean ====
/- The loss over the devices, the value: every device ends with half the sum of all devices' means. -/
module

public import proofs.«01_k».proof.Proof.LossSum
public import proofs.«01_k».proof.Proof.Gen.Reference12Ideal.Read
public import proofs.«01_k».proof.Proof.Loss
public import Idealize.ShloMosaic.Lib.ValueIdxRank1

@[expose] public section

noncomputable section

namespace Cert.LossSum

open Idealize.ShloMosaic hiding ix1 ix2 ix3 ix4 ix5
open Idealize.ShloMosaic.ValueIdx Idealize.ShloMosaic.TcCoe Idealize.SL.Sem
open Cert.Reals Cert.RmsNorm Cert.Kernel12Ideal Cert.Kernel12Ideal.Gen

/-! ### The mathematics -/

/-- A finite number that is not negative may be multiplied before the sum or after it, whatever the summands. -/
theorem mul_sum_coe {ι : Type} (s : Finset ι) (f : ι → EReal) (c : ℝ) (h : 0 ≤ c) : (c : EReal) * ∑ i ∈ s, f i = ∑ i ∈ s, (c : EReal) * f i := by
  classical
  induction s using Finset.induction_on with
  | empty => simp
  | insert a s ha ih =>
      rw [Finset.sum_insert ha, Finset.sum_insert ha, ← ih]
      exact EReal.left_distrib_of_nonneg_of_ne_top (by exact_mod_cast h) (EReal.coe_ne_top c) _ _

/-- The loss, from the devices' sums of squares. -/
def loss (s : Fin 8 → EReal) : EReal := ((1 / 2 : ℝ) : EReal) * ∑ d, s d * ((1 / 1024 : ℝ) : EReal)

/-! ### The reference -/

open Cert.Reference12Ideal.Read in
theorem ref_loss (s : Fin 8 → EReal) : val_main_v4 (F := Ideal) (fun i => s (i 0)) = fun _ => loss s := by
  have e0 : (1024 : ℝ) ≠ 0 := by norm_num
  funext i
  pointwise [val_main_v4]
  rw [val_main_v3_apply, val_main_v2_apply, ← idxEquiv2.symm.sum_comp, Fintype.sum_prod_type]
  pointwise [val_main_v1, val_main_v0, val_main_cst, val_main_cst_0, val_main_cst_1]
  simp only [w1024, Cert.Loss.half_word, zero_word', EReal.coe_zero, zero_add, Ideal.div_coe e0, Fin.sum_univ_one]
  rfl

/-! ### The devices -/

variable {s : Fin 8 → EReal} {m : (ℓ : Loc nD τ sig) → Buf (Elt Ideal) ℓ}

/-- What a device gives to the sum. -/
theorem share (A : ∀ d : Dev nD, m ((d : Thread nD τ).loc main_arg0) = fun _ => s d) (d : Dev nD) :
    V₁ m d (Proc.devRef .tc main_v3) = fun _ => ((1 / 2 : ℝ) : EReal) * (s d * ((1 / 1024 : ℝ) : EReal)) := by
  have e0 : (1024 : ℝ) ≠ 0 := by norm_num
  show StableHlo.after hostOps0 (V₀ m d) (Proc.tc.devRef _) = _
  simp only [hostOps0]
  after_results
  funext i
  pointwise []
  rw [show V₀ m d (Proc.devRef .tc main_arg0) = fun _ => s d from A d]
  simp only [w1024, Cert.Loss.half_word, Ideal.div_coe e0, mul_assoc]

/-- The group is the eight devices in order, on each of them. -/
theorem peers (c : Dev nD) (j : Fin 8) : (ar0 (F := Ideal)).peer c j = j := by fin_cases c <;> fin_cases j <;> rfl

/-- The left fold over the group is the sum. -/
theorem fold_sum (g : Fin 8 → EReal) : (ar0 (F := Ideal)).foldGroup (fun j _ => g j) = fun _ => ∑ d, g d := by
  funext i
  rw [Fin.sum_univ_eight]
  show List.foldl (fun a (j : Fin 8) => Collective.reduce (F := Ideal) (φ := .f32) .add a (g j)) (g 0) [1, 2, 3, 4, 5, 6, 7] = _
  rfl

/-- The all-reduce of one number per device. -/
theorem reduced (W : Dev nD → Valuation τ sig (Elt Ideal)) (g : Fin 8 → EReal) (h : ∀ d, W d (Proc.devRef .tc main_v3) = fun _ => g d) (c : Dev nD) :
    (ar0 (F := Ideal)).after₀ W c (Proc.devRef .tc main_v4) = fun _ => ∑ d, g d :=
  ((ar0 (F := Ideal)).after₀_result W c).trans ((congrArg (ar0 (F := Ideal)).foldGroup
    (funext fun j => (congrArg (fun d => W d (Proc.devRef .tc main_v3)) (peers c j)).trans (h j))).trans (fold_sum g))

theorem V₂_sum (A : ∀ d : Dev nD, m ((d : Thread nD τ).loc main_arg0) = fun _ => s d) (c : Dev nD) :
    V₂ m c (Proc.devRef .tc main_v4) = fun _ => loss s := by
  unfold loss
  rw [mul_sum_coe _ _ _ (by norm_num)]
  exact reduced (V₁ m) _ (share A) c

theorem V₃_loss (A : ∀ d : Dev nD, m ((d : Thread nD τ).loc main_arg0) = fun _ => s d) (c : Dev nD) :
    V₃ m c (Proc.devRef .tc main_v5) = fun _ => loss s := by
  show StableHlo.after hostOps1 (V₂ m c) (Proc.tc.devRef _) = _
  simp only [hostOps1]
  after_results
  rw [V₂_sum A]
  rfl

/-! ### The run, read off -/

/-- At any floats the devices keep their argument and every counter ends at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun _ h => ⟨fun c => h.1 c main_arg0 (Pipeline.devRef_mem_ucRefs rfl), h.2⟩) (run_main m ρ)

/-- A device's block of the column of sums is its own sum. -/
theorem block_one (v : Cert.Reference12Ideal.S8x1.Idx → EReal) (c : Fin 8) : Layout.block ⟨2, ![1, 1]⟩ ⟨2, ![8, 1]⟩ 0 8 c v = fun _ => v (ix2 c 0) := by
  funext i
  rw [Layout.block_apply]
  refine congrArg v (funext fun a => ?_)
  match a with
  | 0 => exact Fin.ext (by show c.val * 1 + (i 0).val = c.val; have := (i 0).isLt; have : (i 0).val < 1 := this; omega)
  | 1 => exact Fin.ext (by show (i 1).val = 0; have := (i 1).isLt; have : (i 1).val < 1 := this; omega)

/-- Every device ends with the reference's loss of the whole column `v`. -/
theorem results (m : (ℓ : Loc nD τ sig) → Buf (Elt Ideal) ℓ) (ρ : Dev nD → PrngReg) (v : Cert.Reference12Ideal.S8x1.Idx → EReal)
    (A : ∀ d : Dev nD, m ((d.tc : Thread nD τ).loc main_arg0) = Layout.block ⟨2, ![1, 1]⟩ ⟨2, ![8, 1]⟩ 0 8 d v) :
    θ_run defs (onTc (τ := τ) (main (F := Ideal))) ⟨m, fun _ => 0, ρ⟩ (fun r => ∀ c : Dev nD,
      r.2.mem ((c.tc : Thread nD τ).loc main_v5) = Cert.Reference12Ideal.Read.val_main_v4 (F := Ideal) v
      ∧ r.2.mem ((c.tc : Thread nD τ).loc main_arg0) = m ((c.tc : Thread nD τ).loc main_arg0)) := by
  have hv : v = fun i : Cert.Reference12Ideal.S8x1.Idx => (fun d : Fin 8 => v (ix2 d 0)) (i 0) := by
    funext i
    refine congrArg v (funext fun a => ?_)
    match a with
    | 0 => rfl
    | 1 => exact Fin.ext (by show (i 1).val = 0; have := (i 1).isLt; have : (i 1).val < 1 := this; omega)
  have A' (d : Dev nD) : m ((d : Thread nD τ).loc main_arg0) = fun _ => (fun d : Fin 8 => v (ix2 d 0)) d := (A d).trans (block_one v d)
  refine (θ_run defs _ _).mono (fun _ h c => ⟨?_, h.1 c main_arg0 (Pipeline.devRef_mem_ucRefs rfl)⟩) (run_main m ρ)
  exact ((h.1 c main_v5 (Pipeline.devRef_mem_ucRefs rfl)).trans (V₃_loss A' c)).trans
    ((congrArg (Cert.Reference12Ideal.Read.val_main_v4 (F := Ideal)) hv).trans (ref_loss fun d => v (ix2 d 0))).symm

end Cert.LossSum

end
-- ==== Proof.DownGrad.lean ====
/- The gradient of the feed-forward block's last weight: a product over all the rows, summed half by half, over any extended reals. -/
module

public import proofs.«01_k».proof.Proof.Gen.Kernel13Ideal.Frame
public import proofs.«01_k».proof.Proof.Gen.Reference13Ideal.Read
public import proofs.«01_k».proof.Proof.Reals
public import proofs.«01_k».proof.Proof.Sums
public import Idealize.ShloMosaic.Lib.Pipeline.ValueKit.Point

@[expose] public section

set_option maxRecDepth 16384

noncomputable section

namespace Cert.DownGrad

open Idealize.ShloMosaic hiding ix1 ix2 ix3 ix4 ix5
open Idealize.ShloMosaic.ValueIdx Idealize.ShloMosaic.TcCoe Idealize.SL.Sem
open Cert.Reals Cert.Sums Cert.Kernel13Ideal Cert.Kernel13Ideal.Gen

/-- What the product reads: the gated activations and the cotangent of the block's output. -/
structure In where
  a : Fin 4096 → Fin 2816 → EReal
  d : Fin 4096 → Fin 1024 → EReal

/-- The weight's gradient. -/
def grad (I : In) (q : Fin 2816) (k : Fin 1024) : EReal := ∑ r, I.a r q * I.d r k

/-- The arrays the programs read. -/
abbrev aA (I : In) : S4096x2816.Idx → EReal := fun i => I.a (i 0) (i 1)
abbrev dA (I : In) : S4096x1024.Idx → EReal := fun i => I.d (i 0) (i 1)

/-- A chip's column of the activations. -/
def col (a : Fin 4) (q : Fin 704) : Fin 2816 := ⟨a.val * 704 + q.val, by omega⟩

/-! ### The reference -/

open Cert.Reference13Ideal.Read

theorem ref_grad (I : In) (i : S4x704x1024.Idx) : val_main_v5 (F := Ideal) (aA I) (dA I) i = grad I (col (i 0) (i 1)) (i 2) := by
  have h2 : (i 2).val < 1024 := (i 2).isLt
  have e : idx_main_v5 i = ix2 (col (i 0) (i 1)) (i 2) := ext2
    (by show (((i 0).val * 704 + (i 1).val) * 1024 + (i 2).val) / 1024 = (i 0).val * 704 + (i 1).val; omega)
    (by show (((i 0).val * 704 + (i 1).val) * 1024 + (i 2).val) % 1024 = (i 2).val; omega)
  exact (val_main_v5_apply (F := Ideal) _ _ i).trans ((congrArg (val_main_v3 (F := Ideal) (aA I) (dA I)) e).trans
    ((val_main_v3_apply (F := Ideal) _ _ _).trans ((val_main_v2_apply _ _ _).trans (Finset.sum_congr rfl fun r _ => mul_comm _ _))))

/-! ### The kernel -/

/-- The launch's arguments. -/
structure Args (I : In) (m : (ℓ : Loc nD τ sig) → Buf (Elt Ideal) ℓ) (c : Dev nD) : Prop where
  a : m ((c : Thread nD τ).loc main_arg0) = aA I
  d : m ((c : Thread nD τ).loc main_arg1) = dA I

/-- A point's chip, and its half of the rows. -/
def chip (t : Fin cfg0.N) : Fin 4 := ⟨t.val / 2, by have := t.isLt; have : cfg0.N = 8 := N_0; omega⟩
def half (t : Fin cfg0.N) : Fin 2 := ⟨t.val % 2, by omega⟩
def row (h : Fin 2) (r : Fin 2048) : Fin 4096 := ⟨h.val * 2048 + r.val, by omega⟩

theorem idx_0 : ∀ t : Fin cfg0.N, win0_0.index t = ![t.val / 2, t.val % 2, 0] := (by decide +kernel : ∀ t : Fin grid0.N, _)
theorem idx_1 : ∀ t : Fin cfg0.N, win0_1.index t = ![t.val % 2, 0] := (by decide +kernel : ∀ t : Fin grid0.N, _)
theorem idx_2 : ∀ t : Fin cfg0.N, win0_2.index t = ![t.val / 2, 0, 0] := (by decide +kernel : ∀ t : Fin grid0.N, _)

variable {I : In} {m : (ℓ : Loc nD τ sig) → Buf (Elt Ideal) ℓ} {c : Dev nD} (A : Args I m c)
include A

theorem V_a : V m c main_v2 = fun i : S4x4096x704.Idx => I.a (i 1) (col (i 0) (i 2)) := by
  show StableHlo.after [hostOps0].flatten (fun b => m (c, b)) (Proc.tc.devRef _) = _
  simp only [List.flatten_cons, List.flatten_nil, List.append_nil, hostOps0]
  after_results
  funext i
  pointwise []
  exact congrFun A.a _

theorem blk_0 (t : Fin cfg0.N) : iblk m c 0 t = fun y : S1x2048x704.Idx => I.a (row (half t) (y 1)) (col (chip t) (y 2)) := by
  funext y
  have h0 : (y 0).val = 0 := by have : (y 0).val < 1 := (y 0).isLt; omega
  show V m c main_v2 ((win0_0.blk t).view.emb y) = _
  rw [V_a A]
  refine congrArg₂ I.a (Fin.ext ?_) (congrArg₂ col (Fin.ext ?_) (Fin.ext ?_))
  all_goals blk_simp [idx_0 t, h0]
  all_goals rfl

theorem blk_1 (t : Fin cfg0.N) : iblk m c 1 t = fun y : S2048x1024.Idx => I.d (row (half t) (y 0)) (y 1) := by
  funext y
  show m ((c : Thread nD τ).loc main_arg1) ((win0_1.blk t).view.emb y) = _
  rw [A.d]
  refine congrArg₂ I.d (Fin.ext ?_) (Fin.ext ?_)
  all_goals blk_simp [idx_1 t]
  all_goals rfl

/-- What a point adds to the chip's sums. -/
def part (I : In) (t : Fin cfg0.N) (y : S704x1024.Idx) : EReal :=
  ∑ r : Fin 2048, I.a (row (half t) r) (col (chip t) (y 0)) * I.d (row (half t) r) (y 1)

theorem pay1 (t : Fin cfg0.N) : k0_pay1 (F := Ideal) (iblk m c 0 t) (iblk m c 1 t) = part I t := by
  rw [blk_0 A, blk_1 A]
  funext y
  pointwise [k0_pay1]
  rfl

theorem sums_A (t : Fin cfg0.N) (h : t.val % 2 = 0) : (outsAt0 m c t.val t.isLt).2 = part I t := by
  funext y
  rw [outsAt0_A m c t h (by omega) (by omega)]
  frame_out
  exact (show k0_pay2 (F := Ideal) (iblk m c 0 t) (iblk m c 1 t) y = k0_pay1 (F := Ideal) (iblk m c 0 t) (iblk m c 1 t) y by
    unfold k0_pay2; simp only [shapeCast_self]).trans (congrFun (pay1 A t) y)

theorem out_B (t : Fin cfg0.N) (h : t.val % 2 = 1) (y : S1x704x1024.Idx) : (outsAt0 m c t.val t.isLt).1 y
    = (outsAt0 m c (t.val - 1) (Nat.lt_of_le_of_lt (Nat.sub_le _ _) t.isLt)).2 (ix2 (y 1) (y 2)) + part I t (ix2 (y 1) (y 2)) := by
  rw [outsAt0_B m c t (by omega) h h]
  frame_out
  have e (v : S704x1024.Idx → EReal) : k0_pay4 (F := Ideal) (k0_pay3 (F := Ideal) (iblk m c 0 t) (iblk m c 1 t) v) y
      = v (ix2 (y 1) (y 2)) + k0_pay1 (F := Ideal) (iblk m c 0 t) (iblk m c 1 t) (ix2 (y 1) (y 2)) := by
    generalize iblk m c 0 t = b0
    generalize iblk m c 1 t = b1
    unfold k0_pay4 k0_pay3
    generalize k0_pay1 (F := Ideal) b0 b1 = p
    pointwise []
    rfl
  refine (e _).trans (congrArg₂ (· + ·) (congrFun (Memref.IsWhole.read_unread _ _) _) (congrFun (pay1 A t) _))

/-- The two halves are all the rows. -/
theorem final : (dats m 0 c).arrAt 2 cfg0.N = fun i : S4x704x1024.Idx => grad I (col (i 0) (i 1)) (i 2) := by
  refine (dats m 0 c).arrAt_eq_of_covers 2 _ (by decide +kernel) fun t hf y => ?_
  have ht := (flush0_2 t).mp hf
  have h0 : (y 0).val = 0 := by have : (y 0).val < 1 := (y 0).isLt; omega
  blk_simp
  rw [after0_2, out_B A t ht, sums_A A ⟨t.val - 1, Nat.lt_of_le_of_lt (Nat.sub_le _ _) t.isLt⟩ (by show (t.val - 1) % 2 = 0; omega)]
  have hi : (win0_2.blk t).view.emb y = ix3 (chip t) (y 1) (y 2) := ext3 (by blk_simp [idx_2 t, h0]; rfl) (by blk_simp [idx_2 t]) (by blk_simp [idx_2 t])
  rw [hi]
  have e1 : half t = 1 := Fin.ext ht
  have e0 : half ⟨t.val - 1, Nat.lt_of_le_of_lt (Nat.sub_le _ _) t.isLt⟩ = 0 := Fin.ext (show (t.val - 1) % 2 = 0 by omega)
  have ec : chip ⟨t.val - 1, Nat.lt_of_le_of_lt (Nat.sub_le _ _) t.isLt⟩ = chip t := Fin.ext (show (t.val - 1) / 2 = t.val / 2 by omega)
  unfold part
  rw [e0, e1, ec]
  refine Eq.symm ((sum_split 2 2048 rfl fun r => I.a r (col (chip t) (y 1)) * I.d r (y 2)).trans ?_)
  rw [Fin.sum_univ_two]
  rfl

end Cert.DownGrad

namespace Cert.DownGrad

open Idealize.ShloMosaic hiding ix1 ix2 ix3 ix4 ix5
open Idealize.ShloMosaic.ValueIdx Idealize.ShloMosaic.TcCoe Idealize.SL.Sem
open Cert.Reals Cert.Kernel13Ideal Cert.Kernel13Ideal.Gen Cert.Reference13Ideal.Read

/-- The kernel's run, and the reference's value of its arguments as the result. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = val_main_v5 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  let I : Dev nD → In := fun c => ⟨fun r q => m ((c : Thread nD τ).loc main_arg0) (ix2 r q), fun r q => m ((c : Thread nD τ).loc main_arg1) (ix2 r q)⟩
  have A : ∀ c, Args (I c) m c := fun c => ⟨funext fun _ => congrArg _ (ext2 rfl rfl), funext fun _ => congrArg _ (ext2 rfl rfl)⟩
  refine (θ_run defs _ _).mono (fun _ h c => ⟨((h.1 c).1 2).trans ((final (A c)).trans ?_), h.2 c⟩) (θ_run_and (run_main m ρ) (unchanged m ρ))
  rw [(A c).a, (A c).d]
  exact (funext (ref_grad (I c))).symm

end Cert.DownGrad

end
-- ==== Proof.Adam.lean ====
/- The optimiser's step: four results, entry by entry, over any extended reals. -/
module

public import proofs.«01_k».proof.Proof.Gen.Kernel14Ideal.Frame
public import proofs.«01_k».proof.Proof.Gen.Reference14Ideal.Read
public import proofs.«01_k».proof.Proof.Reals
public import Idealize.ShloMosaic.Lib.Pipeline.ValueKit.Point

@[expose] public section

set_option maxRecDepth 16384

noncomputable section

namespace Cert.Adam

open Idealize.ShloMosaic hiding ix1 ix2 ix3 ix4 ix5
open Idealize.ShloMosaic.ValueIdx Idealize.ShloMosaic.TcCoe Idealize.SL.Sem
open Cert.Reals Cert.Kernel14Ideal Cert.Kernel14Ideal.Gen Cert.Reference14Ideal.Read

/-- A tile's entry in the whole array. -/
def entry (t : Fin cfg0.N) (y : S128x1024.Idx) : S1408x1024.Idx :=
  ix2 ⟨t.val * 128 + (y 0).val, by have := t.isLt; have : cfg0.N = 11 := N_0; have : (y 0).val < 128 := (y 0).isLt; omega⟩ (y 1)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![t.val, 0] := (by decide +kernel : ∀ t : Fin grid0.N, _)

variable (m : (ℓ : Loc nD τ sig) → Buf (Elt Ideal) ℓ) (c : Dev nD)

theorem blk_0 (t : Fin cfg0.N) : iblk m c 0 t = fun y => m ((c : Thread nD τ).loc main_arg0) (entry t y) := by
  funext y
  show m ((c : Thread nD τ).loc main_arg0) ((win0_0.blk t).view.emb y) = _
  exact congrArg _ (ext2 (by blk_simp [idx_0 t]; rfl) (by blk_simp [idx_0 t]; rfl))

theorem blk_1 (t : Fin cfg0.N) : iblk m c 1 t = fun y => m ((c : Thread nD τ).loc main_arg1) (entry t y) := by
  funext y
  show m ((c : Thread nD τ).loc main_arg1) ((win0_1.blk t).view.emb y) = _
  exact congrArg _ (ext2 (by blk_simp [idx_1 t]; rfl) (by blk_simp [idx_1 t]; rfl))

theorem blk_2 (t : Fin cfg0.N) : iblk m c 2 t = fun y => m ((c : Thread nD τ).loc main_arg2) (entry t y) := by
  funext y
  show m ((c : Thread nD τ).loc main_arg2) ((win0_2.blk t).view.emb y) = _
  exact congrArg _ (ext2 (by blk_simp [idx_2 t]; rfl) (by blk_simp [idx_2 t]; rfl))

theorem blk_3 (t : Fin cfg0.N) : iblk m c 3 t = fun y => m ((c : Thread nD τ).loc main_arg3) (entry t y) := by
  funext y
  show m ((c : Thread nD τ).loc main_arg3) ((win0_3.blk t).view.emb y) = _
  exact congrArg _ (ext2 (by blk_simp [idx_3 t]; rfl) (by blk_simp [idx_3 t]; rfl))

theorem blk_4 (t : Fin cfg0.N) : iblk m c 4 t = fun y => m ((c : Thread nD τ).loc main_arg4) (entry t y) := by
  funext y
  show m ((c : Thread nD τ).loc main_arg4) ((win0_4.blk t).view.emb y) = _
  exact congrArg _ (ext2 (by blk_simp [idx_4 t]; rfl) (by blk_simp [idx_4 t]; rfl))

/-- The sum of the two halves of the gradient. -/
theorem final_5 : (dats m 0 c).arrAt 5 cfg0.N = val_main_v0 (F := Ideal) (m ((c : Thread nD τ).loc main_arg1)) (m ((c : Thread nD τ).loc main_arg2)) := by
  refine (dats m 0 c).arrAt_eq_of_covers 5 _ (by decide +kernel) fun t hf y => ?_
  blk_simp
  rw [after0_5, show (win0_5.blk t).view.emb y = entry t y from ext2 (by blk_simp [idx_5 t]; rfl) (by blk_simp [idx_5 t]; rfl)]
  unfold out0_5
  frame_out
  rw [blk_1, blk_2]
  pointwise [k0_pay2, val_main_v0]

/-- The first moment. -/
theorem final_7 : (dats m 0 c).arrAt 7 cfg0.N = val_main_v5 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, show (win0_7.blk t).view.emb y = entry t y from ext2 (by blk_simp [idx_7 t]; rfl) (by blk_simp [idx_7 t]; rfl)]
  unfold out0_7
  frame_out
  rw [blk_1, blk_2, blk_3]
  pointwise [k0_pay3, k0_pay2, val_main_v5, val_main_v4, val_main_v3, val_main_v2, val_main_v1, val_main_v0, val_main_cst, val_main_cst_0]

/-- The second moment. -/
theorem final_8 : (dats m 0 c).arrAt 8 cfg0.N = val_main_v11 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8, show (win0_8.blk t).view.emb y = entry t y from ext2 (by blk_simp [idx_8 t]; rfl) (by blk_simp [idx_8 t]; rfl)]
  unfold out0_8
  frame_out
  rw [blk_1, blk_2, blk_4]
  pointwise [k0_pay4, k0_pay2, val_main_v11, val_main_v10, val_main_v9, val_main_v8, val_main_v7, val_main_v6, val_main_v0, val_main_cst_1, val_main_cst_2]

/-- The step. -/
theorem final_6 : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, show (win0_6.blk t).view.emb y = entry t y from ext2 (by blk_simp [idx_6 t]; rfl) (by blk_simp [idx_6 t]; rfl)]
  unfold out0_6
  frame_out
  rw [blk_0, blk_1, blk_2, blk_3, blk_4]
  pointwise [k0_pay1, k0_pay5, k0_pay4, k0_pay3, k0_pay2, val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, val_main_v11, val_main_v10, val_main_v9, val_main_v8, val_main_v7, val_main_v6, val_main_cst_1, val_main_cst_2, val_main_v5, val_main_v4, val_main_v3, val_main_v2, val_main_v1, val_main_v0, val_main_cst, val_main_cst_0]

/-- The kernel's run, and the reference's values of its arguments as the results. -/
theorem results (ρ : Dev nD → PrngReg) :
    θ_run defs (onTc (τ := τ) (main (F := Ideal))) ⟨m, fun _ => 0, ρ⟩ fun r => ∀ c : Dev nD,
      r.2.mem ((c : Thread nD τ).loc main_v0_0) = val_main_v0 (F := Ideal) (m ((c : Thread nD τ).loc main_arg1)) (m ((c : Thread nD τ).loc main_arg2))
      ∧ r.2.mem ((c : Thread nD τ).loc main_v0_1) = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = val_main_v5 (F := Ideal) (m ((c : Thread nD τ).loc main_arg1)) (m ((c : Thread nD τ).loc main_arg2)) (m ((c : Thread nD τ).loc main_arg3))
      ∧ r.2.mem ((c : Thread nD τ).loc main_v0_3) = val_main_v11 (F := Ideal) (m ((c : Thread nD τ).loc main_arg1)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (final_5 m c), ((h.1 c).1 6).trans (final_6 m c), ((h.1 c).1 7).trans (final_7 m c),
    ((h.1 c).1 8).trans (final_8 m c), h.2 c⟩) (θ_run_and (run_main m ρ) (unchanged m ρ))

end Cert.Adam

end
-- ==== Proof.SumLayers.lean ====
/- The sum over the chips of a weight's gradient, both layers, over any extended reals. -/
module

public import proofs.«01_k».proof.Proof.Gen.Kernel15Ideal.Frame
public import proofs.«01_k».proof.Proof.Gen.Reference15Ideal.Read
public import proofs.«01_k».proof.Proof.Reals
public import Idealize.ShloMosaic.Lib.Pipeline.ValueKit.Point

@[expose] public section

set_option maxRecDepth 16384

noncomputable section

namespace Cert.SumLayers

open Idealize.ShloMosaic hiding ix1 ix2 ix3 ix4 ix5
open Idealize.ShloMosaic.ValueIdx Idealize.ShloMosaic.TcCoe Idealize.SL.Sem
open Cert.Reals Cert.Kernel15Ideal Cert.Kernel15Ideal.Gen Cert.Reference15Ideal.Read

theorem idx_0 : ∀ t : Fin cfg0.N, win0_0.index t = ![0, if t.val < 11 then t.val else 0, 0] := (by decide +kernel : ∀ t : Fin grid0.N, _)
theorem idx_1 : ∀ t : Fin cfg0.N, win0_1.index t = ![0, if t.val < 11 then 0 else t.val - 11, 0] := (by decide +kernel : ∀ t : Fin grid0.N, _)
theorem idx_2 : ∀ t : Fin cfg0.N, win0_2.index t = ![t.val, 0] := (by decide +kernel : ∀ t : Fin grid0.N, _)

/-- A layer's sum. -/
def total (x : S4x704x1024.Idx → EReal) (r : Fin 704) (k : Fin 1024) : EReal := ∑ a : Fin 4, x (ix3 a r k)

theorem four (f : Fin 4 → EReal) : f 0 + f 1 + f 2 + f 3 = ∑ k, f k := (Fin.sum_univ_four f).symm

theorem ref_first (x y : S4x704x1024.Idx → EReal) (i : S1408x1024.Idx) (r : Fin 704) (k : Fin 1024) (h0 : (i 0).val = r.val) (h1 : (i 1).val = k.val) :
    val_main_v4 (F := Ideal) x y i = total x r k := by
  refine (concatenate_pair_apply_left (s₁ := Cert.Reference15Ideal.S704x1024) (s₂ := Cert.Reference15Ideal.S704x1024) (t := S1408x1024) 0 _ _ _ i rfl (ix2 r k) fun b => ?_).trans ?_
  · match b with
    | ⟨0, _⟩ => exact h0.symm
    | ⟨1, _⟩ => exact h1.symm
  · pointwise [val_main_v1, val_main_v0, val_main_cst]
    rfl

theorem ref_second (x y : S4x704x1024.Idx → EReal) (i : S1408x1024.Idx) (r : Fin 704) (k : Fin 1024) (h0 : (i 0).val = r.val + 704) (h1 : (i 1).val = k.val) :
    val_main_v4 (F := Ideal) x y i = total y r k := by
  refine (concatenate_pair_apply_right (s₁ := Cert.Reference15Ideal.S704x1024) (s₂ := Cert.Reference15Ideal.S704x1024) (t := S1408x1024) 0 _ _ _ i rfl rfl (ix2 r k) (fun b hb => ?_) h0.symm).trans ?_
  · match b with
    | ⟨0, _⟩ => exact absurd rfl hb
    | ⟨1, _⟩ => exact h1.symm
  · pointwise [val_main_v3, val_main_v2, val_main_cst_0]
    rfl

variable (m : (ℓ : Loc nD τ sig) → Buf (Elt Ideal) ℓ) (c : Dev nD)

/-- A tile's row of its layer. -/
def row (n : Nat) (r : Fin 64) (h : n < 11) : Fin 704 := ⟨n * 64 + r.val, by omega⟩

theorem blk_0 (t : Fin cfg0.N) (h : t.val < 11) : iblk m c 0 t = fun y : S4x64x1024.Idx => m ((c : Thread nD τ).loc main_arg0) (ix3 (y 0) (row t.val (y 1) h) (y 2)) := by
  funext y
  show m ((c : Thread nD τ).loc main_arg0) ((win0_0.blk t).view.emb y) = _
  exact congrArg _ (ext3 (by blk_simp [idx_0 t]) (by blk_simp [idx_0 t]; rw [if_pos h]; rfl) (by blk_simp [idx_0 t]))

theorem blk_1 (t : Fin cfg0.N) (h : 11 ≤ t.val) (h' : t.val - 11 < 11) :
    iblk m c 1 t = fun y : S4x64x1024.Idx => m ((c : Thread nD τ).loc main_arg1) (ix3 (y 0) (row (t.val - 11) (y 1) h') (y 2)) := by
  funext y
  show m ((c : Thread nD τ).loc main_arg1) ((win0_1.blk t).view.emb y) = _
  exact congrArg _ (ext3 (by blk_simp [idx_1 t]) (by blk_simp [idx_1 t]; rw [if_neg (by omega)]; rfl) (by blk_simp [idx_1 t]))

theorem outs_A (t : Fin cfg0.N) (h : t.val < 11) (y : S64x1024.Idx) :
    outsAt0 m c t.val t.isLt y = total (m ((c : Thread nD τ).loc main_arg0)) (row t.val (y 0) h) (y 1) := by
  rw [outsAt0_A m c t h (by omega)]
  frame_out
  rw [blk_0 m c t h]
  pointwise [k0_pay1]
  exact four fun a => m ((c : Thread nD τ).loc main_arg0) (ix3 a (row t.val (y 0) h) (y 1))

theorem outs_B (t : Fin cfg0.N) (h : 11 ≤ t.val) (h' : t.val - 11 < 11) (y : S64x1024.Idx) :
    outsAt0 m c t.val t.isLt y = total (m ((c : Thread nD τ).loc main_arg1)) (row (t.val - 11) (y 0) h') (y 1) := by
  rw [outsAt0_B m c t (by omega) h]
  frame_out
  rw [blk_1 m c t h h']
  pointwise [k0_pay2]
  exact four fun a => m ((c : Thread nD τ).loc main_arg1) (ix3 a (row (t.val - 11) (y 0) h') (y 1))

theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hN : cfg0.N = 22 := N_0
  have ht : t.val < 22 := lt_of_lt_of_eq t.isLt hN
  have hy : (y 0).val < 64 := (y 0).isLt
  blk_simp
  rw [after0_2]
  by_cases h : t.val < 11
  · refine (outs_A m c t h y).trans (ref_first _ _ _ _ _ ?_ ?_).symm
    · blk_simp [idx_2 t]
      rfl
    · blk_simp [idx_2 t]
  · refine (outs_B m c t (by omega) (by omega) y).trans (ref_second _ _ _ _ _ ?_ ?_).symm
    · blk_simp [idx_2 t]
      show t.val * 64 + (y 0).val = (t.val - 11) * 64 + (y 0).val + 704
      omega
    · blk_simp [idx_2 t]

/-- The kernel's run, and the reference's value of its arguments as the result. -/
theorem results (ρ : Dev nD → PrngReg) :
    θ_run defs (onTc (τ := τ) (main (F := Ideal))) ⟨m, fun _ => 0, ρ⟩ fun r => ∀ c : Dev nD,
      r.2.mem ((c : Thread nD τ).loc main_v0) = val_main_v4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final m c), h.2 c⟩) (θ_run_and (run_main m ρ) (unchanged m ρ))

end Cert.SumLayers

end
-- ==== Proof.SumSlots.lean ====
/- The sum over the devices of the packed small gradients, over any extended reals. -/
module

public import proofs.«01_k».proof.Proof.Gen.Kernel16Ideal.Frame
public import proofs.«01_k».proof.Proof.Gen.Reference16Ideal.Read
public import proofs.«01_k».proof.Proof.Reals
public import Idealize.ShloMosaic.Lib.Pipeline.ValueKit.Point

@[expose] public section

set_option maxRecDepth 16384

noncomputable section

namespace Cert.SumSlots

open Idealize.ShloMosaic hiding ix1 ix2 ix3 ix4 ix5
open Idealize.ShloMosaic.ValueIdx Idealize.ShloMosaic.TcCoe Idealize.SL.Sem
open Cert.Reals Cert.Kernel16Ideal Cert.Kernel16Ideal.Gen Cert.Reference16Ideal.Read

theorem idx_0 : ∀ t : Fin cfg0.N, win0_0.index t = ![0, 0, 0] := (by decide +kernel : ∀ t : Fin grid0.N, _)
theorem idx_1 : ∀ t : Fin cfg0.N, win0_1.index t = ![0, 0] := (by decide +kernel : ∀ t : Fin grid0.N, _)

variable (m : (ℓ : Loc nD τ sig) → Buf (Elt Ideal) ℓ) (c : Dev nD)

theorem blk_0 (t : Fin cfg0.N) : iblk m c 0 t = m ((c : Thread nD τ).loc main_arg0) := by
  funext y
  show m ((c : Thread nD τ).loc main_arg0) ((win0_0.blk t).view.emb y) = _
  exact congrArg _ (ext3 (by blk_simp [idx_0 t]) (by blk_simp [idx_0 t]) (by blk_simp [idx_0 t]))

/-- The reference's sum, entry by entry. -/
theorem ref_sum (x : S8x256x128.Idx → EReal) (y : S256x128.Idx) : val_main_v0 (F := Ideal) x y = ∑ k : Fin 8, x (ix3 k (y 0) (y 1)) := by
  pointwise [val_main_v0, val_main_cst]
  rfl

theorem eight (f : Fin 8 → EReal) : f 0 + f 1 + f 2 + f 3 + f 4 + f 5 + f 6 + f 7 = ∑ k, f k := (Fin.sum_univ_eight f).symm

theorem final : (dats m 0 c).arrAt 1 cfg0.N = val_main_v0 (F := Ideal) (m ((c : Thread nD τ).loc main_arg0)) := by
  refine (dats m 0 c).arrAt_eq_of_covers 1 _ (by decide +kernel) fun t hf y => ?_
  blk_simp
  rw [after0_1, show (win0_1.blk t).view.emb y = y from ext2 (by blk_simp [idx_1 t]) (by blk_simp [idx_1 t])]
  unfold out0_1
  frame_out
  rw [blk_0, ref_sum]
  pointwise [k0_pay1]
  exact eight fun k => m ((c : Thread nD τ).loc main_arg0) (ix3 k (y 0) (y 1))

/-- The kernel's run, and the reference's value of its argument as the result. -/
theorem results (ρ : Dev nD → PrngReg) :
    θ_run defs (onTc (τ := τ) (main (F := Ideal))) ⟨m, fun _ => 0, ρ⟩ fun r => ∀ c : Dev nD,
      r.2.mem ((c : Thread nD τ).loc main_v0) = val_main_v0 (F := Ideal) (m ((c : Thread nD τ).loc main_arg0))
      ∧ r.2.mem ((c : Thread nD τ).loc main_arg0) = m ((c : Thread nD τ).loc main_arg0) :=
  (θ_run defs _ _).mono (fun _ h c => ⟨((h.1 c).1 1).trans (final m c), h.2 c⟩) (θ_run_and (run_main m ρ) (unchanged m ρ))

end Cert.SumSlots

end
-- ==== Proof.lean ====
/- Assembles the certificate's claims from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.LowerBounds
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.InProj
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Mix
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Ffn
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Attn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Loss
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.MixFwd
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.InFwd
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.LowerFwd
public import proofs.«01_k».proof.Proof.Gen.Kernel12
public import proofs.«01_k».proof.Proof.Gen.Kernel12.Launch
public import proofs.«01_k».proof.Proof.Gen.Kernel12Ideal
public import proofs.«01_k».proof.Proof.Gen.Kernel12Ideal.Launch
public import proofs.«01_k».proof.Proof.Gen.Reference12Ideal
public import proofs.«01_k».proof.Proof.Gen.Reference12Ideal.Run
public import proofs.«01_k».proof.Proof.Gen.Reference12Ideal.Read
public import proofs.«01_k».proof.Proof.LossSumVal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.DownGrad
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Adam
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.SumLayers
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.SumSlots
public import Idealize.ShloMosaic.Adequacy
public import Idealize.ShloMosaic.Init

@[expose] public section

noncomputable section

namespace Cert.Proof

open Idealize.ShloMosaic Idealize.SL.Sem

/-! ### The gradient of the lower bounds -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem algebraic : Cert.algebraic_KernelIdeal_ReferenceIdeal_pre_finite := fun m ρ m' ρ' hp hag =>
  ⟨_, Cert.LowerBounds.run_kernel m ρ, (θ_run Cert.ReferenceIdeal.defs _ _).mono (fun _ h c => ⟨(h c).1.trans (by
    rw [Cert.ReferenceIdeal.Read.val_main_v51_eq, (hag c).1, (hag c).2]
    obtain ⟨hx, hg⟩ := Cert.LowerBounds.reals _ _ (hp c)
    obtain ⟨X, hX⟩ := Cert.Reals.exists_reals hx
    obtain ⟨G, hG⟩ := Cert.Reals.exists_reals hg
    rw [hX, hG]
    exact (Cert.LowerBounds.value_eq X G _).symm), (h c).2⟩) (Cert.ReferenceIdeal.Value.run m' ρ')⟩

/-! ### The gradient of the mixing block's input -/

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem algebraic5 : Cert.algebraic_Kernel5Ideal_Reference5Ideal_pre_finite5 := fun m ρ m' ρ' hp hag =>
  ⟨_, _, Cert.InProj.results m ρ hp, (θ_run Cert.Reference5Ideal.defs _ _).mono (fun _ h c => ⟨
    (h c).1.trans (by rw [Cert.Reference5Ideal.Read.val_main_v38_eq, (hag c).1, (hag c).2.1, (hag c).2.2.1, (hag c).2.2.2.1, (hag c).2.2.2.2]),
    (h c).2.1.trans (by rw [Cert.Reference5Ideal.Read.val_main_v23_eq, (hag c).1, (hag c).2.2.1, (hag c).2.2.2.1]),
    (h c).2.2⟩) (Cert.Reference5Ideal.Value.run m' ρ')⟩

/-! ### The gradient of the mix -/

theorem frame_reference2 : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run m ρ)

theorem algebraic2 : Cert.algebraic_Kernel2Ideal_Reference2Ideal_pre_finite2 := fun m ρ m' ρ' hp hag =>
  ⟨_, _, _, _, _, _, _, Cert.Mix.results m ρ hp, (θ_run Cert.Reference2Ideal.defs _ _).mono (fun _ h c => ⟨
    (h c).1.trans (by rw [Cert.Reference2Ideal.Read.val_main_v98_eq, (hag c).1, (hag c).2.2.2.2.2.1, (hag c).2.2.2.2.2.2.2.2]),
    (h c).2.1.trans (by rw [Cert.Reference2Ideal.Read.val_main_v124_eq, (hag c).2.1, (hag c).2.2.1, (hag c).2.2.2.1, (hag c).2.2.2.2.2.2.1, (hag c).2.2.2.2.2.2.2.2]),
    (h c).2.2.1.trans (by rw [Cert.Reference2Ideal.Read.val_main_v125_eq, (hag c).2.1, (hag c).2.2.1, (hag c).2.2.2.1, (hag c).2.2.2.2.2.2.1, (hag c).2.2.2.2.2.2.2.2]),
    (h c).2.2.2.1.trans (by rw [Cert.Reference2Ideal.Read.val_main_v78_eq, (hag c).2.2.2.2.1, (hag c).2.2.2.2.2.2.2.1, (hag c).2.2.2.2.2.2.2.2]),
    (h c).2.2.2.2.1.trans (by rw [Cert.Reference2Ideal.Read.val_main_v84_eq, (hag c).1, (hag c).2.2.2.2.2.2.2.2]),
    (h c).2.2.2.2.2.1.trans (by rw [Cert.Reference2Ideal.Read.val_main_v109_eq, (hag c).2.1, (hag c).2.2.1, (hag c).2.2.2.1, (hag c).2.2.2.2.2.2.2.2]),
    (h c).2.2.2.2.2.2.1.trans (by rw [Cert.Reference2Ideal.Read.val_main_v64_eq, (hag c).2.2.2.2.1, (hag c).2.2.2.2.2.2.2.2]),
    (h c).2.2.2.2.2.2.2⟩) (Cert.Reference2Ideal.Value.run m' ρ')⟩

/-! ### The gradient of the gated product -/

theorem frame_reference4 : Cert.quiescent_Reference4Ideal := fun m ρ _ =>
  (θ_run Cert.Reference4Ideal.defs _ _).mono (fun r h => ⟨fun c => (h c).2.2.2.2.2.2.2.2, sem_eq_zero_of_no_sems (by decide) r.2⟩)
    (Cert.Reference4Ideal.Value.run m ρ)

theorem algebraic4 : Cert.algebraic_Kernel4Ideal_Reference4Ideal_pre_finite4 := fun m ρ m' ρ' hp hag =>
  ⟨_, _, _, _, _, _, _, _, Cert.Ffn.results m ρ hp, (θ_run Cert.Reference4Ideal.defs _ _).mono (fun _ h c => ⟨
    (h c).1.trans (by rw [Cert.Reference4Ideal.Read.val_main_v50_eq, (hag c).1, (hag c).2.1, (hag c).2.2.1, (hag c).2.2.2.1, (hag c).2.2.2.2.1, (hag c).2.2.2.2.2]),
    (h c).2.1.trans (by rw [Cert.Reference4Ideal.Read.val_main_v53_eq, (hag c).1, (hag c).2.1, (hag c).2.2.1, (hag c).2.2.2.2.1, (hag c).2.2.2.2.2]),
    (h c).2.2.1.trans (by rw [Cert.Reference4Ideal.Read.val_main_v54_eq, (hag c).1, (hag c).2.1, (hag c).2.2.1, (hag c).2.2.2.1, (hag c).2.2.2.2.1, (hag c).2.2.2.2.2]),
    (h c).2.2.2.1.trans (by rw [Cert.Reference4Ideal.Read.val_main_v33_eq, (hag c).1, (hag c).2.1, (hag c).2.2.1, (hag c).2.2.2.1, (hag c).2.2.2.2.1, (hag c).2.2.2.2.2]),
    (h c).2.2.2.2.1.trans (by rw [Cert.Reference4Ideal.Read.val_main_v70_eq, (hag c).1, (hag c).2.1, (hag c).2.2.1]),
    (h c).2.2.2.2.2.1.trans (by rw [Cert.Reference4Ideal.Read.val_main_v73_eq, (hag c).1, (hag c).2.1, (hag c).2.2.2.1]),
    (h c).2.2.2.2.2.2.1.trans (by rw [Cert.Reference4Ideal.Read.val_main_v78_eq, (hag c).1, (hag c).2.1, (hag c).2.2.1, (hag c).2.2.2.1]),
    (h c).2.2.2.2.2.2.2.1.trans (by rw [Cert.Reference4Ideal.Read.val_main_v79_eq, (hag c).1, (hag c).2.1]),
    (h c).2.2.2.2.2.2.2.2⟩) (Cert.Reference4Ideal.Value.run m' ρ')⟩

/-! ### The gradient of the attention -/

theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

theorem algebraic3 : Cert.algebraic_Kernel3Ideal_Reference3Ideal_pre_finite3 := fun m ρ m' ρ' hp hag =>
  have e0 := fun c : Dev Cert.Reference3Ideal.nD => show StableHlo.launchContents m' c (Proc.devRef .tc Cert.Reference3Ideal.main_arg0) = _ from (hag c).1
  have e1 := fun c : Dev Cert.Reference3Ideal.nD => show StableHlo.launchContents m' c (Proc.devRef .tc Cert.Reference3Ideal.main_arg1) = _ from (hag c).2.1
  have e2 := fun c : Dev Cert.Reference3Ideal.nD => show StableHlo.launchContents m' c (Proc.devRef .tc Cert.Reference3Ideal.main_arg2) = _ from (hag c).2.2.1
  have e3 := fun c : Dev Cert.Reference3Ideal.nD => show StableHlo.launchContents m' c (Proc.devRef .tc Cert.Reference3Ideal.main_arg3) = _ from (hag c).2.2.2
  ⟨_, _, _, _, Cert.Attn.results m ρ hp, (θ_run Cert.Reference3Ideal.defs _ _).mono (fun _ h c => ⟨
    (h c).1.trans (by rw [Cert.Reference3Ideal.Read.val_main_v230_eq, e0 c, e1 c, e2 c, e3 c]),
    (h c).2.1.trans (by rw [Cert.Reference3Ideal.Read.val_main_v212_eq, e0 c, e1 c, e2 c, e3 c]),
    (h c).2.2.1.trans (by rw [Cert.Reference3Ideal.Read.val_main_v189_eq, e0 c, e1 c, e2 c, e3 c]),
    (h c).2.2.2.1.trans (by rw [Cert.Reference3Ideal.Read.val_main_v132_eq, e0 c, e1 c, e2 c]),
    (h c).2.2.2.2⟩) (Cert.Reference3Ideal.Value.run m' ρ')⟩

/-! ### The loss and its gradient -/

theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

theorem algebraic8 : Cert.algebraic_Kernel8Ideal_Reference8Ideal := fun m ρ m' ρ' _ hag =>
  ⟨_, _, Cert.Loss.results m ρ, (θ_run Cert.Reference8Ideal.defs _ _).mono (fun _ h c => ⟨
    (h c).1.trans (by rw [Cert.Reference8Ideal.Read.val_main_v10_eq, (hag c).1, (hag c).2.1, (hag c).2.2.1, (hag c).2.2.2]),
    (h c).2.1.trans (by rw [Cert.Reference8Ideal.Read.val_main_v16_eq, (hag c).1, (hag c).2.1, (hag c).2.2.1, (hag c).2.2.2]),
    (h c).2.2⟩) (Cert.Reference8Ideal.Value.run m' ρ')⟩

/-! ### The mix -/

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem algebraic9 : Cert.algebraic_Kernel9Ideal_Reference9Ideal := fun m ρ m' ρ' _ hag =>
  ⟨_, Cert.MixFwd.results m ρ, (θ_run Cert.Reference9Ideal.defs _ _).mono (fun _ h c => ⟨
    (h c).1.trans (by rw [Cert.Reference9Ideal.Read.val_main_v47_eq, (hag c).1, (hag c).2.1, (hag c).2.2.1, (hag c).2.2.2.1, (hag c).2.2.2.2.1, (hag c).2.2.2.2.2.1, (hag c).2.2.2.2.2.2.1, (hag c).2.2.2.2.2.2.2]),
    (h c).2⟩) (Cert.Reference9Ideal.Value.run m' ρ')⟩

/-! ### The mixing block's input product -/

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run m ρ)

theorem algebraic10 : Cert.algebraic_Kernel10Ideal_Reference10Ideal := fun m ρ m' ρ' _ hag =>
  ⟨_, _, Cert.InFwd.results m ρ, (θ_run Cert.Reference10Ideal.defs _ _).mono (fun _ h c => ⟨
    (h c).1.trans (by rw [Cert.Reference10Ideal.Read.val_main_v13_eq, (hag c).1, (hag c).2.1, (hag c).2.2]),
    (h c).2.1.trans (by rw [Cert.Reference10Ideal.Read.val_main_v14_eq, (hag c).1, (hag c).2.1]),
    (h c).2.2⟩) (Cert.Reference10Ideal.Value.run m' ρ')⟩

/-! ### The lower bounds -/

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem algebraic11 : Cert.algebraic_Kernel11Ideal_Reference11Ideal := fun m ρ m' ρ' _ hag =>
  ⟨_, Cert.LowerFwd.results m ρ, (θ_run Cert.Reference11Ideal.defs _ _).mono (fun _ h c => ⟨
    (h c).1.trans (by rw [Cert.Reference11Ideal.Read.val_main_v15_eq, hag c]),
    (h c).2⟩) (Cert.Reference11Ideal.Value.run m' ρ')⟩

/-! ### The sum of the loss over the devices -/

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem algebraic12 : Cert.algebraic_Kernel12Ideal_Reference12Ideal := fun m ρ m' ρ' _ hag =>
  ⟨_, Cert.LossSum.results m ρ _ hag, (θ_run Cert.Reference12Ideal.defs _ _).mono
    (fun _ h => ⟨(h 0).1.trans (Cert.Reference12Ideal.Read.val_main_v4_eq _), (h 0).2⟩) (Cert.Reference12Ideal.Value.run m' ρ')⟩

/-! ### The gradient of the last weight -/

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem algebraic13 : Cert.algebraic_Kernel13Ideal_Reference13Ideal := fun m ρ m' ρ' _ hag =>
  ⟨_, Cert.DownGrad.results m ρ, (θ_run Cert.Reference13Ideal.defs _ _).mono (fun _ h c => ⟨
    (h c).1.trans (by rw [Cert.Reference13Ideal.Read.val_main_v5_eq, (hag c).1, (hag c).2]),
    (h c).2⟩) (Cert.Reference13Ideal.Value.run m' ρ')⟩

/-! ### The optimiser's step -/

theorem frame_reference14 : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run m ρ)

theorem algebraic14 : Cert.algebraic_Kernel14Ideal_Reference14Ideal := fun m ρ m' ρ' _ hag =>
  ⟨_, _, _, _, Cert.Adam.results m ρ, (θ_run Cert.Reference14Ideal.defs _ _).mono (fun _ h c => ⟨
    (h c).1.trans (by rw [Cert.Reference14Ideal.Read.val_main_v0_eq, (hag c).2.1, (hag c).2.2.1]),
    (h c).2.1.trans (by rw [Cert.Reference14Ideal.Read.val_main_v24_eq, (hag c).1, (hag c).2.1, (hag c).2.2.1, (hag c).2.2.2.1, (hag c).2.2.2.2]),
    (h c).2.2.1.trans (by rw [Cert.Reference14Ideal.Read.val_main_v5_eq, (hag c).2.1, (hag c).2.2.1, (hag c).2.2.2.1]),
    (h c).2.2.2.1.trans (by rw [Cert.Reference14Ideal.Read.val_main_v11_eq, (hag c).2.1, (hag c).2.2.1, (hag c).2.2.2.2]),
    (h c).2.2.2.2⟩) (Cert.Reference14Ideal.Value.run m' ρ')⟩

/-! ### The sum over the chips -/

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

theorem algebraic15 : Cert.algebraic_Kernel15Ideal_Reference15Ideal := fun m ρ m' ρ' _ hag =>
  ⟨_, Cert.SumLayers.results m ρ, (θ_run Cert.Reference15Ideal.defs _ _).mono (fun _ h c => ⟨
    (h c).1.trans (by rw [Cert.Reference15Ideal.Read.val_main_v4_eq, (hag c).1, (hag c).2]),
    (h c).2⟩) (Cert.Reference15Ideal.Value.run m' ρ')⟩

/-! ### The sum over the devices of the small gradients -/

theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

theorem algebraic16 : Cert.algebraic_Kernel16Ideal_Reference16Ideal := fun m ρ m' ρ' _ hag =>
  ⟨_, Cert.SumSlots.results m ρ, (θ_run Cert.Reference16Ideal.defs _ _).mono (fun _ h c => ⟨
    (h c).1.trans (by rw [Cert.Reference16Ideal.Read.val_main_v0_eq, hag c]),
    (h c).2⟩) (Cert.Reference16Ideal.Value.run m' ρ')⟩

theorem claim : Cert.Claim :=
  ⟨Cert.Kernel.Gen.facts, Cert.KernelIdeal.Gen.facts, Cert.ReferenceIdeal.Gen.facts, Cert.Kernel5.Gen.facts, Cert.Kernel5Ideal.Gen.facts, Cert.Reference5Ideal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel3.Gen.facts, Cert.Kernel3Ideal.Gen.facts, Cert.Reference3Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Pre_finite.Gen.facts, Cert.Pre_finite5.Gen.facts, Cert.Pre_finite2.Gen.facts, Cert.Pre_finite4.Gen.facts, Cert.Pre_finite3.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel4.Gen.frame m ρ,
    fun m ρ _ => Cert.Kernel4Ideal.Gen.frame m ρ,
    fun m ρ _ => Cert.Kernel4Ideal.Gen.frame m ρ,
    frame_reference4,
    fun m ρ _ => frame_reference4 m ρ trivial,
    fun m ρ _ => Cert.Kernel3.Gen.frame m ρ,
    fun m ρ _ => Cert.Kernel3Ideal.Gen.frame m ρ,
    fun m ρ _ => Cert.Kernel3Ideal.Gen.frame m ρ,
    frame_reference3,
    fun m ρ _ => frame_reference3 m ρ trivial,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => (θ_run Cert.Kernel12Ideal.defs _ _).mono (fun _ h => h) (Cert.LossSum.frame (F := Bits) m ρ),
    fun m ρ _ => Cert.LossSum.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    trivial,
    algebraic,
    trivial,
    algebraic5,
    trivial,
    algebraic2,
    trivial,
    algebraic4,
    trivial,
    algebraic3,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16⟩

end Cert.Proof

end
